-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v37) = v0 c
          ∧ r.2.mem ((c.tc : Thread Cert.Reference31Ideal.nD Cert.Reference31Ideal.τ).loc Cert.Reference31Ideal.main_v39) = v1 c
          ∧ r.2.mem ((c.tc : Thread Cert.Reference31Ideal.nD Cert.Reference31Ideal.τ).loc Cert.Reference31Ideal.main_v38) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v6) = v2 c
          ∧ r.2.mem ((c.tc : Thread Cert.Reference32Ideal.nD Cert.Reference32Ideal.τ).loc Cert.Reference32Ideal.main_v12) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v6) = v2 c
          ∧ r.2.mem ((c.tc : Thread Cert.Reference33Ideal.nD Cert.Reference33Ideal.τ).loc Cert.Reference33Ideal.main_v12) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v6) = v2 c
          ∧ r.2.mem ((c.tc : Thread Cert.Reference34Ideal.nD Cert.Reference34Ideal.τ).loc Cert.Reference34Ideal.main_v12) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v6) = v2 c
          ∧ r.2.mem ((c.tc : Thread Cert.Reference35Ideal.nD Cert.Reference35Ideal.τ).loc Cert.Reference35Ideal.main_v12) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v0) = v0 c
          ∧ r.2.mem ((c.tc : Thread Cert.Reference36Ideal.nD Cert.Reference36Ideal.τ).loc Cert.Reference36Ideal.main_v24) = v1 c
          ∧ r.2.mem ((c.tc : Thread Cert.Reference36Ideal.nD Cert.Reference36Ideal.τ).loc Cert.Reference36Ideal.main_v5) = v2 c
          ∧ r.2.mem ((c.tc : Thread Cert.Reference36Ideal.nD Cert.Reference36Ideal.τ).loc Cert.Reference36Ideal.main_v11) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_v24) = v1 c
          ∧ r.2.mem ((c.tc : Thread Cert.Reference37Ideal.nD Cert.Reference37Ideal.τ).loc Cert.Reference37Ideal.main_v5) = v2 c
          ∧ r.2.mem ((c.tc : Thread Cert.Reference37Ideal.nD Cert.Reference37Ideal.τ).loc Cert.Reference37Ideal.main_v11) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v14) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v2_0)) (v1 : (c : Dev Cert.Kernel39Ideal.nD) → Buf (Elt Ideal) ((c.tc : Thread Cert.Kernel39Ideal.nD Cert.Kernel39Ideal.τ).loc Cert.Kernel39Ideal.main_v2_1)) (v2 : (c : Dev Cert.Kernel39Ideal.nD) → Buf (Elt Ideal) ((c.tc : Thread Cert.Kernel39Ideal.nD Cert.Kernel39Ideal.τ).loc Cert.Kernel39Ideal.main_v2_2)) (v3 : (c : Dev Cert.Kernel39Ideal.nD) → Buf (Elt Ideal) ((c.tc : Thread Cert.Kernel39Ideal.nD Cert.Kernel39Ideal.τ).loc Cert.Kernel39Ideal.main_v2_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v2_0) = v0 c
          ∧ r.2.mem ((c.tc : Thread Cert.Kernel39Ideal.nD Cert.Kernel39Ideal.τ).loc Cert.Kernel39Ideal.main_v2_1) = v1 c
          ∧ r.2.mem ((c.tc : Thread Cert.Kernel39Ideal.nD Cert.Kernel39Ideal.τ).loc Cert.Kernel39Ideal.main_v2_2) = v2 c
          ∧ r.2.mem ((c.tc : Thread Cert.Kernel39Ideal.nD Cert.Kernel39Ideal.τ).loc Cert.Kernel39Ideal.main_v2_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v53) = v0 c
          ∧ r.2.mem ((c.tc : Thread Cert.Reference39Ideal.nD Cert.Reference39Ideal.τ).loc Cert.Reference39Ideal.main_v54) = v1 c
          ∧ r.2.mem ((c.tc : Thread Cert.Reference39Ideal.nD Cert.Reference39Ideal.τ).loc Cert.Reference39Ideal.main_v55) = v2 c
          ∧ r.2.mem ((c.tc : Thread Cert.Reference39Ideal.nD Cert.Reference39Ideal.τ).loc Cert.Reference39Ideal.main_v56) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Kernel.lean ====
abbrev S4160x3072 : Shape := ⟨2, ![4160, 3072]⟩
abbrev S4160x32 : Shape := ⟨2, ![4160, 32]⟩
abbrev S1x65x16x128x128 : Shape := ⟨5, ![1, 65, 16, 128, 128]⟩
abbrev S4160x2048 : Shape := ⟨2, ![4160, 2048]⟩
abbrev S65x64x4x8 : Shape := ⟨4, ![65, 64, 4, 8]⟩
abbrev S4x65x8x64 : Shape := ⟨4, ![4, 65, 8, 64]⟩
abbrev S4160x512 : Shape := ⟨2, ![4160, 512]⟩
abbrev S64x512 : Shape := ⟨2, ![64, 512]⟩
abbrev S64x128 : Shape := ⟨2, ![64, 128]⟩
abbrev S1x1x8x64 : Shape := ⟨4, ![1, 1, 8, 64]⟩
abbrev S1x1x4x128x128 : Shape := ⟨5, ![1, 1, 4, 128, 128]⟩
abbrev S4x128x128 : Shape := ⟨3, ![4, 128, 128]⟩
abbrev S64x1 : Shape := ⟨2, ![64, 1]⟩
abbrev S1x64 : Shape := ⟨2, ![1, 64]⟩
abbrev S1x1x1x64 : Shape := ⟨4, ![1, 1, 1, 64]⟩
abbrev S1x1x1x128x128 : Shape := ⟨5, ![1, 1, 1, 128, 128]⟩
abbrev S128x128 : Shape := ⟨2, ![128, 128]⟩
abbrev S1x128 : Shape := ⟨2, ![1, 128]⟩
abbrev S64x64 : Shape := ⟨2, ![64, 64]⟩
abbrev S64 : Shape := ⟨1, ![64]⟩
abbrev S1 : Shape := ⟨1, ![1]⟩
abbrev S1x1 : Shape := ⟨2, ![1, 1]⟩
abbrev S1x128x128 : Shape := ⟨3, ![1, 128, 128]⟩
abbrev S128x64 : Shape := ⟨2, ![128, 64]⟩
abbrev S128 : Shape := ⟨1, ![128]⟩
abbrev S1x1x128 : Shape := ⟨3, ![1, 1, 128]⟩
abbrev S1x1x1 : Shape := ⟨3, ![1, 1, 1]⟩
abbrev S64x384 : Shape := ⟨2, ![64, 384]⟩
abbrev S64x256 : Shape := ⟨2, ![64, 256]⟩

abbrev nBuf : Space → Nat
  | .hbm => 14
  | .vmem => 25
  | .smem => 0
  | _ => 0

abbrev bufTy : (tb : Table) → Fin (tcTables nBuf tb) → BufTy
  | .hbm, ⟨0, _⟩ => ⟨S4160x3072, .f32⟩
  | .hbm, ⟨1, _⟩ => ⟨S4160x32, .f32⟩
  | .hbm, ⟨2, _⟩ => ⟨S4160x32, .f32⟩
  | .hbm, ⟨3, _⟩ => ⟨S1x65x16x128x128, .f32⟩
  | .hbm, ⟨4, _⟩ => ⟨S4160x2048, .f32⟩
  | .hbm, ⟨5, _⟩ => ⟨S65x64x4x8, .f32⟩
  | .hbm, ⟨6, _⟩ => ⟨S4x65x8x64, .f32⟩
  | .hbm, ⟨7, _⟩ => ⟨S65x64x4x8, .f32⟩
  | .hbm, ⟨8, _⟩ => ⟨S4x65x8x64, .f32⟩
  | .hbm, ⟨9, _⟩ => ⟨S4160x2048, .f32⟩
  | .hbm, ⟨10, _⟩ => ⟨S4160x512, .f32⟩
  | .hbm, ⟨11, _⟩ => ⟨S4160x512, .f32⟩
  | .hbm, ⟨12, _⟩ => ⟨S4x65x8x64, .f32⟩
  | .hbm, ⟨13, _⟩ => ⟨S4x65x8x64, .f32⟩
  | .local _ .vmem, ⟨0, _⟩ => ⟨S64x512, .f32⟩
  | .local _ .vmem, ⟨1, _⟩ => ⟨S64x512, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S1x1x8x64, .f32⟩
  | .local _ .vmem, ⟨7, _⟩ => ⟨S1x1x8x64, .f32⟩
  | .local _ .vmem, ⟨8, _⟩ => ⟨S1x1x8x64, .f32⟩
  | .local _ .vmem, ⟨9, _⟩ => ⟨S1x1x8x64, .f32⟩
  | .local _ .vmem, ⟨10, _⟩ => ⟨S1x1x4x128x128, .f32⟩
  | .local _ .vmem, ⟨11, _⟩ => ⟨S1x1x4x128x128, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S1x1x8x64, .f32⟩
  | .local _ .vmem, ⟨21, _⟩ => ⟨S1x1x8x64, .f32⟩
  | .local _ .vmem, ⟨22, _⟩ => ⟨S1x1x8x64, .f32⟩
  | .local _ .vmem, ⟨23, _⟩ => ⟨S1x1x8x64, .f32⟩
  | .local _ .vmem, ⟨24, _⟩ => ⟨S4x128x128, .f32⟩
  | _, _ => ⟨S4160x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 65], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c20_i32 : BitVec 32 := 20#32
  let v1 : BitVec 32 := Scalar.addi c20_i32 arg0
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.subi c64_i32 arg1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v16.toNat, v17.toNat, v27.toNat, c0_i32_10.toNat, c0_i32_11.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  ![v0.toNat, arg0.toNat]

def cc0_transform_10 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4160x3072 : Shape := ⟨2, ![4160, 3072]⟩
abbrev S4160x32 : Shape := ⟨2, ![4160, 32]⟩
abbrev S1x65x16x128x128 : Shape := ⟨5, ![1, 65, 16, 128, 128]⟩
abbrev S4160x2048 : Shape := ⟨2, ![4160, 2048]⟩
abbrev S65x1x64x4x8x64 : Shape := ⟨6, ![65, 1, 64, 4, 8, 64]⟩
abbrev S4160x512 : Shape := ⟨2, ![4160, 512]⟩
abbrev S65x1x64x4x128 : Shape := ⟨5, ![65, 1, 64, 4, 128]⟩
abbrev S65x1x64x4x8 : Shape := ⟨5, ![65, 1, 64, 4, 8]⟩
abbrev S1x65x4x4x128x2x64 : Shape := ⟨7, ![1, 65, 4, 4, 128, 2, 64]⟩
abbrev S65x1x4x4x2x64x128 : Shape := ⟨7, ![65, 1, 4, 4, 2, 64, 128]⟩
abbrev S65x1x4x8x64x128 : Shape := ⟨6, ![65, 1, 4, 8, 64, 128]⟩
abbrev S_ : Shape := ⟨0, ![]⟩
abbrev S1x4x8x64x128 : Shape := ⟨5, ![1, 4, 8, 64, 128]⟩
abbrev S1x1x4x8x64x128 : Shape := ⟨6, ![1, 1, 4, 8, 64, 128]⟩
abbrev S1x1x64x4x8x64 : Shape := ⟨6, ![1, 1, 64, 4, 8, 64]⟩
abbrev S1x64x4x8x64 : Shape := ⟨5, ![1, 64, 4, 8, 64]⟩
abbrev S1x1x64x4x8 : Shape := ⟨5, ![1, 1, 64, 4, 8]⟩
abbrev S1x64x4x8 : Shape := ⟨4, ![1, 64, 4, 8]⟩
abbrev S1x1x64x4x128 : Shape := ⟨5, ![1, 1, 64, 4, 128]⟩
abbrev S1x64x4x128 : Shape := ⟨4, ![1, 64, 4, 128]⟩
abbrev S64x64 : Shape := ⟨2, ![64, 64]⟩
abbrev S1x64x64x1x1 : Shape := ⟨5, ![1, 64, 64, 1, 1]⟩
abbrev S1x64x1x4x8 : Shape := ⟨5, ![1, 64, 1, 4, 8]⟩
abbrev S1x64x64x4x8 : Shape := ⟨5, ![1, 64, 64, 4, 8]⟩
abbrev S1x64x4x8x1 : Shape := ⟨5, ![1, 64, 4, 8, 1]⟩
abbrev S1x4x64x64 : Shape := ⟨4, ![1, 4, 64, 64]⟩
abbrev S1x64x64x4 : Shape := ⟨4, ![1, 64, 64, 4]⟩
abbrev S1x64x64x4x1 : Shape := ⟨5, ![1, 64, 64, 4, 1]⟩
abbrev S1x4x8x64x64 : Shape := ⟨5, ![1, 4, 8, 64, 64]⟩
abbrev S1x1x4x8 : Shape := ⟨4, ![1, 1, 4, 8]⟩
abbrev S1x4x8 : Shape := ⟨3, ![1, 4, 8]⟩
abbrev S1x4x8x1x1 : Shape := ⟨5, ![1, 4, 8, 1, 1]⟩
abbrev S1x4x128x64 : Shape := ⟨4, ![1, 4, 128, 64]⟩
abbrev S64x4x8 : Shape := ⟨3, ![64, 4, 8]⟩
abbrev S4x8 : Shape := ⟨2, ![4, 8]⟩
abbrev S1x4x64x128 : Shape := ⟨4, ![1, 4, 64, 128]⟩
abbrev S64x64x4 : Shape := ⟨3, ![64, 64, 4]⟩
abbrev S4160 : Shape := ⟨1, ![4160]⟩
abbrev S4160x1 : Shape := ⟨2, ![4160, 1]⟩
abbrev S65x64x4x8 : Shape := ⟨4, ![65, 64, 4, 8]⟩
abbrev S4x65x8x64 : Shape := ⟨4, ![4, 65, 8, 64]⟩

abbrev nBuf : Space → Nat
  | .hbm => 332
  | .vmem => 0
  | .smem => 0
  | _ => 0

abbrev hbmTy0_0 (i : Nat) : BufTy := match i % 128 with
  | 0 => ⟨S4160x3072, .f32⟩
  | 1 => ⟨S4160x32, .f32⟩
  | 2 => ⟨S4160x32, .f32⟩
  | 3 => ⟨S1x65x16x128x128, .f32⟩
  | 4 => ⟨S4160x2048, .f32⟩
  | 5 => ⟨S4160x2048, .f32⟩
  | 6 => ⟨S65x1x64x4x8x64, .f32⟩
  | 7 => ⟨S4160x512, .f32⟩
  | 8 => ⟨S65x1x64x4x128, .f32⟩
  | 9 => ⟨S4160x512, .f32⟩
  | 10 => ⟨S65x1x64x4x128, .f32⟩
  | 11 => ⟨S65x1x64x4x8, .f32⟩
  | 12 => ⟨S65x1x64x4x8, .f32⟩
  | 13 => ⟨S65x1x64x4x8x64, .f32⟩
  | 14 => ⟨S1x65x4x4x128x2x64, .f32⟩
  | 15 => ⟨S65x1x4x4x2x64x128, .f32⟩
  | 16 => ⟨S65x1x4x8x64x128, .f32⟩
  | 17 => ⟨S_, .f32⟩
  | 18 => ⟨S1x4x8x64x128, .f32⟩
  | 19 => ⟨S_, .f32⟩
  | 20 => ⟨S65x1x64x4x8x64, .f32⟩
  | 21 => ⟨S_, .f32⟩
  | 22 => ⟨S65x1x64x4x8, .f32⟩
  | 23 => ⟨S_, .f32⟩
  | 24 => ⟨S65x1x64x4x8, .f32⟩
  | 25 => ⟨S_, .f32⟩
  | 26 => ⟨S65x1x64x4x128, .f32⟩
  | 27 => ⟨S_, .f32⟩
  | 28 => ⟨S65x1x64x4x128, .f32⟩
  | 29 => ⟨S_, .i32⟩
  | 30 => ⟨S65x1x4x8x64x128, .f32⟩
  | 31 => ⟨S65x1x64x4x8x64, .f32⟩
  | 32 => ⟨S65x1x64x4x8, .f32⟩
  | 33 => ⟨S65x1x64x4x8, .f32⟩
  | 34 => ⟨S65x1x64x4x128, .f32⟩
  | 35 => ⟨S65x1x64x4x128, .f32⟩
  | 36 => ⟨S65x1x64x4x8x64, .f32⟩
  | 37 => ⟨S_, .i32⟩
  | 38 => ⟨S1x4x8x64x128, .f32⟩
  | 39 => ⟨S65x1x64x4x8x64, .f32⟩
  | 40 => ⟨S65x1x64x4x8, .f32⟩
  | 41 => ⟨S65x1x64x4x8, .f32⟩
  | 42 => ⟨S65x1x64x4x128, .f32⟩
  | 43 => ⟨S65x1x64x4x128, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S1x1x4x8x64x128, .f32⟩
  | 56 => ⟨S1x4x8x64x128, .f32⟩
  | 57 => ⟨S_, .i32⟩
  | 58 => ⟨S_, .i32⟩
  | 59 => ⟨S_, .i32⟩
  | 60 => ⟨S_, .i32⟩
  | 61 => ⟨S_, .i32⟩
  | 62 => ⟨S1x1x64x4x8x64, .f32⟩
  | 63 => ⟨S1x64x4x8x64, .f32⟩
  | 64 => ⟨S_, .i32⟩
  | 65 => ⟨S_, .i32⟩
  | 66 => ⟨S_, .i32⟩
  | 67 => ⟨S_, .i32⟩
  | 68 => ⟨S1x1x64x4x8, .f32⟩
  | 69 => ⟨S1x64x4x8, .f32⟩
  | 70 => ⟨S_, .i32⟩
  | 71 => ⟨S_, .i32⟩
  | 72 => ⟨S_, .i32⟩
  | 73 => ⟨S_, .i32⟩
  | 74 => ⟨S1x1x64x4x8, .f32⟩
  | 75 => ⟨S1x64x4x8, .f32⟩
  | 76 => ⟨S_, .i32⟩
  | 77 => ⟨S_, .i32⟩
  | 78 => ⟨S_, .i32⟩
  | 79 => ⟨S_, .i32⟩
  | 80 => ⟨S1x1x64x4x128, .f32⟩
  | 81 => ⟨S1x64x4x128, .f32⟩
  | 82 => ⟨S_, .i32⟩
  | 83 => ⟨S_, .i32⟩
  | 84 => ⟨S_, .i32⟩
  | 85 => ⟨S_, .i32⟩
  | 86 => ⟨S1x1x64x4x128, .f32⟩
  | 87 => ⟨S1x64x4x128, .f32⟩
  | 88 => ⟨S_, .i32⟩
  | 89 => ⟨S_, .i32⟩
  | 90 => ⟨S_, .i32⟩
  | 91 => ⟨S_, .i32⟩
  | 92 => ⟨S_, .i32⟩
  | 93 => ⟨S1x1x64x4x8x64, .f32⟩
  | 94 => ⟨S1x64x4x8x64, .f32⟩
  | 95 => ⟨S_, .i1⟩
  | 96 => ⟨S64x64, .i1⟩
  | 97 => ⟨S64x64, .i32⟩
  | 98 => ⟨S_, .i32⟩
  | 99 => ⟨S64x64, .i32⟩
  | 100 => ⟨S64x64, .i32⟩
  | 101 => ⟨S64x64, .i32⟩
  | 102 => ⟨S64x64, .i1⟩
  | 103 => ⟨S_, .i1⟩
  | 104 => ⟨S64x64, .i1⟩
  | 105 => ⟨S64x64, .i1⟩
  | 106 => ⟨S1x64x64x1x1, .i1⟩
  | 107 => ⟨S_, .f32⟩
  | 108 => ⟨S_, .f32⟩
  | 109 => ⟨S1x64x4x8, .f32⟩
  | 110 => ⟨S1x64x1x4x8, .f32⟩
  | 111 => ⟨S1x1x64x4x8, .f32⟩
  | 112 => ⟨S1x64x64x4x8, .f32⟩
  | 113 => ⟨S1x64x64x4x8, .f32⟩
  | 114 => ⟨S1x64x64x4x8, .f32⟩
  | 115 => ⟨S_, .f32⟩
  | 116 => ⟨S_, .f32⟩
  | 117 => ⟨S1x64x64x4x8, .i1⟩
  | 118 => ⟨S1x64x64x4x8, .f32⟩
  | 119 => ⟨S1x64x64x4x8, .f32⟩
  | 120 => ⟨S_, .f32⟩
  | 121 => ⟨S1x64x64x4x8, .f32⟩
  | 122 => ⟨S1x64x64x4x8, .f32⟩
  | 123 => ⟨S1x64x4x8x1, .f32⟩
  | 124 => ⟨S1x64x4x8x64, .f32⟩
  | 125 => ⟨S1x64x4x8x64, .f32⟩
  | 126 => ⟨S1x4x64x64, .f32⟩
  | 127 => ⟨S1x64x64x4, .f32⟩
  | _ => ⟨S4160x3072, .f32⟩

abbrev hbmTy0_1 (i : Nat) : BufTy := match i % 128 with
  | 0 => ⟨S1x64x64x4x1, .f32⟩
  | 1 => ⟨S1x64x64x4x8, .f32⟩
  | 2 => ⟨S1x64x64x4x8, .f32⟩
  | 3 => ⟨S1x4x8x64x64, .f32⟩
  | 4 => ⟨S1x64x4x8x64, .f32⟩
  | 5 => ⟨S1x4x8x64x64, .f32⟩
  | 6 => ⟨S1x64x4x8x64, .f32⟩
  | 7 => ⟨S1x64x4x8, .f32⟩
  | 8 => ⟨S1x64x4x8x1, .f32⟩
  | 9 => ⟨S1x64x4x8x64, .f32⟩
  | 10 => ⟨S1x64x4x8x64, .f32⟩
  | 11 => ⟨S1x1x4x8, .f32⟩
  | 12 => ⟨S1x4x8, .f32⟩
  | 13 => ⟨S1x4x8, .f32⟩
  | 14 => ⟨S1x4x8x1x1, .f32⟩
  | 15 => ⟨S1x4x8x64x128, .f32⟩
  | 16 => ⟨S1x4x8x64x128, .f32⟩
  | 17 => ⟨S1x1x4x8, .f32⟩
  | 18 => ⟨S1x64x4x8, .f32⟩
  | 19 => ⟨S1x64x4x8, .f32⟩
  | 20 => ⟨S1x64x4x8, .f32⟩
  | 21 => ⟨S1x64x4x8x1, .f32⟩
  | 22 => ⟨S1x64x4x8x64, .f32⟩
  | 23 => ⟨S1x64x4x8x64, .f32⟩
  | 24 => ⟨S1x4x8x64x128, .f32⟩
  | 25 => ⟨S1x4x8x64x128, .f32⟩
  | 26 => ⟨S1x64x4x8x64, .f32⟩
  | 27 => ⟨S1x4x128x64, .f32⟩
  | 28 => ⟨S1x64x4x128, .f32⟩
  | 29 => ⟨S1x4x8x64x64, .f32⟩
  | 30 => ⟨S1x64x4x8x64, .f32⟩
  | 31 => ⟨S1x64x4x8x64, .f32⟩
  | 32 => ⟨S1x64x4x8x64, .f32⟩
  | 33 => ⟨S1x64x4x8x64, .f32⟩
  | 34 => ⟨S_, .f32⟩
  | 35 => ⟨S1x64x4x8, .f32⟩
  | 36 => ⟨S1x64x4x8x1, .f32⟩
  | 37 => ⟨S_, .f32⟩
  | 38 => ⟨S64x4x8, .f32⟩
  | 39 => ⟨S1x64x4x8, .f32⟩
  | 40 => ⟨S1x64x4x8, .f32⟩
  | 41 => ⟨S_, .f32⟩
  | 42 => ⟨S1x4x8, .f32⟩
  | 43 => ⟨S1x1x4x8, .f32⟩
  | 44 => ⟨S1x64x4x8, .f32⟩
  | 45 => ⟨S_, .f32⟩
  | 46 => ⟨S4x8, .f32⟩
  | 47 => ⟨S1x4x8, .f32⟩
  | 48 => ⟨S1x4x8x64x128, .f32⟩
  | 49 => ⟨S_, .f32⟩
  | 50 => ⟨S1x4x8, .f32⟩
  | 51 => ⟨S1x4x8x1x1, .f32⟩
  | 52 => ⟨S1x4x8x64x128, .f32⟩
  | 53 => ⟨S1x4x8x64x128, .f32⟩
  | 54 => ⟨S_, .f32⟩
  | 55 => ⟨S4x8, .f32⟩
  | 56 => ⟨S1x4x8, .f32⟩
  | 57 => ⟨S1x4x8, .f32⟩
  | 58 => ⟨S1x4x8, .f32⟩
  | 59 => ⟨S1x1x4x8, .f32⟩
  | 60 => ⟨S_, .f32⟩
  | 61 => ⟨S1x64x4x8, .f32⟩
  | 62 => ⟨S1x64x4x8, .f32⟩
  | 63 => ⟨S1x64x4x8x64, .f32⟩
  | 64 => ⟨S_, .f32⟩
  | 65 => ⟨S1x64x4x8, .f32⟩
  | 66 => ⟨S1x64x4x8x1, .f32⟩
  | 67 => ⟨S1x64x4x8x64, .f32⟩
  | 68 => ⟨S1x64x4x8x64, .f32⟩
  | 69 => ⟨S_, .f32⟩
  | 70 => ⟨S64x4x8, .f32⟩
  | 71 => ⟨S1x64x4x8, .f32⟩
  | 72 => ⟨S1x64x4x8, .f32⟩
  | 73 => ⟨S1x64x4x8, .f32⟩
  | 74 => ⟨S1x4x8x64x64, .f32⟩
  | 75 => ⟨S1x4x64x128, .f32⟩
  | 76 => ⟨S1x64x4x128, .f32⟩
  | 77 => ⟨S1x4x8x64x128, .f32⟩
  | 78 => ⟨S1x4x8x64x128, .f32⟩
  | 79 => ⟨S1x4x8x64x64, .f32⟩
  | 80 => ⟨S1x4x8x64x64, .f32⟩
  | 81 => ⟨S1x64x64x4x8, .f32⟩
  | 82 => ⟨S1x4x8x64x64, .f32⟩
  | 83 => ⟨S1x64x4x8x64, .f32⟩
  | 84 => ⟨S1x64x4x8x64, .f32⟩
  | 85 => ⟨S1x64x64x4x8, .f32⟩
  | 86 => ⟨S1x64x64x4x8, .f32⟩
  | 87 => ⟨S1x64x64x4x8, .f32⟩
  | 88 => ⟨S_, .f32⟩
  | 89 => ⟨S1x64x64x4, .f32⟩
  | 90 => ⟨S1x64x64x4x1, .f32⟩
  | 91 => ⟨S_, .f32⟩
  | 92 => ⟨S64x64x4, .f32⟩
  | 93 => ⟨S1x64x64x4, .f32⟩
  | 94 => ⟨S1x4x64x64, .f32⟩
  | 95 => ⟨S1x4x64x128, .f32⟩
  | 96 => ⟨S1x64x4x128, .f32⟩
  | 97 => ⟨S1x64x4x128, .f32⟩
  | 98 => ⟨S1x4x64x128, .f32⟩
  | 99 => ⟨S1x64x4x128, .f32⟩
  | 100 => ⟨S1x64x4x128, .f32⟩
  | 101 => ⟨S1x64x4x8x64, .f32⟩
  | 102 => ⟨S_, .f32⟩
  | 103 => ⟨S1x64x4x8, .f32⟩
  | 104 => ⟨S1x64x4x8x1, .f32⟩
  | 105 => ⟨S1x64x4x8x64, .f32⟩
  | 106 => ⟨S1x64x4x8x64, .f32⟩
  | 107 => ⟨S_, .f32⟩
  | 108 => ⟨S64x4x8, .f32⟩
  | 109 => ⟨S1x64x4x8, .f32⟩
  | 110 => ⟨S1x64x64x4x8, .f32⟩
  | 111 => ⟨S_, .f32⟩
  | 112 => ⟨S1x64x64x4x8, .f32⟩
  | 113 => ⟨S1x64x64x4x8, .f32⟩
  | 114 => ⟨S_, .f32⟩
  | 115 => ⟨S1x64x4x8, .f32⟩
  | 116 => ⟨S1x64x1x4x8, .f32⟩
  | 117 => ⟨S1x64x64x4x8, .f32⟩
  | 118 => ⟨S_, .f32⟩
  | 119 => ⟨S1x64x4x8, .f32⟩
  | 120 => ⟨S1x1x64x4x8, .f32⟩
  | 121 => ⟨S_, .f32⟩
  | 122 => ⟨S64x4x8, .f32⟩
  | 123 => ⟨S1x64x4x8, .f32⟩
  | 124 => ⟨S1x64x4x8, .f32⟩
  | 125 => ⟨S_, .f32⟩
  | 126 => ⟨S64x4x8, .f32⟩
  | 127 => ⟨S1x64x4x8, .f32⟩
  | _ => ⟨S4160x3072, .f32⟩

abbrev hbmTy0_2 (i : Nat) : BufTy := match i % 128 with
  | 0 => ⟨S1x64x4x8, .f32⟩
  | 1 => ⟨S_, .f32⟩
  | 2 => ⟨S_, .f32⟩
  | 3 => ⟨S1x64x4x8, .f32⟩
  | 4 => ⟨S1x1x64x4x8x64, .f32⟩
  | 5 => ⟨S_, .i32⟩
  | 6 => ⟨S_, .i32⟩
  | 7 => ⟨S_, .i32⟩
  | 8 => ⟨S_, .i32⟩
  | 9 => ⟨S_, .i32⟩
  | 10 => ⟨S65x1x64x4x8x64, .f32⟩
  | 11 => ⟨S1x1x64x4x8, .f32⟩
  | 12 => ⟨S_, .i32⟩
  | 13 => ⟨S_, .i32⟩
  | 14 => ⟨S_, .i32⟩
  | 15 => ⟨S_, .i32⟩
  | 16 => ⟨S65x1x64x4x8, .f32⟩
  | 17 => ⟨S1x1x64x4x8, .f32⟩
  | 18 => ⟨S_, .i32⟩
  | 19 => ⟨S_, .i32⟩
  | 20 => ⟨S_, .i32⟩
  | 21 => ⟨S_, .i32⟩
  | 22 => ⟨S65x1x64x4x8, .f32⟩
  | 23 => ⟨S1x1x64x4x128, .f32⟩
  | 24 => ⟨S_, .i32⟩
  | 25 => ⟨S_, .i32⟩
  | 26 => ⟨S_, .i32⟩
  | 27 => ⟨S_, .i32⟩
  | 28 => ⟨S65x1x64x4x128, .f32⟩
  | 29 => ⟨S1x1x64x4x128, .f32⟩
  | 30 => ⟨S_, .i32⟩
  | 31 => ⟨S_, .i32⟩
  | 32 => ⟨S_, .i32⟩
  | 33 => ⟨S_, .i32⟩
  | 34 => ⟨S65x1x64x4x128, .f32⟩
  | 35 => ⟨S_, .i32⟩
  | 36 => ⟨S_, .i32⟩
  | 37 => ⟨S4160, .i32⟩
  | 38 => ⟨S_, .i32⟩
  | 39 => ⟨S4160, .i32⟩
  | 40 => ⟨S4160, .i1⟩
  | 41 => ⟨S4160x1, .i1⟩
  | 42 => ⟨S4160x2048, .f32⟩
  | 43 => ⟨S_, .f32⟩
  | 44 => ⟨S_, .f32⟩
  | 45 => ⟨S4160x2048, .i1⟩
  | 46 => ⟨S4160x2048, .f32⟩
  | 47 => ⟨S4160x2048, .f32⟩
  | 48 => ⟨S4160x512, .f32⟩
  | 49 => ⟨S_, .f32⟩
  | 50 => ⟨S_, .f32⟩
  | 51 => ⟨S4160x512, .i1⟩
  | 52 => ⟨S4160x512, .f32⟩
  | 53 => ⟨S4160x512, .f32⟩
  | 54 => ⟨S4160x512, .f32⟩
  | 55 => ⟨S_, .f32⟩
  | 56 => ⟨S_, .f32⟩
  | 57 => ⟨S4160x512, .i1⟩
  | 58 => ⟨S4160x512, .f32⟩
  | 59 => ⟨S4160x512, .f32⟩
  | 60 => ⟨S4160x32, .f32⟩
  | 61 => ⟨S_, .f32⟩
  | 62 => ⟨S_, .f32⟩
  | 63 => ⟨S4160x32, .i1⟩
  | 64 => ⟨S4160x32, .f32⟩
  | 65 => ⟨S4160x32, .f32⟩
  | 66 => ⟨S65x64x4x8, .f32⟩
  | 67 => ⟨S4x65x8x64, .f32⟩
  | 68 => ⟨S4160x32, .f32⟩
  | 69 => ⟨S_, .f32⟩
  | 70 => ⟨S_, .f32⟩
  | 71 => ⟨S4160x32, .i1⟩
  | 72 => ⟨S4160x32, .f32⟩
  | 73 => ⟨S4160x32, .f32⟩
  | 74 => ⟨S65x64x4x8, .f32⟩
  | 75 => ⟨S4x65x8x64, .f32⟩
  | _ => ⟨S4160x3072, .f32⟩

abbrev hbmTy (i : Nat) : BufTy := match i / 128 with
  | 0 => hbmTy0_0 i
  | 1 => hbmTy0_1 i
  | 2 => hbmTy0_2 i
  | _ => ⟨S4160x3072, .f32⟩

abbrev bufTy : (tb : Table) → Fin (tcTables nBuf tb) → BufTy
  | .hbm, ⟨i, _⟩ => hbmTy i
  | _, _ => ⟨S4160x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_c : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev main_v18_5 : Ref sig .tc := ⟨.hbm, 35, rfl⟩
abbrev main_v18_6 : Ref sig .tc := ⟨.hbm, 36, rfl⟩
abbrev main_v18_7 : Ref sig .tc := ⟨.hbm, 37, rfl⟩
abbrev main_v18_8 : Ref sig .tc := ⟨.hbm, 38, rfl⟩
abbrev main_v18_9 : Ref sig .tc := ⟨.hbm, 39, rfl⟩
abbrev main_v18_10 : Ref sig .tc := ⟨.hbm, 40, rfl⟩
abbrev main_v18_11 : Ref sig .tc := ⟨.hbm, 41, rfl⟩
abbrev main_v18_12 : Ref sig .tc := ⟨.hbm, 42, rfl⟩
abbrev main_v18_13 : Ref sig .tc := ⟨.hbm, 43, rfl⟩
abbrev main_while0c_c_24 : Ref sig .tc := ⟨.hbm, 44, rfl⟩
abbrev main_while0c_v37 : Ref sig .tc := ⟨.hbm, 45, rfl⟩
abbrev main_while0b_c_24 : Ref sig .tc := ⟨.hbm, 46, rfl⟩
abbrev main_while0b_v37 : Ref sig .tc := ⟨.hbm, 47, rfl⟩
abbrev main_while0b_c_25 : Ref sig .tc := ⟨.hbm, 48, rfl⟩
abbrev main_while0b_v38 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_c_1 : Ref sig .tc := ⟨.hbm, 52, rfl⟩
abbrev main_while0b_call0_c_2 : Ref sig .tc := ⟨.hbm, 53, rfl⟩
abbrev main_while0b_call0_c_3 : Ref sig .tc := ⟨.hbm, 54, rfl⟩
abbrev main_while0b_call0_v0 : Ref sig .tc := ⟨.hbm, 55, rfl⟩
abbrev main_while0b_v39 : Ref sig .tc := ⟨.hbm, 56, rfl⟩
abbrev main_while0b_call1_c : Ref sig .tc := ⟨.hbm, 57, rfl⟩
abbrev main_while0b_call1_c_0 : Ref sig .tc := ⟨.hbm, 58, rfl⟩
abbrev main_while0b_call1_c_1 : Ref sig .tc := ⟨.hbm, 59, rfl⟩
abbrev main_while0b_call1_c_2 : Ref sig .tc := ⟨.hbm, 60, rfl⟩
abbrev main_while0b_call1_c_3 : Ref sig .tc := ⟨.hbm, 61, rfl⟩
abbrev main_while0b_call1_v0 : Ref sig .tc := ⟨.hbm, 62, rfl⟩
abbrev main_while0b_v40 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_c_1 : Ref sig .tc := ⟨.hbm, 66, rfl⟩
abbrev main_while0b_call2_c_2 : Ref sig .tc := ⟨.hbm, 67, rfl⟩
abbrev main_while0b_call2_v0 : Ref sig .tc := ⟨.hbm, 68, rfl⟩
abbrev main_while0b_v41 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_c_2 : Ref sig .tc := ⟨.hbm, 73, rfl⟩
abbrev main_while0b_call3_v0 : Ref sig .tc := ⟨.hbm, 74, rfl⟩
abbrev main_while0b_v42 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_c_2 : Ref sig .tc := ⟨.hbm, 79, rfl⟩
abbrev main_while0b_call4_v0 : Ref sig .tc := ⟨.hbm, 80, rfl⟩
abbrev main_while0b_v43 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_call5_c_1 : Ref sig .tc := ⟨.hbm, 84, rfl⟩
abbrev main_while0b_call5_c_2 : Ref sig .tc := ⟨.hbm, 85, rfl⟩
abbrev main_while0b_call5_v0 : Ref sig .tc := ⟨.hbm, 86, rfl⟩
abbrev main_while0b_v44 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_c_2 : Ref sig .tc := ⟨.hbm, 91, rfl⟩
abbrev main_while0b_call6_c_3 : Ref sig .tc := ⟨.hbm, 92, rfl⟩
abbrev main_while0b_call6_v0 : Ref sig .tc := ⟨.hbm, 93, rfl⟩
abbrev main_while0b_v45 : Ref sig .tc := ⟨.hbm, 94, rfl⟩
abbrev main_while0b_c_26 : Ref sig .tc := ⟨.hbm, 95, rfl⟩
abbrev main_while0b_v46 : Ref sig .tc := ⟨.hbm, 96, rfl⟩
abbrev main_while0b_call7_v0 : Ref sig .tc := ⟨.hbm, 97, rfl⟩
abbrev main_while0b_call7_c : Ref sig .tc := ⟨.hbm, 98, rfl⟩
abbrev main_while0b_call7_v1 : Ref sig .tc := ⟨.hbm, 99, rfl⟩
abbrev main_while0b_call7_v2 : Ref sig .tc := ⟨.hbm, 100, rfl⟩
abbrev main_while0b_call7_v3 : Ref sig .tc := ⟨.hbm, 101, rfl⟩
abbrev main_while0b_call7_v4 : Ref sig .tc := ⟨.hbm, 102, rfl⟩
abbrev main_while0b_call7_c_0 : Ref sig .tc := ⟨.hbm, 103, rfl⟩
abbrev main_while0b_call7_v5 : Ref sig .tc := ⟨.hbm, 104, rfl⟩
abbrev main_while0b_v47 : Ref sig .tc := ⟨.hbm, 105, rfl⟩
abbrev main_while0b_v48 : Ref sig .tc := ⟨.hbm, 106, rfl⟩
abbrev main_while0b_call8_call0_cst : Ref sig .tc := ⟨.hbm, 107, rfl⟩
abbrev main_while0b_call8_call0_v0 : Ref sig .tc := ⟨.hbm, 108, rfl⟩
abbrev main_while0b_v49 : Ref sig .tc := ⟨.hbm, 109, rfl⟩
abbrev main_while0b_v50 : Ref sig .tc := ⟨.hbm, 110, rfl⟩
abbrev main_while0b_v51 : Ref sig .tc := ⟨.hbm, 111, rfl⟩
abbrev main_while0b_v52 : Ref sig .tc := ⟨.hbm, 112, rfl⟩
abbrev main_while0b_v53 : Ref sig .tc := ⟨.hbm, 113, rfl⟩
abbrev main_while0b_v54 : Ref sig .tc := ⟨.hbm, 114, rfl⟩
abbrev main_while0b_cst_27 : Ref sig .tc := ⟨.hbm, 115, rfl⟩
abbrev main_while0b_call9_v0 : Ref sig .tc := ⟨.hbm, 116, rfl⟩
abbrev main_while0b_v55_1 : Ref sig .tc := ⟨.hbm, 117, rfl⟩
abbrev main_while0b_call9_v2 : Ref sig .tc := ⟨.hbm, 118, rfl⟩
abbrev main_while0b_v55_0 : Ref sig .tc := ⟨.hbm, 119, rfl⟩
abbrev main_while0b_call9_cst : Ref sig .tc := ⟨.hbm, 120, rfl⟩
abbrev main_while0b_v55_2 : Ref sig .tc := ⟨.hbm, 121, rfl⟩
abbrev main_while0b_v56 : Ref sig .tc := ⟨.hbm, 122, rfl⟩
abbrev main_while0b_v57 : Ref sig .tc := ⟨.hbm, 123, rfl⟩
abbrev main_while0b_v58 : Ref sig .tc := ⟨.hbm, 124, rfl⟩
abbrev main_while0b_v59 : Ref sig .tc := ⟨.hbm, 125, rfl⟩
abbrev main_while0b_v60 : Ref sig .tc := ⟨.hbm, 126, rfl⟩
abbrev main_while0b_v61 : Ref sig .tc := ⟨.hbm, 127, rfl⟩
abbrev main_while0b_v62 : Ref sig .tc := ⟨.hbm, 128, rfl⟩
abbrev main_while0b_v63 : Ref sig .tc := ⟨.hbm, 129, rfl⟩
abbrev main_while0b_v64 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_v82 : Ref sig .tc := ⟨.hbm, 148, rfl⟩
abbrev main_while0b_v83 : Ref sig .tc := ⟨.hbm, 149, rfl⟩
abbrev main_while0b_v84 : Ref sig .tc := ⟨.hbm, 150, rfl⟩
abbrev main_while0b_v85 : Ref sig .tc := ⟨.hbm, 151, rfl⟩
abbrev main_while0b_v86 : Ref sig .tc := ⟨.hbm, 152, rfl⟩
abbrev main_while0b_v87 : Ref sig .tc := ⟨.hbm, 153, rfl⟩
abbrev main_while0b_v88 : Ref sig .tc := ⟨.hbm, 154, rfl⟩
abbrev main_while0b_v89 : Ref sig .tc := ⟨.hbm, 155, rfl⟩
abbrev main_while0b_v90 : Ref sig .tc := ⟨.hbm, 156, rfl⟩
abbrev main_while0b_v91 : Ref sig .tc := ⟨.hbm, 157, rfl⟩
abbrev main_while0b_v92 : Ref sig .tc := ⟨.hbm, 158, rfl⟩
abbrev main_while0b_v93 : Ref sig .tc := ⟨.hbm, 159, rfl⟩
abbrev main_while0b_v94 : Ref sig .tc := ⟨.hbm, 160, rfl⟩
abbrev main_while0b_v95 : Ref sig .tc := ⟨.hbm, 161, rfl⟩
abbrev main_while0b_cst_28 : Ref sig .tc := ⟨.hbm, 162, rfl⟩
abbrev main_while0b_v96 : Ref sig .tc := ⟨.hbm, 163, rfl⟩
abbrev main_while0b_v97 : Ref sig .tc := ⟨.hbm, 164, rfl⟩
abbrev main_while0b_cst_29 : Ref sig .tc := ⟨.hbm, 165, rfl⟩
abbrev main_while0b_v98 : Ref sig .tc := ⟨.hbm, 166, rfl⟩
abbrev main_while0b_v99 : Ref sig .tc := ⟨.hbm, 167, rfl⟩
abbrev main_while0b_v100 : Ref sig .tc := ⟨.hbm, 168, rfl⟩
abbrev main_while0b_cst_30 : Ref sig .tc := ⟨.hbm, 169, rfl⟩
abbrev main_while0b_v101 : Ref sig .tc := ⟨.hbm, 170, rfl⟩
abbrev main_while0b_v102 : Ref sig .tc := ⟨.hbm, 171, rfl⟩
abbrev main_while0b_v103 : Ref sig .tc := ⟨.hbm, 172, rfl⟩
abbrev main_while0b_cst_31 : Ref sig .tc := ⟨.hbm, 173, rfl⟩
abbrev main_while0b_v104 : Ref sig .tc := ⟨.hbm, 174, rfl⟩
abbrev main_while0b_v105 : Ref sig .tc := ⟨.hbm, 175, rfl⟩
abbrev main_while0b_v106 : Ref sig .tc := ⟨.hbm, 176, rfl⟩
abbrev main_while0b_cst_32 : Ref sig .tc := ⟨.hbm, 177, rfl⟩
abbrev main_while0b_v107 : Ref sig .tc := ⟨.hbm, 178, rfl⟩
abbrev main_while0b_v108 : Ref sig .tc := ⟨.hbm, 179, rfl⟩
abbrev main_while0b_v109 : Ref sig .tc := ⟨.hbm, 180, rfl⟩
abbrev main_while0b_v110 : Ref sig .tc := ⟨.hbm, 181, rfl⟩
abbrev main_while0b_cst_33 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_cst_34 : Ref sig .tc := ⟨.hbm, 188, rfl⟩
abbrev main_while0b_v116 : Ref sig .tc := ⟨.hbm, 189, rfl⟩
abbrev main_while0b_v117 : Ref sig .tc := ⟨.hbm, 190, rfl⟩
abbrev main_while0b_v118 : Ref sig .tc := ⟨.hbm, 191, rfl⟩
abbrev main_while0b_cst_35 : Ref sig .tc := ⟨.hbm, 192, rfl⟩
abbrev main_while0b_v119 : Ref sig .tc := ⟨.hbm, 193, rfl⟩
abbrev main_while0b_v120 : Ref sig .tc := ⟨.hbm, 194, rfl⟩
abbrev main_while0b_v121 : Ref sig .tc := ⟨.hbm, 195, rfl⟩
abbrev main_while0b_v122 : Ref sig .tc := ⟨.hbm, 196, rfl⟩
abbrev main_while0b_cst_36 : Ref sig .tc := ⟨.hbm, 197, rfl⟩
abbrev main_while0b_v123 : Ref sig .tc := ⟨.hbm, 198, rfl⟩
abbrev main_while0b_v124 : Ref sig .tc := ⟨.hbm, 199, rfl⟩
abbrev main_while0b_v125 : Ref sig .tc := ⟨.hbm, 200, rfl⟩
abbrev main_while0b_v126 : Ref sig .tc := ⟨.hbm, 201, rfl⟩
abbrev main_while0b_v127 : Ref sig .tc := ⟨.hbm, 202, rfl⟩
abbrev main_while0b_v128 : Ref sig .tc := ⟨.hbm, 203, rfl⟩
abbrev main_while0b_v129 : Ref sig .tc := ⟨.hbm, 204, rfl⟩
abbrev main_while0b_v130 : Ref sig .tc := ⟨.hbm, 205, rfl⟩
abbrev main_while0b_v131 : Ref sig .tc := ⟨.hbm, 206, rfl⟩
abbrev main_while0b_v132 : Ref sig .tc := ⟨.hbm, 207, rfl⟩
abbrev main_while0b_v133 : Ref sig .tc := ⟨.hbm, 208, rfl⟩
abbrev main_while0b_v134 : Ref sig .tc := ⟨.hbm, 209, rfl⟩
abbrev main_while0b_v135 : Ref sig .tc := ⟨.hbm, 210, rfl⟩
abbrev main_while0b_v136 : Ref sig .tc := ⟨.hbm, 211, rfl⟩
abbrev main_while0b_v137 : Ref sig .tc := ⟨.hbm, 212, rfl⟩
abbrev main_while0b_v138 : Ref sig .tc := ⟨.hbm, 213, rfl⟩
abbrev main_while0b_v139 : Ref sig .tc := ⟨.hbm, 214, rfl⟩
abbrev main_while0b_v140 : Ref sig .tc := ⟨.hbm, 215, rfl⟩
abbrev main_while0b_cst_37 : Ref sig .tc := ⟨.hbm, 216, rfl⟩
abbrev main_while0b_v141 : Ref sig .tc := ⟨.hbm, 217, rfl⟩
abbrev main_while0b_v142 : Ref sig .tc := ⟨.hbm, 218, rfl⟩
abbrev main_while0b_cst_38 : Ref sig .tc := ⟨.hbm, 219, rfl⟩
abbrev main_while0b_v143 : Ref sig .tc := ⟨.hbm, 220, rfl⟩
abbrev main_while0b_v144 : Ref sig .tc := ⟨.hbm, 221, rfl⟩
abbrev main_while0b_v145 : Ref sig .tc := ⟨.hbm, 222, rfl⟩
abbrev main_while0b_v146 : Ref sig .tc := ⟨.hbm, 223, rfl⟩
abbrev main_while0b_v147 : Ref sig .tc := ⟨.hbm, 224, rfl⟩
abbrev main_while0b_v148 : Ref sig .tc := ⟨.hbm, 225, rfl⟩
abbrev main_while0b_v149 : Ref sig .tc := ⟨.hbm, 226, rfl⟩
abbrev main_while0b_v150 : Ref sig .tc := ⟨.hbm, 227, rfl⟩
abbrev main_while0b_v151 : Ref sig .tc := ⟨.hbm, 228, rfl⟩
abbrev main_while0b_v152 : Ref sig .tc := ⟨.hbm, 229, rfl⟩
abbrev main_while0b_cst_39 : Ref sig .tc := ⟨.hbm, 230, rfl⟩
abbrev main_while0b_v153 : Ref sig .tc := ⟨.hbm, 231, rfl⟩
abbrev main_while0b_v154 : Ref sig .tc := ⟨.hbm, 232, rfl⟩
abbrev main_while0b_v155 : Ref sig .tc := ⟨.hbm, 233, rfl⟩
abbrev main_while0b_v156 : Ref sig .tc := ⟨.hbm, 234, rfl⟩
abbrev main_while0b_cst_40 : Ref sig .tc := ⟨.hbm, 235, rfl⟩
abbrev main_while0b_v157 : Ref sig .tc := ⟨.hbm, 236, rfl⟩
abbrev main_while0b_v158 : Ref sig .tc := ⟨.hbm, 237, rfl⟩
abbrev main_while0b_v159 : Ref sig .tc := ⟨.hbm, 238, rfl⟩
abbrev main_while0b_call10_cst : Ref sig .tc := ⟨.hbm, 239, rfl⟩
abbrev main_while0b_call10_v0 : Ref sig .tc := ⟨.hbm, 240, rfl⟩
abbrev main_while0b_v160 : Ref sig .tc := ⟨.hbm, 241, rfl⟩
abbrev main_while0b_cst_41 : Ref sig .tc := ⟨.hbm, 242, rfl⟩
abbrev main_while0b_v161 : Ref sig .tc := ⟨.hbm, 243, rfl⟩
abbrev main_while0b_v162 : Ref sig .tc := ⟨.hbm, 244, rfl⟩
abbrev main_while0b_v163 : Ref sig .tc := ⟨.hbm, 245, rfl⟩
abbrev main_while0b_cst_42 : Ref sig .tc := ⟨.hbm, 246, rfl⟩
abbrev main_while0b_v164 : Ref sig .tc := ⟨.hbm, 247, rfl⟩
abbrev main_while0b_v165 : Ref sig .tc := ⟨.hbm, 248, rfl⟩
abbrev main_while0b_cst_43 : Ref sig .tc := ⟨.hbm, 249, rfl⟩
abbrev main_while0b_v166 : Ref sig .tc := ⟨.hbm, 250, rfl⟩
abbrev main_while0b_v167 : Ref sig .tc := ⟨.hbm, 251, rfl⟩
abbrev main_while0b_v168 : Ref sig .tc := ⟨.hbm, 252, rfl⟩
abbrev main_while0b_cst_44 : Ref sig .tc := ⟨.hbm, 253, rfl⟩
abbrev main_while0b_v169 : Ref sig .tc := ⟨.hbm, 254, rfl⟩
abbrev main_while0b_v170 : Ref sig .tc := ⟨.hbm, 255, rfl⟩
abbrev main_while0b_v171 : Ref sig .tc := ⟨.hbm, 256, rfl⟩
abbrev main_while0b_call11_call0_cst : Ref sig .tc := ⟨.hbm, 257, rfl⟩
abbrev main_while0b_call11_call0_v0 : Ref sig .tc := ⟨.hbm, 258, rfl⟩
abbrev main_while0b_v172 : Ref sig .tc := ⟨.hbm, 259, rfl⟩
abbrev main_while0b_call12_v0 : Ref sig .tc := ⟨.hbm, 260, rfl⟩
abbrev main_while0b_call12_c : Ref sig .tc := ⟨.hbm, 261, rfl⟩
abbrev main_while0b_call12_c_0 : Ref sig .tc := ⟨.hbm, 262, rfl⟩
abbrev main_while0b_call12_c_1 : Ref sig .tc := ⟨.hbm, 263, rfl⟩
abbrev main_while0b_call12_c_2 : Ref sig .tc := ⟨.hbm, 264, rfl⟩
abbrev main_while0b_call12_c_3 : Ref sig .tc := ⟨.hbm, 265, rfl⟩
abbrev main_while0b_v173 : Ref sig .tc := ⟨.hbm, 266, rfl⟩
abbrev main_while0b_call13_v0 : Ref sig .tc := ⟨.hbm, 267, rfl⟩
abbrev main_while0b_call13_c : Ref sig .tc := ⟨.hbm, 268, rfl⟩
abbrev main_while0b_call13_c_0 : Ref sig .tc := ⟨.hbm, 269, rfl⟩
abbrev main_while0b_call13_c_1 : Ref sig .tc := ⟨.hbm, 270, rfl⟩
abbrev main_while0b_call13_c_2 : Ref sig .tc := ⟨.hbm, 271, rfl⟩
abbrev main_while0b_v174 : Ref sig .tc := ⟨.hbm, 272, rfl⟩
abbrev main_while0b_call14_v0 : Ref sig .tc := ⟨.hbm, 273, rfl⟩
abbrev main_while0b_call14_c : Ref sig .tc := ⟨.hbm, 274, rfl⟩
abbrev main_while0b_call14_c_0 : Ref sig .tc := ⟨.hbm, 275, rfl⟩
abbrev main_while0b_call14_c_1 : Ref sig .tc := ⟨.hbm, 276, rfl⟩
abbrev main_while0b_call14_c_2 : Ref sig .tc := ⟨.hbm, 277, rfl⟩
abbrev main_while0b_v175 : Ref sig .tc := ⟨.hbm, 278, rfl⟩
abbrev main_while0b_call15_v0 : Ref sig .tc := ⟨.hbm, 279, rfl⟩
abbrev main_while0b_call15_c : Ref sig .tc := ⟨.hbm, 280, rfl⟩
abbrev main_while0b_call15_c_0 : Ref sig .tc := ⟨.hbm, 281, rfl⟩
abbrev main_while0b_call15_c_1 : Ref sig .tc := ⟨.hbm, 282, rfl⟩
abbrev main_while0b_call15_c_2 : Ref sig .tc := ⟨.hbm, 283, rfl⟩
abbrev main_while0b_v176 : Ref sig .tc := ⟨.hbm, 284, rfl⟩
abbrev main_while0b_call16_v0 : Ref sig .tc := ⟨.hbm, 285, rfl⟩
abbrev main_while0b_call16_c : Ref sig .tc := ⟨.hbm, 286, rfl⟩
abbrev main_while0b_call16_c_0 : Ref sig .tc := ⟨.hbm, 287, rfl⟩
abbrev main_while0b_call16_c_1 : Ref sig .tc := ⟨.hbm, 288, rfl⟩
abbrev main_while0b_call16_c_2 : Ref sig .tc := ⟨.hbm, 289, rfl⟩
abbrev main_while0b_v177 : Ref sig .tc := ⟨.hbm, 290, rfl⟩
abbrev main_while0b_c_45 : Ref sig .tc := ⟨.hbm, 291, rfl⟩
abbrev main_while0b_v178 : Ref sig .tc := ⟨.hbm, 292, rfl⟩
abbrev main_v19 : Ref sig .tc := ⟨.hbm, 293, rfl⟩
abbrev main_c_5 : Ref sig .tc := ⟨.hbm, 294, rfl⟩
abbrev main_v20 : Ref sig .tc := ⟨.hbm, 295, rfl⟩
abbrev main_v21 : Ref sig .tc := ⟨.hbm, 296, rfl⟩
abbrev main_v22 : Ref sig .tc := ⟨.hbm, 297, rfl⟩
abbrev main_v23 : Ref sig .tc := ⟨.hbm, 298, rfl⟩
abbrev main_cst_6 : Ref sig .tc := ⟨.hbm, 299, rfl⟩
abbrev main_call17_v0 : Ref sig .tc := ⟨.hbm, 300, rfl⟩
abbrev main_call17_v1 : Ref sig .tc := ⟨.hbm, 301, rfl⟩
abbrev main_call17_v2 : Ref sig .tc := ⟨.hbm, 302, rfl⟩
abbrev main_v24 : Ref sig .tc := ⟨.hbm, 303, rfl⟩
abbrev main_v25 : Ref sig .tc := ⟨.hbm, 304, rfl⟩
abbrev main_cst_7 : Ref sig .tc := ⟨.hbm, 305, rfl⟩
abbrev main_call18_v0 : Ref sig .tc := ⟨.hbm, 306, rfl⟩
abbrev main_call18_v1 : Ref sig .tc := ⟨.hbm, 307, rfl⟩
abbrev main_call18_v2 : Ref sig .tc := ⟨.hbm, 308, rfl⟩
abbrev main_v26 : Ref sig .tc := ⟨.hbm, 309, rfl⟩
abbrev main_v27 : Ref sig .tc := ⟨.hbm, 310, rfl⟩
abbrev main_cst_8 : Ref sig .tc := ⟨.hbm, 311, rfl⟩
abbrev main_call19_v0 : Ref sig .tc := ⟨.hbm, 312, rfl⟩
abbrev main_call19_v1 : Ref sig .tc := ⟨.hbm, 313, rfl⟩
abbrev main_call19_v2 : Ref sig .tc := ⟨.hbm, 314, rfl⟩
abbrev main_v28 : Ref sig .tc := ⟨.hbm, 315, rfl⟩
abbrev main_v29 : Ref sig .tc := ⟨.hbm, 316, rfl⟩
abbrev main_cst_9 : Ref sig .tc := ⟨.hbm, 317, rfl⟩
abbrev main_call20_v0 : Ref sig .tc := ⟨.hbm, 318, rfl⟩
abbrev main_call20_v1 : Ref sig .tc := ⟨.hbm, 319, rfl⟩
abbrev main_call20_v2 : Ref sig .tc := ⟨.hbm, 320, rfl⟩
abbrev main_v30 : Ref sig .tc := ⟨.hbm, 321, rfl⟩
abbrev main_v31 : Ref sig .tc := ⟨.hbm, 322, rfl⟩
abbrev main_v32 : Ref sig .tc := ⟨.hbm, 323, rfl⟩
abbrev main_v33 : Ref sig .tc := ⟨.hbm, 324, rfl⟩
abbrev main_cst_10 : Ref sig .tc := ⟨.hbm, 325, rfl⟩
abbrev main_call21_v0 : Ref sig .tc := ⟨.hbm, 326, rfl⟩
abbrev main_call21_v1 : Ref sig .tc := ⟨.hbm, 327, rfl⟩
abbrev main_call21_v2 : Ref sig .tc := ⟨.hbm, 328, rfl⟩
abbrev main_v34 : Ref sig .tc := ⟨.hbm, 329, rfl⟩
abbrev main_v35 : Ref sig .tc := ⟨.hbm, 330, rfl⟩
abbrev main_v36 : Ref sig .tc := ⟨.hbm, 331, rfl⟩

abbrev nD : Nat := 1
abbrev τ : Topo := Topo.v7x

variable {F : FTy → Type} [FloatOps F]

abbrev main_while0_count : Scf.Loop 32 := ⟨0#32, 65#32, 1#32⟩
-- ==== Kernel2.lean ====
abbrev S4160x5632 : Shape := ⟨2, ![4160, 5632]⟩
abbrev S4160x2048 : Shape := ⟨2, ![4160, 2048]⟩
abbrev S5632x2048 : Shape := ⟨2, ![5632, 2048]⟩
abbrev S2080x1408 : Shape := ⟨2, ![2080, 1408]⟩
abbrev S2080x1024 : Shape := ⟨2, ![2080, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4160x5632, .bf16⟩
  | .hbm, ⟨1, _⟩ => ⟨S4160x2048, .bf16⟩
  | .hbm, ⟨2, _⟩ => ⟨S5632x2048, .bf16⟩
  | .local _ .vmem, ⟨0, _⟩ => ⟨S2080x1408, .bf16⟩
  | .local _ .vmem, ⟨1, _⟩ => ⟨S2080x1408, .bf16⟩
  | .local _ .vmem, ⟨2, _⟩ => ⟨S2080x1024, .bf16⟩
  | .local _ .vmem, ⟨3, _⟩ => ⟨S2080x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4160x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4160x5632 : Shape := ⟨2, ![4160, 5632]⟩
abbrev S4160x2048 : Shape := ⟨2, ![4160, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4160x5632, .bf16⟩
  | .hbm, ⟨1, _⟩ => ⟨S4160x2048, .bf16⟩
  | .hbm, ⟨2, _⟩ => ⟨S_, .f32⟩
  | .hbm, ⟨3, _⟩ => ⟨S5632x2048, .f32⟩
  | .hbm, ⟨4, _⟩ => ⟨S4160x5632, .f32⟩
  | .hbm, ⟨5, _⟩ => ⟨S4160x2048, .f32⟩
  | .hbm, ⟨6, _⟩ => ⟨S4160x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4160x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4160x2048 : Shape := ⟨2, ![4160, 2048]⟩
abbrev S4160x5632 : Shape := ⟨2, ![4160, 5632]⟩
abbrev S2048x5632 : Shape := ⟨2, ![2048, 5632]⟩
abbrev S2080x1024 : Shape := ⟨2, ![2080, 1024]⟩
abbrev S2080x1408 : Shape := ⟨2, ![2080, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S4160x5632, .bf16⟩
  | .hbm, ⟨2, _⟩ => ⟨S2048x5632, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1408, .bf16⟩
  | .local _ .vmem, ⟨3, _⟩ => ⟨S2080x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4160x2048 : Shape := ⟨2, ![4160, 2048]⟩
abbrev S4160x5632 : Shape := ⟨2, ![4160, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S4160x5632, .bf16⟩
  | .hbm, ⟨2, _⟩ => ⟨S_, .f32⟩
  | .hbm, ⟨3, _⟩ => ⟨S2048x5632, .f32⟩
  | .hbm, ⟨4, _⟩ => ⟨S4160x2048, .f32⟩
  | .hbm, ⟨5, _⟩ => ⟨S4160x5632, .f32⟩
  | .hbm, ⟨6, _⟩ => ⟨S4160x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4160x2048 : Shape := ⟨2, ![4160, 2048]⟩
abbrev S4160x5632 : Shape := ⟨2, ![4160, 5632]⟩
abbrev S8x128 : Shape := ⟨2, ![8, 128]⟩
abbrev S2048x5632 : Shape := ⟨2, ![2048, 5632]⟩
abbrev S2080x1024 : Shape := ⟨2, ![2080, 1024]⟩
abbrev S2080x1408 : Shape := ⟨2, ![2080, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4160x2048, .bf16⟩
  | .hbm, ⟨1, _⟩ => ⟨S4160x5632, .bf16⟩
  | .hbm, ⟨2, _⟩ => ⟨S8x128, .f32⟩
  | .hbm, ⟨3, _⟩ => ⟨S2048x5632, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1408, .bf16⟩
  | .local _ .vmem, ⟨3, _⟩ => ⟨S2080x1408, .bf16⟩
  | .local _ .vmem, ⟨4, _⟩ => ⟨S8x128, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4160x2048 : Shape := ⟨2, ![4160, 2048]⟩
abbrev S4160x5632 : Shape := ⟨2, ![4160, 5632]⟩
abbrev S8x128 : Shape := ⟨2, ![8, 128]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S4160x5632, .bf16⟩
  | .hbm, ⟨2, _⟩ => ⟨S8x128, .f32⟩
  | .hbm, ⟨3, _⟩ => ⟨S_, .f32⟩
  | .hbm, ⟨4, _⟩ => ⟨S2048x5632, .f32⟩
  | .hbm, ⟨5, _⟩ => ⟨S4160x2048, .f32⟩
  | .hbm, ⟨6, _⟩ => ⟨S4160x5632, .f32⟩
  | .hbm, ⟨7, _⟩ => ⟨S4160x5632, .f32⟩
  | .hbm, ⟨8, _⟩ => ⟨S5632x2048, .f32⟩
  | .hbm, ⟨9, _⟩ => ⟨S2048x5632, .f32⟩
  | .hbm, ⟨10, _⟩ => ⟨S2048x5632, .bf16⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S4160x2048 : Shape := ⟨2, ![4160, 2048]⟩
abbrev S5632x2048 : Shape := ⟨2, ![5632, 2048]⟩
abbrev S4160x5632 : Shape := ⟨2, ![4160, 5632]⟩
abbrev S1040x2048 : Shape := ⟨2, ![1040, 2048]⟩
abbrev S512x2048 : Shape := ⟨2, ![512, 2048]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S4160x2048, .bf16⟩
  | .hbm, ⟨1, _⟩ => ⟨S5632x2048, .bf16⟩
  | .hbm, ⟨2, _⟩ => ⟨S4160x5632, .f32⟩
  | .local _ .vmem, ⟨0, _⟩ => ⟨S1040x2048, .bf16⟩
  | .local _ .vmem, ⟨1, _⟩ => ⟨S1040x2048, .bf16⟩
  | .local _ .vmem, ⟨2, _⟩ => ⟨S512x2048, .bf16⟩
  | .local _ .vmem, ⟨3, _⟩ => ⟨S512x2048, .bf16⟩
  | .local _ .vmem, ⟨4, _⟩ => ⟨S1040x512, .f32⟩
  | .local _ .vmem, ⟨5, _⟩ => ⟨S1040x512, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4160x2048 : Shape := ⟨2, ![4160, 2048]⟩
abbrev S5632x2048 : Shape := ⟨2, ![5632, 2048]⟩
abbrev S_ : Shape := ⟨0, ![]⟩
abbrev S4160x5632 : Shape := ⟨2, ![4160, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S5632x2048, .bf16⟩
  | .hbm, ⟨2, _⟩ => ⟨S_, .f32⟩
  | .hbm, ⟨3, _⟩ => ⟨S4160x5632, .f32⟩
  | .hbm, ⟨4, _⟩ => ⟨S5632x2048, .f32⟩
  | .hbm, ⟨5, _⟩ => ⟨S4160x2048, .f32⟩
  | .hbm, ⟨6, _⟩ => ⟨S4160x2048, .f32⟩
  | .hbm, ⟨7, _⟩ => ⟨S4160x5632, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4160x5632 : Shape := ⟨2, ![4160, 5632]⟩
abbrev S2048x11264 : Shape := ⟨2, ![2048, 11264]⟩
abbrev S8x128 : Shape := ⟨2, ![8, 128]⟩
abbrev S4160x2048 : Shape := ⟨2, ![4160, 2048]⟩
abbrev S1040x1408 : Shape := ⟨2, ![1040, 1408]⟩
abbrev S2048x1408 : Shape := ⟨2, ![2048, 1408]⟩
abbrev S1040x2048 : Shape := ⟨2, ![1040, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4160x5632, .bf16⟩
  | .hbm, ⟨1, _⟩ => ⟨S2048x11264, .bf16⟩
  | .hbm, ⟨2, _⟩ => ⟨S8x128, .f32⟩
  | .hbm, ⟨3, _⟩ => ⟨S4160x2048, .f32⟩
  | .local _ .vmem, ⟨0, _⟩ => ⟨S1040x1408, .bf16⟩
  | .local _ .vmem, ⟨1, _⟩ => ⟨S1040x1408, .bf16⟩
  | .local _ .vmem, ⟨2, _⟩ => ⟨S2048x1408, .bf16⟩
  | .local _ .vmem, ⟨3, _⟩ => ⟨S2048x1408, .bf16⟩
  | .local _ .vmem, ⟨4, _⟩ => ⟨S8x128, .f32⟩
  | .local _ .vmem, ⟨5, _⟩ => ⟨S1040x2048, .f32⟩
  | .local _ .vmem, ⟨6, _⟩ => ⟨S1040x2048, .f32⟩
  | .local _ .vmem, ⟨7, _⟩ => ⟨S1040x2048, .f32⟩
  | _, _ => ⟨S4160x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4160x5632 : Shape := ⟨2, ![4160, 5632]⟩
abbrev S2048x11264 : Shape := ⟨2, ![2048, 11264]⟩
abbrev S8x128 : Shape := ⟨2, ![8, 128]⟩
abbrev S2048x5632 : Shape := ⟨2, ![2048, 5632]⟩
abbrev S_ : Shape := ⟨0, ![]⟩
abbrev S4160x2048 : Shape := ⟨2, ![4160, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4160x5632, .bf16⟩
  | .hbm, ⟨1, _⟩ => ⟨S2048x11264, .bf16⟩
  | .hbm, ⟨2, _⟩ => ⟨S8x128, .f32⟩
  | .hbm, ⟨3, _⟩ => ⟨S2048x5632, .bf16⟩
  | .hbm, ⟨4, _⟩ => ⟨S_, .f32⟩
  | .hbm, ⟨5, _⟩ => ⟨S4160x2048, .f32⟩
  | .hbm, ⟨6, _⟩ => ⟨S2048x5632, .f32⟩
  | .hbm, ⟨7, _⟩ => ⟨S4160x5632, .f32⟩
  | .hbm, ⟨8, _⟩ => ⟨S4160x5632, .f32⟩
  | .hbm, ⟨9, _⟩ => ⟨S4160x2048, .f32⟩
  | _, _ => ⟨S4160x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4160x5632 : Shape := ⟨2, ![4160, 5632]⟩
abbrev S2048x11264 : Shape := ⟨2, ![2048, 11264]⟩
abbrev S4160x2048 : Shape := ⟨2, ![4160, 2048]⟩
abbrev S8x128 : Shape := ⟨2, ![8, 128]⟩
abbrev S1040x1408 : Shape := ⟨2, ![1040, 1408]⟩
abbrev S1024x1408 : Shape := ⟨2, ![1024, 1408]⟩
abbrev S1040x1024 : Shape := ⟨2, ![1040, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4160x5632, .bf16⟩
  | .hbm, ⟨1, _⟩ => ⟨S2048x11264, .bf16⟩
  | .hbm, ⟨2, _⟩ => ⟨S4160x2048, .f32⟩
  | .hbm, ⟨3, _⟩ => ⟨S8x128, .f32⟩
  | .hbm, ⟨4, _⟩ => ⟨S4160x2048, .f32⟩
  | .local _ .vmem, ⟨0, _⟩ => ⟨S1040x1408, .bf16⟩
  | .local _ .vmem, ⟨1, _⟩ => ⟨S1040x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1040x1024, .f32⟩
  | .local _ .vmem, ⟨5, _⟩ => ⟨S1040x1024, .f32⟩
  | .local _ .vmem, ⟨6, _⟩ => ⟨S8x128, .f32⟩
  | .local _ .vmem, ⟨7, _⟩ => ⟨S1040x1024, .f32⟩
  | .local _ .vmem, ⟨8, _⟩ => ⟨S1040x1024, .f32⟩
  | .local _ .vmem, ⟨9, _⟩ => ⟨S1040x1024, .f32⟩
  | _, _ => ⟨S4160x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c4_i32 : BitVec 32 := 4#32
  let v1 : BitVec 32 := Scalar.addi arg2 c4_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S4160x5632 : Shape := ⟨2, ![4160, 5632]⟩
abbrev S2048x11264 : Shape := ⟨2, ![2048, 11264]⟩
abbrev S4160x2048 : Shape := ⟨2, ![4160, 2048]⟩
abbrev S8x128 : Shape := ⟨2, ![8, 128]⟩
abbrev S2048x5632 : Shape := ⟨2, ![2048, 5632]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4160x5632, .bf16⟩
  | .hbm, ⟨1, _⟩ => ⟨S2048x11264, .bf16⟩
  | .hbm, ⟨2, _⟩ => ⟨S4160x2048, .f32⟩
  | .hbm, ⟨3, _⟩ => ⟨S8x128, .f32⟩
  | .hbm, ⟨4, _⟩ => ⟨S2048x5632, .bf16⟩
  | .hbm, ⟨5, _⟩ => ⟨S_, .f32⟩
  | .hbm, ⟨6, _⟩ => ⟨S4160x2048, .f32⟩
  | .hbm, ⟨7, _⟩ => ⟨S2048x5632, .f32⟩
  | .hbm, ⟨8, _⟩ => ⟨S4160x5632, .f32⟩
  | .hbm, ⟨9, _⟩ => ⟨S4160x5632, .f32⟩
  | .hbm, ⟨10, _⟩ => ⟨S4160x2048, .f32⟩
  | .hbm, ⟨11, _⟩ => ⟨S4160x2048, .f32⟩
  | _, _ => ⟨S4160x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel8.lean ====
abbrev S4160x4096 : Shape := ⟨2, ![4160, 4096]⟩
abbrev S4160x2048 : Shape := ⟨2, ![4160, 2048]⟩
abbrev S4096x2048 : Shape := ⟨2, ![4096, 2048]⟩
abbrev S2080x1024 : Shape := ⟨2, ![2080, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4160x4096, .bf16⟩
  | .hbm, ⟨1, _⟩ => ⟨S4160x2048, .bf16⟩
  | .hbm, ⟨2, _⟩ => ⟨S4096x2048, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1024, .bf16⟩
  | .local _ .vmem, ⟨3, _⟩ => ⟨S2080x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4160x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4160x4096 : Shape := ⟨2, ![4160, 4096]⟩
abbrev S4160x2048 : Shape := ⟨2, ![4160, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4160x4096, .bf16⟩
  | .hbm, ⟨1, _⟩ => ⟨S4160x2048, .bf16⟩
  | .hbm, ⟨2, _⟩ => ⟨S_, .f32⟩
  | .hbm, ⟨3, _⟩ => ⟨S4096x2048, .f32⟩
  | .hbm, ⟨4, _⟩ => ⟨S4160x4096, .f32⟩
  | .hbm, ⟨5, _⟩ => ⟨S4160x2048, .f32⟩
  | .hbm, ⟨6, _⟩ => ⟨S4160x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4160x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4160x2048 : Shape := ⟨2, ![4160, 2048]⟩
abbrev S4096x2048 : Shape := ⟨2, ![4096, 2048]⟩
abbrev S8x128 : Shape := ⟨2, ![8, 128]⟩
abbrev S4160x4096 : Shape := ⟨2, ![4160, 4096]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S4096x2048, .bf16⟩
  | .hbm, ⟨2, _⟩ => ⟨S8x128, .f32⟩
  | .hbm, ⟨3, _⟩ => ⟨S4160x4096, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1040x1024, .f32⟩
  | .local _ .vmem, ⟨6, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4160x2048 : Shape := ⟨2, ![4160, 2048]⟩
abbrev S4096x2048 : Shape := ⟨2, ![4096, 2048]⟩
abbrev S8x128 : Shape := ⟨2, ![8, 128]⟩
abbrev S_ : Shape := ⟨0, ![]⟩
abbrev S4160x4096 : Shape := ⟨2, ![4160, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S4096x2048, .bf16⟩
  | .hbm, ⟨2, _⟩ => ⟨S8x128, .f32⟩
  | .hbm, ⟨3, _⟩ => ⟨S_, .f32⟩
  | .hbm, ⟨4, _⟩ => ⟨S4160x4096, .f32⟩
  | .hbm, ⟨5, _⟩ => ⟨S4096x2048, .f32⟩
  | .hbm, ⟨6, _⟩ => ⟨S4160x2048, .f32⟩
  | .hbm, ⟨7, _⟩ => ⟨S4160x2048, .f32⟩
  | .hbm, ⟨8, _⟩ => ⟨S4160x4096, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S4160x2048 : Shape := ⟨2, ![4160, 2048]⟩
abbrev S2048x2048 : Shape := ⟨2, ![2048, 2048]⟩
abbrev S2080x1024 : Shape := ⟨2, ![2080, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S4160x2048, .bf16⟩
  | .hbm, ⟨2, _⟩ => ⟨S2048x2048, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1024, .bf16⟩
  | .local _ .vmem, ⟨3, _⟩ => ⟨S2080x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4160x2048 : Shape := ⟨2, ![4160, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S4160x2048, .bf16⟩
  | .hbm, ⟨2, _⟩ => ⟨S_, .f32⟩
  | .hbm, ⟨3, _⟩ => ⟨S2048x2048, .f32⟩
  | .hbm, ⟨4, _⟩ => ⟨S4160x2048, .f32⟩
  | .hbm, ⟨5, _⟩ => ⟨S4160x2048, .f32⟩
  | .hbm, ⟨6, _⟩ => ⟨S4160x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4160x2048 : Shape := ⟨2, ![4160, 2048]⟩
abbrev S4160x3072 : Shape := ⟨2, ![4160, 3072]⟩
abbrev S2048x3072 : Shape := ⟨2, ![2048, 3072]⟩
abbrev S2080x1024 : Shape := ⟨2, ![2080, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S4160x3072, .bf16⟩
  | .hbm, ⟨2, _⟩ => ⟨S2048x3072, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1024, .bf16⟩
  | .local _ .vmem, ⟨3, _⟩ => ⟨S2080x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4160x2048 : Shape := ⟨2, ![4160, 2048]⟩
abbrev S4160x3072 : Shape := ⟨2, ![4160, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S4160x3072, .bf16⟩
  | .hbm, ⟨2, _⟩ => ⟨S_, .f32⟩
  | .hbm, ⟨3, _⟩ => ⟨S2048x3072, .f32⟩
  | .hbm, ⟨4, _⟩ => ⟨S4160x2048, .f32⟩
  | .hbm, ⟨5, _⟩ => ⟨S4160x3072, .f32⟩
  | .hbm, ⟨6, _⟩ => ⟨S4160x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4160x2048 : Shape := ⟨2, ![4160, 2048]⟩
abbrev S4160x128 : Shape := ⟨2, ![4160, 128]⟩
abbrev S2048x128 : Shape := ⟨2, ![2048, 128]⟩
abbrev S2080x1024 : Shape := ⟨2, ![2080, 1024]⟩
abbrev S2080x128 : Shape := ⟨2, ![2080, 128]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S4160x128, .bf16⟩
  | .hbm, ⟨2, _⟩ => ⟨S2048x128, .bf16⟩
  | .local _ .vmem, ⟨0, _⟩ => ⟨S2080x1024, .bf16⟩
  | .local _ .vmem, ⟨1, _⟩ => ⟨S2080x1024, .bf16⟩
  | .local _ .vmem, ⟨2, _⟩ => ⟨S2080x128, .bf16⟩
  | .local _ .vmem, ⟨3, _⟩ => ⟨S2080x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4160x2048 : Shape := ⟨2, ![4160, 2048]⟩
abbrev S4160x128 : Shape := ⟨2, ![4160, 128]⟩
abbrev S_ : Shape := ⟨0, ![]⟩
abbrev S2048x128 : Shape := ⟨2, ![2048, 128]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S4160x128, .bf16⟩
  | .hbm, ⟨2, _⟩ => ⟨S_, .f32⟩
  | .hbm, ⟨3, _⟩ => ⟨S2048x128, .f32⟩
  | .hbm, ⟨4, _⟩ => ⟨S4160x2048, .f32⟩
  | .hbm, ⟨5, _⟩ => ⟨S4160x128, .f32⟩
  | .hbm, ⟨6, _⟩ => ⟨S4160x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1040x1024, .f32⟩
  | .local _ .vmem, ⟨6, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S2048x2048, .bf16⟩
  | .hbm, ⟨4, _⟩ => ⟨S2048x2048, .bf16⟩
  | .hbm, ⟨5, _⟩ => ⟨S_, .f32⟩
  | .hbm, ⟨6, _⟩ => ⟨S4160x2048, .f32⟩
  | .hbm, ⟨7, _⟩ => ⟨S2048x2048, .f32⟩
  | .hbm, ⟨8, _⟩ => ⟨S4160x2048, .f32⟩
  | .hbm, ⟨9, _⟩ => ⟨S4160x2048, .f32⟩
  | .hbm, ⟨10, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .f32⟩
  | .local _ .vmem, ⟨5, _⟩ => ⟨S1040x1024, .f32⟩
  | .local _ .vmem, ⟨6, _⟩ => ⟨S8x128, .f32⟩
  | .local _ .vmem, ⟨7, _⟩ => ⟨S1040x1024, .f32⟩
  | .local _ .vmem, ⟨8, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference14Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S2048x2048, .bf16⟩
  | .hbm, ⟨5, _⟩ => ⟨S2048x2048, .bf16⟩
  | .hbm, ⟨6, _⟩ => ⟨S_, .f32⟩
  | .hbm, ⟨7, _⟩ => ⟨S4160x2048, .f32⟩
  | .hbm, ⟨8, _⟩ => ⟨S2048x2048, .f32⟩
  | .hbm, ⟨9, _⟩ => ⟨S4160x2048, .f32⟩
  | .hbm, ⟨10, _⟩ => ⟨S4160x2048, .f32⟩
  | .hbm, ⟨11, _⟩ => ⟨S4160x2048, .f32⟩
  | .hbm, ⟨12, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel15.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .f32⟩
  | .local _ .vmem, ⟨5, _⟩ => ⟨S1040x1024, .f32⟩
  | .local _ .vmem, ⟨6, _⟩ => ⟨S8x128, .f32⟩
  | .local _ .vmem, ⟨7, _⟩ => ⟨S1040x1024, .f32⟩
  | .local _ .vmem, ⟨8, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference15Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S2048x2048, .bf16⟩
  | .hbm, ⟨5, _⟩ => ⟨S2048x2048, .bf16⟩
  | .hbm, ⟨6, _⟩ => ⟨S_, .f32⟩
  | .hbm, ⟨7, _⟩ => ⟨S4160x2048, .f32⟩
  | .hbm, ⟨8, _⟩ => ⟨S2048x2048, .f32⟩
  | .hbm, ⟨9, _⟩ => ⟨S4160x2048, .f32⟩
  | .hbm, ⟨10, _⟩ => ⟨S4160x2048, .f32⟩
  | .hbm, ⟨11, _⟩ => ⟨S4160x2048, .f32⟩
  | .hbm, ⟨12, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel16.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .f32⟩
  | .local _ .vmem, ⟨5, _⟩ => ⟨S1040x1024, .f32⟩
  | .local _ .vmem, ⟨6, _⟩ => ⟨S8x128, .f32⟩
  | .local _ .vmem, ⟨7, _⟩ => ⟨S1040x1024, .f32⟩
  | .local _ .vmem, ⟨8, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference16Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S2048x2048, .bf16⟩
  | .hbm, ⟨5, _⟩ => ⟨S2048x2048, .bf16⟩
  | .hbm, ⟨6, _⟩ => ⟨S_, .f32⟩
  | .hbm, ⟨7, _⟩ => ⟨S4160x2048, .f32⟩
  | .hbm, ⟨8, _⟩ => ⟨S2048x2048, .f32⟩
  | .hbm, ⟨9, _⟩ => ⟨S4160x2048, .f32⟩
  | .hbm, ⟨10, _⟩ => ⟨S4160x2048, .f32⟩
  | .hbm, ⟨11, _⟩ => ⟨S4160x2048, .f32⟩
  | .hbm, ⟨12, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel17.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .f32⟩
  | .local _ .vmem, ⟨5, _⟩ => ⟨S1040x1024, .f32⟩
  | .local _ .vmem, ⟨6, _⟩ => ⟨S8x128, .f32⟩
  | .local _ .vmem, ⟨7, _⟩ => ⟨S1040x1024, .f32⟩
  | .local _ .vmem, ⟨8, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference17Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S2048x2048, .bf16⟩
  | .hbm, ⟨5, _⟩ => ⟨S2048x2048, .bf16⟩
  | .hbm, ⟨6, _⟩ => ⟨S_, .f32⟩
  | .hbm, ⟨7, _⟩ => ⟨S4160x2048, .f32⟩
  | .hbm, ⟨8, _⟩ => ⟨S2048x2048, .f32⟩
  | .hbm, ⟨9, _⟩ => ⟨S4160x2048, .f32⟩
  | .hbm, ⟨10, _⟩ => ⟨S4160x2048, .f32⟩
  | .hbm, ⟨11, _⟩ => ⟨S4160x2048, .f32⟩
  | .hbm, ⟨12, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel18.lean ====
abbrev S4160x3072 : Shape := ⟨2, ![4160, 3072]⟩
abbrev S13440x2048 : Shape := ⟨2, ![13440, 2048]⟩
abbrev S4160x2048 : Shape := ⟨2, ![4160, 2048]⟩
abbrev S8x128 : Shape := ⟨2, ![8, 128]⟩
abbrev S1040x1024 : Shape := ⟨2, ![1040, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4160x3072, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S4160x2048, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1040x1024, .f32⟩
  | .local _ .vmem, ⟨5, _⟩ => ⟨S1040x1024, .f32⟩
  | .local _ .vmem, ⟨6, _⟩ => ⟨S8x128, .f32⟩
  | .local _ .vmem, ⟨7, _⟩ => ⟨S1040x1024, .f32⟩
  | .local _ .vmem, ⟨8, _⟩ => ⟨S1040x1024, .f32⟩
  | .local _ .vmem, ⟨9, _⟩ => ⟨S1040x1024, .f32⟩
  | _, _ => ⟨S4160x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg2 c10_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference18Ideal.lean ====
abbrev S4160x3072 : Shape := ⟨2, ![4160, 3072]⟩
abbrev S13440x2048 : Shape := ⟨2, ![13440, 2048]⟩
abbrev S4160x2048 : Shape := ⟨2, ![4160, 2048]⟩
abbrev S8x128 : Shape := ⟨2, ![8, 128]⟩
abbrev S3072x2048 : Shape := ⟨2, ![3072, 2048]⟩
abbrev S2048x3072 : Shape := ⟨2, ![2048, 3072]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4160x3072, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S3072x2048, .bf16⟩
  | .hbm, ⟨5, _⟩ => ⟨S2048x3072, .bf16⟩
  | .hbm, ⟨6, _⟩ => ⟨S_, .f32⟩
  | .hbm, ⟨7, _⟩ => ⟨S4160x2048, .f32⟩
  | .hbm, ⟨8, _⟩ => ⟨S2048x3072, .f32⟩
  | .hbm, ⟨9, _⟩ => ⟨S4160x3072, .f32⟩
  | .hbm, ⟨10, _⟩ => ⟨S4160x3072, .f32⟩
  | .hbm, ⟨11, _⟩ => ⟨S4160x2048, .f32⟩
  | .hbm, ⟨12, _⟩ => ⟨S4160x2048, .f32⟩
  | _, _ => ⟨S4160x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel19.lean ====
abbrev S4160x128 : Shape := ⟨2, ![4160, 128]⟩
abbrev S13440x2048 : Shape := ⟨2, ![13440, 2048]⟩
abbrev S4160x2048 : Shape := ⟨2, ![4160, 2048]⟩
abbrev S8x128 : Shape := ⟨2, ![8, 128]⟩
abbrev S1040x128 : Shape := ⟨2, ![1040, 128]⟩
abbrev S128x1024 : Shape := ⟨2, ![128, 1024]⟩
abbrev S1040x1024 : Shape := ⟨2, ![1040, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4160x128, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S4160x2048, .f32⟩
  | .local _ .vmem, ⟨0, _⟩ => ⟨S1040x128, .bf16⟩
  | .local _ .vmem, ⟨1, _⟩ => ⟨S1040x128, .bf16⟩
  | .local _ .vmem, ⟨2, _⟩ => ⟨S128x1024, .bf16⟩
  | .local _ .vmem, ⟨3, _⟩ => ⟨S128x1024, .bf16⟩
  | .local _ .vmem, ⟨4, _⟩ => ⟨S1040x1024, .f32⟩
  | .local _ .vmem, ⟨5, _⟩ => ⟨S1040x1024, .f32⟩
  | .local _ .vmem, ⟨6, _⟩ => ⟨S8x128, .f32⟩
  | .local _ .vmem, ⟨7, _⟩ => ⟨S1040x1024, .f32⟩
  | .local _ .vmem, ⟨8, _⟩ => ⟨S1040x1024, .f32⟩
  | _, _ => ⟨S4160x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c104_i32 : BitVec 32 := 104#32
  let v0 : BitVec 32 := Scalar.addi arg2 c104_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference19Ideal.lean ====
abbrev S4160x128 : Shape := ⟨2, ![4160, 128]⟩
abbrev S13440x2048 : Shape := ⟨2, ![13440, 2048]⟩
abbrev S4160x2048 : Shape := ⟨2, ![4160, 2048]⟩
abbrev S8x128 : Shape := ⟨2, ![8, 128]⟩
abbrev S128x2048 : Shape := ⟨2, ![128, 2048]⟩
abbrev S2048x128 : Shape := ⟨2, ![2048, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4160x128, .bf16⟩
  | .hbm, ⟨1, _⟩ => ⟨S13440x2048, .bf16⟩
  | .hbm, ⟨2, _⟩ => ⟨S4160x2048, .f32⟩
  | .hbm, ⟨3, _⟩ => ⟨S8x128, .f32⟩
  | .hbm, ⟨4, _⟩ => ⟨S128x2048, .bf16⟩
  | .hbm, ⟨5, _⟩ => ⟨S2048x128, .bf16⟩
  | .hbm, ⟨6, _⟩ => ⟨S_, .f32⟩
  | .hbm, ⟨7, _⟩ => ⟨S4160x2048, .f32⟩
  | .hbm, ⟨8, _⟩ => ⟨S2048x128, .f32⟩
  | .hbm, ⟨9, _⟩ => ⟨S4160x128, .f32⟩
  | .hbm, ⟨10, _⟩ => ⟨S4160x128, .f32⟩
  | .hbm, ⟨11, _⟩ => ⟨S4160x2048, .f32⟩
  | .hbm, ⟨12, _⟩ => ⟨S4160x2048, .f32⟩
  | _, _ => ⟨S4160x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel20.lean ====
abbrev S4160x2048 : Shape := ⟨2, ![4160, 2048]⟩
abbrev S2048x11264 : Shape := ⟨2, ![2048, 11264]⟩
abbrev S4160x5632 : Shape := ⟨2, ![4160, 5632]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S4160x2048, .bf16⟩
  | .hbm, ⟨1, _⟩ => ⟨S2048x11264, .bf16⟩
  | .hbm, ⟨2, _⟩ => ⟨S4160x5632, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .bf16⟩
  | .local _ .vmem, ⟨3, _⟩ => ⟨S2048x512, .bf16⟩
  | .local _ .vmem, ⟨4, _⟩ => ⟨S1040x512, .f32⟩
  | .local _ .vmem, ⟨5, _⟩ => ⟨S1040x512, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4160x2048 : Shape := ⟨2, ![4160, 2048]⟩
abbrev S2048x11264 : Shape := ⟨2, ![2048, 11264]⟩
abbrev S2048x5632 : Shape := ⟨2, ![2048, 5632]⟩
abbrev S4160x5632 : Shape := ⟨2, ![4160, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S2048x11264, .bf16⟩
  | .hbm, ⟨2, _⟩ => ⟨S4160x2048, .f32⟩
  | .hbm, ⟨3, _⟩ => ⟨S2048x5632, .bf16⟩
  | .hbm, ⟨4, _⟩ => ⟨S2048x5632, .f32⟩
  | .hbm, ⟨5, _⟩ => ⟨S4160x5632, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4160x2048 : Shape := ⟨2, ![4160, 2048]⟩
abbrev S2048x11264 : Shape := ⟨2, ![2048, 11264]⟩
abbrev S4160x5632 : Shape := ⟨2, ![4160, 5632]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S4160x2048, .bf16⟩
  | .hbm, ⟨1, _⟩ => ⟨S2048x11264, .bf16⟩
  | .hbm, ⟨2, _⟩ => ⟨S4160x5632, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .bf16⟩
  | .local _ .vmem, ⟨3, _⟩ => ⟨S2048x512, .bf16⟩
  | .local _ .vmem, ⟨4, _⟩ => ⟨S1040x512, .f32⟩
  | .local _ .vmem, ⟨5, _⟩ => ⟨S1040x512, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c11_i32 : BitVec 32 := 11#32
  let v1 : BitVec 32 := Scalar.addi arg1 c11_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4160x2048 : Shape := ⟨2, ![4160, 2048]⟩
abbrev S2048x11264 : Shape := ⟨2, ![2048, 11264]⟩
abbrev S2048x5632 : Shape := ⟨2, ![2048, 5632]⟩
abbrev S4160x5632 : Shape := ⟨2, ![4160, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S2048x11264, .bf16⟩
  | .hbm, ⟨2, _⟩ => ⟨S4160x2048, .f32⟩
  | .hbm, ⟨3, _⟩ => ⟨S2048x5632, .bf16⟩
  | .hbm, ⟨4, _⟩ => ⟨S2048x5632, .f32⟩
  | .hbm, ⟨5, _⟩ => ⟨S4160x5632, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S4160x5632 : Shape := ⟨2, ![4160, 5632]⟩
abbrev S5632x2048 : Shape := ⟨2, ![5632, 2048]⟩
abbrev S4160x2048 : Shape := ⟨2, ![4160, 2048]⟩
abbrev S1040x1408 : Shape := ⟨2, ![1040, 1408]⟩
abbrev S1408x1024 : Shape := ⟨2, ![1408, 1024]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4160x5632, .bf16⟩
  | .hbm, ⟨1, _⟩ => ⟨S5632x2048, .bf16⟩
  | .hbm, ⟨2, _⟩ => ⟨S4160x2048, .f32⟩
  | .hbm, ⟨3, _⟩ => ⟨S4160x2048, .f32⟩
  | .local _ .vmem, ⟨0, _⟩ => ⟨S1040x1408, .bf16⟩
  | .local _ .vmem, ⟨1, _⟩ => ⟨S1040x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S4160x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4160x5632 : Shape := ⟨2, ![4160, 5632]⟩
abbrev S5632x2048 : Shape := ⟨2, ![5632, 2048]⟩
abbrev S4160x2048 : Shape := ⟨2, ![4160, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4160x5632, .bf16⟩
  | .hbm, ⟨1, _⟩ => ⟨S5632x2048, .bf16⟩
  | .hbm, ⟨2, _⟩ => ⟨S4160x2048, .f32⟩
  | .hbm, ⟨3, _⟩ => ⟨S4160x5632, .f32⟩
  | .hbm, ⟨4, _⟩ => ⟨S5632x2048, .f32⟩
  | .hbm, ⟨5, _⟩ => ⟨S4160x2048, .f32⟩
  | .hbm, ⟨6, _⟩ => ⟨S4160x2048, .f32⟩
  | _, _ => ⟨S4160x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S4160x4096 : Shape := ⟨2, ![4160, 4096]⟩
abbrev S4096x2048 : Shape := ⟨2, ![4096, 2048]⟩
abbrev S4160x2048 : Shape := ⟨2, ![4160, 2048]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4160x4096, .bf16⟩
  | .hbm, ⟨1, _⟩ => ⟨S4096x2048, .bf16⟩
  | .hbm, ⟨2, _⟩ => ⟨S4160x2048, .f32⟩
  | .hbm, ⟨3, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S4160x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4160x4096 : Shape := ⟨2, ![4160, 4096]⟩
abbrev S4096x2048 : Shape := ⟨2, ![4096, 2048]⟩
abbrev S4160x2048 : Shape := ⟨2, ![4160, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4160x4096, .bf16⟩
  | .hbm, ⟨1, _⟩ => ⟨S4096x2048, .bf16⟩
  | .hbm, ⟨2, _⟩ => ⟨S4160x2048, .f32⟩
  | .hbm, ⟨3, _⟩ => ⟨S4160x4096, .f32⟩
  | .hbm, ⟨4, _⟩ => ⟨S4096x2048, .f32⟩
  | .hbm, ⟨5, _⟩ => ⟨S4160x2048, .f32⟩
  | .hbm, ⟨6, _⟩ => ⟨S4160x2048, .f32⟩
  | _, _ => ⟨S4160x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1040x1024, .f32⟩
  | .local _ .vmem, ⟨6, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference24Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1040x1024, .f32⟩
  | .local _ .vmem, ⟨6, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1040x1024, .f32⟩
  | .local _ .vmem, ⟨6, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1040x1024, .f32⟩
  | .local _ .vmem, ⟨6, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference27Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel28.lean ====
abbrev S4160x2048 : Shape := ⟨2, ![4160, 2048]⟩
abbrev S13440x2048 : Shape := ⟨2, ![13440, 2048]⟩
abbrev S8x128 : Shape := ⟨2, ![8, 128]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1040x1024, .f32⟩
  | .local _ .vmem, ⟨6, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference28Ideal.lean ====
abbrev S4160x2048 : Shape := ⟨2, ![4160, 2048]⟩
abbrev S13440x2048 : Shape := ⟨2, ![13440, 2048]⟩
abbrev S8x128 : Shape := ⟨2, ![8, 128]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel29.lean ====
abbrev S4160x2048 : Shape := ⟨2, ![4160, 2048]⟩
abbrev S13440x2048 : Shape := ⟨2, ![13440, 2048]⟩
abbrev S8x128 : Shape := ⟨2, ![8, 128]⟩
abbrev S4160x3072 : Shape := ⟨2, ![4160, 3072]⟩
abbrev S1040x2048 : Shape := ⟨2, ![1040, 2048]⟩
abbrev S1024x2048 : Shape := ⟨2, ![1024, 2048]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x3072, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1040x1024, .f32⟩
  | .local _ .vmem, ⟨6, _⟩ => ⟨S1040x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg1 c10_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference29Ideal.lean ====
abbrev S4160x2048 : Shape := ⟨2, ![4160, 2048]⟩
abbrev S13440x2048 : Shape := ⟨2, ![13440, 2048]⟩
abbrev S8x128 : Shape := ⟨2, ![8, 128]⟩
abbrev S3072x2048 : Shape := ⟨2, ![3072, 2048]⟩
abbrev S2048x3072 : Shape := ⟨2, ![2048, 3072]⟩
abbrev S4160x3072 : Shape := ⟨2, ![4160, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .hbm, ⟨4, _⟩ => ⟨S3072x2048, .bf16⟩
  | .hbm, ⟨5, _⟩ => ⟨S2048x3072, .bf16⟩
  | .hbm, ⟨6, _⟩ => ⟨S2048x3072, .f32⟩
  | .hbm, ⟨7, _⟩ => ⟨S4160x3072, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel30.lean ====
abbrev S4160x2048 : Shape := ⟨2, ![4160, 2048]⟩
abbrev S13440x2048 : Shape := ⟨2, ![13440, 2048]⟩
abbrev S8x128 : Shape := ⟨2, ![8, 128]⟩
abbrev S4160x128 : Shape := ⟨2, ![4160, 128]⟩
abbrev S1040x2048 : Shape := ⟨2, ![1040, 2048]⟩
abbrev S128x2048 : Shape := ⟨2, ![128, 2048]⟩
abbrev S1040x128 : Shape := ⟨2, ![1040, 128]⟩

abbrev nBuf : Space → Nat
  | .hbm => 4
  | .vmem => 6
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x128, .f32⟩
  | .local _ .vmem, ⟨0, _⟩ => ⟨S1040x2048, .bf16⟩
  | .local _ .vmem, ⟨1, _⟩ => ⟨S1040x2048, .bf16⟩
  | .local _ .vmem, ⟨2, _⟩ => ⟨S128x2048, .bf16⟩
  | .local _ .vmem, ⟨3, _⟩ => ⟨S8x128, .f32⟩
  | .local _ .vmem, ⟨4, _⟩ => ⟨S1040x128, .f32⟩
  | .local _ .vmem, ⟨5, _⟩ => ⟨S1040x128, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c104_i32 : BitVec 32 := 104#32
  let v0 : BitVec 32 := Scalar.addi arg1 c104_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference30Ideal.lean ====
abbrev S4160x2048 : Shape := ⟨2, ![4160, 2048]⟩
abbrev S13440x2048 : Shape := ⟨2, ![13440, 2048]⟩
abbrev S8x128 : Shape := ⟨2, ![8, 128]⟩
abbrev S128x2048 : Shape := ⟨2, ![128, 2048]⟩
abbrev S2048x128 : Shape := ⟨2, ![2048, 128]⟩
abbrev S4160x128 : Shape := ⟨2, ![4160, 128]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S13440x2048, .bf16⟩
  | .hbm, ⟨2, _⟩ => ⟨S8x128, .f32⟩
  | .hbm, ⟨3, _⟩ => ⟨S4160x2048, .f32⟩
  | .hbm, ⟨4, _⟩ => ⟨S128x2048, .bf16⟩
  | .hbm, ⟨5, _⟩ => ⟨S2048x128, .bf16⟩
  | .hbm, ⟨6, _⟩ => ⟨S2048x128, .f32⟩
  | .hbm, ⟨7, _⟩ => ⟨S4160x128, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S4160x2048 : Shape := ⟨2, ![4160, 2048]⟩
abbrev S1x2048 : Shape := ⟨2, ![1, 2048]⟩
abbrev S208x2048 : Shape := ⟨2, ![208, 2048]⟩
abbrev S208 : Shape := ⟨1, ![208]⟩
abbrev S208x1 : Shape := ⟨2, ![208, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .f32⟩
  | .hbm, ⟨3, _⟩ => ⟨S4160x2048, .f32⟩
  | .hbm, ⟨4, _⟩ => ⟨S4160x2048, .f32⟩
  | .hbm, ⟨5, _⟩ => ⟨S4160x2048, .bf16⟩
  | .hbm, ⟨6, _⟩ => ⟨S1x2048, .f32⟩
  | .local _ .vmem, ⟨0, _⟩ => ⟨S208x2048, .f32⟩
  | .local _ .vmem, ⟨1, _⟩ => ⟨S208x2048, .f32⟩
  | .local _ .vmem, ⟨2, _⟩ => ⟨S1x2048, .f32⟩
  | .local _ .vmem, ⟨3, _⟩ => ⟨S208x2048, .f32⟩
  | .local _ .vmem, ⟨4, _⟩ => ⟨S208x2048, .f32⟩
  | .local _ .vmem, ⟨5, _⟩ => ⟨S208x2048, .f32⟩
  | .local _ .vmem, ⟨6, _⟩ => ⟨S208x2048, .f32⟩
  | .local _ .vmem, ⟨7, _⟩ => ⟨S208x2048, .f32⟩
  | .local _ .vmem, ⟨8, _⟩ => ⟨S208x2048, .f32⟩
  | .local _ .vmem, ⟨9, _⟩ => ⟨S208x2048, .bf16⟩
  | .local _ .vmem, ⟨10, _⟩ => ⟨S208x2048, .bf16⟩
  | .local _ .vmem, ⟨11, _⟩ => ⟨S1x2048, .f32⟩
  | _, _ => ⟨S4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S208x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S208x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S208x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S208x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S208x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference31Ideal.lean ====
abbrev S4160x2048 : Shape := ⟨2, ![4160, 2048]⟩
abbrev S1x2048 : Shape := ⟨2, ![1, 2048]⟩
abbrev S2048 : Shape := ⟨1, ![2048]⟩
abbrev S_ : Shape := ⟨0, ![]⟩
abbrev S4160 : Shape := ⟨1, ![4160]⟩
abbrev S4160x1 : Shape := ⟨2, ![4160, 1]⟩

abbrev nBuf : Space → Nat
  | .hbm => 53
  | .vmem => 0
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .f32⟩
  | .hbm, ⟨3, _⟩ => ⟨S4160x2048, .f32⟩
  | .hbm, ⟨4, _⟩ => ⟨S2048, .f32⟩
  | .hbm, ⟨5, _⟩ => ⟨S4160x2048, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S_, .f32⟩
  | .hbm, ⟨18, _⟩ => ⟨S4160x1, .f32⟩
  | .hbm, ⟨19, _⟩ => ⟨S4160x1, .f32⟩
  | .hbm, ⟨20, _⟩ => ⟨S4160x2048, .f32⟩
  | .hbm, ⟨21, _⟩ => ⟨S4160x2048, .f32⟩
  | .hbm, ⟨22, _⟩ => ⟨S1x2048, .f32⟩
  | .hbm, ⟨23, _⟩ => ⟨S4160x2048, .f32⟩
  | .hbm, ⟨24, _⟩ => ⟨S4160x2048, .f32⟩
  | .hbm, ⟨25, _⟩ => ⟨S4160x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4160x2048, .f32⟩
  | .hbm, ⟨30, _⟩ => ⟨S4160x2048, .f32⟩
  | .hbm, ⟨31, _⟩ => ⟨S_, .f32⟩
  | .hbm, ⟨32, _⟩ => ⟨S2048, .f32⟩
  | .hbm, ⟨33, _⟩ => ⟨S4160x2048, .f32⟩
  | .hbm, ⟨34, _⟩ => ⟨S_, .f32⟩
  | .hbm, ⟨35, _⟩ => ⟨S4160, .f32⟩
  | .hbm, ⟨36, _⟩ => ⟨S4160x1, .f32⟩
  | .hbm, ⟨37, _⟩ => ⟨S4160x2048, .f32⟩
  | .hbm, ⟨38, _⟩ => ⟨S4160x2048, .f32⟩
  | .hbm, ⟨39, _⟩ => ⟨S4160x2048, .f32⟩
  | .hbm, ⟨40, _⟩ => ⟨S4160x1, .f32⟩
  | .hbm, ⟨41, _⟩ => ⟨S_, .f32⟩
  | .hbm, ⟨42, _⟩ => ⟨S4160x1, .f32⟩
  | .hbm, ⟨43, _⟩ => ⟨S4160x1, .f32⟩
  | .hbm, ⟨44, _⟩ => ⟨S_, .f32⟩
  | .hbm, ⟨45, _⟩ => ⟨S4160, .f32⟩
  | .hbm, ⟨46, _⟩ => ⟨S4160x2048, .f32⟩
  | .hbm, ⟨47, _⟩ => ⟨S4160x2048, .f32⟩
  | .hbm, ⟨48, _⟩ => ⟨S4160x2048, .f32⟩
  | .hbm, ⟨49, _⟩ => ⟨S4160x2048, .f32⟩
  | .hbm, ⟨50, _⟩ => ⟨S4160x2048, .f32⟩
  | .hbm, ⟨51, _⟩ => ⟨S1x2048, .f32⟩
  | .hbm, ⟨52, _⟩ => ⟨S4160x2048, .bf16⟩
  | _, _ => ⟨S4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel32.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference32Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel33.lean ====
abbrev S8x2048x1408 : Shape := ⟨3, ![8, 2048, 1408]⟩
abbrev S2048x1408 : Shape := ⟨2, ![2048, 1408]⟩
abbrev S8x256x1408 : Shape := ⟨3, ![8, 256, 1408]⟩
abbrev S256x1408 : Shape := ⟨2, ![256, 1408]⟩
abbrev S1x256x1408 : Shape := ⟨3, ![1, 256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x256x1408, .bf16⟩
  | .local _ .vmem, ⟨1, _⟩ => ⟨S8x256x1408, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S8x2048x1408 : Shape := ⟨3, ![8, 2048, 1408]⟩
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel34.lean ====
abbrev S8x512x2048 : Shape := ⟨3, ![8, 512, 2048]⟩
abbrev S512x2048 : Shape := ⟨2, ![512, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S8x512x2048 : Shape := ⟨3, ![8, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel35.lean ====
abbrev S8x2048x1672 : Shape := ⟨3, ![8, 2048, 1672]⟩
abbrev S2048x1672 : Shape := ⟨2, ![2048, 1672]⟩
abbrev S8x256x1672 : Shape := ⟨3, ![8, 256, 1672]⟩
abbrev S256x1672 : Shape := ⟨2, ![256, 1672]⟩
abbrev S1x256x1672 : Shape := ⟨3, ![1, 256, 1672]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1672, .bf16⟩
  | .hbm, ⟨1, _⟩ => ⟨S2048x1672, .f32⟩
  | .hbm, ⟨2, _⟩ => ⟨S2048x1672, .f32⟩
  | .hbm, ⟨3, _⟩ => ⟨S2048x1672, .f32⟩
  | .hbm, ⟨4, _⟩ => ⟨S2048x1672, .f32⟩
  | .hbm, ⟨5, _⟩ => ⟨S2048x1672, .f32⟩
  | .hbm, ⟨6, _⟩ => ⟨S2048x1672, .f32⟩
  | .hbm, ⟨7, _⟩ => ⟨S2048x1672, .f32⟩
  | .local _ .vmem, ⟨0, _⟩ => ⟨S8x256x1672, .bf16⟩
  | .local _ .vmem, ⟨1, _⟩ => ⟨S8x256x1672, .bf16⟩
  | .local _ .vmem, ⟨2, _⟩ => ⟨S256x1672, .f32⟩
  | .local _ .vmem, ⟨3, _⟩ => ⟨S256x1672, .f32⟩
  | .local _ .vmem, ⟨4, _⟩ => ⟨S256x1672, .f32⟩
  | .local _ .vmem, ⟨5, _⟩ => ⟨S256x1672, .f32⟩
  | .local _ .vmem, ⟨6, _⟩ => ⟨S256x1672, .f32⟩
  | .local _ .vmem, ⟨7, _⟩ => ⟨S256x1672, .f32⟩
  | .local _ .vmem, ⟨8, _⟩ => ⟨S256x1672, .f32⟩
  | .local _ .vmem, ⟨9, _⟩ => ⟨S256x1672, .f32⟩
  | .local _ .vmem, ⟨10, _⟩ => ⟨S256x1672, .f32⟩
  | .local _ .vmem, ⟨11, _⟩ => ⟨S256x1672, .f32⟩
  | .local _ .vmem, ⟨12, _⟩ => ⟨S256x1672, .f32⟩
  | .local _ .vmem, ⟨13, _⟩ => ⟨S256x1672, .f32⟩
  | .local _ .vmem, ⟨14, _⟩ => ⟨S256x1672, .f32⟩
  | .local _ .vmem, ⟨15, _⟩ => ⟨S256x1672, .f32⟩
  | _, _ => ⟨S8x2048x1672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1672 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S8x2048x1672 : Shape := ⟨3, ![8, 2048, 1672]⟩
abbrev S2048x1672 : Shape := ⟨2, ![2048, 1672]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1672, .bf16⟩
  | .hbm, ⟨1, _⟩ => ⟨S2048x1672, .f32⟩
  | .hbm, ⟨2, _⟩ => ⟨S2048x1672, .f32⟩
  | .hbm, ⟨3, _⟩ => ⟨S2048x1672, .f32⟩
  | .hbm, ⟨4, _⟩ => ⟨S8x2048x1672, .f32⟩
  | .hbm, ⟨5, _⟩ => ⟨S_, .f32⟩
  | .hbm, ⟨6, _⟩ => ⟨S2048x1672, .f32⟩
  | .hbm, ⟨7, _⟩ => ⟨S_, .f32⟩
  | .hbm, ⟨8, _⟩ => ⟨S2048x1672, .f32⟩
  | .hbm, ⟨9, _⟩ => ⟨S2048x1672, .f32⟩
  | .hbm, ⟨10, _⟩ => ⟨S_, .f32⟩
  | .hbm, ⟨11, _⟩ => ⟨S2048x1672, .f32⟩
  | .hbm, ⟨12, _⟩ => ⟨S2048x1672, .f32⟩
  | .hbm, ⟨13, _⟩ => ⟨S2048x1672, .f32⟩
  | .hbm, ⟨14, _⟩ => ⟨S_, .f32⟩
  | .hbm, ⟨15, _⟩ => ⟨S2048x1672, .f32⟩
  | .hbm, ⟨16, _⟩ => ⟨S2048x1672, .f32⟩
  | .hbm, ⟨17, _⟩ => ⟨S2048x1672, .f32⟩
  | .hbm, ⟨18, _⟩ => ⟨S_, .f32⟩
  | .hbm, ⟨19, _⟩ => ⟨S2048x1672, .f32⟩
  | .hbm, ⟨20, _⟩ => ⟨S2048x1672, .f32⟩
  | .hbm, ⟨21, _⟩ => ⟨S2048x1672, .f32⟩
  | .hbm, ⟨22, _⟩ => ⟨S_, .f32⟩
  | .hbm, ⟨23, _⟩ => ⟨S2048x1672, .f32⟩
  | .hbm, ⟨24, _⟩ => ⟨S2048x1672, .f32⟩
  | .hbm, ⟨25, _⟩ => ⟨S_, .f32⟩
  | .hbm, ⟨26, _⟩ => ⟨S2048x1672, .f32⟩
  | .hbm, ⟨27, _⟩ => ⟨S2048x1672, .f32⟩
  | .hbm, ⟨28, _⟩ => ⟨S2048x1672, .f32⟩
  | .hbm, ⟨29, _⟩ => ⟨S_, .f32⟩
  | .hbm, ⟨30, _⟩ => ⟨S2048x1672, .f32⟩
  | .hbm, ⟨31, _⟩ => ⟨S2048x1672, .f32⟩
  | .hbm, ⟨32, _⟩ => ⟨S2048x1672, .f32⟩
  | .hbm, ⟨33, _⟩ => ⟨S_, .f32⟩
  | .hbm, ⟨34, _⟩ => ⟨S2048x1672, .f32⟩
  | .hbm, ⟨35, _⟩ => ⟨S2048x1672, .f32⟩
  | .hbm, ⟨36, _⟩ => ⟨S2048x1672, .f32⟩
  | .hbm, ⟨37, _⟩ => ⟨S_, .f32⟩
  | .hbm, ⟨38, _⟩ => ⟨S2048x1672, .f32⟩
  | .hbm, ⟨39, _⟩ => ⟨S2048x1672, .f32⟩
  | _, _ => ⟨S8x2048x1672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel36.lean ====
abbrev S8x104x128 : Shape := ⟨3, ![8, 104, 128]⟩
abbrev S104x128 : Shape := ⟨2, ![104, 128]⟩
abbrev S1x104x128 : Shape := ⟨3, ![1, 104, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S104x128, .f32⟩
  | .hbm, ⟨5, _⟩ => ⟨S104x128, .f32⟩
  | .hbm, ⟨6, _⟩ => ⟨S104x128, .f32⟩
  | .hbm, ⟨7, _⟩ => ⟨S104x128, .f32⟩
  | .local _ .vmem, ⟨0, _⟩ => ⟨S8x104x128, .f32⟩
  | .local _ .vmem, ⟨1, _⟩ => ⟨S104x128, .f32⟩
  | .local _ .vmem, ⟨2, _⟩ => ⟨S104x128, .f32⟩
  | .local _ .vmem, ⟨3, _⟩ => ⟨S104x128, .f32⟩
  | .local _ .vmem, ⟨4, _⟩ => ⟨S104x128, .f32⟩
  | .local _ .vmem, ⟨5, _⟩ => ⟨S104x128, .f32⟩
  | .local _ .vmem, ⟨6, _⟩ => ⟨S104x128, .f32⟩
  | .local _ .vmem, ⟨7, _⟩ => ⟨S104x128, .f32⟩
  | _, _ => ⟨S8x104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S104x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference36Ideal.lean ====
abbrev S8x104x128 : Shape := ⟨3, ![8, 104, 128]⟩
abbrev S104x128 : Shape := ⟨2, ![104, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S_, .f32⟩
  | .hbm, ⟨5, _⟩ => ⟨S104x128, .f32⟩
  | .hbm, ⟨6, _⟩ => ⟨S_, .f32⟩
  | .hbm, ⟨7, _⟩ => ⟨S104x128, .f32⟩
  | .hbm, ⟨8, _⟩ => ⟨S104x128, .f32⟩
  | .hbm, ⟨9, _⟩ => ⟨S_, .f32⟩
  | .hbm, ⟨10, _⟩ => ⟨S104x128, .f32⟩
  | .hbm, ⟨11, _⟩ => ⟨S104x128, .f32⟩
  | .hbm, ⟨12, _⟩ => ⟨S104x128, .f32⟩
  | .hbm, ⟨13, _⟩ => ⟨S_, .f32⟩
  | .hbm, ⟨14, _⟩ => ⟨S104x128, .f32⟩
  | .hbm, ⟨15, _⟩ => ⟨S104x128, .f32⟩
  | .hbm, ⟨16, _⟩ => ⟨S104x128, .f32⟩
  | .hbm, ⟨17, _⟩ => ⟨S_, .f32⟩
  | .hbm, ⟨18, _⟩ => ⟨S104x128, .f32⟩
  | .hbm, ⟨19, _⟩ => ⟨S104x128, .f32⟩
  | .hbm, ⟨20, _⟩ => ⟨S104x128, .f32⟩
  | .hbm, ⟨21, _⟩ => ⟨S_, .f32⟩
  | .hbm, ⟨22, _⟩ => ⟨S104x128, .f32⟩
  | .hbm, ⟨23, _⟩ => ⟨S104x128, .f32⟩
  | .hbm, ⟨24, _⟩ => ⟨S_, .f32⟩
  | .hbm, ⟨25, _⟩ => ⟨S104x128, .f32⟩
  | .hbm, ⟨26, _⟩ => ⟨S104x128, .f32⟩
  | .hbm, ⟨27, _⟩ => ⟨S104x128, .f32⟩
  | .hbm, ⟨28, _⟩ => ⟨S_, .f32⟩
  | .hbm, ⟨29, _⟩ => ⟨S104x128, .f32⟩
  | .hbm, ⟨30, _⟩ => ⟨S104x128, .f32⟩
  | .hbm, ⟨31, _⟩ => ⟨S104x128, .f32⟩
  | .hbm, ⟨32, _⟩ => ⟨S_, .f32⟩
  | .hbm, ⟨33, _⟩ => ⟨S104x128, .f32⟩
  | .hbm, ⟨34, _⟩ => ⟨S104x128, .f32⟩
  | .hbm, ⟨35, _⟩ => ⟨S104x128, .f32⟩
  | .hbm, ⟨36, _⟩ => ⟨S_, .f32⟩
  | .hbm, ⟨37, _⟩ => ⟨S104x128, .f32⟩
  | .hbm, ⟨38, _⟩ => ⟨S104x128, .f32⟩
  | _, _ => ⟨S8x104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel37.lean ====
abbrev S8x96x128 : Shape := ⟨3, ![8, 96, 128]⟩
abbrev S96x128 : Shape := ⟨2, ![96, 128]⟩
abbrev S1x96x128 : Shape := ⟨3, ![1, 96, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S8x96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S8x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference37Ideal.lean ====
abbrev S8x96x128 : Shape := ⟨3, ![8, 96, 128]⟩
abbrev S96x128 : Shape := ⟨2, ![96, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S_, .f32⟩
  | .hbm, ⟨7, _⟩ => ⟨S96x128, .f32⟩
  | .hbm, ⟨8, _⟩ => ⟨S96x128, .f32⟩
  | .hbm, ⟨9, _⟩ => ⟨S_, .f32⟩
  | .hbm, ⟨10, _⟩ => ⟨S96x128, .f32⟩
  | .hbm, ⟨11, _⟩ => ⟨S96x128, .f32⟩
  | .hbm, ⟨12, _⟩ => ⟨S96x128, .f32⟩
  | .hbm, ⟨13, _⟩ => ⟨S_, .f32⟩
  | .hbm, ⟨14, _⟩ => ⟨S96x128, .f32⟩
  | .hbm, ⟨15, _⟩ => ⟨S96x128, .f32⟩
  | .hbm, ⟨16, _⟩ => ⟨S96x128, .f32⟩
  | .hbm, ⟨17, _⟩ => ⟨S_, .f32⟩
  | .hbm, ⟨18, _⟩ => ⟨S96x128, .f32⟩
  | .hbm, ⟨19, _⟩ => ⟨S96x128, .f32⟩
  | .hbm, ⟨20, _⟩ => ⟨S96x128, .f32⟩
  | .hbm, ⟨21, _⟩ => ⟨S_, .f32⟩
  | .hbm, ⟨22, _⟩ => ⟨S96x128, .f32⟩
  | .hbm, ⟨23, _⟩ => ⟨S96x128, .f32⟩
  | .hbm, ⟨24, _⟩ => ⟨S_, .f32⟩
  | .hbm, ⟨25, _⟩ => ⟨S96x128, .f32⟩
  | .hbm, ⟨26, _⟩ => ⟨S96x128, .f32⟩
  | .hbm, ⟨27, _⟩ => ⟨S96x128, .f32⟩
  | .hbm, ⟨28, _⟩ => ⟨S_, .f32⟩
  | .hbm, ⟨29, _⟩ => ⟨S96x128, .f32⟩
  | .hbm, ⟨30, _⟩ => ⟨S96x128, .f32⟩
  | .hbm, ⟨31, _⟩ => ⟨S96x128, .f32⟩
  | .hbm, ⟨32, _⟩ => ⟨S_, .f32⟩
  | .hbm, ⟨33, _⟩ => ⟨S96x128, .f32⟩
  | .hbm, ⟨34, _⟩ => ⟨S96x128, .f32⟩
  | .hbm, ⟨35, _⟩ => ⟨S96x128, .f32⟩
  | .hbm, ⟨36, _⟩ => ⟨S_, .f32⟩
  | .hbm, ⟨37, _⟩ => ⟨S96x128, .f32⟩
  | .hbm, ⟨38, _⟩ => ⟨S96x128, .f32⟩
  | _, _ => ⟨S8x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel38.lean ====
abbrev S4160x2048 : Shape := ⟨2, ![4160, 2048]⟩
abbrev S1x2048 : Shape := ⟨2, ![1, 2048]⟩
abbrev S208x2048 : Shape := ⟨2, ![208, 2048]⟩
abbrev S208 : Shape := ⟨1, ![208]⟩
abbrev S208x1 : Shape := ⟨2, ![208, 1]⟩

abbrev nBuf : Space → Nat
  | .hbm => 3
  | .vmem => 5
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S4160x2048, .bf16⟩
  | .local _ .vmem, ⟨0, _⟩ => ⟨S208x2048, .f32⟩
  | .local _ .vmem, ⟨1, _⟩ => ⟨S208x2048, .f32⟩
  | .local _ .vmem, ⟨2, _⟩ => ⟨S1x2048, .f32⟩
  | .local _ .vmem, ⟨3, _⟩ => ⟨S208x2048, .bf16⟩
  | .local _ .vmem, ⟨4, _⟩ => ⟨S208x2048, .bf16⟩
  | _, _ => ⟨S4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S208x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S208x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference38Ideal.lean ====
abbrev S4160x2048 : Shape := ⟨2, ![4160, 2048]⟩
abbrev S1x2048 : Shape := ⟨2, ![1, 2048]⟩
abbrev S2048 : Shape := ⟨1, ![2048]⟩
abbrev S_ : Shape := ⟨0, ![]⟩
abbrev S4160 : Shape := ⟨1, ![4160]⟩
abbrev S4160x1 : Shape := ⟨2, ![4160, 1]⟩

abbrev nBuf : Space → Nat
  | .hbm => 20
  | .vmem => 0
  | .smem => 0
  | _ => 0

abbrev bufTy : (tb : Table) → Fin (tcTables nBuf tb) → BufTy
  | .hbm, ⟨0, _⟩ => ⟨S4160x2048, .f32⟩
  | .hbm, ⟨1, _⟩ => ⟨S1x2048, .f32⟩
  | .hbm, ⟨2, _⟩ => ⟨S2048, .f32⟩
  | .hbm, ⟨3, _⟩ => ⟨S4160x2048, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x2048, .f32⟩
  | .hbm, ⟨15, _⟩ => ⟨S4160x2048, .f32⟩
  | .hbm, ⟨16, _⟩ => ⟨S1x2048, .f32⟩
  | .hbm, ⟨17, _⟩ => ⟨S4160x2048, .f32⟩
  | .hbm, ⟨18, _⟩ => ⟨S4160x2048, .f32⟩
  | .hbm, ⟨19, _⟩ => ⟨S4160x2048, .bf16⟩
  | _, _ => ⟨S4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel39.lean ====
abbrev S4160x2048 : Shape := ⟨2, ![4160, 2048]⟩
abbrev S2048 : Shape := ⟨1, ![2048]⟩
abbrev S1x4096x2048 : Shape := ⟨3, ![1, 4096, 2048]⟩
abbrev S1x2048 : Shape := ⟨2, ![1, 2048]⟩
abbrev S4096x2048 : Shape := ⟨2, ![4096, 2048]⟩
abbrev S1x128 : Shape := ⟨2, ![1, 128]⟩
abbrev S64x2048 : Shape := ⟨2, ![64, 2048]⟩
abbrev S64x1 : Shape := ⟨2, ![64, 1]⟩
abbrev S64 : Shape := ⟨1, ![64]⟩
abbrev S1 : Shape := ⟨1, ![1]⟩
abbrev S1x1 : Shape := ⟨2, ![1, 1]⟩
abbrev S1x1x1 : Shape := ⟨3, ![1, 1, 1]⟩

abbrev nBuf : Space → Nat
  | .hbm => 9
  | .vmem => 11
  | .smem => 0
  | _ => 0

abbrev bufTy : (tb : Table) → Fin (tcTables nBuf tb) → BufTy
  | .hbm, ⟨0, _⟩ => ⟨S4160x2048, .f32⟩
  | .hbm, ⟨1, _⟩ => ⟨S2048, .f32⟩
  | .hbm, ⟨2, _⟩ => ⟨S1x4096x2048, .f32⟩
  | .hbm, ⟨3, _⟩ => ⟨S1x2048, .f32⟩
  | .hbm, ⟨4, _⟩ => ⟨S4096x2048, .f32⟩
  | .hbm, ⟨5, _⟩ => ⟨S4160x2048, .f32⟩
  | .hbm, ⟨6, _⟩ => ⟨S4160x2048, .bf16⟩
  | .hbm, ⟨7, _⟩ => ⟨S1x2048, .f32⟩
  | .hbm, ⟨8, _⟩ => ⟨S1x128, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .bf16⟩
  | .local _ .vmem, ⟨8, _⟩ => ⟨S64x2048, .bf16⟩
  | .local _ .vmem, ⟨9, _⟩ => ⟨S1x2048, .f32⟩
  | .local _ .vmem, ⟨10, _⟩ => ⟨S1x128, .f32⟩
  | _, _ => ⟨S4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 65], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference39Ideal.lean ====
abbrev S4160x2048 : Shape := ⟨2, ![4160, 2048]⟩
abbrev S2048 : Shape := ⟨1, ![2048]⟩
abbrev S1x4096x2048 : Shape := ⟨3, ![1, 4096, 2048]⟩
abbrev S_ : Shape := ⟨0, ![]⟩
abbrev S4160 : Shape := ⟨1, ![4160]⟩
abbrev S4160x1 : Shape := ⟨2, ![4160, 1]⟩
abbrev S1x2048 : Shape := ⟨2, ![1, 2048]⟩
abbrev S4096x2048 : Shape := ⟨2, ![4096, 2048]⟩
abbrev S4096 : Shape := ⟨1, ![4096]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4160x2048, .f32⟩
  | .hbm, ⟨1, _⟩ => ⟨S2048, .f32⟩
  | .hbm, ⟨2, _⟩ => ⟨S1x4096x2048, .f32⟩
  | .hbm, ⟨3, _⟩ => ⟨S4160x2048, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S_, .f32⟩
  | .hbm, ⟨16, _⟩ => ⟨S4160x1, .f32⟩
  | .hbm, ⟨17, _⟩ => ⟨S4160x1, .f32⟩
  | .hbm, ⟨18, _⟩ => ⟨S4160x2048, .f32⟩
  | .hbm, ⟨19, _⟩ => ⟨S4160x2048, .f32⟩
  | .hbm, ⟨20, _⟩ => ⟨S1x2048, .f32⟩
  | .hbm, ⟨21, _⟩ => ⟨S4160x2048, .f32⟩
  | .hbm, ⟨22, _⟩ => ⟨S4160x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4160x2048, .f32⟩
  | .hbm, ⟨50, _⟩ => ⟨S4160x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4160x2048, .f32⟩
  | .hbm, ⟨55, _⟩ => ⟨S4160x2048, .f32⟩
  | .hbm, ⟨56, _⟩ => ⟨S_, .f32⟩
  | .hbm, ⟨57, _⟩ => ⟨S2048, .f32⟩
  | .hbm, ⟨58, _⟩ => ⟨S4160x2048, .f32⟩
  | .hbm, ⟨59, _⟩ => ⟨S_, .f32⟩
  | .hbm, ⟨60, _⟩ => ⟨S4160, .f32⟩
  | .hbm, ⟨61, _⟩ => ⟨S4160x1, .f32⟩
  | .hbm, ⟨62, _⟩ => ⟨S4160x2048, .f32⟩
  | .hbm, ⟨63, _⟩ => ⟨S4160x2048, .f32⟩
  | .hbm, ⟨64, _⟩ => ⟨S4160x1, .f32⟩
  | .hbm, ⟨65, _⟩ => ⟨S_, .f32⟩
  | .hbm, ⟨66, _⟩ => ⟨S4160x1, .f32⟩
  | .hbm, ⟨67, _⟩ => ⟨S4160x1, .f32⟩
  | .hbm, ⟨68, _⟩ => ⟨S_, .f32⟩
  | .hbm, ⟨69, _⟩ => ⟨S4160, .f32⟩
  | .hbm, ⟨70, _⟩ => ⟨S4160x2048, .f32⟩
  | .hbm, ⟨71, _⟩ => ⟨S4160x2048, .f32⟩
  | .hbm, ⟨72, _⟩ => ⟨S4160x2048, .f32⟩
  | .hbm, ⟨73, _⟩ => ⟨S4160x2048, .f32⟩
  | .hbm, ⟨74, _⟩ => ⟨S4160x2048, .f32⟩
  | .hbm, ⟨75, _⟩ => ⟨S4160x2048, .bf16⟩
  | .hbm, ⟨76, _⟩ => ⟨S1x2048, .f32⟩
  | .hbm, ⟨77, _⟩ => ⟨S1x128, .f32⟩
  | _, _ => ⟨S4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Proof.Vocab.lean ====
/- The values one step of the backward state-space scan computes, named after what they are.

   The kernel's step works on 4 pairs of heads; the two heads of a pair share one array of 128 lanes,
   head `2p` in the first 64 lanes and head `2p + 1` in the last 64. Everything below is written once,
   for the pair `p` and for the half `q` (`false` the first head of the pair, `true` the second), in the
   operations the kernel uses. -/
module

public import proofs.«01_k».proof.Proof.Gen.KernelIdeal.Skeleton

@[expose] public section

noncomputable section

namespace Cert.KernelIdeal.Scan

open Idealize.ShloMosaic Idealize.SL.Sem Cert.KernelIdeal.Gen

variable (F : FTy → Type) [FloatOps F]

/-- What a step reads: the inputs and output gradients of its 64 positions; for each pair its saved
    state and its carried state gradient; for each head its step sizes and decays (rows of 64); `b` and
    `c` of the group. -/
structure In where
  x : FVec F S64x512 .f32
  dy : FVec F S64x512 .f32
  st : Fin 4 → FVec F S128x128 .f32
  ds : Fin 4 → FVec F S128x128 .f32
  dt : Fin 4 → Bool → FVec F S1x64 .f32
  a : Fin 4 → Bool → FVec F S1x64 .f32
  b : FVec F S64x128 .f32
  c : FVec F S64x128 .f32

variable {F}

/-! ### Masks -/

/-- Row and column position of a `64 × 64` array. -/
abbrev rI : IVec S64x64 32 := iota .tc S64x64 32 [0] iota_S64x64_d0_w32
abbrev cI : IVec S64x64 32 := iota .tc S64x64 32 [1] iota_S64x64_d1_w32
/-- The same two, held as names. -/
def rows : IVec S64x64 32 := rI
def cols : IVec S64x64 32 := cI
/-- The diagonal, `row ≤ column`, `column ≤ row`. -/
def eqM : IVec S64x64 1 := cmpi .eq rI cI
def rc : IVec S64x64 1 := cmpi .sle rI cI
def cr : IVec S64x64 1 := cmpi .sle cI rI
/-- The first 64 of the 128 lanes. -/
def fl : IVec S1x128 1 := cmpi .slt (iota .tc S1x128 32 [1] iota_S1x128_d1_w32) (broadcast S1x128 64#32)
def fb : IVec S64x128 1 :=
  broadcastTo S64x128 (shapeCast S1x128 fl shapeCasts_S1x128_S1x128) broadcasts_S1x128_S64x128

/-! ### Shapes -/

abbrev z (s : Shape) : FVec F s .f32 := broadcast s (Scalar.ofBits .f32 0x00000000#32)
/-- A row spread over the rows, a column over the columns. -/
abbrev rowB (v : FVec F S1x64 .f32) : FVec F S64x64 .f32 :=
  broadcastTo S64x64 (shapeCast S1x64 v shapeCasts_S1x64_S1x64) broadcasts_S1x64_S64x64
abbrev colB (v : FVec F S64x1 .f32) : FVec F S64x64 .f32 :=
  broadcastTo S64x64 (shapeCast S64x1 v shapeCasts_S64x1_S64x1) broadcasts_S64x1_S64x64
/-- The sum of every row as a column, of every column as a row. -/
abbrev sumC (v : FVec F S64x64 .f32) : FVec F S64x1 .f32 :=
  shapeCast S64x1 (multiReduction .add [1] S64 v 0x00000000#32 reduces_S64x64_S64 (.inl rfl) rfl)
    shapeCasts_S64_S64x1
abbrev sumR (v : FVec F S64x64 .f32) : FVec F S1x64 .f32 :=
  shapeCast S1x64 (multiReduction .add [0] S64 v 0x00000000#32 reduces_S64x64_S64_2 (.inl rfl) rfl)
    shapeCasts_S64_S1x64
/-- A column as it stands after a sum over its one lane; a row likewise. -/
abbrev colS (v : FVec F S64x1 .f32) : FVec F S64x1 .f32 :=
  shapeCast S64x1 (multiReduction .add [1] S64 v 0x00000000#32 reduces_S64x1_S64 (.inl rfl) rfl)
    shapeCasts_S64_S64x1
abbrev rowS (v : FVec F S1x64 .f32) : FVec F S1x64 .f32 :=
  shapeCast S1x64 (multiReduction .add [0] S64 v 0x00000000#32 reduces_S1x64_S64 (.inl rfl) rfl)
    shapeCasts_S64_S1x64
abbrev spread (v : FVec F S64x1 .f32) : FVec F S64x128 .f32 :=
  broadcastTo S64x128 (shapeCast S64x1 v shapeCasts_S64x1_S64x1) broadcasts_S64x1_S64x128
/-- Two columns, one for each half of the lanes. -/
abbrev both (u v : FVec F S64x1 .f32) : FVec F S64x128 .f32 := select fb (spread u) (spread v)
/-- The lanes of one half, zero on the other. -/
def half (q : Bool) (v : FVec F S64x128 .f32) : FVec F S64x128 .f32 :=
  match q with
  | false => select fb v (z S64x128)
  | true => select fb (z S64x128) v
abbrev sumL (v : FVec F S64x128 .f32) : FVec F S64x1 .f32 :=
  shapeCast S64x1 (multiReduction .add [1] S64 v 0x00000000#32 reduces_S64x128_S64 (.inl rfl) rfl)
    shapeCasts_S64_S64x1
abbrev lo16 {s : Shape} (v : FVec F s .f32) : FVec F s .bf16 := truncf .bf16 v bitsLt_bf16_f32
/-- A value rounded to the short format and widened again. -/
abbrev rnd {s : Shape} (v : FVec F s .f32) : FVec F s .f32 := extf .f32 (lo16 v) bitsLt_bf16_f32
abbrev tr (v : FVec F S128x64 .f32) : FVec F S64x128 .f32 :=
  transpose S64x128 [1, 0] v transposes_S128x64_p1_0_S64x128
abbrev sq (v : FVec F S128x128 .f32) : FVec F S128x128 .f32 :=
  shapeCast S128x128 v shapeCasts_S128x128_S128x128

theorem slices_pair (p : Fin 4) : S64x512.Slices ![0, 128 * p.val] S64x128 := by
  fin_cases p
  exacts [slices_S64x512_o0_0_S64x128, slices_S64x512_o0_128_S64x128, slices_S64x512_o0_256_S64x128,
    slices_S64x512_o0_384_S64x128]

namespace In

variable (E : In F) (p : Fin 4) (q : Bool)

/-- The lanes of one pair. -/
def xs : FVec F S64x128 .f32 := extractStridedSlice S64x128 ![0, 128 * p.val] E.x (slices_pair p)
def dyp : FVec F S64x128 .f32 := extractStridedSlice S64x128 ![0, 128 * p.val] E.dy (slices_pair p)

/-- Decays as a column; their running sums as a row and as a column; their total. -/
def acol : FVec F S64x1 .f32 := sumC (select eqM (rowB (E.a p q)) (z S64x64))
def csR : FVec F S1x64 .f32 := sumR (select rc (colB (E.acol p q)) (z S64x64))
def csC : FVec F S64x1 .f32 := sumC (select cr (rowB (E.a p q)) (z S64x64))
def al : FVec F S1x1 .f32 :=
  shapeCast S1x1 (multiReduction .add [1] S1 (E.a p q) 0x00000000#32 reduces_S1x64_S1 (.inl rfl) rfl)
    shapeCasts_S1_S1x1
/-- The decay from a position to a later one, zero above the diagonal. -/
def lm : FVec F S64x64 .f32 :=
  exp (select cr (subf (broadcastTo S64x64 (E.csC p q) broadcasts_S64x1_S64x64)
    (broadcastTo S64x64 (E.csR p q) broadcasts_S1x64_S64x64))
    (broadcast S64x64 (Scalar.ofBits .f32 0xFF800000#32)))
def ecs : FVec F S64x1 .f32 := exp (E.csC p q)
def eal : FVec F S1x1 .f32 := exp (E.al p q)
/-- The decay from a position to the end of the chunk. -/
def wt : FVec F S64x1 .f32 :=
  exp (subf (broadcastTo S64x1 (E.al p q) broadcasts_S1x1_S64x1) (E.csC p q))
def dtc : FVec F S64x1 .f32 := sumC (select eqM (rowB (E.dt p q)) (z S64x64))

/-- The step sizes on the lanes of the pair, and the inputs times them. -/
def dtP : FVec F S64x128 .f32 := both (E.dtc p false) (E.dtc p true)
def xdt : FVec F S64x128 .f32 := mulf (E.xs p) (E.dtP p)
/-- `c` against `b`, and with the decays. -/
def cb : FVec F S64x64 .f32 :=
  matmul dot_S64x128_S64x128_S64x64_1_1_0_0_n_n none (lo16 E.c) (lo16 E.b)
    (constant S64x64 .f32 0x00000000#32)
def m : FVec F S64x64 .f32 := mulf E.cb (E.lm p q)
/-- `c` against the state. -/
def yo : FVec F S64x128 .f32 :=
  matmul dot_S64x128_S128x128_S64x128_1_0_0_1_n_n none (lo16 E.c) (lo16 (E.st p))
    (constant S64x128 .f32 0x00000000#32)
def ecsP : FVec F S64x128 .f32 := both (E.ecs p false) (E.ecs p true)
def ealP : FVec F S1x128 .f32 :=
  select fl (broadcastTo S1x128 (shapeCast S1x1 (E.eal p false) shapeCasts_S1x1_S1x1) broadcasts_S1x1_S1x128)
    (broadcastTo S1x128 (shapeCast S1x1 (E.eal p true) shapeCasts_S1x1_S1x1) broadcasts_S1x1_S1x128)
def wtP : FVec F S64x128 .f32 := both (E.wt p false) (E.wt p true)
def xw : FVec F S64x128 .f32 := mulf (E.xdt p) (E.wtP p)

/-! ### Gradients through the state -/

def dxw : FVec F S64x128 .f32 :=
  rnd (tr (matmul dot_S128x128_S64x128_S128x64_0_1_1_0_n_n none (sq (E.ds p)) (lo16 E.b)
    (constant S128x64 .f32 0x00000000#32)))
def dBp : FVec F S64x128 .f32 :=
  rnd (tr (matmul dot_S128x128_S64x128_S128x64_1_1_0_0_n_n none (sq (E.ds p)) (lo16 (E.xw p))
    (constant S128x64 .f32 0x00000000#32)))
def xdxw : FVec F S64x128 .f32 := mulf (E.xdt p) (E.dxw p)
def dxdt0 : FVec F S64x128 .f32 := mulf (E.dxw p) (E.wtP p)
def dwr : FVec F S64x1 .f32 := sumL (half q (E.xdxw p))
def sds : FVec F S1x128 .f32 :=
  shapeCast S1x128 (multiReduction .add [0] S128 (mulf (E.st p) (sq (E.ds p))) 0x00000000#32
    reduces_S128x128_S128 (.inl rfl) rfl) shapeCasts_S128_S1x128
/-- The column sums on the lanes of one half. -/
def sdsH : FVec F S1x128 .f32 :=
  match q with
  | false => select fl (E.sds p) (z S1x128)
  | true => select fl (z S1x128) (E.sds p)
def deal : FVec F S1x1 .f32 :=
  broadcast S1x1 (extractAt ![0, 0, 0] (shapeCast S1x1x1 (multiReduction .add [1, 2] S1
    (shapeCast S1x1x128 (E.sdsH p q) shapeCasts_S1x128_S1x1x128) 0x00000000#32 reduces_S1x1x128_S1
    (.inl rfl) rfl) shapeCasts_S1_S1x1x1) inpos_S1x1x1_p0_0_0)
def dsE : FVec F S128x128 .f32 :=
  mulf (sq (E.ds p)) (broadcastTo S128x128 (E.ealP p) broadcasts_S1x128_S128x128)
def yody : FVec F S64x128 .f32 := mulf (E.yo p) (E.dyp p)
def dyE : FVec F S64x128 .f32 := mulf (E.dyp p) (E.ecsP p)
def decs : FVec F S64x1 .f32 := sumL (half q (E.yody p))
def dyh : FVec F S64x128 .f32 := half q (E.dyp p)
/-- The state gradient handed to the chunk before. -/
def dS : FVec F S128x128 .f32 :=
  addf (E.dsE p) (rnd (transpose S128x128 [1, 0]
    (matmul dot_S64x128_S64x128_S128x128_0_0_1_1_n_n none (E.dyE p) (lo16 E.c)
      (constant S128x128 .f32 0x00000000#32)) transposes_S128x128_p1_0_S128x128))
def dCp : FVec F S64x128 .f32 :=
  rnd (matmul dot_S64x128_S128x128_S64x128_1_1_0_0_n_n none (E.dyE p) (lo16 (E.st p))
    (constant S64x128 .f32 0x00000000#32))

/-! ### Gradients inside the chunk -/

def dxy : FVec F S64x128 .f32 :=
  rnd (tr (matmul dot_S64x128_S64x64_S128x64_0_0_1_1_n_n none (E.dyh p q) (lo16 (E.m p q))
    (constant S128x64 .f32 0x00000000#32)))
def dM : FVec F S64x64 .f32 :=
  rnd (matmul dot_S64x128_S64x128_S64x64_1_1_0_0_n_n none (E.dyh p q) (lo16 (E.xdt p))
    (constant S64x64 .f32 0x00000000#32))
def cbdM : FVec F S64x64 .f32 := mulf E.cb (E.dM p q)
def g : FVec F S64x64 .f32 := mulf (E.dM p q) (E.lm p q)
def dxdt : FVec F S64x128 .f32 := addf (addf (E.dxdt0 p) (E.dxy p true)) (E.dxy p false)
def dcb : FVec F S64x64 .f32 :=
  addf (addf (addf (addf (addf (addf (addf (E.g 3 true) (E.g 2 true)) (E.g 1 true)) (E.g 0 true))
    (E.g 3 false)) (E.g 2 false)) (E.g 1 false)) (E.g 0 false)
def dB : FVec F S64x128 .f32 :=
  addf (addf (addf (addf (E.dBp 3) (E.dBp 2)) (E.dBp 1)) (E.dBp 0))
    (rnd (matmul dot_S64x64_S64x128_S64x128_0_0_1_1_n_n none E.dcb (lo16 E.c)
      (constant S64x128 .f32 0x00000000#32)))
def dC : FVec F S64x128 .f32 :=
  addf (addf (addf (addf (E.dCp 3) (E.dCp 2)) (E.dCp 1)) (E.dCp 0))
    (rnd (matmul dot_S64x64_S64x128_S64x128_1_0_0_1_n_n none E.dcb (lo16 E.b)
      (constant S64x128 .f32 0x00000000#32)))
def xdx : FVec F S64x128 .f32 := mulf (E.xs p) (E.dxdt p)
def dxsP : FVec F S64x128 .f32 := mulf (E.dxdt p) (E.dtP p)
/-- The pairs side by side. -/
def dxs : FVec F S64x512 .f32 :=
  addf (addf (addf
    (concatenate S64x512 1 [⟨S64x384, z S64x384⟩, ⟨S64x128, E.dxsP 3⟩] concatenates_S64x384_S64x128_S64x512_d1)
    (concatenate S64x512 1 [⟨S64x384, concatenate S64x384 1 [⟨S64x256, z S64x256⟩, ⟨S64x128, E.dxsP 2⟩]
      concatenates_S64x256_S64x128_S64x384_d1⟩, ⟨S64x128, z S64x128⟩] concatenates_S64x384_S64x128_S64x512_d1))
    (concatenate S64x512 1 [⟨S64x256, concatenate S64x256 1 [⟨S64x128, z S64x128⟩, ⟨S64x128, E.dxsP 1⟩]
      concatenates_S64x128_S64x128_S64x256_d1⟩, ⟨S64x256, z S64x256⟩] concatenates_S64x256_S64x256_S64x512_d1))
    (concatenate S64x512 1 [⟨S64x128, E.dxsP 0⟩, ⟨S64x384, z S64x384⟩] concatenates_S64x128_S64x384_S64x512_d1)
def ddtC : FVec F S64x1 .f32 := sumL (half q (E.xdx p))
def ddtR : FVec F S1x64 .f32 :=
  sumR (select eqM (broadcastTo S64x64 (colS (E.ddtC p q)) broadcasts_S64x1_S64x64) (z S64x64))

/-! ### Gradients of the decays -/

def dww : FVec F S64x1 .f32 := mulf (E.dwr p q) (E.wt p q)
def ndww : FVec F S64x1 .f32 := subf (z S64x1) (E.dww p q)
def dal : FVec F S1x1 .f32 :=
  addf (shapeCast S1x1 (multiReduction .add [0] S1 (E.dww p q) 0x00000000#32 reduces_S64x1_S1 (.inl rfl) rfl)
    shapeCasts_S1_S1x1) (mulf (E.deal p q) (E.eal p q))
def aR : FVec F S1x64 .f32 :=
  broadcastTo S1x64 (shapeCast S1x1 (broadcast S1 (extractAt ![0, 0, 0] (shapeCast S1x1x1
    (multiReduction .add [1, 2] S1 (shapeCast S1x1x1 (E.dal p q) shapeCasts_S1x1_S1x1x1) 0x00000000#32
      reduces_S1x1x1_S1 (.inl rfl) rfl) shapeCasts_S1_S1x1x1) inpos_S1x1x1_p0_0_0)) shapeCasts_S1_S1x1)
    broadcasts_S1x1_S1x64
def dcsA : FVec F S64x1 .f32 := addf (E.ndww p q) (mulf (E.decs p q) (E.ecs p q))
def gm : FVec F S64x64 .f32 := select cr (mulf (E.cbdM p q) (E.lm p q)) (z S64x64)
def dcsR : FVec F S1x64 .f32 := sumR (subf (z S64x64) (E.gm p q))
def dcsC : FVec F S64x1 .f32 := addf (E.dcsA p q) (sumC (E.gm p q))
def da : FVec F S1x64 .f32 :=
  addf (addf (E.aR p q)
    (sumR (select cr (broadcastTo S64x64 (colS (E.dcsC p q)) broadcasts_S64x1_S64x64) (z S64x64))))
    (sumR (select eqM (broadcastTo S64x64 (colS (sumC (select rc
      (broadcastTo S64x64 (rowS (E.dcsR p q)) broadcasts_S1x64_S64x64) (z S64x64))))
      broadcasts_S64x1_S64x64) (z S64x64)))

/-! ### Intermediate sums that the kernel holds on their own -/

def dxwT : FVec F S64x128 .bf16 :=
  truncf .bf16 (transpose S64x128 [1, 0] (matmul dot_S128x128_S64x128_S128x64_0_1_1_0_n_n none
    (shapeCast S128x128 (E.ds p) shapeCasts_S128x128_S128x128) (truncf .bf16 E.b bitsLt_bf16_f32)
    (constant S128x64 .f32 0x00000000#32)) transposes_S128x64_p1_0_S64x128) bitsLt_bf16_f32
def dwwS : FVec F S1x1 .f32 :=
  shapeCast S1x1 (multiReduction .add [0] S1 (E.dww p q) 0x00000000#32 reduces_S64x1_S1 (.inl rfl) rfl)
    shapeCasts_S1_S1x1
def xdxwS : FVec F S64 .f32 :=
  multiReduction .add [1] S64 (select fb (z S64x128) (E.xdxw p)) 0x00000000#32 reduces_S64x128_S64 (.inl rfl) rfl
def dalS : FVec F S1x1x1 .f32 :=
  shapeCast S1x1x1 (multiReduction .add [1, 2] S1 (shapeCast S1x1x1 (E.dal p q) shapeCasts_S1x1_S1x1x1)
    0x00000000#32 reduces_S1x1x1_S1 (.inl rfl) rfl) shapeCasts_S1_S1x1x1
def gmC : FVec F S64x1 .f32 := sumC (E.gm p q)
def ngmR : FVec F S64 .f32 :=
  multiReduction .add [0] S64 (subf (z S64x64) (E.gm p q)) 0x00000000#32 reduces_S64x64_S64_2 (.inl rfl) rfl
def dcsCB : FVec F S64x64 .f32 := broadcastTo S64x64 (colS (E.dcsC p q)) broadcasts_S64x1_S64x64
def dcsCS : FVec F S64x64 .f32 := select cr (E.dcsCB p q) (z S64x64)
def daA : FVec F S1x64 .f32 := addf (E.aR p q) (sumR (E.dcsCS p q))
def dcsRB : FVec F S64x64 .f32 := broadcastTo S64x64 (rowS (E.dcsR p q)) broadcasts_S1x64_S64x64

end In

end Cert.KernelIdeal.Scan
-- ==== Proof.Payloads1.lean ====
/- The values the kernel computes on its way, one after the other: what each is of those before it,
   in the names of `Vocab`. -/
module

public import proofs.«01_k».proof.Proof.Vocab

@[expose] public section

noncomputable section

namespace Cert.KernelIdeal.Scan

open Idealize.ShloMosaic Idealize.SL.Sem Cert.KernelIdeal.Gen

variable {F : FTy → Type} [FloatOps F] (E : In F) (mR : IVec S64x1 1) (mC : IVec S1x64 1)

theorem pay1 : k0_pay1 (select mC (E.da 3 false) (broadcast S1x64 (Scalar.ofBits .f32 0x00000000#32))) =
    shapeCast S1x1x1x64 (select mC (E.da 3 false) (broadcast S1x64 (Scalar.ofBits .f32 0x00000000#32)))
    shapeCasts_S1x64_S1x1x1x64 := rfl
theorem pay2 : k0_pay2 mC (E.ddtR 3 true) = shapeCast S1x1x1x64 (select mC (E.ddtR 3 true) (broadcast S1x64
    (Scalar.ofBits .f32 0x00000000#32))) shapeCasts_S1x64_S1x1x1x64 := rfl
theorem pay3 : k0_pay3 mC (E.da 3 true) = shapeCast S1x1x1x64 (select mC (E.da 3 true) (broadcast S1x64
    (Scalar.ofBits .f32 0x00000000#32))) shapeCasts_S1x64_S1x1x1x64 := rfl
theorem pay4 : k0_pay4 (F := F) = shapeCast S4x128x128 (broadcast S4x128x128 (Scalar.ofBits .f32
    0x00000000#32)) shapeCasts_S4x128x128_S4x128x128 := rfl
theorem pay27 : k0_pay27 = fl := rfl
theorem pay28 : k0_pay28 = eqM := rfl
theorem pay29 : k0_pay29 = rc := rfl
theorem pay30 : k0_pay30 (E.a 0 false) = broadcastTo S64x64 (shapeCast S64x1 (E.acol 0 false)
    shapeCasts_S64x1_S64x1) broadcasts_S64x1_S64x64 := rfl
theorem pay31 : k0_pay31 rc (Scalar.ofBits .f32 0x00000000#32) (broadcastTo S64x64 (shapeCast S64x1 (E.acol
    0 false) shapeCasts_S64x1_S64x1) broadcasts_S64x1_S64x64) = E.csR 0 false := rfl
theorem pay32 : k0_pay32 rows cols = cr := rfl
theorem pay33 : k0_pay33 (E.a 0 false) rows cols = E.csC 0 false := rfl
theorem pay34 : k0_pay34 = eqM := rfl
theorem pay35 : k0_pay35 = rc := rfl
theorem pay36 : k0_pay36 (E.a 0 true) = E.csR 0 true := rfl
theorem pay37 : k0_pay37 = cr := rfl
theorem pay38 : k0_pay38 (E.a 0 true) = E.csC 0 true := rfl
theorem pay39 : k0_pay39 = eqM := rfl
theorem pay40 : k0_pay40 (E.a 1 false) = E.acol 1 false := rfl
theorem pay41 : k0_pay41 = rc := rfl
theorem pay42 : k0_pay42 (E.acol 1 false) rc (Scalar.ofBits .f32 0x00000000#32) = E.csR 1 false := rfl
theorem pay43 : k0_pay43 rows cols = cr := rfl
theorem pay44 : k0_pay44 (E.a 1 false) rows cols = E.csC 1 false := rfl
theorem pay45 : k0_pay45 = eqM := rfl
theorem pay46 : k0_pay46 = rc := rfl
theorem pay47 : k0_pay47 (E.a 1 true) = E.csR 1 true := rfl
theorem pay48 : k0_pay48 = cr := rfl
theorem pay49 : k0_pay49 (E.a 1 true) = E.csC 1 true := rfl
theorem pay50 : k0_pay50 = eqM := rfl
theorem pay51 : k0_pay51 (E.a 2 false) = E.acol 2 false := rfl
theorem pay52 : k0_pay52 rows cols = rc := rfl
theorem pay53 : k0_pay53 rows cols (E.acol 2 false) = E.csR 2 false := rfl
theorem pay54 : k0_pay54 rows cols = cr := rfl
theorem pay55 : k0_pay55 (E.a 2 false) rows cols = E.csC 2 false := rfl
theorem pay56 : k0_pay56 = eqM := rfl
theorem pay57 : k0_pay57 = rc := rfl
theorem pay58 : k0_pay58 (E.a 2 true) = E.csR 2 true := rfl
theorem pay59 : k0_pay59 = cr := rfl
theorem pay60 : k0_pay60 (E.a 2 true) = E.csC 2 true := rfl
theorem pay61 : k0_pay61 = eqM := rfl
theorem pay62 : k0_pay62 (E.a 3 false) = select eqM (broadcastTo S64x64 (shapeCast S1x64 (E.a 3 false)
    shapeCasts_S1x64_S1x64) broadcasts_S1x64_S64x64) (broadcast S64x64 (Scalar.ofBits .f32 0x00000000#32))
    := rfl
theorem pay63 : k0_pay63 rows cols = rc := rfl
theorem pay64 : k0_pay64 rows cols (select eqM (broadcastTo S64x64 (shapeCast S1x64 (E.a 3 false)
    shapeCasts_S1x64_S1x64) broadcasts_S1x64_S64x64) (broadcast S64x64 (Scalar.ofBits .f32 0x00000000#32)))
    = E.csR 3 false := rfl
theorem pay65 : k0_pay65 rows cols = cr := rfl
theorem pay66 : k0_pay66 (E.a 3 false) rows cols = E.csC 3 false := rfl
theorem pay67 : k0_pay67 = eqM := rfl
theorem pay68 : k0_pay68 = rc := rfl
theorem pay69 : k0_pay69 (E.a 3 true) = E.csR 3 true := rfl
theorem pay70 : k0_pay70 = cr := rfl
theorem pay71 : k0_pay71 (E.a 3 true) = E.csC 3 true := rfl
theorem pay72 : k0_pay72 = cr := rfl
theorem pay73 : k0_pay73 (E.csR 0 false) (E.csC 0 false) = select cr (subf (broadcastTo S64x64 (E.csC 0
    false) broadcasts_S64x1_S64x64) (broadcastTo S64x64 (E.csR 0 false) broadcasts_S1x64_S64x64)) (broadcast
    S64x64 (Scalar.ofBits .f32 0xFF800000#32)) := rfl
theorem pay74 : k0_pay74 (select cr (subf (broadcastTo S64x64 (E.csC 0 false) broadcasts_S64x1_S64x64)
    (broadcastTo S64x64 (E.csR 0 false) broadcasts_S1x64_S64x64)) (broadcast S64x64 (Scalar.ofBits .f32
    0xFF800000#32))) = E.lm 0 false := rfl
theorem pay75 : k0_pay75 = cr := rfl
theorem pay76 : k0_pay76 (E.csR 0 true) (E.csC 0 true) = E.lm 0 true := rfl
theorem pay77 : k0_pay77 = cr := rfl
theorem pay78 : k0_pay78 (E.csR 1 false) (E.csC 1 false) = E.lm 1 false := rfl
theorem pay79 : k0_pay79 = cr := rfl
theorem pay80 : k0_pay80 (E.csR 1 true) (E.csC 1 true) = E.lm 1 true := rfl
theorem pay81 : k0_pay81 = cr := rfl
theorem pay82 : k0_pay82 (E.csR 2 false) (E.csC 2 false) = E.lm 2 false := rfl
theorem pay83 : k0_pay83 = cr := rfl
theorem pay84 : k0_pay84 (E.csR 2 true) (E.csC 2 true) = E.lm 2 true := rfl
theorem pay85 : k0_pay85 = cr := rfl
theorem pay86 : k0_pay86 (E.csR 3 false) (E.csC 3 false) = select cr (subf (broadcastTo S64x64 (E.csC 3
    false) broadcasts_S64x1_S64x64) (broadcastTo S64x64 (E.csR 3 false) broadcasts_S1x64_S64x64)) (broadcast
    S64x64 (Scalar.ofBits .f32 0xFF800000#32)) := rfl
theorem pay87 : k0_pay87 (select cr (subf (broadcastTo S64x64 (E.csC 3 false) broadcasts_S64x1_S64x64)
    (broadcastTo S64x64 (E.csR 3 false) broadcasts_S1x64_S64x64)) (broadcast S64x64 (Scalar.ofBits .f32
    0xFF800000#32))) = E.lm 3 false := rfl
theorem pay88 : k0_pay88 = cr := rfl
theorem pay89 : k0_pay89 (E.csR 3 true) (E.csC 3 true) = E.lm 3 true := rfl
theorem pay90 : k0_pay90 (E.csC 0 false) = E.ecs 0 false := rfl
theorem pay91 : k0_pay91 (E.csC 0 true) = E.ecs 0 true := rfl
theorem pay92 : k0_pay92 (E.csC 1 false) = E.ecs 1 false := rfl
theorem pay93 : k0_pay93 (E.csC 1 true) = E.ecs 1 true := rfl
theorem pay94 : k0_pay94 (E.csC 2 false) = E.ecs 2 false := rfl
theorem pay95 : k0_pay95 (E.csC 2 true) = E.ecs 2 true := rfl
theorem pay96 : k0_pay96 (E.csC 3 false) = E.ecs 3 false := rfl
theorem pay97 : k0_pay97 (E.csC 3 true) = E.ecs 3 true := rfl
theorem pay98 : k0_pay98 (E.a 0 false) = E.al 0 false := rfl
theorem pay99 : k0_pay99 (E.a 0 true) = E.al 0 true := rfl
theorem pay100 : k0_pay100 (E.a 1 false) = E.al 1 false := rfl
theorem pay101 : k0_pay101 (E.a 1 true) = E.al 1 true := rfl
theorem pay102 : k0_pay102 (E.a 2 false) = E.al 2 false := rfl
theorem pay103 : k0_pay103 (E.a 2 true) = E.al 2 true := rfl
theorem pay104 : k0_pay104 (E.a 3 false) = E.al 3 false := rfl
theorem pay105 : k0_pay105 (E.a 3 true) = E.al 3 true := rfl
theorem pay106 : k0_pay106 (E.a 0 false) = E.eal 0 false := rfl
theorem pay107 : k0_pay107 (E.a 0 true) = E.eal 0 true := rfl
theorem pay108 : k0_pay108 (E.a 1 false) = E.eal 1 false := rfl
theorem pay109 : k0_pay109 (E.a 1 true) = E.eal 1 true := rfl
theorem pay110 : k0_pay110 (E.a 2 false) = E.eal 2 false := rfl
theorem pay111 : k0_pay111 (E.a 2 true) = E.eal 2 true := rfl
theorem pay112 : k0_pay112 (E.a 3 false) = E.eal 3 false := rfl
theorem pay113 : k0_pay113 (E.a 3 true) = E.eal 3 true := rfl
theorem pay114 : k0_pay114 (E.a 0 false) (E.csC 0 false) = E.wt 0 false := rfl

end Cert.KernelIdeal.Scan
-- ==== Proof.Payloads2.lean ====
/- The values the kernel computes on its way, one after the other: what each is of those before it,
   in the names of `Vocab`. -/
module

public import proofs.«01_k».proof.Proof.Vocab

@[expose] public section

noncomputable section

namespace Cert.KernelIdeal.Scan

open Idealize.ShloMosaic Idealize.SL.Sem Cert.KernelIdeal.Gen

variable {F : FTy → Type} [FloatOps F] (E : In F) (mR : IVec S64x1 1) (mC : IVec S1x64 1)

theorem pay115 : k0_pay115 (E.a 0 true) (E.csC 0 true) = E.wt 0 true := rfl
theorem pay116 : k0_pay116 (E.a 1 false) (E.csC 1 false) = E.wt 1 false := rfl
theorem pay117 : k0_pay117 (E.csC 1 true) (E.al 1 true) = E.wt 1 true := rfl
theorem pay118 : k0_pay118 (E.csC 2 false) (E.al 2 false) = E.wt 2 false := rfl
theorem pay119 : k0_pay119 (E.csC 2 true) (E.al 2 true) = E.wt 2 true := rfl
theorem pay120 : k0_pay120 (E.csC 3 false) (E.al 3 false) = E.wt 3 false := rfl
theorem pay121 : k0_pay121 (E.csC 3 true) (E.al 3 true) = E.wt 3 true := rfl
theorem pay122 : k0_pay122 = eqM := rfl
theorem pay123 : k0_pay123 (E.dt 0 false) = E.dtc 0 false := rfl
theorem pay124 : k0_pay124 = eqM := rfl
theorem pay125 : k0_pay125 (E.dt 0 true) = E.dtc 0 true := rfl
theorem pay126 : k0_pay126 = eqM := rfl
theorem pay127 : k0_pay127 (E.dt 1 false) = E.dtc 1 false := rfl
theorem pay128 : k0_pay128 = eqM := rfl
theorem pay129 : k0_pay129 (E.dt 1 true) = E.dtc 1 true := rfl
theorem pay130 : k0_pay130 rows = eqM := rfl
theorem pay131 : k0_pay131 (E.dt 2 false) rows = E.dtc 2 false := rfl
theorem pay132 : k0_pay132 = eqM := rfl
theorem pay133 : k0_pay133 (E.dt 2 true) = E.dtc 2 true := rfl
theorem pay134 : k0_pay134 = eqM := rfl
theorem pay135 : k0_pay135 (E.dt 3 false) = E.dtc 3 false := rfl
theorem pay136 : k0_pay136 = eqM := rfl
theorem pay137 : k0_pay137 (E.dt 3 true) = E.dtc 3 true := rfl
theorem pay138 : k0_pay138 E.x = E.xs 0 := rfl
theorem pay139 : k0_pay139 fl = fb := rfl
theorem pay140 : k0_pay140 fl (E.dtc 0 false) (E.dtc 0 true) = E.dtP 0 := rfl
theorem pay141 : k0_pay141 E.x fl (E.dtc 0 false) (E.dtc 0 true) = E.xdt 0 := rfl
theorem pay142 : k0_pay142 E.x = E.xs 1 := rfl
theorem pay143 : k0_pay143 fl = fb := rfl
theorem pay144 : k0_pay144 fl (E.dtc 1 false) (E.dtc 1 true) = E.dtP 1 := rfl
theorem pay145 : k0_pay145 (E.xs 1) (E.dtP 1) = E.xdt 1 := rfl
theorem pay146 : k0_pay146 E.x = E.xs 2 := rfl
theorem pay147 : k0_pay147 fl = fb := rfl
theorem pay148 : k0_pay148 fl (E.dtc 2 false) (E.dtc 2 true) = E.dtP 2 := rfl
theorem pay149 : k0_pay149 E.x fl (E.dtc 2 false) (E.dtc 2 true) = E.xdt 2 := rfl
theorem pay150 : k0_pay150 E.x = E.xs 3 := rfl
theorem pay151 : k0_pay151 fl = fb := rfl
theorem pay152 : k0_pay152 fl (E.dtc 3 false) (E.dtc 3 true) = E.dtP 3 := rfl
theorem pay153 : k0_pay153 E.x fl (E.dtc 3 false) (E.dtc 3 true) = E.xdt 3 := rfl
theorem pay154 : k0_pay154 E.c = truncf .bf16 E.c bitsLt_bf16_f32 := rfl
theorem pay155 : k0_pay155 E.b = truncf .bf16 E.b bitsLt_bf16_f32 := rfl
theorem pay156 : k0_pay156 E.b E.c = E.cb := rfl
theorem pay157 : k0_pay157 E.b E.c (E.lm 0 false) = truncf .bf16 (E.m 0 false) bitsLt_bf16_f32 := rfl
theorem pay158 : k0_pay158 (E.xdt 0) = truncf .bf16 (E.xdt 0) bitsLt_bf16_f32 := rfl
theorem pay159 : k0_pay159 E.b E.c (E.lm 1 false) = truncf .bf16 (E.m 1 false) bitsLt_bf16_f32 := rfl
theorem pay160 : k0_pay160 (E.xs 1) (E.dtP 1) = truncf .bf16 (E.xdt 1) bitsLt_bf16_f32 := rfl
theorem pay161 : k0_pay161 E.b E.c (E.lm 2 false) = truncf .bf16 (E.m 2 false) bitsLt_bf16_f32 := rfl
theorem pay162 : k0_pay162 E.x fl (E.dtc 2 false) (E.dtc 2 true) = truncf .bf16 (E.xdt 2) bitsLt_bf16_f32 :=
    rfl
theorem pay163 : k0_pay163 E.b E.c (E.lm 3 false) = truncf .bf16 (E.m 3 false) bitsLt_bf16_f32 := rfl
theorem pay164 : k0_pay164 E.x fl (E.dtc 3 false) (E.dtc 3 true) = truncf .bf16 (E.xdt 3) bitsLt_bf16_f32 :=
    rfl
theorem pay165 : k0_pay165 E.b E.c (E.lm 0 true) = truncf .bf16 (E.m 0 true) bitsLt_bf16_f32 := rfl
theorem pay166 : k0_pay166 (E.xdt 0) = truncf .bf16 (E.xdt 0) bitsLt_bf16_f32 := rfl
theorem pay167 : k0_pay167 E.b E.c (E.lm 1 true) = truncf .bf16 (E.m 1 true) bitsLt_bf16_f32 := rfl
theorem pay168 : k0_pay168 (E.xs 1) (E.dtP 1) = truncf .bf16 (E.xdt 1) bitsLt_bf16_f32 := rfl
theorem pay169 : k0_pay169 E.b E.c (E.lm 2 true) = truncf .bf16 (E.m 2 true) bitsLt_bf16_f32 := rfl
theorem pay170 : k0_pay170 E.x fl (E.dtc 2 false) (E.dtc 2 true) = truncf .bf16 (E.xdt 2) bitsLt_bf16_f32 :=
    rfl
theorem pay171 : k0_pay171 E.b E.c (E.lm 3 true) = truncf .bf16 (E.m 3 true) bitsLt_bf16_f32 := rfl
theorem pay172 : k0_pay172 E.x fl (E.dtc 3 false) (E.dtc 3 true) = truncf .bf16 (E.xdt 3) bitsLt_bf16_f32 :=
    rfl
theorem pay173 : k0_pay173 E.c = truncf .bf16 E.c bitsLt_bf16_f32 := rfl
theorem pay174 : k0_pay174 (E.st 0) = truncf .bf16 (E.st 0) bitsLt_bf16_f32 := rfl
theorem pay175 : k0_pay175 (E.st 0) E.c = E.yo 0 := rfl
theorem pay176 : k0_pay176 E.c = truncf .bf16 E.c bitsLt_bf16_f32 := rfl
theorem pay177 : k0_pay177 (E.st 1) = truncf .bf16 (E.st 1) bitsLt_bf16_f32 := rfl
theorem pay178 : k0_pay178 (E.st 1) E.c = E.yo 1 := rfl
theorem pay179 : k0_pay179 E.c = truncf .bf16 E.c bitsLt_bf16_f32 := rfl
theorem pay180 : k0_pay180 (E.st 2) = truncf .bf16 (E.st 2) bitsLt_bf16_f32 := rfl
theorem pay181 : k0_pay181 (E.st 2) E.c = E.yo 2 := rfl
theorem pay182 : k0_pay182 E.c = truncf .bf16 E.c bitsLt_bf16_f32 := rfl
theorem pay183 : k0_pay183 (E.st 3) = truncf .bf16 (E.st 3) bitsLt_bf16_f32 := rfl
theorem pay184 : k0_pay184 (E.st 3) (truncf .bf16 E.c bitsLt_bf16_f32) = E.yo 3 := rfl
theorem pay185 : k0_pay185 fl = fb := rfl
theorem pay186 : k0_pay186 fl = fb := rfl
theorem pay187 : k0_pay187 fl (E.ecs 0 false) (E.ecs 0 true) = E.ecsP 0 := rfl
theorem pay188 : k0_pay188 fl = fb := rfl
theorem pay189 : k0_pay189 fl = fb := rfl
theorem pay190 : k0_pay190 fl (E.ecs 1 false) (E.ecs 1 true) = E.ecsP 1 := rfl
theorem pay191 : k0_pay191 fl = fb := rfl
theorem pay192 : k0_pay192 fl = fb := rfl
theorem pay193 : k0_pay193 fl (E.ecs 2 false) (E.ecs 2 true) = E.ecsP 2 := rfl
theorem pay194 : k0_pay194 fl = fb := rfl
theorem pay195 : k0_pay195 fl = fb := rfl
theorem pay196 : k0_pay196 fl (E.ecs 3 false) (E.ecs 3 true) = E.ecsP 3 := rfl
theorem pay197 : k0_pay197 fl (E.eal 0 false) (E.eal 0 true) = E.ealP 0 := rfl
theorem pay198 : k0_pay198 fl = fb := rfl
theorem pay199 : k0_pay199 fl (E.wt 0 false) (E.wt 0 true) = E.wtP 0 := rfl
theorem pay200 : k0_pay200 E.b = truncf .bf16 E.b bitsLt_bf16_f32 := rfl
theorem pay201 : k0_pay201 fl (E.wt 0 false) (E.wt 0 true) (E.xdt 0) = truncf .bf16 (E.xw 0) bitsLt_bf16_f32
    := rfl
theorem pay202 : k0_pay202 fl (E.eal 1 false) (E.eal 1 true) = E.ealP 1 := rfl
theorem pay203 : k0_pay203 fl = shapeCast S1x128 fl shapeCasts_S1x128_S1x128 := rfl
theorem pay204 : k0_pay204 (shapeCast S1x128 fl shapeCasts_S1x128_S1x128) = fb := rfl
theorem pay205 : k0_pay205 (E.wt 1 false) (E.wt 1 true) (shapeCast S1x128 fl shapeCasts_S1x128_S1x128) =
    E.wtP 1 := rfl
theorem pay206 : k0_pay206 E.b = truncf .bf16 E.b bitsLt_bf16_f32 := rfl

end Cert.KernelIdeal.Scan
-- ==== Proof.Payloads3.lean ====
/- The values the kernel computes on its way, one after the other: what each is of those before it,
   in the names of `Vocab`. -/
module

public import proofs.«01_k».proof.Proof.Vocab

@[expose] public section

noncomputable section

namespace Cert.KernelIdeal.Scan

open Idealize.ShloMosaic Idealize.SL.Sem Cert.KernelIdeal.Gen

variable {F : FTy → Type} [FloatOps F] (E : In F) (mR : IVec S64x1 1) (mC : IVec S1x64 1)

theorem pay207 : k0_pay207 (E.wt 1 false) (E.wt 1 true) (E.xdt 1) (shapeCast S1x128 fl
    shapeCasts_S1x128_S1x128) = truncf .bf16 (E.xw 1) bitsLt_bf16_f32 := rfl
theorem pay208 : k0_pay208 fl (E.eal 2 false) (E.eal 2 true) = E.ealP 2 := rfl
theorem pay209 : k0_pay209 fl = fb := rfl
theorem pay210 : k0_pay210 fl (E.wt 2 false) (E.wt 2 true) = E.wtP 2 := rfl
theorem pay211 : k0_pay211 E.b = truncf .bf16 E.b bitsLt_bf16_f32 := rfl
theorem pay212 : k0_pay212 fl (E.wt 2 false) (E.wt 2 true) (E.xdt 2) = truncf .bf16 (E.xw 2) bitsLt_bf16_f32
    := rfl
theorem pay213 : k0_pay213 fl (E.eal 3 false) (E.eal 3 true) = E.ealP 3 := rfl
theorem pay214 : k0_pay214 fl = fb := rfl
theorem pay215 : k0_pay215 fl (E.wt 3 false) (E.wt 3 true) = E.wtP 3 := rfl
theorem pay216 : k0_pay216 E.b = truncf .bf16 E.b bitsLt_bf16_f32 := rfl
theorem pay217 : k0_pay217 fl (E.wt 3 false) (E.wt 3 true) (E.xdt 3) = truncf .bf16 (E.xw 3) bitsLt_bf16_f32
    := rfl
theorem pay222 : k0_pay222 E.dy = E.dyp 0 := rfl
theorem pay223 : k0_pay223 E.dy = E.dyp 1 := rfl
theorem pay224 : k0_pay224 E.dy = E.dyp 2 := rfl
theorem pay225 : k0_pay225 E.dy = E.dyp 3 := rfl
theorem pay226 : k0_pay226 (E.ds 3) = shapeCast S128x128 (E.ds 3) shapeCasts_S128x128_S128x128 := rfl
theorem pay227 : k0_pay227 (E.ds 3) = shapeCast S128x128 (E.ds 3) shapeCasts_S128x128_S128x128 := rfl
theorem pay228 : k0_pay228 (truncf .bf16 E.b bitsLt_bf16_f32) (E.ds 3) = E.dxw 3 := rfl
theorem pay229 : k0_pay229 (truncf .bf16 (E.xw 3) bitsLt_bf16_f32) (E.ds 3) = E.dBp 3 := rfl
theorem pay230 : k0_pay230 (E.xdt 3) (truncf .bf16 E.b bitsLt_bf16_f32) (E.ds 3) = E.xdxw 3 := rfl
theorem pay231 : k0_pay231 (E.wtP 3) (truncf .bf16 E.b bitsLt_bf16_f32) (E.ds 3) = E.dxdt0 3 := rfl
theorem pay232 : k0_pay232 (F := F) = broadcast S64x128 (Scalar.ofBits .f32 0x00000000#32) := rfl
theorem pay233 : k0_pay233 (E.xdt 3) fb (truncf .bf16 E.b bitsLt_bf16_f32) (E.ds 3) = E.dwr 3 true := rfl
theorem pay234 : k0_pay234 (E.xdt 3) fb (truncf .bf16 E.b bitsLt_bf16_f32) (E.ds 3) = E.dwr 3 false := rfl
theorem pay235 : k0_pay235 (E.st 3) (E.ds 3) = E.sds 3 := rfl
theorem pay236 : k0_pay236 (E.ealP 3) (E.ds 3) = E.dsE 3 := rfl
theorem pay237 : k0_pay237 (F := F) = broadcast S1x128 (Scalar.ofBits .f32 0x00000000#32) := rfl
theorem pay238 : k0_pay238 (E.st 3) fl (E.ds 3) = E.deal 3 true := rfl
theorem pay239 : k0_pay239 (E.st 3) fl (E.ds 3) = E.deal 3 false := rfl
theorem pay240 : k0_pay240 (E.ds 2) = shapeCast S128x128 (E.ds 2) shapeCasts_S128x128_S128x128 := rfl
theorem pay241 : k0_pay241 (E.ds 2) = shapeCast S128x128 (E.ds 2) shapeCasts_S128x128_S128x128 := rfl
theorem pay242 : k0_pay242 (truncf .bf16 E.b bitsLt_bf16_f32) (E.ds 2) = E.dxwT 2 := rfl
theorem pay243 : k0_pay243 (truncf .bf16 (E.xw 2) bitsLt_bf16_f32) (E.ds 2) = matmul
    dot_S128x128_S64x128_S128x64_1_1_0_0_n_n none (shapeCast S128x128 (E.ds 2) shapeCasts_S128x128_S128x128)
    (truncf .bf16 (E.xw 2) bitsLt_bf16_f32) (constant S128x64 .f32 0x00000000#32) := rfl
theorem pay244 : k0_pay244 (E.dxwT 2) = E.dxw 2 := rfl
theorem pay245 : k0_pay245 (E.xdt 2) (E.dxwT 2) = E.xdxw 2 := rfl
theorem pay246 : k0_pay246 (E.wtP 2) (E.dxwT 2) = E.dxdt0 2 := rfl
theorem pay247 : k0_pay247 (F := F) = broadcast S64x128 (Scalar.ofBits .f32 0x00000000#32) := rfl
theorem pay248 : k0_pay248 (E.xdt 2) fb (E.dxwT 2) = E.dwr 2 true := rfl
theorem pay249 : k0_pay249 (E.xdt 2) fb (E.dxwT 2) = E.dwr 2 false := rfl
theorem pay250 : k0_pay250 (E.st 2) (shapeCast S128x128 (E.ds 2) shapeCasts_S128x128_S128x128) = E.sds 2 :=
    rfl
theorem pay251 : k0_pay251 (E.ealP 2) (shapeCast S128x128 (E.ds 2) shapeCasts_S128x128_S128x128) = E.dsE 2
    := rfl
theorem pay252 : k0_pay252 (F := F) = broadcast S1x128 (Scalar.ofBits .f32 0x00000000#32) := rfl
theorem pay253 : k0_pay253 (E.st 2) fl (shapeCast S128x128 (E.ds 2) shapeCasts_S128x128_S128x128) = E.deal 2
    true := rfl
theorem pay254 : k0_pay254 (E.st 2) fl (shapeCast S128x128 (E.ds 2) shapeCasts_S128x128_S128x128) = E.deal 2
    false := rfl
theorem pay255 : k0_pay255 (E.ds 1) = shapeCast S128x128 (E.ds 1) shapeCasts_S128x128_S128x128 := rfl
theorem pay256 : k0_pay256 (E.ds 1) = shapeCast S128x128 (E.ds 1) shapeCasts_S128x128_S128x128 := rfl
theorem pay257 : k0_pay257 (truncf .bf16 E.b bitsLt_bf16_f32) (E.ds 1) = E.dxw 1 := rfl
theorem pay258 : k0_pay258 (truncf .bf16 (E.xw 1) bitsLt_bf16_f32) (E.ds 1) (E.dBp 3) (matmul
    dot_S128x128_S64x128_S128x64_1_1_0_0_n_n none (shapeCast S128x128 (E.ds 2) shapeCasts_S128x128_S128x128)
    (truncf .bf16 (E.xw 2) bitsLt_bf16_f32) (constant S128x64 .f32 0x00000000#32)) = addf (addf (E.dBp 3)
    (E.dBp 2)) (E.dBp 1) := rfl
theorem pay259 : k0_pay259 (E.xdt 1) (truncf .bf16 E.b bitsLt_bf16_f32) (E.ds 1) = E.xdxw 1 := rfl
theorem pay260 : k0_pay260 (E.wtP 1) (truncf .bf16 E.b bitsLt_bf16_f32) (E.ds 1) = E.dxdt0 1 := rfl
theorem pay261 : k0_pay261 (F := F) = broadcast S64x128 (Scalar.ofBits .f32 0x00000000#32) := rfl
theorem pay262 : k0_pay262 (E.xdt 1) fb (truncf .bf16 E.b bitsLt_bf16_f32) (E.ds 1) = select fb (E.xdxw 1)
    (broadcast S64x128 (Scalar.ofBits .f32 0x00000000#32)) := rfl
theorem pay263 : k0_pay263 (E.xdt 1) fb (truncf .bf16 E.b bitsLt_bf16_f32) (E.ds 1) = E.xdxwS 1 := rfl
theorem pay264 : k0_pay264 (E.xdxwS 1) = E.dwr 1 true := rfl
theorem pay265 : k0_pay265 (select fb (E.xdxw 1) (broadcast S64x128 (Scalar.ofBits .f32 0x00000000#32))) =
    E.dwr 1 false := rfl
theorem pay266 : k0_pay266 (E.st 1) (shapeCast S128x128 (E.ds 1) shapeCasts_S128x128_S128x128) = E.sds 1 :=
    rfl
theorem pay267 : k0_pay267 (E.ealP 1) (shapeCast S128x128 (E.ds 1) shapeCasts_S128x128_S128x128) = E.dsE 1
    := rfl
theorem pay268 : k0_pay268 (F := F) = broadcast S1x128 (Scalar.ofBits .f32 0x00000000#32) := rfl
theorem pay269 : k0_pay269 (E.st 1) fl (shapeCast S128x128 (E.ds 1) shapeCasts_S128x128_S128x128) = E.deal 1
    true := rfl
theorem pay270 : k0_pay270 (E.st 1) fl (shapeCast S128x128 (E.ds 1) shapeCasts_S128x128_S128x128) = E.deal 1
    false := rfl
theorem pay271 : k0_pay271 (E.ds 0) = shapeCast S128x128 (E.ds 0) shapeCasts_S128x128_S128x128 := rfl
theorem pay272 : k0_pay272 (E.ds 0) = shapeCast S128x128 (E.ds 0) shapeCasts_S128x128_S128x128 := rfl
theorem pay273 : k0_pay273 (truncf .bf16 E.b bitsLt_bf16_f32) (E.ds 0) = E.dxw 0 := rfl
theorem pay274 : k0_pay274 (truncf .bf16 (E.xw 0) bitsLt_bf16_f32) (E.ds 0) (addf (addf (E.dBp 3) (E.dBp 2))
    (E.dBp 1)) = addf (addf (addf (E.dBp 3) (E.dBp 2)) (E.dBp 1)) (E.dBp 0) := rfl
theorem pay275 : k0_pay275 (E.xdt 0) (truncf .bf16 E.b bitsLt_bf16_f32) (E.ds 0) = E.xdxw 0 := rfl
theorem pay276 : k0_pay276 (E.wtP 0) (truncf .bf16 E.b bitsLt_bf16_f32) (E.ds 0) = E.dxdt0 0 := rfl
theorem pay277 : k0_pay277 (F := F) = broadcast S64x128 (Scalar.ofBits .f32 0x00000000#32) := rfl
theorem pay278 : k0_pay278 (E.xdt 0) fb (truncf .bf16 E.b bitsLt_bf16_f32) (E.ds 0) = E.dwr 0 true := rfl
theorem pay279 : k0_pay279 (E.xdt 0) fb (truncf .bf16 E.b bitsLt_bf16_f32) (E.ds 0) = E.dwr 0 false := rfl
theorem pay280 : k0_pay280 (E.st 0) (E.ds 0) = E.sds 0 := rfl
theorem pay281 : k0_pay281 (E.ealP 0) (E.ds 0) = E.dsE 0 := rfl
theorem pay282 : k0_pay282 (F := F) = broadcast S1x128 (Scalar.ofBits .f32 0x00000000#32) := rfl
theorem pay283 : k0_pay283 (E.st 0) fl (E.ds 0) = select fl (broadcast S1x128 (Scalar.ofBits .f32
    0x00000000#32)) (E.sds 0) := rfl
theorem pay284 : k0_pay284 (select fl (broadcast S1x128 (Scalar.ofBits .f32 0x00000000#32)) (E.sds 0)) =
    E.deal 0 true := rfl
theorem pay285 : k0_pay285 fl (E.sds 0) (broadcast S1x128 (Scalar.ofBits .f32 0x00000000#32)) = E.deal 0
    false := rfl
theorem pay286 : k0_pay286 (E.yo 3) (E.dyp 3) = E.yody 3 := rfl
theorem pay287 : k0_pay287 (E.ecsP 3) (E.dyp 3) = E.dyE 3 := rfl
theorem pay288 : k0_pay288 (F := F) = broadcast S64x128 (Scalar.ofBits .f32 0x00000000#32) := rfl
theorem pay289 : k0_pay289 (E.yo 3) fb (E.dyp 3) = E.decs 3 true := rfl
theorem pay290 : k0_pay290 (E.yo 3) fb (E.dyp 3) = E.decs 3 false := rfl
theorem pay291 : k0_pay291 (F := F) = broadcast S64x128 (Scalar.ofBits .f32 0x00000000#32) := rfl
theorem pay292 : k0_pay292 fb (E.dyp 3) = E.dyh 3 true := rfl
theorem pay293 : k0_pay293 fb (E.dyp 3) = E.dyh 3 false := rfl
theorem pay294 : k0_pay294 (E.yo 2) (E.dyp 2) = E.yody 2 := rfl
theorem pay295 : k0_pay295 (E.ecsP 2) (E.dyp 2) = E.dyE 2 := rfl
theorem pay296 : k0_pay296 (F := F) = broadcast S64x128 (Scalar.ofBits .f32 0x00000000#32) := rfl
theorem pay297 : k0_pay297 (E.yo 2) fb (E.dyp 2) = E.decs 2 true := rfl
theorem pay298 : k0_pay298 (E.yo 2) fb (E.dyp 2) = E.decs 2 false := rfl
theorem pay299 : k0_pay299 (F := F) = broadcast S64x128 (Scalar.ofBits .f32 0x00000000#32) := rfl
theorem pay300 : k0_pay300 fb (E.dyp 2) = E.dyh 2 true := rfl
theorem pay301 : k0_pay301 fb (E.dyp 2) = E.dyh 2 false := rfl
theorem pay302 : k0_pay302 (E.yo 1) (E.dyp 1) = E.yody 1 := rfl

end Cert.KernelIdeal.Scan
-- ==== Proof.Payloads4.lean ====
/- The values the kernel computes on its way, one after the other: what each is of those before it,
   in the names of `Vocab`. -/
module

public import proofs.«01_k».proof.Proof.Vocab

@[expose] public section

noncomputable section

namespace Cert.KernelIdeal.Scan

open Idealize.ShloMosaic Idealize.SL.Sem Cert.KernelIdeal.Gen

variable {F : FTy → Type} [FloatOps F] (E : In F) (mR : IVec S64x1 1) (mC : IVec S1x64 1)

theorem pay303 : k0_pay303 (E.ecsP 1) (E.dyp 1) = E.dyE 1 := rfl
theorem pay304 : k0_pay304 (F := F) = broadcast S64x128 (Scalar.ofBits .f32 0x00000000#32) := rfl
theorem pay305 : k0_pay305 (E.yo 1) fb (E.dyp 1) = E.decs 1 true := rfl
theorem pay306 : k0_pay306 (E.yo 1) fb (E.dyp 1) = E.decs 1 false := rfl
theorem pay307 : k0_pay307 (F := F) = broadcast S64x128 (Scalar.ofBits .f32 0x00000000#32) := rfl
theorem pay308 : k0_pay308 fb (E.dyp 1) = E.dyh 1 true := rfl
theorem pay309 : k0_pay309 fb (E.dyp 1) (broadcast S64x128 (Scalar.ofBits .f32 0x00000000#32)) = E.dyh 1
    false := rfl
theorem pay310 : k0_pay310 (E.yo 0) (E.dyp 0) = E.yody 0 := rfl
theorem pay311 : k0_pay311 (E.ecsP 0) (E.dyp 0) = E.dyE 0 := rfl
theorem pay312 : k0_pay312 (F := F) = broadcast S64x128 (Scalar.ofBits .f32 0x00000000#32) := rfl
theorem pay313 : k0_pay313 (E.yo 0) fb (E.dyp 0) = E.decs 0 true := rfl
theorem pay314 : k0_pay314 (E.yo 0) fb (E.dyp 0) = E.decs 0 false := rfl
theorem pay315 : k0_pay315 (F := F) = broadcast S64x128 (Scalar.ofBits .f32 0x00000000#32) := rfl
theorem pay316 : k0_pay316 fb (E.dyp 0) = E.dyh 0 true := rfl
theorem pay317 : k0_pay317 fb (E.dyp 0) = E.dyh 0 false := rfl
theorem pay318 : k0_pay318 (truncf .bf16 E.c bitsLt_bf16_f32) (E.dsE 3) (E.dyE 3) = E.dS 3 := rfl
theorem pay319 : k0_pay319 (truncf .bf16 E.c bitsLt_bf16_f32) (E.dsE 2) (E.dyE 2) = E.dS 2 := rfl
theorem pay320 : k0_pay320 (truncf .bf16 E.c bitsLt_bf16_f32) (E.dsE 1) (E.dyE 1) = E.dS 1 := rfl
theorem pay321 : k0_pay321 (truncf .bf16 E.c bitsLt_bf16_f32) (E.ecsP 0) (E.dyp 0) (E.dsE 0) = E.dS 0 := rfl
theorem pay322 : k0_pay322 (truncf .bf16 (E.st 0) bitsLt_bf16_f32) (truncf .bf16 (E.st 1) bitsLt_bf16_f32)
    (truncf .bf16 (E.st 2) bitsLt_bf16_f32) (truncf .bf16 (E.st 3) bitsLt_bf16_f32) (E.ecsP 0) (E.dyp 0)
    (E.dyE 3) (E.dyE 2) (E.dyE 1) = addf (addf (addf (E.dCp 3) (E.dCp 2)) (E.dCp 1)) (E.dCp 0) := rfl
theorem pay323 : k0_pay323 (truncf .bf16 (E.xdt 3) bitsLt_bf16_f32) (E.dyh 3 true) = E.dM 3 true := rfl
theorem pay324 : k0_pay324 E.cb (truncf .bf16 (E.xdt 3) bitsLt_bf16_f32) (E.dyh 3 true) = E.cbdM 3 true :=
    rfl
theorem pay325 : k0_pay325 (truncf .bf16 (E.m 2 true) bitsLt_bf16_f32) (E.dxdt0 2) (E.dyh 2 true) = addf
    (E.dxdt0 2) (E.dxy 2 true) := rfl
theorem pay326 : k0_pay326 (truncf .bf16 (E.xdt 2) bitsLt_bf16_f32) (E.dyh 2 true) = E.dM 2 true := rfl
theorem pay327 : k0_pay327 E.cb (truncf .bf16 (E.xdt 2) bitsLt_bf16_f32) (E.dyh 2 true) = E.cbdM 2 true :=
    rfl
theorem pay328 : k0_pay328 (truncf .bf16 (E.m 1 true) bitsLt_bf16_f32) (E.dxdt0 1) (E.dyh 1 true) = addf
    (E.dxdt0 1) (E.dxy 1 true) := rfl
theorem pay329 : k0_pay329 (truncf .bf16 (E.xdt 1) bitsLt_bf16_f32) (E.dyh 1 true) = E.dM 1 true := rfl
theorem pay330 : k0_pay330 E.cb (truncf .bf16 (E.xdt 1) bitsLt_bf16_f32) (E.dyh 1 true) = E.cbdM 1 true :=
    rfl
theorem pay331 : k0_pay331 (truncf .bf16 (E.m 0 true) bitsLt_bf16_f32) (E.dxdt0 0) (E.dyh 0 true) = addf
    (E.dxdt0 0) (E.dxy 0 true) := rfl
theorem pay332 : k0_pay332 (truncf .bf16 (E.xdt 0) bitsLt_bf16_f32) (E.dyh 0 true) = E.dM 0 true := rfl
theorem pay333 : k0_pay333 E.cb (truncf .bf16 (E.xdt 0) bitsLt_bf16_f32) (E.dyh 0 true) = E.cbdM 0 true :=
    rfl
theorem pay334 : k0_pay334 (E.lm 0 true) (E.lm 1 true) (E.lm 2 true) (E.lm 3 true) (truncf .bf16 (E.xdt 0)
    bitsLt_bf16_f32) (truncf .bf16 (E.xdt 1) bitsLt_bf16_f32) (truncf .bf16 (E.xdt 2) bitsLt_bf16_f32)
    (truncf .bf16 (E.xdt 3) bitsLt_bf16_f32) (E.dyh 3 true) (E.dyh 2 true) (E.dyh 1 true) (E.dyh 0 true) =
    addf (addf (addf (E.g 3 true) (E.g 2 true)) (E.g 1 true)) (E.g 0 true) := rfl
theorem pay335 : k0_pay335 (truncf .bf16 (E.xdt 3) bitsLt_bf16_f32) (E.dyh 3 false) = truncf .bf16 (matmul
    dot_S64x128_S64x128_S64x64_1_1_0_0_n_n none (E.dyh 3 false) (truncf .bf16 (E.xdt 3) bitsLt_bf16_f32)
    (constant S64x64 .f32 0x00000000#32)) bitsLt_bf16_f32 := rfl
theorem pay336 : k0_pay336 (truncf .bf16 (E.m 3 false) bitsLt_bf16_f32) (truncf .bf16 (E.m 3 true)
    bitsLt_bf16_f32) (E.dxdt0 3) (E.dyh 3 true) (E.dyh 3 false) = E.dxdt 3 := rfl
theorem pay337 : k0_pay337 (truncf .bf16 (matmul dot_S64x128_S64x128_S64x64_1_1_0_0_n_n none (E.dyh 3 false)
    (truncf .bf16 (E.xdt 3) bitsLt_bf16_f32) (constant S64x64 .f32 0x00000000#32)) bitsLt_bf16_f32) = E.dM 3
    false := rfl
theorem pay338 : k0_pay338 E.cb (truncf .bf16 (matmul dot_S64x128_S64x128_S64x64_1_1_0_0_n_n none (E.dyh 3
    false) (truncf .bf16 (E.xdt 3) bitsLt_bf16_f32) (constant S64x64 .f32 0x00000000#32)) bitsLt_bf16_f32) =
    E.cbdM 3 false := rfl
theorem pay339 : k0_pay339 (truncf .bf16 (E.m 2 false) bitsLt_bf16_f32) (E.dyh 2 false) (addf (E.dxdt0 2)
    (E.dxy 2 true)) = E.dxdt 2 := rfl
theorem pay340 : k0_pay340 (truncf .bf16 (E.xdt 2) bitsLt_bf16_f32) (E.dyh 2 false) = E.dM 2 false := rfl
theorem pay341 : k0_pay341 E.cb (truncf .bf16 (E.xdt 2) bitsLt_bf16_f32) (E.dyh 2 false) = E.cbdM 2 false :=
    rfl
theorem pay342 : k0_pay342 (truncf .bf16 (E.m 1 false) bitsLt_bf16_f32) (E.dyh 1 false) (addf (E.dxdt0 1)
    (E.dxy 1 true)) = E.dxdt 1 := rfl
theorem pay343 : k0_pay343 (truncf .bf16 (E.xdt 1) bitsLt_bf16_f32) (E.dyh 1 false) = E.dM 1 false := rfl
theorem pay344 : k0_pay344 E.cb (truncf .bf16 (E.xdt 1) bitsLt_bf16_f32) (E.dyh 1 false) = E.cbdM 1 false :=
    rfl
theorem pay345 : k0_pay345 (truncf .bf16 (E.m 0 false) bitsLt_bf16_f32) (E.dyh 0 false) (addf (E.dxdt0 0)
    (E.dxy 0 true)) = E.dxdt 0 := rfl
theorem pay346 : k0_pay346 (truncf .bf16 (E.xdt 0) bitsLt_bf16_f32) (E.dyh 0 false) = E.dM 0 false := rfl
theorem pay347 : k0_pay347 E.cb (truncf .bf16 (E.xdt 0) bitsLt_bf16_f32) (E.dyh 0 false) = E.cbdM 0 false :=
    rfl
theorem pay348 : k0_pay348 (E.lm 0 false) (E.lm 1 false) (E.lm 2 false) (E.lm 3 false) (truncf .bf16 (E.xdt
    0) bitsLt_bf16_f32) (truncf .bf16 (E.xdt 1) bitsLt_bf16_f32) (truncf .bf16 (E.xdt 2) bitsLt_bf16_f32)
    (E.dyh 2 false) (E.dyh 1 false) (E.dyh 0 false) (addf (addf (addf (E.g 3 true) (E.g 2 true)) (E.g 1
    true)) (E.g 0 true)) (truncf .bf16 (matmul dot_S64x128_S64x128_S64x64_1_1_0_0_n_n none (E.dyh 3 false)
    (truncf .bf16 (E.xdt 3) bitsLt_bf16_f32) (constant S64x64 .f32 0x00000000#32)) bitsLt_bf16_f32) = E.dcb
    := rfl
theorem pay349 : k0_pay349 (E.lm 0 false) (E.lm 1 false) (E.lm 2 false) (E.lm 3 false) (truncf .bf16 E.c
    bitsLt_bf16_f32) (truncf .bf16 (E.xdt 0) bitsLt_bf16_f32) (truncf .bf16 (E.xdt 1) bitsLt_bf16_f32)
    (truncf .bf16 (E.xdt 2) bitsLt_bf16_f32) (addf (addf (addf (E.dBp 3) (E.dBp 2)) (E.dBp 1)) (E.dBp 0))
    (E.dyh 2 false) (E.dyh 1 false) (E.dyh 0 false) (addf (addf (addf (E.g 3 true) (E.g 2 true)) (E.g 1
    true)) (E.g 0 true)) (truncf .bf16 (matmul dot_S64x128_S64x128_S64x64_1_1_0_0_n_n none (E.dyh 3 false)
    (truncf .bf16 (E.xdt 3) bitsLt_bf16_f32) (constant S64x64 .f32 0x00000000#32)) bitsLt_bf16_f32) = E.dB
    := rfl
theorem pay350 : k0_pay350 (E.lm 0 false) (E.lm 1 false) (E.lm 2 false) (E.lm 3 false) (truncf .bf16 E.b
    bitsLt_bf16_f32) (truncf .bf16 (E.xdt 0) bitsLt_bf16_f32) (truncf .bf16 (E.xdt 1) bitsLt_bf16_f32)
    (truncf .bf16 (E.xdt 2) bitsLt_bf16_f32) (E.dyh 2 false) (E.dyh 1 false) (E.dyh 0 false) (addf (addf
    (addf (E.dCp 3) (E.dCp 2)) (E.dCp 1)) (E.dCp 0)) (addf (addf (addf (E.g 3 true) (E.g 2 true)) (E.g 1
    true)) (E.g 0 true)) (truncf .bf16 (matmul dot_S64x128_S64x128_S64x64_1_1_0_0_n_n none (E.dyh 3 false)
    (truncf .bf16 (E.xdt 3) bitsLt_bf16_f32) (constant S64x64 .f32 0x00000000#32)) bitsLt_bf16_f32) = E.dC
    := rfl
theorem pay351 : k0_pay351 (E.xs 3) (E.dxdt 3) = E.xdx 3 := rfl
theorem pay352 : k0_pay352 (E.dtP 3) (E.dxdt 3) = E.dxsP 3 := rfl
theorem pay353 : k0_pay353 (F := F) = broadcast S64x128 (Scalar.ofBits .f32 0x00000000#32) := rfl
theorem pay354 : k0_pay354 (E.xs 3) fb (E.dxdt 3) = select fb (broadcast S64x128 (Scalar.ofBits .f32
    0x00000000#32)) (E.xdx 3) := rfl
theorem pay355 : k0_pay355 (E.xs 3) fb (E.dxdt 3) = select fb (E.xdx 3) (broadcast S64x128 (Scalar.ofBits
    .f32 0x00000000#32)) := rfl
theorem pay356 : k0_pay356 (select fb (broadcast S64x128 (Scalar.ofBits .f32 0x00000000#32)) (E.xdx 3)) =
    E.ddtC 3 true := rfl
theorem pay357 : k0_pay357 (select fb (E.xdx 3) (broadcast S64x128 (Scalar.ofBits .f32 0x00000000#32))) =
    E.ddtC 3 false := rfl
theorem pay358 : k0_pay358 (E.xs 2) (E.dxdt 2) = E.xdx 2 := rfl
theorem pay359 : k0_pay359 (F := F) = broadcast S64x128 (Scalar.ofBits .f32 0x00000000#32) := rfl
theorem pay360 : k0_pay360 (E.xs 2) fb (E.dxdt 2) = E.ddtC 2 true := rfl
theorem pay361 : k0_pay361 (E.xs 2) fb (E.dxdt 2) = E.ddtC 2 false := rfl
theorem pay362 : k0_pay362 (E.xs 1) (E.dxdt 1) = E.xdx 1 := rfl
theorem pay363 : k0_pay363 (F := F) = broadcast S64x128 (Scalar.ofBits .f32 0x00000000#32) := rfl
theorem pay364 : k0_pay364 (E.xs 1) fb (E.dxdt 1) = E.ddtC 1 true := rfl
theorem pay365 : k0_pay365 (E.xs 1) fb (E.dxdt 1) = E.ddtC 1 false := rfl
theorem pay366 : k0_pay366 (E.xs 0) (E.dxdt 0) = E.xdx 0 := rfl
theorem pay367 : k0_pay367 (F := F) = broadcast S64x128 (Scalar.ofBits .f32 0x00000000#32) := rfl
theorem pay368 : k0_pay368 (E.xs 0) fb (E.dxdt 0) = E.ddtC 0 true := rfl
theorem pay369 : k0_pay369 (E.xs 0) fb (E.dxdt 0) = E.ddtC 0 false := rfl
theorem pay370 : k0_pay370 (E.dtP 0) (E.dtP 1) (E.dtP 2) (E.dxdt 2) (E.dxdt 1) (E.dxdt 0) (E.dxsP 3) = E.dxs
    := rfl
theorem pay371 : k0_pay371 eqM (E.ddtC 3 true) = E.ddtR 3 true := rfl
theorem pay372 : k0_pay372 eqM (E.ddtC 3 false) = E.ddtR 3 false := rfl
theorem pay373 : k0_pay373 eqM (E.ddtC 2 true) = E.ddtR 2 true := rfl
theorem pay374 : k0_pay374 eqM (E.ddtC 2 false) = E.ddtR 2 false := rfl
theorem pay375 : k0_pay375 eqM (E.ddtC 1 true) = E.ddtR 1 true := rfl
theorem pay376 : k0_pay376 eqM (E.ddtC 1 false) = E.ddtR 1 false := rfl
theorem pay377 : k0_pay377 eqM (E.ddtC 0 true) = E.ddtR 0 true := rfl
theorem pay378 : k0_pay378 eqM (E.ddtC 0 false) = E.ddtR 0 false := rfl
theorem pay379 : k0_pay379 (E.wt 3 true) (E.dwr 3 true) = E.dww 3 true := rfl
theorem pay380 : k0_pay380 (E.wt 3 true) (E.dwr 3 true) = E.dwwS 3 true := rfl
theorem pay381 : k0_pay381 (E.wt 3 true) (E.dwr 3 true) = E.ndww 3 true := rfl
theorem pay382 : k0_pay382 (E.wt 3 false) (E.dwr 3 false) = E.dww 3 false := rfl
theorem pay383 : k0_pay383 (E.wt 3 false) (E.dwr 3 false) = E.dwwS 3 false := rfl
theorem pay384 : k0_pay384 (E.wt 3 false) (E.dwr 3 false) = E.ndww 3 false := rfl
theorem pay385 : k0_pay385 (E.wt 2 true) (E.dwr 2 true) = E.dww 2 true := rfl
theorem pay386 : k0_pay386 (E.wt 2 true) (E.dwr 2 true) = E.dwwS 2 true := rfl
theorem pay387 : k0_pay387 (E.wt 2 true) (E.dwr 2 true) = E.ndww 2 true := rfl
theorem pay388 : k0_pay388 (E.wt 2 false) (E.dwr 2 false) = E.dww 2 false := rfl
theorem pay389 : k0_pay389 (E.wt 2 false) (E.dwr 2 false) = E.dwwS 2 false := rfl
theorem pay390 : k0_pay390 (E.wt 2 false) (E.dwr 2 false) = E.ndww 2 false := rfl
theorem pay391 : k0_pay391 (E.wt 1 true) (E.dwr 1 true) = E.dww 1 true := rfl
theorem pay392 : k0_pay392 (E.wt 1 true) (E.dwr 1 true) = E.dwwS 1 true := rfl
theorem pay393 : k0_pay393 (E.wt 1 true) (E.dwr 1 true) = E.ndww 1 true := rfl
theorem pay394 : k0_pay394 (E.wt 1 false) (E.dwr 1 false) = E.dww 1 false := rfl

end Cert.KernelIdeal.Scan
-- ==== Proof.Payloads5.lean ====
/- The values the kernel computes on its way, one after the other: what each is of those before it,
   in the names of `Vocab`. -/
module

public import proofs.«01_k».proof.Proof.Vocab

@[expose] public section

noncomputable section

namespace Cert.KernelIdeal.Scan

open Idealize.ShloMosaic Idealize.SL.Sem Cert.KernelIdeal.Gen

variable {F : FTy → Type} [FloatOps F] (E : In F) (mR : IVec S64x1 1) (mC : IVec S1x64 1)

theorem pay395 : k0_pay395 (E.wt 1 false) (E.dwr 1 false) = E.dwwS 1 false := rfl
theorem pay396 : k0_pay396 (E.dww 1 false) (Scalar.ofBits .f32 0x00000000#32) = E.ndww 1 false := rfl
theorem pay397 : k0_pay397 (E.wt 0 true) (E.dwr 0 true) = E.dww 0 true := rfl
theorem pay398 : k0_pay398 (E.wt 0 true) (E.dwr 0 true) = E.ndww 0 true := rfl
theorem pay399 : k0_pay399 (E.wt 0 false) (E.dwr 0 false) = E.dww 0 false := rfl
theorem pay400 : k0_pay400 (E.wt 0 false) (E.dwr 0 false) = E.ndww 0 false := rfl
theorem pay401 : k0_pay401 (E.eal 1 true) (E.deal 1 true) (E.dwwS 1 true) = E.dal 1 true := rfl
theorem pay402 : k0_pay402 (E.eal 1 false) (E.deal 1 false) (E.dwwS 1 false) = E.dal 1 false := rfl
theorem pay403 : k0_pay403 (E.eal 0 true) (E.wt 0 true) (E.dwr 0 true) (E.deal 0 true) = E.dal 0 true := rfl
theorem pay404 : k0_pay404 (E.eal 0 false) (E.wt 0 false) (E.dwr 0 false) (E.deal 0 false) = E.dal 0 false
    := rfl
theorem pay405 : k0_pay405 (E.eal 3 true) (E.deal 3 true) (E.dwwS 3 true) = E.aR 3 true := rfl
theorem pay406 : k0_pay406 (E.eal 3 false) (E.deal 3 false) (E.dwwS 3 false) = E.aR 3 false := rfl
theorem pay407 : k0_pay407 (E.eal 2 true) (E.deal 2 true) (E.dwwS 2 true) = E.aR 2 true := rfl
theorem pay408 : k0_pay408 (E.eal 2 false) (E.deal 2 false) (E.dwwS 2 false) = E.dalS 2 false := rfl
theorem pay409 : k0_pay409 (E.dalS 2 false) = E.aR 2 false := rfl
theorem pay410 : k0_pay410 (E.dal 1 true) = E.aR 1 true := rfl
theorem pay411 : k0_pay411 (E.dal 1 false) = E.aR 1 false := rfl
theorem pay412 : k0_pay412 (E.dal 0 true) = E.aR 0 true := rfl
theorem pay413 : k0_pay413 (E.dal 0 false) = E.aR 0 false := rfl
theorem pay414 : k0_pay414 (E.ecs 3 true) (E.decs 3 true) (E.ndww 3 true) = E.dcsA 3 true := rfl
theorem pay415 : k0_pay415 (E.ecs 3 false) (E.decs 3 false) (E.ndww 3 false) = E.dcsA 3 false := rfl
theorem pay416 : k0_pay416 (E.ecs 2 true) (E.decs 2 true) (E.ndww 2 true) = E.dcsA 2 true := rfl
theorem pay417 : k0_pay417 (E.ecs 2 false) (E.decs 2 false) (E.ndww 2 false) = E.dcsA 2 false := rfl
theorem pay418 : k0_pay418 (E.ecs 1 true) (E.decs 1 true) (E.ndww 1 true) = E.dcsA 1 true := rfl
theorem pay419 : k0_pay419 (E.ecs 1 false) (E.decs 1 false) (E.ndww 1 false) = E.dcsA 1 false := rfl
theorem pay420 : k0_pay420 (E.ecs 0 true) (E.decs 0 true) (E.ndww 0 true) = E.dcsA 0 true := rfl
theorem pay421 : k0_pay421 (E.ecs 0 false) (E.decs 0 false) (E.ndww 0 false) = E.dcsA 0 false := rfl
theorem pay422 : k0_pay422 cr (E.lm 3 true) (E.cbdM 3 true) = E.gm 3 true := rfl
theorem pay423 : k0_pay423 cr (E.lm 3 true) (E.cbdM 3 true) = E.gmC 3 true := rfl
theorem pay424 : k0_pay424 (E.gm 3 true) (Scalar.ofBits .f32 0x00000000#32) = E.dcsR 3 true := rfl
theorem pay425 : k0_pay425 (E.dcsA 3 true) (E.gmC 3 true) = E.dcsC 3 true := rfl
theorem pay426 : k0_pay426 cr (E.lm 3 false) (E.cbdM 3 false) = E.gm 3 false := rfl
theorem pay427 : k0_pay427 cr (E.lm 3 false) (E.cbdM 3 false) = E.dcsR 3 false := rfl
theorem pay428 : k0_pay428 cr (E.lm 3 false) (E.cbdM 3 false) (E.dcsA 3 false) = E.dcsC 3 false := rfl
theorem pay429 : k0_pay429 cr (E.lm 2 true) (E.cbdM 2 true) = E.gm 2 true := rfl
theorem pay430 : k0_pay430 cr (E.lm 2 true) (E.cbdM 2 true) = E.dcsR 2 true := rfl
theorem pay431 : k0_pay431 cr (E.lm 2 true) (E.cbdM 2 true) (E.dcsA 2 true) = E.dcsC 2 true := rfl
theorem pay432 : k0_pay432 cr (E.lm 2 false) (E.cbdM 2 false) = E.gm 2 false := rfl
theorem pay433 : k0_pay433 cr (E.lm 2 false) (E.cbdM 2 false) = E.dcsR 2 false := rfl
theorem pay434 : k0_pay434 cr (E.lm 2 false) (E.cbdM 2 false) (E.dcsA 2 false) = E.dcsC 2 false := rfl
theorem pay435 : k0_pay435 cr (E.lm 1 true) (E.cbdM 1 true) = E.gm 1 true := rfl
theorem pay436 : k0_pay436 cr (E.lm 1 true) (E.cbdM 1 true) = E.gmC 1 true := rfl
theorem pay437 : k0_pay437 cr (E.lm 1 true) (E.cbdM 1 true) = E.ngmR 1 true := rfl
theorem pay438 : k0_pay438 (E.ngmR 1 true) = E.dcsR 1 true := rfl
theorem pay439 : k0_pay439 (E.dcsA 1 true) (E.gmC 1 true) = E.dcsC 1 true := rfl
theorem pay440 : k0_pay440 cr (E.lm 1 false) (E.cbdM 1 false) = E.gm 1 false := rfl
theorem pay441 : k0_pay441 cr (E.lm 1 false) (E.cbdM 1 false) = E.dcsR 1 false := rfl
theorem pay442 : k0_pay442 cr (E.lm 1 false) (E.cbdM 1 false) (E.dcsA 1 false) = E.dcsC 1 false := rfl
theorem pay443 : k0_pay443 cr (E.lm 0 true) (E.cbdM 0 true) = E.gm 0 true := rfl
theorem pay444 : k0_pay444 cr (E.lm 0 true) (E.cbdM 0 true) = E.dcsR 0 true := rfl
theorem pay445 : k0_pay445 cr (E.lm 0 true) (E.cbdM 0 true) (E.dcsA 0 true) = E.dcsC 0 true := rfl
theorem pay446 : k0_pay446 cr (E.lm 0 false) (E.cbdM 0 false) = E.gm 0 false := rfl
theorem pay447 : k0_pay447 cr (E.lm 0 false) (E.cbdM 0 false) = E.dcsR 0 false := rfl
theorem pay448 : k0_pay448 cr (E.lm 0 false) (E.cbdM 0 false) (E.dcsA 0 false) = E.dcsC 0 false := rfl
theorem pay449 : k0_pay449 cr (E.aR 3 true) (E.dcsC 3 true) = E.daA 3 true := rfl
theorem pay450 : k0_pay450 (E.dcsR 3 true) = E.dcsRB 3 true := rfl
theorem pay451 : k0_pay451 eqM rc (E.daA 3 true) (E.dcsRB 3 true) (Scalar.ofBits .f32 0x00000000#32) = E.da
    3 true := rfl
theorem pay452 : k0_pay452 eqM rc cr (E.aR 3 false) (E.dcsR 3 false) (E.dcsC 3 false) = E.da 3 false := rfl
theorem pay453 : k0_pay453 cr (E.aR 2 true) (E.dcsC 2 true) = E.daA 2 true := rfl
theorem pay454 : k0_pay454 eqM rc (E.dcsR 2 true) (E.daA 2 true) = E.da 2 true := rfl
theorem pay455 : k0_pay455 eqM rc cr (E.aR 2 false) (E.dcsR 2 false) (E.dcsC 2 false) = E.da 2 false := rfl
theorem pay456 : k0_pay456 cr (E.dcsC 1 true) = E.dcsCS 1 true := rfl
theorem pay457 : k0_pay457 eqM rc (E.aR 1 true) (E.dcsR 1 true) (E.dcsCS 1 true) = E.da 1 true := rfl
theorem pay458 : k0_pay458 eqM rc cr (E.aR 1 false) (E.dcsR 1 false) (E.dcsC 1 false) = E.da 1 false := rfl
theorem pay459 : k0_pay459 (E.dcsC 0 true) = E.dcsCB 0 true := rfl
theorem pay460 : k0_pay460 eqM rc cr (E.aR 0 true) (E.dcsR 0 true) (E.dcsCB 0 true) = E.da 0 true := rfl
theorem pay461 : k0_pay461 eqM rc cr (E.aR 0 false) (E.dcsR 0 false) (E.dcsC 0 false) = E.da 0 false := rfl
theorem pay462 : k0_pay462 (E.dS 0) = shapeCast S1x128x128 (E.dS 0) shapeCasts_S128x128_S1x128x128 := rfl
theorem pay463 : k0_pay463 (E.dS 1) = shapeCast S1x128x128 (E.dS 1) shapeCasts_S128x128_S1x128x128 := rfl
theorem pay464 : k0_pay464 (E.dS 2) = shapeCast S1x128x128 (E.dS 2) shapeCasts_S128x128_S1x128x128 := rfl
theorem pay465 : k0_pay465 (E.dS 3) = shapeCast S1x128x128 (E.dS 3) shapeCasts_S128x128_S1x128x128 := rfl
theorem pay466 : k0_pay466 mR E.dxs = select (broadcastTo S64x512 (shapeCast S64x1 mR
    shapeCasts_S64x1_S64x1) broadcasts_S64x1_S64x512) E.dxs (broadcast S64x512 (Scalar.ofBits .f32
    0x00000000#32)) := rfl
theorem pay467 : k0_pay467 mR E.dB = select (broadcastTo S64x128 (shapeCast S64x1 mR shapeCasts_S64x1_S64x1)
    broadcasts_S64x1_S64x128) E.dB (broadcast S64x128 (Scalar.ofBits .f32 0x00000000#32)) := rfl
theorem pay468 : k0_pay468 mR E.dC = select (broadcastTo S64x128 (shapeCast S64x1 mR shapeCasts_S64x1_S64x1)
    broadcasts_S64x1_S64x128) E.dC (broadcast S64x128 (Scalar.ofBits .f32 0x00000000#32)) := rfl
theorem pay469 : k0_pay469 mC (E.ddtR 0 false) = select mC (E.ddtR 0 false) (broadcast S1x64 (Scalar.ofBits
    .f32 0x00000000#32)) := rfl
theorem pay470 : k0_pay470 (select mC (E.ddtR 0 false) (broadcast S1x64 (Scalar.ofBits .f32 0x00000000#32)))
    = shapeCast S1x1x1x64 (select mC (E.ddtR 0 false) (broadcast S1x64 (Scalar.ofBits .f32 0x00000000#32)))
    shapeCasts_S1x64_S1x1x1x64 := rfl
theorem pay471 : k0_pay471 mC (E.da 0 false) = shapeCast S1x1x1x64 (select mC (E.da 0 false) (broadcast
    S1x64 (Scalar.ofBits .f32 0x00000000#32))) shapeCasts_S1x64_S1x1x1x64 := rfl
theorem pay472 : k0_pay472 mC (E.ddtR 0 true) = shapeCast S1x1x1x64 (select mC (E.ddtR 0 true) (broadcast
    S1x64 (Scalar.ofBits .f32 0x00000000#32))) shapeCasts_S1x64_S1x1x1x64 := rfl
theorem pay473 : k0_pay473 mC (E.da 0 true) = shapeCast S1x1x1x64 (select mC (E.da 0 true) (broadcast S1x64
    (Scalar.ofBits .f32 0x00000000#32))) shapeCasts_S1x64_S1x1x1x64 := rfl
theorem pay474 : k0_pay474 mC (E.ddtR 1 false) = shapeCast S1x1x1x64 (select mC (E.ddtR 1 false) (broadcast
    S1x64 (Scalar.ofBits .f32 0x00000000#32))) shapeCasts_S1x64_S1x1x1x64 := rfl
theorem pay475 : k0_pay475 mC (E.da 1 false) = shapeCast S1x1x1x64 (select mC (E.da 1 false) (broadcast
    S1x64 (Scalar.ofBits .f32 0x00000000#32))) shapeCasts_S1x64_S1x1x1x64 := rfl
theorem pay476 : k0_pay476 mC (E.ddtR 1 true) = shapeCast S1x1x1x64 (select mC (E.ddtR 1 true) (broadcast
    S1x64 (Scalar.ofBits .f32 0x00000000#32))) shapeCasts_S1x64_S1x1x1x64 := rfl
theorem pay477 : k0_pay477 mC (E.da 1 true) = shapeCast S1x1x1x64 (select mC (E.da 1 true) (broadcast S1x64
    (Scalar.ofBits .f32 0x00000000#32))) shapeCasts_S1x64_S1x1x1x64 := rfl
theorem pay478 : k0_pay478 mC (E.ddtR 2 false) = shapeCast S1x1x1x64 (select mC (E.ddtR 2 false) (broadcast
    S1x64 (Scalar.ofBits .f32 0x00000000#32))) shapeCasts_S1x64_S1x1x1x64 := rfl
theorem pay479 : k0_pay479 mC (E.da 2 false) = shapeCast S1x1x1x64 (select mC (E.da 2 false) (broadcast
    S1x64 (Scalar.ofBits .f32 0x00000000#32))) shapeCasts_S1x64_S1x1x1x64 := rfl
theorem pay480 : k0_pay480 mC (E.ddtR 2 true) = shapeCast S1x1x1x64 (select mC (E.ddtR 2 true) (broadcast
    S1x64 (Scalar.ofBits .f32 0x00000000#32))) shapeCasts_S1x64_S1x1x1x64 := rfl
theorem pay481 : k0_pay481 mC (E.da 2 true) = select mC (E.da 2 true) (broadcast S1x64 (Scalar.ofBits .f32
    0x00000000#32)) := rfl
theorem pay482 : k0_pay482 (select mC (E.da 2 true) (broadcast S1x64 (Scalar.ofBits .f32 0x00000000#32))) =
    shapeCast S1x1x1x64 (select mC (E.da 2 true) (broadcast S1x64 (Scalar.ofBits .f32 0x00000000#32)))
    shapeCasts_S1x64_S1x1x1x64 := rfl
theorem pay483 : k0_pay483 mC (E.ddtR 3 false) = shapeCast S1x1x1x64 (select mC (E.ddtR 3 false) (broadcast
    S1x64 (Scalar.ofBits .f32 0x00000000#32))) shapeCasts_S1x64_S1x1x1x64 := rfl
theorem pay484 : k0_pay484 mC (E.da 3 false) = select mC (E.da 3 false) (broadcast S1x64 (Scalar.ofBits .f32
    0x00000000#32)) := rfl

end Cert.KernelIdeal.Scan
-- ==== Proof.ChainA.lean ====
/- The values of one step of the kernel, at first position of a group, where the carried gradient has just been set to zero: each is the value of
   `Vocab` of that name, on what the step reads. -/
module

public import proofs.«01_k».proof.Proof.Gen.KernelIdeal.Frame
public import proofs.«01_k».proof.Proof.Payloads1
public import proofs.«01_k».proof.Proof.Payloads2
public import proofs.«01_k».proof.Proof.Payloads3
public import proofs.«01_k».proof.Proof.Payloads4
public import proofs.«01_k».proof.Proof.Payloads5

@[expose] public section

set_option maxRecDepth 16384

noncomputable section

namespace Cert.KernelIdeal.Scan

open Idealize.ShloMosaic Idealize.SL.Sem Cert.KernelIdeal.Gen

variable {F : FTy → Type} [FloatOps F]
variable (c : Dev nD) (arg2 : Memref sig .tc .vmem S64x512 .f32) (harg2 : arg2.IsWhole) (arg3 : Memref sig
  .tc .vmem S64x128 .f32) (harg3 : arg3.IsWhole) (arg4 : Memref sig .tc .vmem S64x128 .f32) (harg4 :
  arg4.IsWhole) (arg5 : Memref sig .tc .vmem S1x1x8x64 .f32) (harg5 : arg5.IsWhole) (arg6 : Memref sig .tc
  .vmem S1x1x8x64 .f32) (harg6 : arg6.IsWhole) (arg7 : Memref sig .tc .vmem S1x1x4x128x128 .f32) (harg7 :
  arg7.IsWhole) (arg8 : Memref sig .tc .vmem S64x512 .f32) (harg8 : arg8.IsWhole) (arg14 : Memref sig .tc
  .vmem S4x128x128 .f32) (x0 : Vec F S64x512 .f32) (x1 : Vec F S64x128 .f32) (x2 : Vec F S64x128 .f32) (x3 :
  Vec F S1x1x8x64 .f32) (x4 : Vec F S1x1x8x64 .f32) (x5 : Vec F S1x1x4x128x128 .f32) (x6 : Vec F S64x512
  .f32)

/-- What the step reads. -/
def inA : In F where
  x := kernelRun0_A.sl.r_10 (F := F) c arg2 harg2 x0
  dy := View.readAt (Elt F) arg8.view (Rect.unit ![0, 0] S64x512.size inb_S64x512_S64x512_0_0).toLoadRect (harg8.unread x6)
  st p := match p with
    | 0 => kernelRun0_A.sl.r_6 (F := F) c arg7 harg7 x5
    | 1 => kernelRun0_A.sl.r_7 (F := F) c arg7 harg7 x5
    | 2 => kernelRun0_A.sl.r_8 (F := F) c arg7 harg7 x5
    | 3 => kernelRun0_A.sl.r_9 (F := F) c arg7 harg7 x5
  ds p := match p with
    | 0 => kernelRun0_A.sl.r_143 (F := F) c arg14
    | 1 => kernelRun0_A.sl.r_144 (F := F) c arg14
    | 2 => kernelRun0_A.sl.r_145 (F := F) c arg14
    | 3 => kernelRun0_A.sl.r_146 (F := F) c arg14
  dt p q := match p, q with
    | 0, false => kernelRun0_A.sl.r (F := F) c arg5 harg5 x3
    | 0, true => kernelRun0_A.sl.r_1 (F := F) c arg5 harg5 x3
    | 1, false => kernelRun0_A.sl.r_2 (F := F) c arg5 harg5 x3
    | 1, true => kernelRun0_A.sl.r_3 (F := F) c arg5 harg5 x3
    | 2, false => kernelRun0_A.sl.r_4 (F := F) c arg5 harg5 x3
    | 2, true => kernelRun0_A.sl.v27 (F := F) c arg5 harg5 x3
    | 3, false => kernelRun0_A.sl.v29 (F := F) c arg5 harg5 x3
    | 3, true => kernelRun0_A.sl.v31 (F := F) c arg5 harg5 x3
  a p q := match p, q with
    | 0, false => kernelRun0_A.sl.v33 (F := F) c arg6 harg6 x4
    | 0, true => kernelRun0_A.sl.v35 (F := F) c arg6 harg6 x4
    | 1, false => kernelRun0_A.sl.v37 (F := F) c arg6 harg6 x4
    | 1, true => kernelRun0_A.sl.v39 (F := F) c arg6 harg6 x4
    | 2, false => kernelRun0_A.sl.v41 (F := F) c arg6 harg6 x4
    | 2, true => kernelRun0_A.sl.v43 (F := F) c arg6 harg6 x4
    | 3, false => kernelRun0_A.sl.v45 (F := F) c arg6 harg6 x4
    | 3, true => kernelRun0_A.sl.r_5 (F := F) c arg6 harg6 x4
  b := kernelRun0_A.sl.r_11 (F := F) c arg3 harg3 x1
  c := kernelRun0_A.sl.r_12 (F := F) c arg4 harg4 x2

/-- The loads, as what the step reads. -/
theorem loadsA (E : In F) (hE : E = (inA c arg2 harg2 arg3 harg3 arg4 harg4 arg5 harg5 arg6 harg6 arg7 harg7 arg8 harg8 arg14 x0 x1 x2 x3 x4 x5 x6)) :
    kernelRun0_A.sl.r_10 (F := F) c arg2 harg2 x0 = E.x ∧
    kernelRun0_A.sl.r_11 (F := F) c arg3 harg3 x1 = E.b ∧
    kernelRun0_A.sl.r_12 (F := F) c arg4 harg4 x2 = E.c ∧
    kernelRun0_A.sl.r_6 (F := F) c arg7 harg7 x5 = E.st 0 ∧
    kernelRun0_A.sl.r_7 (F := F) c arg7 harg7 x5 = E.st 1 ∧
    kernelRun0_A.sl.r_8 (F := F) c arg7 harg7 x5 = E.st 2 ∧
    kernelRun0_A.sl.r_9 (F := F) c arg7 harg7 x5 = E.st 3 ∧
    kernelRun0_A.sl.r_143 (F := F) c arg14 = E.ds 0 ∧
    kernelRun0_A.sl.r_144 (F := F) c arg14 = E.ds 1 ∧
    kernelRun0_A.sl.r_145 (F := F) c arg14 = E.ds 2 ∧
    kernelRun0_A.sl.r_146 (F := F) c arg14 = E.ds 3 ∧
    kernelRun0_A.sl.r (F := F) c arg5 harg5 x3 = E.dt 0 false ∧
    kernelRun0_A.sl.r_1 (F := F) c arg5 harg5 x3 = E.dt 0 true ∧
    kernelRun0_A.sl.r_2 (F := F) c arg5 harg5 x3 = E.dt 1 false ∧
    kernelRun0_A.sl.r_3 (F := F) c arg5 harg5 x3 = E.dt 1 true ∧
    kernelRun0_A.sl.r_4 (F := F) c arg5 harg5 x3 = E.dt 2 false ∧
    kernelRun0_A.sl.v27 (F := F) c arg5 harg5 x3 = E.dt 2 true ∧
    kernelRun0_A.sl.v29 (F := F) c arg5 harg5 x3 = E.dt 3 false ∧
    kernelRun0_A.sl.v31 (F := F) c arg5 harg5 x3 = E.dt 3 true ∧
    kernelRun0_A.sl.v33 (F := F) c arg6 harg6 x4 = E.a 0 false ∧
    kernelRun0_A.sl.v35 (F := F) c arg6 harg6 x4 = E.a 0 true ∧
    kernelRun0_A.sl.v37 (F := F) c arg6 harg6 x4 = E.a 1 false ∧
    kernelRun0_A.sl.v39 (F := F) c arg6 harg6 x4 = E.a 1 true ∧
    kernelRun0_A.sl.v41 (F := F) c arg6 harg6 x4 = E.a 2 false ∧
    kernelRun0_A.sl.v43 (F := F) c arg6 harg6 x4 = E.a 2 true ∧
    kernelRun0_A.sl.v45 (F := F) c arg6 harg6 x4 = E.a 3 false ∧
    kernelRun0_A.sl.r_5 (F := F) c arg6 harg6 x4 = E.a 3 true := by
  subst hE; exact ⟨rfl, rfl, rfl, rfl, rfl, rfl, rfl, rfl, rfl, rfl, rfl, rfl, rfl, rfl, rfl, rfl, rfl, rfl, rfl, rfl, rfl, rfl, rfl, rfl, rfl, rfl, rfl⟩

/-- The results of the step. -/
theorem valuesA (E : In F) (hE : E = (inA c arg2 harg2 arg3 harg3 arg4 harg4 arg5 harg5 arg6 harg6 arg7 harg7 arg8 harg8 arg14 x0 x1 x2 x3 x4 x5 x6)) :
    kernelRun0_A.sl.r_240 (F := F) c arg3 harg3 arg4 harg4 arg5 harg5 arg6 harg6 arg8 harg8 arg14 x1 x2 x3 x4 x6
      = E.dxs ∧
    kernelRun0_A.sl.r_227 (F := F) c arg2 harg2 arg4 harg4 arg5 harg5 arg6 harg6 arg8 harg8 arg14 x0 x2 x3 x4 x6
      = E.dB ∧
    kernelRun0_A.sl.r_228 (F := F) c arg2 harg2 arg3 harg3 arg5 harg5 arg6 harg6 arg7 harg7 arg8 harg8 x0 x1 x3
      x4 x5 x6 = E.dC ∧
    kernelRun0_A.sl.r_248 (F := F) c arg2 harg2 arg3 harg3 arg4 harg4 arg6 harg6 arg8 harg8 arg14 x0 x1 x2 x4 x6
      = E.ddtR 0 false ∧
    kernelRun0_A.sl.r_247 (F := F) c arg2 harg2 arg3 harg3 arg4 harg4 arg6 harg6 arg8 harg8 arg14 x0 x1 x2 x4 x6
      = E.ddtR 0 true ∧
    kernelRun0_A.sl.r_246 (F := F) c arg2 harg2 arg3 harg3 arg4 harg4 arg6 harg6 arg8 harg8 arg14 x0 x1 x2 x4 x6
      = E.ddtR 1 false ∧
    kernelRun0_A.sl.r_245 (F := F) c arg2 harg2 arg3 harg3 arg4 harg4 arg6 harg6 arg8 harg8 arg14 x0 x1 x2 x4 x6
      = E.ddtR 1 true ∧
    kernelRun0_A.sl.r_244 (F := F) c arg2 harg2 arg3 harg3 arg4 harg4 arg6 harg6 arg8 harg8 arg14 x0 x1 x2 x4 x6
      = E.ddtR 2 false ∧
    kernelRun0_A.sl.r_243 (F := F) c arg2 harg2 arg3 harg3 arg4 harg4 arg6 harg6 arg8 harg8 arg14 x0 x1 x2 x4 x6
      = E.ddtR 2 true ∧
    kernelRun0_A.sl.r_242 (F := F) c arg2 harg2 arg3 harg3 arg4 harg4 arg6 harg6 arg8 harg8 arg14 x0 x1 x2 x4 x6
      = E.ddtR 3 false ∧
    kernelRun0_A.sl.r_241 (F := F) c arg2 harg2 arg3 harg3 arg4 harg4 arg6 harg6 arg8 harg8 arg14 x0 x1 x2 x4 x6
      = E.ddtR 3 true ∧
    kernelRun0_A.sl.r_317 (F := F) c arg2 harg2 arg3 harg3 arg4 harg4 arg5 harg5 arg6 harg6 arg7 harg7 arg8
      harg8 arg14 x0 x1 x2 x3 x4 x5 x6 = E.da 0 false ∧
    kernelRun0_A.sl.r_316 (F := F) c arg2 harg2 arg3 harg3 arg4 harg4 arg5 harg5 arg6 harg6 arg7 harg7 arg8
      harg8 arg14 x0 x1 x2 x3 x4 x5 x6 = E.da 0 true ∧
    kernelRun0_A.sl.r_314 (F := F) c arg2 harg2 arg3 harg3 arg4 harg4 arg5 harg5 arg6 harg6 arg7 harg7 arg8
      harg8 arg14 x0 x1 x2 x3 x4 x5 x6 = E.da 1 false ∧
    kernelRun0_A.sl.r_313 (F := F) c arg2 harg2 arg3 harg3 arg4 harg4 arg5 harg5 arg6 harg6 arg7 harg7 arg8
      harg8 arg14 x0 x1 x2 x3 x4 x5 x6 = E.da 1 true ∧
    kernelRun0_A.sl.r_311 (F := F) c arg2 harg2 arg3 harg3 arg4 harg4 arg5 harg5 arg6 harg6 arg7 harg7 arg8
      harg8 arg14 x0 x1 x2 x3 x4 x5 x6 = E.da 2 false ∧
    kernelRun0_A.sl.r_310 (F := F) c arg2 harg2 arg3 harg3 arg4 harg4 arg5 harg5 arg6 harg6 arg7 harg7 arg8
      harg8 arg14 x0 x1 x2 x3 x4 x5 x6 = E.da 2 true ∧
    kernelRun0_A.sl.r_308 (F := F) c arg2 harg2 arg3 harg3 arg4 harg4 arg5 harg5 arg6 harg6 arg7 harg7 arg8
      harg8 arg14 x0 x1 x2 x3 x4 x5 x6 = E.da 3 false ∧
    kernelRun0_A.sl.r_307 (F := F) c arg2 harg2 arg3 harg3 arg4 harg4 arg5 harg5 arg6 harg6 arg7 harg7 arg8
      harg8 arg14 x0 x1 x2 x3 x4 x5 x6 = E.da 3 true ∧
    kernelRun0_A.sl.r_208 (F := F) c arg4 harg4 arg6 harg6 arg8 harg8 arg14 x2 x4 x6 = E.dS 0 ∧
    kernelRun0_A.sl.r_207 (F := F) c arg4 harg4 arg6 harg6 arg8 harg8 arg14 x2 x4 x6 = E.dS 1 ∧
    kernelRun0_A.sl.r_206 (F := F) c arg4 harg4 arg6 harg6 arg8 harg8 arg14 x2 x4 x6 = E.dS 2 ∧
    kernelRun0_A.sl.r_205 (F := F) c arg4 harg4 arg6 harg6 arg8 harg8 arg14 x2 x4 x6 = E.dS 3 := by
  obtain ⟨h0, h1, h2, h3, h4, h5, h6, h7, h8, h9, h10, h11, h12, h13, h14, h15, h16, h17, h18, h19, h20,
    h21, h22, h23, h24, h25, h26⟩ := loadsA c arg2 harg2 arg3 harg3 arg4 harg4 arg5 harg5 arg6 harg6 arg7
    harg7 arg8 harg8 arg14 x0 x1 x2 x3 x4 x5 x6 E hE
  have hy : View.readAt (Elt F) arg8.view (Rect.unit ![0, 0] S64x512.size
      inb_S64x512_S64x512_0_0).toLoadRect (harg8.unread x6) = E.dy := by rw [hE]; rfl
  have hr : kernelRun0_A.sl.v62 = rows := rfl
  have hc : kernelRun0_A.sl.v63 = cols := rfl
  clear hE
  simp only [h0, h1, h2, h3, h4, h5, h6, h7, h8, h9, h10, h11, h12, h13, h14, h15, h16, h17, h18, h19, h20,
    h21, h22, h23, h24, h25, h26, hy, hr, hc, kernelRun0_A.sl.r_13, kernelRun0_A.sl.r_14,
    kernelRun0_A.sl.r_15, kernelRun0_A.sl.r_16, kernelRun0_A.sl.r_17, kernelRun0_A.sl.r_18,
    kernelRun0_A.sl.r_19, kernelRun0_A.sl.r_20, kernelRun0_A.sl.r_21, kernelRun0_A.sl.r_22,
    kernelRun0_A.sl.r_23, kernelRun0_A.sl.r_24, kernelRun0_A.sl.r_25, kernelRun0_A.sl.r_26,
    kernelRun0_A.sl.r_27, kernelRun0_A.sl.r_28, kernelRun0_A.sl.r_29, kernelRun0_A.sl.r_30,
    kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38,
    kernelRun0_A.sl.r_39, kernelRun0_A.sl.r_40, kernelRun0_A.sl.r_41, kernelRun0_A.sl.r_42,
    kernelRun0_A.sl.r_43, kernelRun0_A.sl.r_44, kernelRun0_A.sl.r_45, kernelRun0_A.sl.r_46,
    kernelRun0_A.sl.r_47, kernelRun0_A.sl.r_48, kernelRun0_A.sl.r_49, kernelRun0_A.sl.r_50,
    kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58,
    kernelRun0_A.sl.r_59, kernelRun0_A.sl.r_60, kernelRun0_A.sl.r_61, kernelRun0_A.sl.r_62,
    kernelRun0_A.sl.r_63, kernelRun0_A.sl.r_64, kernelRun0_A.sl.r_65, kernelRun0_A.sl.r_66,
    kernelRun0_A.sl.r_67, kernelRun0_A.sl.r_68, kernelRun0_A.sl.r_69, kernelRun0_A.sl.r_70,
    kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78,
    kernelRun0_A.sl.r_79, kernelRun0_A.sl.r_80, kernelRun0_A.sl.r_81, kernelRun0_A.sl.r_82,
    kernelRun0_A.sl.r_83, kernelRun0_A.sl.r_84, kernelRun0_A.sl.r_85, kernelRun0_A.sl.r_86,
    kernelRun0_A.sl.r_87, kernelRun0_A.sl.r_88, kernelRun0_A.sl.r_89, kernelRun0_A.sl.r_90,
    kernelRun0_A.sl.r_91, kernelRun0_A.sl.r_92, kernelRun0_A.sl.r_93, kernelRun0_A.sl.r_94,
    kernelRun0_A.sl.r_95, kernelRun0_A.sl.r_96, kernelRun0_A.sl.r_97, kernelRun0_A.sl.r_98,
    kernelRun0_A.sl.r_99, kernelRun0_A.sl.r_100, kernelRun0_A.sl.r_101, kernelRun0_A.sl.r_102,
    kernelRun0_A.sl.r_103, kernelRun0_A.sl.r_104, kernelRun0_A.sl.r_105, kernelRun0_A.sl.r_106,
    kernelRun0_A.sl.r_107, kernelRun0_A.sl.r_108, kernelRun0_A.sl.r_109, kernelRun0_A.sl.r_110,
    kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118,
    kernelRun0_A.sl.r_119, kernelRun0_A.sl.r_120, kernelRun0_A.sl.r_121, kernelRun0_A.sl.r_122,
    kernelRun0_A.sl.r_123, kernelRun0_A.sl.r_124, kernelRun0_A.sl.r_125, kernelRun0_A.sl.r_126,
    kernelRun0_A.sl.r_127, kernelRun0_A.sl.r_128, kernelRun0_A.sl.r_129, kernelRun0_A.sl.r_130,
    kernelRun0_A.sl.r_131, kernelRun0_A.sl.r_132, kernelRun0_A.sl.r_133, kernelRun0_A.sl.r_134,
    kernelRun0_A.sl.r_135, kernelRun0_A.sl.r_136, kernelRun0_A.sl.r_137, kernelRun0_A.sl.r_138,
    kernelRun0_A.sl.r_139, kernelRun0_A.sl.r_140, kernelRun0_A.sl.r_141, kernelRun0_A.sl.r_142,
    kernelRun0_A.sl.r_147, kernelRun0_A.sl.r_148, kernelRun0_A.sl.r_149, kernelRun0_A.sl.r_150,
    kernelRun0_A.sl.r_151, kernelRun0_A.sl.r_152, kernelRun0_A.sl.r_153, kernelRun0_A.sl.r_154,
    kernelRun0_A.sl.r_155, kernelRun0_A.sl.r_156, kernelRun0_A.sl.r_157, kernelRun0_A.sl.r_158,
    kernelRun0_A.sl.r_159, kernelRun0_A.sl.r_160, kernelRun0_A.sl.r_161, kernelRun0_A.sl.r_162,
    kernelRun0_A.sl.r_163, kernelRun0_A.sl.r_164, kernelRun0_A.sl.r_165, kernelRun0_A.sl.r_166,
    kernelRun0_A.sl.r_167, kernelRun0_A.sl.r_168, kernelRun0_A.sl.r_169, kernelRun0_A.sl.r_170,
    kernelRun0_A.sl.r_171, kernelRun0_A.sl.r_172, kernelRun0_A.sl.r_173, kernelRun0_A.sl.r_174,
    kernelRun0_A.sl.r_175, kernelRun0_A.sl.r_176, kernelRun0_A.sl.r_177, kernelRun0_A.sl.r_178,
    kernelRun0_A.sl.r_179, kernelRun0_A.sl.r_180, kernelRun0_A.sl.r_181, kernelRun0_A.sl.r_182,
    kernelRun0_A.sl.r_183, kernelRun0_A.sl.r_184, kernelRun0_A.sl.r_185, kernelRun0_A.sl.r_186,
    kernelRun0_A.sl.r_187, kernelRun0_A.sl.r_188, kernelRun0_A.sl.r_189, kernelRun0_A.sl.r_190,
    kernelRun0_A.sl.r_191, kernelRun0_A.sl.r_192, kernelRun0_A.sl.r_193, kernelRun0_A.sl.r_194,
    kernelRun0_A.sl.r_195, kernelRun0_A.sl.r_196, kernelRun0_A.sl.r_197, kernelRun0_A.sl.r_198,
    kernelRun0_A.sl.r_199, kernelRun0_A.sl.r_200, kernelRun0_A.sl.r_201, kernelRun0_A.sl.r_202,
    kernelRun0_A.sl.r_203, kernelRun0_A.sl.r_204, kernelRun0_A.sl.r_205, kernelRun0_A.sl.r_206,
    kernelRun0_A.sl.r_207, kernelRun0_A.sl.r_208, kernelRun0_A.sl.r_209, kernelRun0_A.sl.r_210,
    kernelRun0_A.sl.r_211, kernelRun0_A.sl.r_212, kernelRun0_A.sl.r_213, kernelRun0_A.sl.r_214,
    kernelRun0_A.sl.r_215, kernelRun0_A.sl.r_216, kernelRun0_A.sl.r_217, kernelRun0_A.sl.r_218,
    kernelRun0_A.sl.r_219, kernelRun0_A.sl.r_220, kernelRun0_A.sl.r_221, kernelRun0_A.sl.r_222,
    kernelRun0_A.sl.r_223, kernelRun0_A.sl.r_224, kernelRun0_A.sl.r_225, kernelRun0_A.sl.r_226,
    kernelRun0_A.sl.r_227, kernelRun0_A.sl.r_228, kernelRun0_A.sl.r_229, kernelRun0_A.sl.r_230,
    kernelRun0_A.sl.r_231, kernelRun0_A.sl.r_232, kernelRun0_A.sl.r_233, kernelRun0_A.sl.r_234,
    kernelRun0_A.sl.r_235, kernelRun0_A.sl.r_236, kernelRun0_A.sl.r_237, kernelRun0_A.sl.r_238,
    kernelRun0_A.sl.r_239, kernelRun0_A.sl.r_240, kernelRun0_A.sl.r_241, kernelRun0_A.sl.r_242,
    kernelRun0_A.sl.r_243, kernelRun0_A.sl.r_244, kernelRun0_A.sl.r_245, kernelRun0_A.sl.r_246,
    kernelRun0_A.sl.r_247, kernelRun0_A.sl.r_248, kernelRun0_A.sl.r_249, kernelRun0_A.sl.r_250,
    kernelRun0_A.sl.r_251, kernelRun0_A.sl.r_252, kernelRun0_A.sl.r_253, kernelRun0_A.sl.r_254,
    kernelRun0_A.sl.r_255, kernelRun0_A.sl.r_256, kernelRun0_A.sl.r_257, kernelRun0_A.sl.r_258,
    kernelRun0_A.sl.r_259, kernelRun0_A.sl.r_260, kernelRun0_A.sl.r_261, kernelRun0_A.sl.r_262,
    kernelRun0_A.sl.r_263, kernelRun0_A.sl.r_264, kernelRun0_A.sl.r_265, kernelRun0_A.sl.r_266,
    kernelRun0_A.sl.r_267, kernelRun0_A.sl.r_268, kernelRun0_A.sl.r_269, kernelRun0_A.sl.r_270,
    kernelRun0_A.sl.r_271, kernelRun0_A.sl.r_272, kernelRun0_A.sl.r_273, kernelRun0_A.sl.r_274,
    kernelRun0_A.sl.r_275, kernelRun0_A.sl.r_276, kernelRun0_A.sl.r_277, kernelRun0_A.sl.r_278,
    kernelRun0_A.sl.r_279, kernelRun0_A.sl.r_280, kernelRun0_A.sl.r_281, kernelRun0_A.sl.r_282,
    kernelRun0_A.sl.r_283, kernelRun0_A.sl.r_284, kernelRun0_A.sl.r_285, kernelRun0_A.sl.r_286,
    kernelRun0_A.sl.r_287, kernelRun0_A.sl.r_288, kernelRun0_A.sl.r_289, kernelRun0_A.sl.r_290,
    kernelRun0_A.sl.r_291, kernelRun0_A.sl.r_292, kernelRun0_A.sl.r_293, kernelRun0_A.sl.r_294,
    kernelRun0_A.sl.r_295, kernelRun0_A.sl.r_296, kernelRun0_A.sl.r_297, kernelRun0_A.sl.r_298,
    kernelRun0_A.sl.r_299, kernelRun0_A.sl.r_300, kernelRun0_A.sl.r_301, kernelRun0_A.sl.r_302,
    kernelRun0_A.sl.r_303, kernelRun0_A.sl.r_304, kernelRun0_A.sl.r_305, kernelRun0_A.sl.r_306,
    kernelRun0_A.sl.r_307, kernelRun0_A.sl.r_308, kernelRun0_A.sl.r_309, kernelRun0_A.sl.r_310,
    kernelRun0_A.sl.r_311, kernelRun0_A.sl.r_312, kernelRun0_A.sl.r_313, kernelRun0_A.sl.r_314,
    kernelRun0_A.sl.r_315, kernelRun0_A.sl.r_316, kernelRun0_A.sl.r_317, kernelRun0_A.sl.cst_87, pay1, pay2,
    pay3, pay4, pay27, pay28, pay29, pay30, pay31, pay32, pay33, pay34, pay35, pay36, pay37, pay38, pay39,
    pay40, pay41, pay42, pay43, pay44, pay45, pay46, pay47, pay48, pay49, pay50, pay51, pay52, pay53, pay54,
    pay55, pay56, pay57, pay58, pay59, pay60, pay61, pay62, pay63, pay64, pay65, pay66, pay67, pay68, pay69,
    pay70, pay71, pay72, pay73, pay74, pay75, pay76, pay77, pay78, pay79, pay80, pay81, pay82, pay83, pay84,
    pay85, pay86, pay87, pay88, pay89, pay90, pay91, pay92, pay93, pay94, pay95, pay96, pay97, pay98, pay99,
    pay100, pay101, pay102, pay103, pay104, pay105, pay106, pay107, pay108, pay109, pay110, pay111, pay112,
    pay113, pay114, pay115, pay116, pay117, pay118, pay119, pay120, pay121, pay122, pay123, pay124, pay125,
    pay126, pay127, pay128, pay129, pay130, pay131, pay132, pay133, pay134, pay135, pay136, pay137, pay138,
    pay139, pay140, pay141, pay142, pay143, pay144, pay145, pay146, pay147, pay148, pay149, pay150, pay151,
    pay152, pay153, pay154, pay155, pay156, pay157, pay158, pay159, pay160, pay161, pay162, pay163, pay164,
    pay165, pay166, pay167, pay168, pay169, pay170, pay171, pay172, pay173, pay174, pay175, pay176, pay177,
    pay178, pay179, pay180, pay181, pay182, pay183, pay184, pay185, pay186, pay187, pay188, pay189, pay190,
    pay191, pay192, pay193, pay194, pay195, pay196, pay197, pay198, pay199, pay200, pay201, pay202, pay203,
    pay204, pay205, pay206, pay207, pay208, pay209, pay210, pay211, pay212, pay213, pay214, pay215, pay216,
    pay217, pay222, pay223, pay224, pay225, pay226, pay227, pay228, pay229, pay230, pay231, pay232, pay233,
    pay234, pay235, pay236, pay237, pay238, pay239, pay240, pay241, pay242, pay243, pay244, pay245, pay246,
    pay247, pay248, pay249, pay250, pay251, pay252, pay253, pay254, pay255, pay256, pay257, pay258, pay259,
    pay260, pay261, pay262, pay263, pay264, pay265, pay266, pay267, pay268, pay269, pay270, pay271, pay272,
    pay273, pay274, pay275, pay276, pay277, pay278, pay279, pay280, pay281, pay282, pay283, pay284, pay285,
    pay286, pay287, pay288, pay289, pay290, pay291, pay292, pay293, pay294, pay295, pay296, pay297, pay298,
    pay299, pay300, pay301, pay302, pay303, pay304, pay305, pay306, pay307, pay308, pay309, pay310, pay311,
    pay312, pay313, pay314, pay315, pay316, pay317, pay318, pay319, pay320, pay321, pay322, pay323, pay324,
    pay325, pay326, pay327, pay328, pay329, pay330, pay331, pay332, pay333, pay334, pay335, pay336, pay337,
    pay338, pay339, pay340, pay341, pay342, pay343, pay344, pay345, pay346, pay347, pay348, pay349, pay350,
    pay351, pay352, pay353, pay354, pay355, pay356, pay357, pay358, pay359, pay360, pay361, pay362, pay363,
    pay364, pay365, pay366, pay367, pay368, pay369, pay370, pay371, pay372, pay373, pay374, pay375, pay376,
    pay377, pay378, pay379, pay380, pay381, pay382, pay383, pay384, pay385, pay386, pay387, pay388, pay389,
    pay390, pay391, pay392, pay393, pay394, pay395, pay396, pay397, pay398, pay399, pay400, pay401, pay402,
    pay403, pay404, pay405, pay406, pay407, pay408, pay409, pay410, pay411, pay412, pay413, pay414, pay415,
    pay416, pay417, pay418, pay419, pay420, pay421, pay422, pay423, pay424, pay425, pay426, pay427, pay428,
    pay429, pay430, pay431, pay432, pay433, pay434, pay435, pay436, pay437, pay438, pay439, pay440, pay441,
    pay442, pay443, pay444, pay445, pay446, pay447, pay448, pay449, pay450, pay451, pay452, pay453, pay454,
    pay455, pay456, pay457, pay458, pay459, pay460, pay461, pay462, pay463, pay464, pay465, pay466, pay467,
    pay468, pay469, pay470, pay471, pay472, pay473, pay474, pay475, pay476, pay477, pay478, pay479, pay480,
    pay481, pay482, pay483, pay484, and_self]

end Cert.KernelIdeal.Scan
-- ==== Proof.ChainB.lean ====
/- The values of one step of the kernel, at a later position: each is the value of
   `Vocab` of that name, on what the step reads. -/
module

public import proofs.«01_k».proof.Proof.Gen.KernelIdeal.Frame
public import proofs.«01_k».proof.Proof.Payloads1
public import proofs.«01_k».proof.Proof.Payloads2
public import proofs.«01_k».proof.Proof.Payloads3
public import proofs.«01_k».proof.Proof.Payloads4
public import proofs.«01_k».proof.Proof.Payloads5

@[expose] public section

set_option maxRecDepth 16384

noncomputable section

namespace Cert.KernelIdeal.Scan

open Idealize.ShloMosaic Idealize.SL.Sem Cert.KernelIdeal.Gen

variable {F : FTy → Type} [FloatOps F]
variable (c : Dev nD) (arg2 : Memref sig .tc .vmem S64x512 .f32) (harg2 : arg2.IsWhole) (arg3 : Memref sig
  .tc .vmem S64x128 .f32) (harg3 : arg3.IsWhole) (arg4 : Memref sig .tc .vmem S64x128 .f32) (harg4 :
  arg4.IsWhole) (arg5 : Memref sig .tc .vmem S1x1x8x64 .f32) (harg5 : arg5.IsWhole) (arg6 : Memref sig .tc
  .vmem S1x1x8x64 .f32) (harg6 : arg6.IsWhole) (arg7 : Memref sig .tc .vmem S1x1x4x128x128 .f32) (harg7 :
  arg7.IsWhole) (arg8 : Memref sig .tc .vmem S64x512 .f32) (harg8 : arg8.IsWhole) (arg14 : Memref sig .tc
  .vmem S4x128x128 .f32) (harg14 : arg14.IsWhole) (x0 : Vec F S64x512 .f32) (x1 : Vec F S64x128 .f32) (x2 :
  Vec F S64x128 .f32) (x3 : Vec F S1x1x8x64 .f32) (x4 : Vec F S1x1x8x64 .f32) (x5 : Vec F S1x1x4x128x128
  .f32) (x6 : Vec F S64x512 .f32) (xs0 : Vec F S4x128x128 .f32)

/-- What the step reads. -/
def inB : In F where
  x := kernelRun0_B.sl.r_10 (F := F) c arg2 harg2 x0
  dy := View.readAt (Elt F) arg8.view (Rect.unit ![0, 0] S64x512.size inb_S64x512_S64x512_0_0).toLoadRect (harg8.unread x6)
  st p := match p with
    | 0 => kernelRun0_B.sl.r_6 (F := F) c arg7 harg7 x5
    | 1 => kernelRun0_B.sl.r_7 (F := F) c arg7 harg7 x5
    | 2 => kernelRun0_B.sl.r_8 (F := F) c arg7 harg7 x5
    | 3 => kernelRun0_B.sl.r_9 (F := F) c arg7 harg7 x5
  ds p := match p with
    | 0 => kernelRun0_B.sl.r_143 (F := F) c arg14 harg14 xs0
    | 1 => kernelRun0_B.sl.r_144 (F := F) c arg14 harg14 xs0
    | 2 => kernelRun0_B.sl.r_145 (F := F) c arg14 harg14 xs0
    | 3 => kernelRun0_B.sl.r_146 (F := F) c arg14 harg14 xs0
  dt p q := match p, q with
    | 0, false => kernelRun0_B.sl.r (F := F) c arg5 harg5 x3
    | 0, true => kernelRun0_B.sl.r_1 (F := F) c arg5 harg5 x3
    | 1, false => kernelRun0_B.sl.r_2 (F := F) c arg5 harg5 x3
    | 1, true => kernelRun0_B.sl.r_3 (F := F) c arg5 harg5 x3
    | 2, false => kernelRun0_B.sl.r_4 (F := F) c arg5 harg5 x3
    | 2, true => kernelRun0_B.sl.v27 (F := F) c arg5 harg5 x3
    | 3, false => kernelRun0_B.sl.v29 (F := F) c arg5 harg5 x3
    | 3, true => kernelRun0_B.sl.v31 (F := F) c arg5 harg5 x3
  a p q := match p, q with
    | 0, false => kernelRun0_B.sl.v33 (F := F) c arg6 harg6 x4
    | 0, true => kernelRun0_B.sl.v35 (F := F) c arg6 harg6 x4
    | 1, false => kernelRun0_B.sl.v37 (F := F) c arg6 harg6 x4
    | 1, true => kernelRun0_B.sl.v39 (F := F) c arg6 harg6 x4
    | 2, false => kernelRun0_B.sl.v41 (F := F) c arg6 harg6 x4
    | 2, true => kernelRun0_B.sl.v43 (F := F) c arg6 harg6 x4
    | 3, false => kernelRun0_B.sl.v45 (F := F) c arg6 harg6 x4
    | 3, true => kernelRun0_B.sl.r_5 (F := F) c arg6 harg6 x4
  b := kernelRun0_B.sl.r_11 (F := F) c arg3 harg3 x1
  c := kernelRun0_B.sl.r_12 (F := F) c arg4 harg4 x2

/-- The loads, as what the step reads. -/
theorem loadsB (E : In F) (hE : E = (inB c arg2 harg2 arg3 harg3 arg4 harg4 arg5 harg5 arg6 harg6 arg7 harg7 arg8 harg8 arg14 harg14 x0 x1 x2 x3 x4 x5 x6 xs0)) :
    kernelRun0_B.sl.r_10 (F := F) c arg2 harg2 x0 = E.x ∧
    kernelRun0_B.sl.r_11 (F := F) c arg3 harg3 x1 = E.b ∧
    kernelRun0_B.sl.r_12 (F := F) c arg4 harg4 x2 = E.c ∧
    kernelRun0_B.sl.r_6 (F := F) c arg7 harg7 x5 = E.st 0 ∧
    kernelRun0_B.sl.r_7 (F := F) c arg7 harg7 x5 = E.st 1 ∧
    kernelRun0_B.sl.r_8 (F := F) c arg7 harg7 x5 = E.st 2 ∧
    kernelRun0_B.sl.r_9 (F := F) c arg7 harg7 x5 = E.st 3 ∧
    kernelRun0_B.sl.r_143 (F := F) c arg14 harg14 xs0 = E.ds 0 ∧
    kernelRun0_B.sl.r_144 (F := F) c arg14 harg14 xs0 = E.ds 1 ∧
    kernelRun0_B.sl.r_145 (F := F) c arg14 harg14 xs0 = E.ds 2 ∧
    kernelRun0_B.sl.r_146 (F := F) c arg14 harg14 xs0 = E.ds 3 ∧
    kernelRun0_B.sl.r (F := F) c arg5 harg5 x3 = E.dt 0 false ∧
    kernelRun0_B.sl.r_1 (F := F) c arg5 harg5 x3 = E.dt 0 true ∧
    kernelRun0_B.sl.r_2 (F := F) c arg5 harg5 x3 = E.dt 1 false ∧
    kernelRun0_B.sl.r_3 (F := F) c arg5 harg5 x3 = E.dt 1 true ∧
    kernelRun0_B.sl.r_4 (F := F) c arg5 harg5 x3 = E.dt 2 false ∧
    kernelRun0_B.sl.v27 (F := F) c arg5 harg5 x3 = E.dt 2 true ∧
    kernelRun0_B.sl.v29 (F := F) c arg5 harg5 x3 = E.dt 3 false ∧
    kernelRun0_B.sl.v31 (F := F) c arg5 harg5 x3 = E.dt 3 true ∧
    kernelRun0_B.sl.v33 (F := F) c arg6 harg6 x4 = E.a 0 false ∧
    kernelRun0_B.sl.v35 (F := F) c arg6 harg6 x4 = E.a 0 true ∧
    kernelRun0_B.sl.v37 (F := F) c arg6 harg6 x4 = E.a 1 false ∧
    kernelRun0_B.sl.v39 (F := F) c arg6 harg6 x4 = E.a 1 true ∧
    kernelRun0_B.sl.v41 (F := F) c arg6 harg6 x4 = E.a 2 false ∧
    kernelRun0_B.sl.v43 (F := F) c arg6 harg6 x4 = E.a 2 true ∧
    kernelRun0_B.sl.v45 (F := F) c arg6 harg6 x4 = E.a 3 false ∧
    kernelRun0_B.sl.r_5 (F := F) c arg6 harg6 x4 = E.a 3 true := by
  subst hE; exact ⟨rfl, rfl, rfl, rfl, rfl, rfl, rfl, rfl, rfl, rfl, rfl, rfl, rfl, rfl, rfl, rfl, rfl, rfl, rfl, rfl, rfl, rfl, rfl, rfl, rfl, rfl, rfl⟩

/-- The results of the step. -/
theorem valuesB (E : In F) (hE : E = (inB c arg2 harg2 arg3 harg3 arg4 harg4 arg5 harg5 arg6 harg6 arg7 harg7 arg8 harg8 arg14 harg14 x0 x1 x2 x3 x4 x5 x6 xs0)) :
    kernelRun0_B.sl.r_240 (F := F) c arg3 harg3 arg4 harg4 arg5 harg5 arg6 harg6 arg8 harg8 arg14 harg14 x1 x2
      x3 x4 x6 xs0 = E.dxs ∧
    kernelRun0_B.sl.r_227 (F := F) c arg2 harg2 arg4 harg4 arg5 harg5 arg6 harg6 arg8 harg8 arg14 harg14 x0 x2
      x3 x4 x6 xs0 = E.dB ∧
    kernelRun0_B.sl.r_228 (F := F) c arg2 harg2 arg3 harg3 arg5 harg5 arg6 harg6 arg7 harg7 arg8 harg8 x0 x1 x3
      x4 x5 x6 = E.dC ∧
    kernelRun0_B.sl.r_248 (F := F) c arg2 harg2 arg3 harg3 arg4 harg4 arg6 harg6 arg8 harg8 arg14 harg14 x0 x1
      x2 x4 x6 xs0 = E.ddtR 0 false ∧
    kernelRun0_B.sl.r_247 (F := F) c arg2 harg2 arg3 harg3 arg4 harg4 arg6 harg6 arg8 harg8 arg14 harg14 x0 x1
      x2 x4 x6 xs0 = E.ddtR 0 true ∧
    kernelRun0_B.sl.r_246 (F := F) c arg2 harg2 arg3 harg3 arg4 harg4 arg6 harg6 arg8 harg8 arg14 harg14 x0 x1
      x2 x4 x6 xs0 = E.ddtR 1 false ∧
    kernelRun0_B.sl.r_245 (F := F) c arg2 harg2 arg3 harg3 arg4 harg4 arg6 harg6 arg8 harg8 arg14 harg14 x0 x1
      x2 x4 x6 xs0 = E.ddtR 1 true ∧
    kernelRun0_B.sl.r_244 (F := F) c arg2 harg2 arg3 harg3 arg4 harg4 arg6 harg6 arg8 harg8 arg14 harg14 x0 x1
      x2 x4 x6 xs0 = E.ddtR 2 false ∧
    kernelRun0_B.sl.r_243 (F := F) c arg2 harg2 arg3 harg3 arg4 harg4 arg6 harg6 arg8 harg8 arg14 harg14 x0 x1
      x2 x4 x6 xs0 = E.ddtR 2 true ∧
    kernelRun0_B.sl.r_242 (F := F) c arg2 harg2 arg3 harg3 arg4 harg4 arg6 harg6 arg8 harg8 arg14 harg14 x0 x1
      x2 x4 x6 xs0 = E.ddtR 3 false ∧
    kernelRun0_B.sl.r_241 (F := F) c arg2 harg2 arg3 harg3 arg4 harg4 arg6 harg6 arg8 harg8 arg14 harg14 x0 x1
      x2 x4 x6 xs0 = E.ddtR 3 true ∧
    kernelRun0_B.sl.r_317 (F := F) c arg2 harg2 arg3 harg3 arg4 harg4 arg5 harg5 arg6 harg6 arg7 harg7 arg8
      harg8 arg14 harg14 x0 x1 x2 x3 x4 x5 x6 xs0 = E.da 0 false ∧
    kernelRun0_B.sl.r_316 (F := F) c arg2 harg2 arg3 harg3 arg4 harg4 arg5 harg5 arg6 harg6 arg7 harg7 arg8
      harg8 arg14 harg14 x0 x1 x2 x3 x4 x5 x6 xs0 = E.da 0 true ∧
    kernelRun0_B.sl.r_314 (F := F) c arg2 harg2 arg3 harg3 arg4 harg4 arg5 harg5 arg6 harg6 arg7 harg7 arg8
      harg8 arg14 harg14 x0 x1 x2 x3 x4 x5 x6 xs0 = E.da 1 false ∧
    kernelRun0_B.sl.r_313 (F := F) c arg2 harg2 arg3 harg3 arg4 harg4 arg5 harg5 arg6 harg6 arg7 harg7 arg8
      harg8 arg14 harg14 x0 x1 x2 x3 x4 x5 x6 xs0 = E.da 1 true ∧
    kernelRun0_B.sl.r_311 (F := F) c arg2 harg2 arg3 harg3 arg4 harg4 arg5 harg5 arg6 harg6 arg7 harg7 arg8
      harg8 arg14 harg14 x0 x1 x2 x3 x4 x5 x6 xs0 = E.da 2 false ∧
    kernelRun0_B.sl.r_310 (F := F) c arg2 harg2 arg3 harg3 arg4 harg4 arg5 harg5 arg6 harg6 arg7 harg7 arg8
      harg8 arg14 harg14 x0 x1 x2 x3 x4 x5 x6 xs0 = E.da 2 true ∧
    kernelRun0_B.sl.r_308 (F := F) c arg2 harg2 arg3 harg3 arg4 harg4 arg5 harg5 arg6 harg6 arg7 harg7 arg8
      harg8 arg14 harg14 x0 x1 x2 x3 x4 x5 x6 xs0 = E.da 3 false ∧
    kernelRun0_B.sl.r_307 (F := F) c arg2 harg2 arg3 harg3 arg4 harg4 arg5 harg5 arg6 harg6 arg7 harg7 arg8
      harg8 arg14 harg14 x0 x1 x2 x3 x4 x5 x6 xs0 = E.da 3 true ∧
    kernelRun0_B.sl.r_208 (F := F) c arg4 harg4 arg6 harg6 arg8 harg8 arg14 harg14 x2 x4 x6 xs0 = E.dS 0 ∧
    kernelRun0_B.sl.r_207 (F := F) c arg4 harg4 arg6 harg6 arg8 harg8 arg14 harg14 x2 x4 x6 xs0 = E.dS 1 ∧
    kernelRun0_B.sl.r_206 (F := F) c arg4 harg4 arg6 harg6 arg8 harg8 arg14 harg14 x2 x4 x6 xs0 = E.dS 2 ∧
    kernelRun0_B.sl.r_205 (F := F) c arg4 harg4 arg6 harg6 arg8 harg8 arg14 harg14 x2 x4 x6 xs0 = E.dS 3 := by
  obtain ⟨h0, h1, h2, h3, h4, h5, h6, h7, h8, h9, h10, h11, h12, h13, h14, h15, h16, h17, h18, h19, h20,
    h21, h22, h23, h24, h25, h26⟩ := loadsB c arg2 harg2 arg3 harg3 arg4 harg4 arg5 harg5 arg6 harg6 arg7
    harg7 arg8 harg8 arg14 harg14 x0 x1 x2 x3 x4 x5 x6 xs0 E hE
  have hy : View.readAt (Elt F) arg8.view (Rect.unit ![0, 0] S64x512.size
      inb_S64x512_S64x512_0_0).toLoadRect (harg8.unread x6) = E.dy := by rw [hE]; rfl
  have hr : kernelRun0_B.sl.v62 = rows := rfl
  have hc : kernelRun0_B.sl.v63 = cols := rfl
  clear hE
  simp only [h0, h1, h2, h3, h4, h5, h6, h7, h8, h9, h10, h11, h12, h13, h14, h15, h16, h17, h18, h19, h20,
    h21, h22, h23, h24, h25, h26, hy, hr, hc, kernelRun0_B.sl.r_13, kernelRun0_B.sl.r_14,
    kernelRun0_B.sl.r_15, kernelRun0_B.sl.r_16, kernelRun0_B.sl.r_17, kernelRun0_B.sl.r_18,
    kernelRun0_B.sl.r_19, kernelRun0_B.sl.r_20, kernelRun0_B.sl.r_21, kernelRun0_B.sl.r_22,
    kernelRun0_B.sl.r_23, kernelRun0_B.sl.r_24, kernelRun0_B.sl.r_25, kernelRun0_B.sl.r_26,
    kernelRun0_B.sl.r_27, kernelRun0_B.sl.r_28, kernelRun0_B.sl.r_29, kernelRun0_B.sl.r_30,
    kernelRun0_B.sl.r_31, kernelRun0_B.sl.r_32, kernelRun0_B.sl.r_33, kernelRun0_B.sl.r_34,
    kernelRun0_B.sl.r_35, kernelRun0_B.sl.r_36, kernelRun0_B.sl.r_37, kernelRun0_B.sl.r_38,
    kernelRun0_B.sl.r_39, kernelRun0_B.sl.r_40, kernelRun0_B.sl.r_41, kernelRun0_B.sl.r_42,
    kernelRun0_B.sl.r_43, kernelRun0_B.sl.r_44, kernelRun0_B.sl.r_45, kernelRun0_B.sl.r_46,
    kernelRun0_B.sl.r_47, kernelRun0_B.sl.r_48, kernelRun0_B.sl.r_49, kernelRun0_B.sl.r_50,
    kernelRun0_B.sl.r_51, kernelRun0_B.sl.r_52, kernelRun0_B.sl.r_53, kernelRun0_B.sl.r_54,
    kernelRun0_B.sl.r_55, kernelRun0_B.sl.r_56, kernelRun0_B.sl.r_57, kernelRun0_B.sl.r_58,
    kernelRun0_B.sl.r_59, kernelRun0_B.sl.r_60, kernelRun0_B.sl.r_61, kernelRun0_B.sl.r_62,
    kernelRun0_B.sl.r_63, kernelRun0_B.sl.r_64, kernelRun0_B.sl.r_65, kernelRun0_B.sl.r_66,
    kernelRun0_B.sl.r_67, kernelRun0_B.sl.r_68, kernelRun0_B.sl.r_69, kernelRun0_B.sl.r_70,
    kernelRun0_B.sl.r_71, kernelRun0_B.sl.r_72, kernelRun0_B.sl.r_73, kernelRun0_B.sl.r_74,
    kernelRun0_B.sl.r_75, kernelRun0_B.sl.r_76, kernelRun0_B.sl.r_77, kernelRun0_B.sl.r_78,
    kernelRun0_B.sl.r_79, kernelRun0_B.sl.r_80, kernelRun0_B.sl.r_81, kernelRun0_B.sl.r_82,
    kernelRun0_B.sl.r_83, kernelRun0_B.sl.r_84, kernelRun0_B.sl.r_85, kernelRun0_B.sl.r_86,
    kernelRun0_B.sl.r_87, kernelRun0_B.sl.r_88, kernelRun0_B.sl.r_89, kernelRun0_B.sl.r_90,
    kernelRun0_B.sl.r_91, kernelRun0_B.sl.r_92, kernelRun0_B.sl.r_93, kernelRun0_B.sl.r_94,
    kernelRun0_B.sl.r_95, kernelRun0_B.sl.r_96, kernelRun0_B.sl.r_97, kernelRun0_B.sl.r_98,
    kernelRun0_B.sl.r_99, kernelRun0_B.sl.r_100, kernelRun0_B.sl.r_101, kernelRun0_B.sl.r_102,
    kernelRun0_B.sl.r_103, kernelRun0_B.sl.r_104, kernelRun0_B.sl.r_105, kernelRun0_B.sl.r_106,
    kernelRun0_B.sl.r_107, kernelRun0_B.sl.r_108, kernelRun0_B.sl.r_109, kernelRun0_B.sl.r_110,
    kernelRun0_B.sl.r_111, kernelRun0_B.sl.r_112, kernelRun0_B.sl.r_113, kernelRun0_B.sl.r_114,
    kernelRun0_B.sl.r_115, kernelRun0_B.sl.r_116, kernelRun0_B.sl.r_117, kernelRun0_B.sl.r_118,
    kernelRun0_B.sl.r_119, kernelRun0_B.sl.r_120, kernelRun0_B.sl.r_121, kernelRun0_B.sl.r_122,
    kernelRun0_B.sl.r_123, kernelRun0_B.sl.r_124, kernelRun0_B.sl.r_125, kernelRun0_B.sl.r_126,
    kernelRun0_B.sl.r_127, kernelRun0_B.sl.r_128, kernelRun0_B.sl.r_129, kernelRun0_B.sl.r_130,
    kernelRun0_B.sl.r_131, kernelRun0_B.sl.r_132, kernelRun0_B.sl.r_133, kernelRun0_B.sl.r_134,
    kernelRun0_B.sl.r_135, kernelRun0_B.sl.r_136, kernelRun0_B.sl.r_137, kernelRun0_B.sl.r_138,
    kernelRun0_B.sl.r_139, kernelRun0_B.sl.r_140, kernelRun0_B.sl.r_141, kernelRun0_B.sl.r_142,
    kernelRun0_B.sl.r_147, kernelRun0_B.sl.r_148, kernelRun0_B.sl.r_149, kernelRun0_B.sl.r_150,
    kernelRun0_B.sl.r_151, kernelRun0_B.sl.r_152, kernelRun0_B.sl.r_153, kernelRun0_B.sl.r_154,
    kernelRun0_B.sl.r_155, kernelRun0_B.sl.r_156, kernelRun0_B.sl.r_157, kernelRun0_B.sl.r_158,
    kernelRun0_B.sl.r_159, kernelRun0_B.sl.r_160, kernelRun0_B.sl.r_161, kernelRun0_B.sl.r_162,
    kernelRun0_B.sl.r_163, kernelRun0_B.sl.r_164, kernelRun0_B.sl.r_165, kernelRun0_B.sl.r_166,
    kernelRun0_B.sl.r_167, kernelRun0_B.sl.r_168, kernelRun0_B.sl.r_169, kernelRun0_B.sl.r_170,
    kernelRun0_B.sl.r_171, kernelRun0_B.sl.r_172, kernelRun0_B.sl.r_173, kernelRun0_B.sl.r_174,
    kernelRun0_B.sl.r_175, kernelRun0_B.sl.r_176, kernelRun0_B.sl.r_177, kernelRun0_B.sl.r_178,
    kernelRun0_B.sl.r_179, kernelRun0_B.sl.r_180, kernelRun0_B.sl.r_181, kernelRun0_B.sl.r_182,
    kernelRun0_B.sl.r_183, kernelRun0_B.sl.r_184, kernelRun0_B.sl.r_185, kernelRun0_B.sl.r_186,
    kernelRun0_B.sl.r_187, kernelRun0_B.sl.r_188, kernelRun0_B.sl.r_189, kernelRun0_B.sl.r_190,
    kernelRun0_B.sl.r_191, kernelRun0_B.sl.r_192, kernelRun0_B.sl.r_193, kernelRun0_B.sl.r_194,
    kernelRun0_B.sl.r_195, kernelRun0_B.sl.r_196, kernelRun0_B.sl.r_197, kernelRun0_B.sl.r_198,
    kernelRun0_B.sl.r_199, kernelRun0_B.sl.r_200, kernelRun0_B.sl.r_201, kernelRun0_B.sl.r_202,
    kernelRun0_B.sl.r_203, kernelRun0_B.sl.r_204, kernelRun0_B.sl.r_205, kernelRun0_B.sl.r_206,
    kernelRun0_B.sl.r_207, kernelRun0_B.sl.r_208, kernelRun0_B.sl.r_209, kernelRun0_B.sl.r_210,
    kernelRun0_B.sl.r_211, kernelRun0_B.sl.r_212, kernelRun0_B.sl.r_213, kernelRun0_B.sl.r_214,
    kernelRun0_B.sl.r_215, kernelRun0_B.sl.r_216, kernelRun0_B.sl.r_217, kernelRun0_B.sl.r_218,
    kernelRun0_B.sl.r_219, kernelRun0_B.sl.r_220, kernelRun0_B.sl.r_221, kernelRun0_B.sl.r_222,
    kernelRun0_B.sl.r_223, kernelRun0_B.sl.r_224, kernelRun0_B.sl.r_225, kernelRun0_B.sl.r_226,
    kernelRun0_B.sl.r_227, kernelRun0_B.sl.r_228, kernelRun0_B.sl.r_229, kernelRun0_B.sl.r_230,
    kernelRun0_B.sl.r_231, kernelRun0_B.sl.r_232, kernelRun0_B.sl.r_233, kernelRun0_B.sl.r_234,
    kernelRun0_B.sl.r_235, kernelRun0_B.sl.r_236, kernelRun0_B.sl.r_237, kernelRun0_B.sl.r_238,
    kernelRun0_B.sl.r_239, kernelRun0_B.sl.r_240, kernelRun0_B.sl.r_241, kernelRun0_B.sl.r_242,
    kernelRun0_B.sl.r_243, kernelRun0_B.sl.r_244, kernelRun0_B.sl.r_245, kernelRun0_B.sl.r_246,
    kernelRun0_B.sl.r_247, kernelRun0_B.sl.r_248, kernelRun0_B.sl.r_249, kernelRun0_B.sl.r_250,
    kernelRun0_B.sl.r_251, kernelRun0_B.sl.r_252, kernelRun0_B.sl.r_253, kernelRun0_B.sl.r_254,
    kernelRun0_B.sl.r_255, kernelRun0_B.sl.r_256, kernelRun0_B.sl.r_257, kernelRun0_B.sl.r_258,
    kernelRun0_B.sl.r_259, kernelRun0_B.sl.r_260, kernelRun0_B.sl.r_261, kernelRun0_B.sl.r_262,
    kernelRun0_B.sl.r_263, kernelRun0_B.sl.r_264, kernelRun0_B.sl.r_265, kernelRun0_B.sl.r_266,
    kernelRun0_B.sl.r_267, kernelRun0_B.sl.r_268, kernelRun0_B.sl.r_269, kernelRun0_B.sl.r_270,
    kernelRun0_B.sl.r_271, kernelRun0_B.sl.r_272, kernelRun0_B.sl.r_273, kernelRun0_B.sl.r_274,
    kernelRun0_B.sl.r_275, kernelRun0_B.sl.r_276, kernelRun0_B.sl.r_277, kernelRun0_B.sl.r_278,
    kernelRun0_B.sl.r_279, kernelRun0_B.sl.r_280, kernelRun0_B.sl.r_281, kernelRun0_B.sl.r_282,
    kernelRun0_B.sl.r_283, kernelRun0_B.sl.r_284, kernelRun0_B.sl.r_285, kernelRun0_B.sl.r_286,
    kernelRun0_B.sl.r_287, kernelRun0_B.sl.r_288, kernelRun0_B.sl.r_289, kernelRun0_B.sl.r_290,
    kernelRun0_B.sl.r_291, kernelRun0_B.sl.r_292, kernelRun0_B.sl.r_293, kernelRun0_B.sl.r_294,
    kernelRun0_B.sl.r_295, kernelRun0_B.sl.r_296, kernelRun0_B.sl.r_297, kernelRun0_B.sl.r_298,
    kernelRun0_B.sl.r_299, kernelRun0_B.sl.r_300, kernelRun0_B.sl.r_301, kernelRun0_B.sl.r_302,
    kernelRun0_B.sl.r_303, kernelRun0_B.sl.r_304, kernelRun0_B.sl.r_305, kernelRun0_B.sl.r_306,
    kernelRun0_B.sl.r_307, kernelRun0_B.sl.r_308, kernelRun0_B.sl.r_309, kernelRun0_B.sl.r_310,
    kernelRun0_B.sl.r_311, kernelRun0_B.sl.r_312, kernelRun0_B.sl.r_313, kernelRun0_B.sl.r_314,
    kernelRun0_B.sl.r_315, kernelRun0_B.sl.r_316, kernelRun0_B.sl.r_317, kernelRun0_B.sl.cst_87, pay1, pay2,
    pay3, pay4, pay27, pay28, pay29, pay30, pay31, pay32, pay33, pay34, pay35, pay36, pay37, pay38, pay39,
    pay40, pay41, pay42, pay43, pay44, pay45, pay46, pay47, pay48, pay49, pay50, pay51, pay52, pay53, pay54,
    pay55, pay56, pay57, pay58, pay59, pay60, pay61, pay62, pay63, pay64, pay65, pay66, pay67, pay68, pay69,
    pay70, pay71, pay72, pay73, pay74, pay75, pay76, pay77, pay78, pay79, pay80, pay81, pay82, pay83, pay84,
    pay85, pay86, pay87, pay88, pay89, pay90, pay91, pay92, pay93, pay94, pay95, pay96, pay97, pay98, pay99,
    pay100, pay101, pay102, pay103, pay104, pay105, pay106, pay107, pay108, pay109, pay110, pay111, pay112,
    pay113, pay114, pay115, pay116, pay117, pay118, pay119, pay120, pay121, pay122, pay123, pay124, pay125,
    pay126, pay127, pay128, pay129, pay130, pay131, pay132, pay133, pay134, pay135, pay136, pay137, pay138,
    pay139, pay140, pay141, pay142, pay143, pay144, pay145, pay146, pay147, pay148, pay149, pay150, pay151,
    pay152, pay153, pay154, pay155, pay156, pay157, pay158, pay159, pay160, pay161, pay162, pay163, pay164,
    pay165, pay166, pay167, pay168, pay169, pay170, pay171, pay172, pay173, pay174, pay175, pay176, pay177,
    pay178, pay179, pay180, pay181, pay182, pay183, pay184, pay185, pay186, pay187, pay188, pay189, pay190,
    pay191, pay192, pay193, pay194, pay195, pay196, pay197, pay198, pay199, pay200, pay201, pay202, pay203,
    pay204, pay205, pay206, pay207, pay208, pay209, pay210, pay211, pay212, pay213, pay214, pay215, pay216,
    pay217, pay222, pay223, pay224, pay225, pay226, pay227, pay228, pay229, pay230, pay231, pay232, pay233,
    pay234, pay235, pay236, pay237, pay238, pay239, pay240, pay241, pay242, pay243, pay244, pay245, pay246,
    pay247, pay248, pay249, pay250, pay251, pay252, pay253, pay254, pay255, pay256, pay257, pay258, pay259,
    pay260, pay261, pay262, pay263, pay264, pay265, pay266, pay267, pay268, pay269, pay270, pay271, pay272,
    pay273, pay274, pay275, pay276, pay277, pay278, pay279, pay280, pay281, pay282, pay283, pay284, pay285,
    pay286, pay287, pay288, pay289, pay290, pay291, pay292, pay293, pay294, pay295, pay296, pay297, pay298,
    pay299, pay300, pay301, pay302, pay303, pay304, pay305, pay306, pay307, pay308, pay309, pay310, pay311,
    pay312, pay313, pay314, pay315, pay316, pay317, pay318, pay319, pay320, pay321, pay322, pay323, pay324,
    pay325, pay326, pay327, pay328, pay329, pay330, pay331, pay332, pay333, pay334, pay335, pay336, pay337,
    pay338, pay339, pay340, pay341, pay342, pay343, pay344, pay345, pay346, pay347, pay348, pay349, pay350,
    pay351, pay352, pay353, pay354, pay355, pay356, pay357, pay358, pay359, pay360, pay361, pay362, pay363,
    pay364, pay365, pay366, pay367, pay368, pay369, pay370, pay371, pay372, pay373, pay374, pay375, pay376,
    pay377, pay378, pay379, pay380, pay381, pay382, pay383, pay384, pay385, pay386, pay387, pay388, pay389,
    pay390, pay391, pay392, pay393, pay394, pay395, pay396, pay397, pay398, pay399, pay400, pay401, pay402,
    pay403, pay404, pay405, pay406, pay407, pay408, pay409, pay410, pay411, pay412, pay413, pay414, pay415,
    pay416, pay417, pay418, pay419, pay420, pay421, pay422, pay423, pay424, pay425, pay426, pay427, pay428,
    pay429, pay430, pay431, pay432, pay433, pay434, pay435, pay436, pay437, pay438, pay439, pay440, pay441,
    pay442, pay443, pay444, pay445, pay446, pay447, pay448, pay449, pay450, pay451, pay452, pay453, pay454,
    pay455, pay456, pay457, pay458, pay459, pay460, pay461, pay462, pay463, pay464, pay465, pay466, pay467,
    pay468, pay469, pay470, pay471, pay472, pay473, pay474, pay475, pay476, pay477, pay478, pay479, pay480,
    pay481, pay482, pay483, pay484, and_self]

end Cert.KernelIdeal.Scan
-- ==== Proof.Spec.lean ====
/- The backward step of the state-space scan on one chunk of 64 positions and one group of 8 heads, as
   sums over extended reals: what both programs compute. -/
module

public import Idealize.ShloMosaic.Lib.Pipeline.ValueKit

@[expose] public section

noncomputable section

namespace Cert.Scan

open Idealize.ShloMosaic

/-- A chunk's inputs: `x`, step sizes, decays, `b`, `c`, the state before the chunk, the gradient of the
    state after it and the gradient of the output. Heads first, then positions (or state rows), then
    channels. -/
structure Chunk where
  X : Fin 8 → Fin 64 → Fin 64 → EReal
  DT : Fin 8 → Fin 64 → EReal
  A : Fin 8 → Fin 64 → EReal
  B : Fin 64 → Fin 128 → EReal
  C : Fin 64 → Fin 128 → EReal
  S : Fin 8 → Fin 128 → Fin 64 → EReal
  D : Fin 8 → Fin 128 → Fin 64 → EReal
  Y : Fin 8 → Fin 64 → Fin 64 → EReal

namespace Chunk

variable (I : Chunk) (r : Fin 8)

/-- Running and whole sum of the decays. -/
def acs (l : Fin 64) : EReal := ∑ t, if t ≤ l then I.A r t else 0
def al : EReal := ∑ t, I.A r t
/-- The decay from `s` to `l`; `exp (-∞)` where `s` comes later. -/
def L (l s : Fin 64) : EReal :=
  Ideal.exp (if s ≤ l then I.acs r l - I.acs r s else Ideal.ofBits .f32 0xFF800000#32)
def E (l : Fin 64) : EReal := Ideal.exp (I.acs r l)
def W (s : Fin 64) : EReal := Ideal.exp (I.al r - I.acs r s)
def xdt (s p : Fin 64) : EReal := I.X r s p * I.DT r s
def cb (l s : Fin 64) : EReal := ∑ n, I.C l n * I.B s n
def yo (l p : Fin 64) : EReal := ∑ n, I.C l n * I.S r n p
/-- The gradient of the values the chunk adds to the state. -/
def dxw (s p : Fin 64) : EReal := ∑ n, I.D r n p * I.B s n
def dW (s : Fin 64) : EReal := (∑ p, I.xdt r s p * I.dxw r s p) * I.W r s
def dal : EReal := ∑ s, I.dW r s + (∑ p, ∑ n, I.S r n p * I.D r n p) * Ideal.exp (I.al r)
def dE (l : Fin 64) : EReal := (∑ p, I.yo r l p * I.Y r l p) * I.E r l
/-- The gradient of the state before the chunk. -/
def dS (n : Fin 128) (p : Fin 64) : EReal :=
  I.D r n p * Ideal.exp (I.al r) + ∑ l, I.Y r l p * I.E r l * I.C l n
def dM (l s : Fin 64) : EReal := ∑ p, I.Y r l p * I.xdt r s p
def G (l s : Fin 64) : EReal := if s ≤ l then I.cb l s * I.dM r l s * I.L r l s else 0
def dcb (l s : Fin 64) : EReal := ∑ r, I.dM r l s * I.L r l s
def dC (l : Fin 64) (n : Fin 128) : EReal :=
  (∑ r, ∑ p, I.Y r l p * I.E r l * I.S r n p) + ∑ s, I.dcb l s * I.B s n
def dB (s : Fin 64) (n : Fin 128) : EReal :=
  (∑ r, ∑ p, I.D r n p * (I.xdt r s p * I.W r s)) + ∑ l, I.dcb l s * I.C l n
def dxdt (s p : Fin 64) : EReal :=
  I.dxw r s p * I.W r s + ∑ l, I.Y r l p * (I.cb l s * I.L r l s)
def dX (s p : Fin 64) : EReal := I.dxdt r s p * I.DT r s
def dDT (s : Fin 64) : EReal := ∑ p, I.X r s p * I.dxdt r s p
/-- The gradient of the running sum at `t`, without the part of the whole sum. -/
def dacs (t : Fin 64) : EReal :=
  -I.dW r t + I.dE r t + (∑ s, I.G r t s) + ∑ l, -I.G r l t
def dA (s : Fin 64) : EReal := I.dal r + ∑ t, if s ≤ t then I.dacs r t else 0

end Chunk

/-- Head `2p` or `2p + 1` of pair `p`; lane of channel `e` in the pair's 128 lanes. -/
def hd (p : Fin 4) (q : Bool) : Fin 8 := ⟨2 * p.val + (if q then 1 else 0), by split <;> omega⟩
def ln (q : Bool) (e : Fin 64) : Fin 128 := ⟨(if q then 64 else 0) + e.val, by split <;> omega⟩

theorem exists_hd (r : Fin 8) : ∃ p q, r = hd p q := by revert r; decide
theorem exists_ln (l : Fin 128) : ∃ q e, l = ln q e := by
  rcases Nat.lt_or_ge l.val 64 with h | h
  · exact ⟨false, ⟨l.val, h⟩, by apply Fin.ext; simp [ln]⟩
  · exact ⟨true, ⟨l.val - 64, by omega⟩, by apply Fin.ext; simp [ln]; omega⟩

theorem sum_ln (f : Fin 128 → EReal) : ∑ l, f l = ∑ e, f (ln false e) + ∑ e, f (ln true e) := by
  rw [Fin.sum_univ_two_halves 64 64 rfl f]
  congr 1 <;> refine Finset.sum_congr rfl fun e _ => congrArg f (Fin.ext ?_) <;> simp [ln]

theorem sum_hd (f : Fin 8 → EReal) :
    ∑ r, f r = f (hd 3 true) + f (hd 2 true) + f (hd 1 true) + f (hd 0 true)
      + f (hd 3 false) + f (hd 2 false) + f (hd 1 false) + f (hd 0 false) := by
  rw [Fin.sum_univ_eight]
  show f 0 + f 1 + f 2 + f 3 + f 4 + f 5 + f 6 + f 7 = f 7 + f 5 + f 3 + f 1 + f 6 + f 4 + f 2 + f 0
  ac_rfl

end Cert.Scan
-- ==== Proof.Point.lean ====
/- The values of the kernel's step over the extended reals, element by element: each is the sum of `Spec`
   it is named after. -/
module

public import proofs.«01_k».proof.Proof.Vocab
public import proofs.«01_k».proof.Proof.Spec
public import Idealize.ShloMosaic.Lib.WordCmp

@[expose] public section

set_option maxRecDepth 16384

noncomputable section

namespace Cert.KernelIdeal.Scan

open Idealize.ShloMosaic Idealize.SL.Sem Cert.KernelIdeal.Gen
open Cert.Scan (Chunk hd ln sum_ln sum_hd)

/-- What a step reads is the chunk `I`. -/
structure Reads (E : In Ideal) (I : Chunk) : Prop where
  x : ∀ p q s e, E.xs p (ix2 s (ln q e)) = I.X (hd p q) s e
  dy : ∀ p q s e, E.dyp p (ix2 s (ln q e)) = I.Y (hd p q) s e
  st : ∀ p q n e, E.st p (ix2 n (ln q e)) = I.S (hd p q) n e
  ds : ∀ p q n e, E.ds p (ix2 n (ln q e)) = I.D (hd p q) n e
  dt : ∀ p q s, E.dt p q (ix2 0 s) = I.DT (hd p q) s
  a : ∀ p q s, E.a p q (ix2 0 s) = I.A (hd p q) s
  b : ∀ s n, E.b (ix2 s n) = I.B s n
  c : ∀ s n, E.c (ix2 s n) = I.C s n

/-! ### Masks -/

theorem cr_at (r c : Fin 64) (a b : EReal) :
    Scalar.select (cr (ix2 r c)) a b = if c ≤ r then a else b := by
  pointwise [cr]; word_cmp; rfl
theorem rc_at (r c : Fin 64) (a b : EReal) :
    Scalar.select (rc (ix2 r c)) a b = if r ≤ c then a else b := by
  pointwise [rc]; word_cmp; rfl
theorem eq_at (r c : Fin 64) (a b : EReal) :
    Scalar.select (eqM (ix2 r c)) a b = if r = c then a else b := by
  pointwise [eqM]; word_cmp; simp only [Fin.ext_iff]
theorem fb_at (s : Fin 64) (q : Bool) (e : Fin 64) (a b : EReal) :
    Scalar.select (fb (ix2 s (ln q e))) a b = if q then b else a := by
  pointwise [fb, fl]
  cases q <;> simp only [ln, if_true, Bool.false_eq_true, if_false, zero_add] <;> word_cmp
  · exact if_pos e.isLt
  · exact if_neg (by omega)
theorem fl_at (q : Bool) (e : Fin 64) (a b : EReal) :
    Scalar.select (fl (ix2 0 (ln q e))) a b = if q then b else a := by
  pointwise [fl]
  cases q <;> simp only [ln, if_true, Bool.false_eq_true, if_false, zero_add] <;> word_cmp
  · exact if_pos e.isLt
  · exact if_neg (by omega)

theorem half_at (q q' : Bool) (v : FVec Ideal S64x128 .f32) (s e : Fin 64) :
    half q v (ix2 s (ln q' e)) = if q = q' then v (ix2 s (ln q' e)) else (0 : EReal) := by
  cases q
  · show select fb v (z S64x128) _ = _
    pointwise []; rw [fb_at]; cases q' <;> rfl
  · show select fb (z S64x128) v _ = _
    pointwise []; rw [fb_at]; cases q' <;> rfl

theorem sum_half (q : Bool) (v : FVec Ideal S64x128 .f32) (s : Fin 64) :
    ∑ l, (show EReal from half q v (ix2 s l)) = ∑ e, (show EReal from v (ix2 s (ln q e))) := by
  rw [sum_ln]
  simp only [half_at]
  cases q <;> simp

theorem sumL_half (q : Bool) (v : FVec Ideal S64x128 .f32) (s : Fin 64) :
    sumL (half q v) (ix2 s 0) = ∑ e, (show EReal from v (ix2 s (ln q e))) := by
  pointwise []
  exact sum_half q v s

namespace In

variable {E : In Ideal} {I : Chunk} (h : Reads E I) (p : Fin 4) (q : Bool)
include h

theorem acol_at (s : Fin 64) : E.acol p q (ix2 s 0) = I.A (hd p q) s := by
  pointwise [acol]; simp only [eq_at, h.a]; simp
theorem csR_at (l : Fin 64) : E.csR p q (ix2 0 l) = I.acs (hd p q) l := by
  pointwise [csR]; simp only [rc_at, acol_at h]; rfl
theorem csC_at (l : Fin 64) : E.csC p q (ix2 l 0) = I.acs (hd p q) l := by
  pointwise [csC]; simp only [cr_at, h.a]; rfl
theorem al_at : E.al p q (ix2 0 0) = I.al (hd p q) := by
  pointwise [al]; simp only [h.a]; rfl
theorem lm_at (l s : Fin 64) : E.lm p q (ix2 l s) = I.L (hd p q) l s := by
  pointwise [lm]; simp only [cr_at, csC_at h, csR_at h]; rfl
theorem ecs_at (l : Fin 64) : E.ecs p q (ix2 l 0) = I.E (hd p q) l := by
  pointwise [ecs]; simp only [csC_at h]; rfl
theorem eal_at : E.eal p q (ix2 0 0) = Ideal.exp (I.al (hd p q)) := by
  pointwise [eal]; simp only [al_at h]
theorem wt_at (s : Fin 64) : E.wt p q (ix2 s 0) = I.W (hd p q) s := by
  pointwise [wt]; simp only [al_at h, csC_at h]; rfl
theorem dtc_at (s : Fin 64) : E.dtc p q (ix2 s 0) = I.DT (hd p q) s := by
  pointwise [dtc]; simp only [eq_at, h.dt]; simp
theorem dtP_at (s e : Fin 64) : E.dtP p (ix2 s (ln q e)) = I.DT (hd p q) s := by
  pointwise [dtP]; simp only [fb_at, dtc_at h]; cases q <;> rfl
theorem xdt_at (s e : Fin 64) : E.xdt p (ix2 s (ln q e)) = I.xdt (hd p q) s e := by
  pointwise [xdt]; simp only [h.x, dtP_at h]; rfl
theorem cb_at (l s : Fin 64) : E.cb (ix2 l s) = I.cb l s := by
  pointwise [cb]; simp only [h.b, h.c]; rfl
theorem m_at (l s : Fin 64) : E.m p q (ix2 l s) = I.cb l s * I.L (hd p q) l s := by
  pointwise [m]; simp only [cb_at h, lm_at h]
theorem yo_at (l e : Fin 64) : E.yo p (ix2 l (ln q e)) = I.yo (hd p q) l e := by
  pointwise [yo]; simp only [h.c, h.st]; rfl
theorem ecsP_at (s e : Fin 64) : E.ecsP p (ix2 s (ln q e)) = I.E (hd p q) s := by
  pointwise [ecsP]; simp only [fb_at, ecs_at h]; cases q <;> rfl
theorem ealP_at (e : Fin 64) : E.ealP p (ix2 0 (ln q e)) = Ideal.exp (I.al (hd p q)) := by
  pointwise [ealP]; simp only [fl_at, eal_at h]; cases q <;> rfl
theorem wtP_at (s e : Fin 64) : E.wtP p (ix2 s (ln q e)) = I.W (hd p q) s := by
  pointwise [wtP]; simp only [fb_at, wt_at h]; cases q <;> rfl
theorem xw_at (s e : Fin 64) : E.xw p (ix2 s (ln q e)) = I.xdt (hd p q) s e * I.W (hd p q) s := by
  pointwise [xw]; simp only [xdt_at h, wtP_at h]
theorem dxw_at (s e : Fin 64) : E.dxw p (ix2 s (ln q e)) = I.dxw (hd p q) s e := by
  pointwise [dxw]; simp only [h.ds, h.b]; rfl
theorem dBp_at (s : Fin 64) (n : Fin 128) : E.dBp p (ix2 s n)
    = ∑ e, I.D (hd p false) n e * (I.xdt (hd p false) s e * I.W (hd p false) s)
      + ∑ e, I.D (hd p true) n e * (I.xdt (hd p true) s e * I.W (hd p true) s) := by
  pointwise [dBp]; rw [sum_ln]; simp only [h.ds, xw_at h]
theorem xdxw_at (s e : Fin 64) :
    E.xdxw p (ix2 s (ln q e)) = I.xdt (hd p q) s e * I.dxw (hd p q) s e := by
  pointwise [xdxw]; simp only [xdt_at h, dxw_at h]
theorem dxdt0_at (s e : Fin 64) :
    E.dxdt0 p (ix2 s (ln q e)) = I.dxw (hd p q) s e * I.W (hd p q) s := by
  pointwise [dxdt0]; simp only [dxw_at h, wtP_at h]
theorem dww_at (s : Fin 64) : E.dww p q (ix2 s 0) = I.dW (hd p q) s := by
  pointwise [dww, dwr]; rw [wt_at h]
  refine congrArg (· * _) ((sum_half q _ s).trans ?_)
  simp only [xdxw_at h]
theorem sds_at (e : Fin 64) :
    E.sds p (ix2 0 (ln q e)) = ∑ n, I.S (hd p q) n e * I.D (hd p q) n e := by
  pointwise [sds]; simp only [h.st, h.ds]
theorem deal_at : E.deal p q (ix2 0 0) = ∑ e, ∑ n, I.S (hd p q) n e * I.D (hd p q) n e := by
  pointwise [deal, sdsH]
  rw [sum_ln]
  cases q
  · pointwise []; simp only [fl_at, sds_at h]; simp
  · pointwise []; simp only [fl_at, sds_at h]; simp
theorem dsE_at (n : Fin 128) (e : Fin 64) :
    E.dsE p (ix2 n (ln q e)) = I.D (hd p q) n e * Ideal.exp (I.al (hd p q)) := by
  pointwise [dsE]; simp only [h.ds, ealP_at h]
theorem yody_at (l e : Fin 64) :
    E.yody p (ix2 l (ln q e)) = I.yo (hd p q) l e * I.Y (hd p q) l e := by
  pointwise [yody]; simp only [yo_at h, h.dy]
theorem dyE_at (l e : Fin 64) :
    E.dyE p (ix2 l (ln q e)) = I.Y (hd p q) l e * I.E (hd p q) l := by
  pointwise [dyE]; simp only [ecsP_at h, h.dy]
theorem decs_at (l : Fin 64) : E.decs p q (ix2 l 0) = ∑ e, I.yo (hd p q) l e * I.Y (hd p q) l e := by
  refine (sumL_half q _ l).trans ?_
  simp only [yody_at h]
theorem dyh_at (q' : Bool) (l e : Fin 64) :
    E.dyh p q (ix2 l (ln q' e)) = if q = q' then I.Y (hd p q') l e else 0 := by
  rw [dyh, half_at, h.dy]
theorem dS_at (n : Fin 128) (e : Fin 64) : E.dS p (ix2 n (ln q e)) = I.dS (hd p q) n e := by
  pointwise [dS]; simp only [dsE_at h, dyE_at h, h.c]; rfl
theorem dCp_at (l : Fin 64) (n : Fin 128) : E.dCp p (ix2 l n)
    = ∑ e, I.Y (hd p false) l e * I.E (hd p false) l * I.S (hd p false) n e
      + ∑ e, I.Y (hd p true) l e * I.E (hd p true) l * I.S (hd p true) n e := by
  pointwise [dCp]; rw [sum_ln]; simp only [dyE_at h, h.st]
theorem dxy_at (q' : Bool) (s e : Fin 64) : E.dxy p q (ix2 s (ln q' e))
    = if q = q' then ∑ l, I.Y (hd p q) l e * (I.cb l s * I.L (hd p q) l s) else 0 := by
  pointwise [dxy]; simp only [dyh_at h, m_at h]
  by_cases hq : q = q'
  · subst hq; simp
  · simp [hq]
theorem dM_at (l s : Fin 64) : E.dM p q (ix2 l s) = I.dM (hd p q) l s := by
  pointwise [dM]; rw [sum_ln]; simp only [dyh_at h, xdt_at h]
  cases q <;> simp [Chunk.dM]
theorem g_at (l s : Fin 64) : E.g p q (ix2 l s) = I.dM (hd p q) l s * I.L (hd p q) l s := by
  pointwise [g]; simp only [dM_at h, lm_at h]
theorem dxdt_at (s e : Fin 64) : E.dxdt p (ix2 s (ln q e)) = I.dxdt (hd p q) s e := by
  pointwise [dxdt]; simp only [dxdt0_at h, dxy_at h]
  cases q <;> simp [Chunk.dxdt]
theorem dcb_at (l s : Fin 64) : E.dcb (ix2 l s) = I.dcb l s := by
  pointwise [dcb]; simp only [g_at h]; rw [Chunk.dcb, sum_hd]
theorem dB_at (s : Fin 64) (n : Fin 128) : E.dB (ix2 s n) = I.dB s n := by
  pointwise [dB]; simp only [dBp_at h, dcb_at h, h.c]; rw [Chunk.dB, sum_hd]
  refine congrArg (· + _) ?_
  ac_rfl
theorem dC_at (s : Fin 64) (n : Fin 128) : E.dC (ix2 s n) = I.dC s n := by
  pointwise [dC]; simp only [dCp_at h, dcb_at h, h.b]; rw [Chunk.dC, sum_hd]
  refine congrArg (· + _) ?_
  ac_rfl
theorem xdx_at (s e : Fin 64) :
    E.xdx p (ix2 s (ln q e)) = I.X (hd p q) s e * I.dxdt (hd p q) s e := by
  pointwise [xdx]; simp only [h.x, dxdt_at h]
theorem dxsP_at (s e : Fin 64) : E.dxsP p (ix2 s (ln q e)) = I.dX (hd p q) s e := by
  pointwise [dxsP]; simp only [dtP_at h, dxdt_at h]; rfl
theorem ddtC_at (s : Fin 64) : E.ddtC p q (ix2 s 0) = I.dDT (hd p q) s := by
  refine (sumL_half q _ s).trans ?_
  simp only [xdx_at h]; rfl
theorem ddtR_at (s : Fin 64) : E.ddtR p q (ix2 0 s) = I.dDT (hd p q) s := by
  pointwise [ddtR]; simp only [eq_at, Fin.sum_univ_one, Fin.isValue, ddtC_at h]; simp
theorem dal_at : E.dal p q (ix2 0 0) = I.dal (hd p q) := by
  pointwise [dal]; simp only [dww_at h, deal_at h, eal_at h]; rfl
theorem aR_at (s : Fin 64) : E.aR p q (ix2 0 s) = I.dal (hd p q) := by
  pointwise [aR]; simp only [Fin.sum_univ_one, dal_at h]
theorem gm_at (l s : Fin 64) : E.gm p q (ix2 l s) = I.G (hd p q) l s := by
  pointwise [gm, cbdM]; simp only [cr_at, cb_at h, dM_at h, lm_at h]; rfl
theorem dcsR_at (s : Fin 64) : E.dcsR p q (ix2 0 s) = ∑ l, -I.G (hd p q) l s := by
  pointwise [dcsR]; simp only [gm_at h]; simp
theorem dcsC_at (l : Fin 64) : E.dcsC p q (ix2 l 0)
    = -I.dW (hd p q) l + I.dE (hd p q) l + ∑ s, I.G (hd p q) l s := by
  pointwise [dcsC, dcsA, ndww]; simp only [gm_at h, dww_at h, decs_at h, ecs_at h]; simp [Chunk.dE]
theorem da_at (s : Fin 64) : E.da p q (ix2 0 s) = I.dA (hd p q) s := by
  pointwise [da]
  simp only [cr_at, rc_at, eq_at, Fin.sum_univ_one, Fin.isValue, aR_at h, dcsC_at h, dcsR_at h]
  rw [Chunk.dA, add_assoc]
  refine congrArg (I.dal (hd p q) + ·) ?_
  simp only [Finset.sum_ite_eq', Finset.mem_univ, if_true]
  rw [← Finset.sum_add_distrib]
  refine Finset.sum_congr rfl fun t _ => ?_
  split
  · rfl
  · exact add_zero _

end In

end Cert.KernelIdeal.Scan
-- ==== Proof.Block.lean ====
/- What one step of the kernel leaves in its blocks, at an index, for the chunk its input blocks hold. -/
module

public import proofs.«01_k».proof.Proof.ChainA
public import proofs.«01_k».proof.Proof.ChainB
public import proofs.«01_k».proof.Proof.Point
public import Idealize.ShloMosaic.Lib.WordCmp

@[expose] public section

set_option maxRecDepth 16384

noncomputable section

namespace Cert.KernelIdeal.Scan

open Idealize.ShloMosaic Idealize.SL.Sem Cert.KernelIdeal.Gen Cert.Scan

/-- The lane of the joint array of all heads where channel `e` of head `2p + q` lies. -/
def col (p : Fin 4) (q : Bool) (e : Fin 64) : Fin 512 := ⟨128 * p.val + (ln q e).val, by have := (ln q e).isLt; omega⟩

/-- The blocks hold the chunk `I`. -/
structure Blk (x0 : Vec Ideal S64x512 .f32) (x1 x2 : Vec Ideal S64x128 .f32) (x3 x4 : Vec Ideal S1x1x8x64 .f32)
    (x5 : Vec Ideal S1x1x4x128x128 .f32) (x6 : Vec Ideal S64x512 .f32) (I : Chunk) : Prop where
  x : ∀ p q s e, x0 (ix2 s (col p q e)) = I.X (hd p q) s e
  dy : ∀ p q s e, x6 (ix2 s (col p q e)) = I.Y (hd p q) s e
  st : ∀ p q n e, x5 (ix5 0 0 p n (ln q e)) = I.S (hd p q) n e
  dt : ∀ r s, x3 (ix4 0 0 r s) = I.DT r s
  a : ∀ r s, x4 (ix4 0 0 r s) = I.A r s
  b : ∀ s n, x1 (ix2 s n) = I.B s n
  c : ∀ s n, x2 (ix2 s n) = I.C s n
/-- The carried block holds the gradients `D`. -/
def Holds (D : Fin 8 → Fin 128 → Fin 64 → EReal) (xs : Vec Ideal S4x128x128 .f32) : Prop :=
  ∀ p q n e, xs (ix3 p n (ln q e)) = D (hd p q) n e

/-- A load of a block reads the block. -/
theorem ld_at {sp : Space} {S : Shape} {φ : EltTy} (M : Memref sig .tc sp S φ) (h : M.IsWhole)
    (X : Vec Ideal S φ) (off size : Fin S.rank → Nat) (inb : ∀ a, off a + size a ≤ S.size a)
    (x : (Rect.unit off size inb).shape.Idx) (i : S.Idx) (hi : ∀ a, (i a : Nat) = off a + x a) :
    View.readAt (Elt Ideal) M.view (Rect.unit off size inb).toLoadRect (h.unread X) x = X i := by
  rw [View.readAt_eq_ld, h.read_unread]
  exact View.ld_unit_apply_of X off size inb x i hi

variable (c : Dev nD) (arg2 : Memref sig .tc .vmem S64x512 .f32) (harg2 : arg2.IsWhole) (arg3 : Memref sig
  .tc .vmem S64x128 .f32) (harg3 : arg3.IsWhole) (arg4 : Memref sig .tc .vmem S64x128 .f32) (harg4 :
  arg4.IsWhole) (arg5 : Memref sig .tc .vmem S1x1x8x64 .f32) (harg5 : arg5.IsWhole) (arg6 : Memref sig .tc
  .vmem S1x1x8x64 .f32) (harg6 : arg6.IsWhole) (arg7 : Memref sig .tc .vmem S1x1x4x128x128 .f32) (harg7 :
  arg7.IsWhole) (arg8 : Memref sig .tc .vmem S64x512 .f32) (harg8 : arg8.IsWhole) (arg14 : Memref sig .tc
  .vmem S4x128x128 .f32) (harg14 : arg14.IsWhole) (x0 : Vec Ideal S64x512 .f32) (x1 : Vec Ideal S64x128 .f32)
  (x2 : Vec Ideal S64x128 .f32) (x3 : Vec Ideal S1x1x8x64 .f32) (x4 : Vec Ideal S1x1x8x64 .f32)
  (x5 : Vec Ideal S1x1x4x128x128 .f32) (x6 : Vec Ideal S64x512 .f32) (xs0 : Vec Ideal S4x128x128 .f32)

/-- The carried block just after it was set to zero. -/
theorem zero_fill (i : S4x128x128.Idx) : View.canon (kernelRun0_A.sl.HS0_1 (F := Ideal)) i = 0 := by
  have h : View.canon (kernelRun0_A.sl.HS0_1 (F := Ideal)) = k0_pay4 (F := Ideal) := by
    unfold kernelRun0_A.sl.HS0_1
    exact View.canon_cons_unit_lit' (S := S4x128x128) (Val := Elt Ideal) _ _ _ (by decide)
  rw [h, pay4]
  idx_vars i
  pointwise

theorem stB (p : Fin 4) (r l : Fin 128) :
    (inB (F := Ideal) c arg2 harg2 arg3 harg3 arg4 harg4 arg5 harg5 arg6 harg6 arg7 harg7 arg8 harg8 arg14 harg14 x0 x1 x2 x3 x4 x5 x6 xs0).st p (ix2 r l) = x5 (ix5 0 0 p r l) := by
  match p with
  | 0 =>
    show kernelRun0_B.sl.r_6 (F := Ideal) c arg7 harg7 x5 (ix2 r l) = _
    pointwise [kernelRun0_B.sl.r_6, k0_pay23]
    exact ld_at arg7 harg7 x5 _ _ _ _ _ (by intro a; fin_cases a <;> first | rfl | exact (Nat.zero_add _).symm)
  | 1 =>
    show kernelRun0_B.sl.r_7 (F := Ideal) c arg7 harg7 x5 (ix2 r l) = _
    pointwise [kernelRun0_B.sl.r_7, k0_pay24]
    exact ld_at arg7 harg7 x5 _ _ _ _ _ (by intro a; fin_cases a <;> first | rfl | exact (Nat.zero_add _).symm)
  | 2 =>
    show kernelRun0_B.sl.r_8 (F := Ideal) c arg7 harg7 x5 (ix2 r l) = _
    pointwise [kernelRun0_B.sl.r_8, k0_pay25]
    exact ld_at arg7 harg7 x5 _ _ _ _ _ (by intro a; fin_cases a <;> first | rfl | exact (Nat.zero_add _).symm)
  | 3 =>
    show kernelRun0_B.sl.r_9 (F := Ideal) c arg7 harg7 x5 (ix2 r l) = _
    pointwise [kernelRun0_B.sl.r_9, k0_pay26]
    exact ld_at arg7 harg7 x5 _ _ _ _ _ (by intro a; fin_cases a <;> first | rfl | exact (Nat.zero_add _).symm)

theorem dtB (p : Fin 4) (q : Bool) (s : Fin 64) :
    (inB (F := Ideal) c arg2 harg2 arg3 harg3 arg4 harg4 arg5 harg5 arg6 harg6 arg7 harg7 arg8 harg8 arg14 harg14 x0 x1 x2 x3 x4 x5 x6 xs0).dt p q (ix2 0 s) = x3 (ix4 0 0 (hd p q) s) := by
  match p, q with
  | 0, false =>
    show kernelRun0_B.sl.r (F := Ideal) c arg5 harg5 x3 (ix2 0 s) = _
    pointwise [kernelRun0_B.sl.r, k0_pay7]
    exact ld_at arg5 harg5 x3 _ _ _ _ _ (by intro a; fin_cases a <;> first | rfl | exact (Nat.zero_add _).symm)
  | 0, true =>
    show kernelRun0_B.sl.r_1 (F := Ideal) c arg5 harg5 x3 (ix2 0 s) = _
    pointwise [kernelRun0_B.sl.r_1, k0_pay8]
    exact ld_at arg5 harg5 x3 _ _ _ _ _ (by intro a; fin_cases a <;> first | rfl | exact (Nat.zero_add _).symm)
  | 1, false =>
    show kernelRun0_B.sl.r_2 (F := Ideal) c arg5 harg5 x3 (ix2 0 s) = _
    pointwise [kernelRun0_B.sl.r_2, k0_pay9]
    exact ld_at arg5 harg5 x3 _ _ _ _ _ (by intro a; fin_cases a <;> first | rfl | exact (Nat.zero_add _).symm)
  | 1, true =>
    show kernelRun0_B.sl.r_3 (F := Ideal) c arg5 harg5 x3 (ix2 0 s) = _
    pointwise [kernelRun0_B.sl.r_3, k0_pay10]
    exact ld_at arg5 harg5 x3 _ _ _ _ _ (by intro a; fin_cases a <;> first | rfl | exact (Nat.zero_add _).symm)
  | 2, false =>
    show kernelRun0_B.sl.r_4 (F := Ideal) c arg5 harg5 x3 (ix2 0 s) = _
    pointwise [kernelRun0_B.sl.r_4, k0_pay11]
    exact ld_at arg5 harg5 x3 _ _ _ _ _ (by intro a; fin_cases a <;> first | rfl | exact (Nat.zero_add _).symm)
  | 2, true =>
    show kernelRun0_B.sl.v27 (F := Ideal) c arg5 harg5 x3 (ix2 0 s) = _
    pointwise [kernelRun0_B.sl.v27]
    exact ld_at arg5 harg5 x3 _ _ _ _ _ (by intro a; fin_cases a <;> first | rfl | exact (Nat.zero_add _).symm)
  | 3, false =>
    show kernelRun0_B.sl.v29 (F := Ideal) c arg5 harg5 x3 (ix2 0 s) = _
    pointwise [kernelRun0_B.sl.v29]
    exact ld_at arg5 harg5 x3 _ _ _ _ _ (by intro a; fin_cases a <;> first | rfl | exact (Nat.zero_add _).symm)
  | 3, true =>
    show kernelRun0_B.sl.v31 (F := Ideal) c arg5 harg5 x3 (ix2 0 s) = _
    pointwise [kernelRun0_B.sl.v31]
    exact ld_at arg5 harg5 x3 _ _ _ _ _ (by intro a; fin_cases a <;> first | rfl | exact (Nat.zero_add _).symm)

theorem aB (p : Fin 4) (q : Bool) (s : Fin 64) :
    (inB (F := Ideal) c arg2 harg2 arg3 harg3 arg4 harg4 arg5 harg5 arg6 harg6 arg7 harg7 arg8 harg8 arg14 harg14 x0 x1 x2 x3 x4 x5 x6 xs0).a p q (ix2 0 s) = x4 (ix4 0 0 (hd p q) s) := by
  match p, q with
  | 0, false =>
    show kernelRun0_B.sl.v33 (F := Ideal) c arg6 harg6 x4 (ix2 0 s) = _
    pointwise [kernelRun0_B.sl.v33]
    exact ld_at arg6 harg6 x4 _ _ _ _ _ (by intro a; fin_cases a <;> first | rfl | exact (Nat.zero_add _).symm)
  | 0, true =>
    show kernelRun0_B.sl.v35 (F := Ideal) c arg6 harg6 x4 (ix2 0 s) = _
    pointwise [kernelRun0_B.sl.v35]
    exact ld_at arg6 harg6 x4 _ _ _ _ _ (by intro a; fin_cases a <;> first | rfl | exact (Nat.zero_add _).symm)
  | 1, false =>
    show kernelRun0_B.sl.v37 (F := Ideal) c arg6 harg6 x4 (ix2 0 s) = _
    pointwise [kernelRun0_B.sl.v37]
    exact ld_at arg6 harg6 x4 _ _ _ _ _ (by intro a; fin_cases a <;> first | rfl | exact (Nat.zero_add _).symm)
  | 1, true =>
    show kernelRun0_B.sl.v39 (F := Ideal) c arg6 harg6 x4 (ix2 0 s) = _
    pointwise [kernelRun0_B.sl.v39]
    exact ld_at arg6 harg6 x4 _ _ _ _ _ (by intro a; fin_cases a <;> first | rfl | exact (Nat.zero_add _).symm)
  | 2, false =>
    show kernelRun0_B.sl.v41 (F := Ideal) c arg6 harg6 x4 (ix2 0 s) = _
    pointwise [kernelRun0_B.sl.v41]
    exact ld_at arg6 harg6 x4 _ _ _ _ _ (by intro a; fin_cases a <;> first | rfl | exact (Nat.zero_add _).symm)
  | 2, true =>
    show kernelRun0_B.sl.v43 (F := Ideal) c arg6 harg6 x4 (ix2 0 s) = _
    pointwise [kernelRun0_B.sl.v43]
    exact ld_at arg6 harg6 x4 _ _ _ _ _ (by intro a; fin_cases a <;> first | rfl | exact (Nat.zero_add _).symm)
  | 3, false =>
    show kernelRun0_B.sl.v45 (F := Ideal) c arg6 harg6 x4 (ix2 0 s) = _
    pointwise [kernelRun0_B.sl.v45]
    exact ld_at arg6 harg6 x4 _ _ _ _ _ (by intro a; fin_cases a <;> first | rfl | exact (Nat.zero_add _).symm)
  | 3, true =>
    show kernelRun0_B.sl.r_5 (F := Ideal) c arg6 harg6 x4 (ix2 0 s) = _
    pointwise [kernelRun0_B.sl.r_5, k0_pay22]
    exact ld_at arg6 harg6 x4 _ _ _ _ _ (by intro a; fin_cases a <;> first | rfl | exact (Nat.zero_add _).symm)

theorem xB (s : Fin 64) (j : Fin 512) :
    (inB (F := Ideal) c arg2 harg2 arg3 harg3 arg4 harg4 arg5 harg5 arg6 harg6 arg7 harg7 arg8 harg8 arg14 harg14 x0 x1 x2 x3 x4 x5 x6 xs0).x (ix2 s j) = x0 (ix2 s j) :=
  ld_at arg2 harg2 x0 _ _ _ _ _ (by intro a; fin_cases a <;> first | rfl | exact (Nat.zero_add _).symm)

theorem bB (s : Fin 64) (j : Fin 128) :
    (inB (F := Ideal) c arg2 harg2 arg3 harg3 arg4 harg4 arg5 harg5 arg6 harg6 arg7 harg7 arg8 harg8 arg14 harg14 x0 x1 x2 x3 x4 x5 x6 xs0).b (ix2 s j) = x1 (ix2 s j) :=
  ld_at arg3 harg3 x1 _ _ _ _ _ (by intro a; fin_cases a <;> first | rfl | exact (Nat.zero_add _).symm)

theorem cB (s : Fin 64) (j : Fin 128) :
    (inB (F := Ideal) c arg2 harg2 arg3 harg3 arg4 harg4 arg5 harg5 arg6 harg6 arg7 harg7 arg8 harg8 arg14 harg14 x0 x1 x2 x3 x4 x5 x6 xs0).c (ix2 s j) = x2 (ix2 s j) :=
  ld_at arg4 harg4 x2 _ _ _ _ _ (by intro a; fin_cases a <;> first | rfl | exact (Nat.zero_add _).symm)

theorem dyB (s : Fin 64) (j : Fin 512) :
    (inB (F := Ideal) c arg2 harg2 arg3 harg3 arg4 harg4 arg5 harg5 arg6 harg6 arg7 harg7 arg8 harg8 arg14 harg14 x0 x1 x2 x3 x4 x5 x6 xs0).dy (ix2 s j) = x6 (ix2 s j) :=
  ld_at arg8 harg8 x6 _ _ _ _ _ (by intro a; fin_cases a <;> first | rfl | exact (Nat.zero_add _).symm)

theorem dsB (p : Fin 4) (r l : Fin 128) :
    (inB (F := Ideal) c arg2 harg2 arg3 harg3 arg4 harg4 arg5 harg5 arg6 harg6 arg7 harg7 arg8 harg8 arg14 harg14 x0 x1 x2 x3 x4 x5 x6 xs0).ds p (ix2 r l) = xs0 (ix3 p r l) := by
  match p with
  | 0 =>
    show kernelRun0_B.sl.r_143 (F := Ideal) c arg14 harg14 xs0 (ix2 r l) = _
    pointwise [kernelRun0_B.sl.r_143, k0_pay218]
    exact ld_at arg14 harg14 xs0 _ _ _ _ _ (by intro a; fin_cases a <;> first | rfl | exact (Nat.zero_add _).symm)
  | 1 =>
    show kernelRun0_B.sl.r_144 (F := Ideal) c arg14 harg14 xs0 (ix2 r l) = _
    pointwise [kernelRun0_B.sl.r_144, k0_pay219]
    exact ld_at arg14 harg14 xs0 _ _ _ _ _ (by intro a; fin_cases a <;> first | rfl | exact (Nat.zero_add _).symm)
  | 2 =>
    show kernelRun0_B.sl.r_145 (F := Ideal) c arg14 harg14 xs0 (ix2 r l) = _
    pointwise [kernelRun0_B.sl.r_145, k0_pay220]
    exact ld_at arg14 harg14 xs0 _ _ _ _ _ (by intro a; fin_cases a <;> first | rfl | exact (Nat.zero_add _).symm)
  | 3 =>
    show kernelRun0_B.sl.r_146 (F := Ideal) c arg14 harg14 xs0 (ix2 r l) = _
    pointwise [kernelRun0_B.sl.r_146, k0_pay221]
    exact ld_at arg14 harg14 xs0 _ _ _ _ _ (by intro a; fin_cases a <;> first | rfl | exact (Nat.zero_add _).symm)

/-- What the step reads, when its blocks hold the chunk. -/
theorem readsB (I : Chunk) (hb : Blk x0 x1 x2 x3 x4 x5 x6 I) (hd' : Holds I.D xs0) :
    Reads (inB (F := Ideal) c arg2 harg2 arg3 harg3 arg4 harg4 arg5 harg5 arg6 harg6 arg7 harg7 arg8 harg8 arg14 harg14 x0 x1 x2 x3 x4 x5 x6 xs0) I where
  x p q s e := by
    refine Eq.trans ?_ (hb.x p q s e)
    pointwise [In.xs]
    exact xB ..
  dy p q s e := by
    refine Eq.trans ?_ (hb.dy p q s e)
    pointwise [In.dyp]
    exact dyB ..
  st p q n e := (stB ..).trans (hb.st p q n e)
  ds p q n e := (dsB ..).trans (hd' p q n e)
  dt p q s := (dtB ..).trans (hb.dt _ s)
  a p q s := (aB ..).trans (hb.a _ s)
  b s n := (bB ..).trans (hb.b s n)
  c s n := (cB ..).trans (hb.c s n)

theorem stA (p : Fin 4) (r l : Fin 128) :
    (inA (F := Ideal) c arg2 harg2 arg3 harg3 arg4 harg4 arg5 harg5 arg6 harg6 arg7 harg7 arg8 harg8 arg14 x0 x1 x2 x3 x4 x5 x6).st p (ix2 r l) = x5 (ix5 0 0 p r l) := by
  match p with
  | 0 =>
    show kernelRun0_A.sl.r_6 (F := Ideal) c arg7 harg7 x5 (ix2 r l) = _
    pointwise [kernelRun0_A.sl.r_6, k0_pay23]
    exact ld_at arg7 harg7 x5 _ _ _ _ _ (by intro a; fin_cases a <;> first | rfl | exact (Nat.zero_add _).symm)
  | 1 =>
    show kernelRun0_A.sl.r_7 (F := Ideal) c arg7 harg7 x5 (ix2 r l) = _
    pointwise [kernelRun0_A.sl.r_7, k0_pay24]
    exact ld_at arg7 harg7 x5 _ _ _ _ _ (by intro a; fin_cases a <;> first | rfl | exact (Nat.zero_add _).symm)
  | 2 =>
    show kernelRun0_A.sl.r_8 (F := Ideal) c arg7 harg7 x5 (ix2 r l) = _
    pointwise [kernelRun0_A.sl.r_8, k0_pay25]
    exact ld_at arg7 harg7 x5 _ _ _ _ _ (by intro a; fin_cases a <;> first | rfl | exact (Nat.zero_add _).symm)
  | 3 =>
    show kernelRun0_A.sl.r_9 (F := Ideal) c arg7 harg7 x5 (ix2 r l) = _
    pointwise [kernelRun0_A.sl.r_9, k0_pay26]
    exact ld_at arg7 harg7 x5 _ _ _ _ _ (by intro a; fin_cases a <;> first | rfl | exact (Nat.zero_add _).symm)

theorem dtA (p : Fin 4) (q : Bool) (s : Fin 64) :
    (inA (F := Ideal) c arg2 harg2 arg3 harg3 arg4 harg4 arg5 harg5 arg6 harg6 arg7 harg7 arg8 harg8 arg14 x0 x1 x2 x3 x4 x5 x6).dt p q (ix2 0 s) = x3 (ix4 0 0 (hd p q) s) := by
  match p, q with
  | 0, false =>
    show kernelRun0_A.sl.r (F := Ideal) c arg5 harg5 x3 (ix2 0 s) = _
    pointwise [kernelRun0_A.sl.r, k0_pay7]
    exact ld_at arg5 harg5 x3 _ _ _ _ _ (by intro a; fin_cases a <;> first | rfl | exact (Nat.zero_add _).symm)
  | 0, true =>
    show kernelRun0_A.sl.r_1 (F := Ideal) c arg5 harg5 x3 (ix2 0 s) = _
    pointwise [kernelRun0_A.sl.r_1, k0_pay8]
    exact ld_at arg5 harg5 x3 _ _ _ _ _ (by intro a; fin_cases a <;> first | rfl | exact (Nat.zero_add _).symm)
  | 1, false =>
    show kernelRun0_A.sl.r_2 (F := Ideal) c arg5 harg5 x3 (ix2 0 s) = _
    pointwise [kernelRun0_A.sl.r_2, k0_pay9]
    exact ld_at arg5 harg5 x3 _ _ _ _ _ (by intro a; fin_cases a <;> first | rfl | exact (Nat.zero_add _).symm)
  | 1, true =>
    show kernelRun0_A.sl.r_3 (F := Ideal) c arg5 harg5 x3 (ix2 0 s) = _
    pointwise [kernelRun0_A.sl.r_3, k0_pay10]
    exact ld_at arg5 harg5 x3 _ _ _ _ _ (by intro a; fin_cases a <;> first | rfl | exact (Nat.zero_add _).symm)
  | 2, false =>
    show kernelRun0_A.sl.r_4 (F := Ideal) c arg5 harg5 x3 (ix2 0 s) = _
    pointwise [kernelRun0_A.sl.r_4, k0_pay11]
    exact ld_at arg5 harg5 x3 _ _ _ _ _ (by intro a; fin_cases a <;> first | rfl | exact (Nat.zero_add _).symm)
  | 2, true =>
    show kernelRun0_A.sl.v27 (F := Ideal) c arg5 harg5 x3 (ix2 0 s) = _
    pointwise [kernelRun0_A.sl.v27]
    exact ld_at arg5 harg5 x3 _ _ _ _ _ (by intro a; fin_cases a <;> first | rfl | exact (Nat.zero_add _).symm)
  | 3, false =>
    show kernelRun0_A.sl.v29 (F := Ideal) c arg5 harg5 x3 (ix2 0 s) = _
    pointwise [kernelRun0_A.sl.v29]
    exact ld_at arg5 harg5 x3 _ _ _ _ _ (by intro a; fin_cases a <;> first | rfl | exact (Nat.zero_add _).symm)
  | 3, true =>
    show kernelRun0_A.sl.v31 (F := Ideal) c arg5 harg5 x3 (ix2 0 s) = _
    pointwise [kernelRun0_A.sl.v31]
    exact ld_at arg5 harg5 x3 _ _ _ _ _ (by intro a; fin_cases a <;> first | rfl | exact (Nat.zero_add _).symm)

theorem aA (p : Fin 4) (q : Bool) (s : Fin 64) :
    (inA (F := Ideal) c arg2 harg2 arg3 harg3 arg4 harg4 arg5 harg5 arg6 harg6 arg7 harg7 arg8 harg8 arg14 x0 x1 x2 x3 x4 x5 x6).a p q (ix2 0 s) = x4 (ix4 0 0 (hd p q) s) := by
  match p, q with
  | 0, false =>
    show kernelRun0_A.sl.v33 (F := Ideal) c arg6 harg6 x4 (ix2 0 s) = _
    pointwise [kernelRun0_A.sl.v33]
    exact ld_at arg6 harg6 x4 _ _ _ _ _ (by intro a; fin_cases a <;> first | rfl | exact (Nat.zero_add _).symm)
  | 0, true =>
    show kernelRun0_A.sl.v35 (F := Ideal) c arg6 harg6 x4 (ix2 0 s) = _
    pointwise [kernelRun0_A.sl.v35]
    exact ld_at arg6 harg6 x4 _ _ _ _ _ (by intro a; fin_cases a <;> first | rfl | exact (Nat.zero_add _).symm)
  | 1, false =>
    show kernelRun0_A.sl.v37 (F := Ideal) c arg6 harg6 x4 (ix2 0 s) = _
    pointwise [kernelRun0_A.sl.v37]
    exact ld_at arg6 harg6 x4 _ _ _ _ _ (by intro a; fin_cases a <;> first | rfl | exact (Nat.zero_add _).symm)
  | 1, true =>
    show kernelRun0_A.sl.v39 (F := Ideal) c arg6 harg6 x4 (ix2 0 s) = _
    pointwise [kernelRun0_A.sl.v39]
    exact ld_at arg6 harg6 x4 _ _ _ _ _ (by intro a; fin_cases a <;> first | rfl | exact (Nat.zero_add _).symm)
  | 2, false =>
    show kernelRun0_A.sl.v41 (F := Ideal) c arg6 harg6 x4 (ix2 0 s) = _
    pointwise [kernelRun0_A.sl.v41]
    exact ld_at arg6 harg6 x4 _ _ _ _ _ (by intro a; fin_cases a <;> first | rfl | exact (Nat.zero_add _).symm)
  | 2, true =>
    show kernelRun0_A.sl.v43 (F := Ideal) c arg6 harg6 x4 (ix2 0 s) = _
    pointwise [kernelRun0_A.sl.v43]
    exact ld_at arg6 harg6 x4 _ _ _ _ _ (by intro a; fin_cases a <;> first | rfl | exact (Nat.zero_add _).symm)
  | 3, false =>
    show kernelRun0_A.sl.v45 (F := Ideal) c arg6 harg6 x4 (ix2 0 s) = _
    pointwise [kernelRun0_A.sl.v45]
    exact ld_at arg6 harg6 x4 _ _ _ _ _ (by intro a; fin_cases a <;> first | rfl | exact (Nat.zero_add _).symm)
  | 3, true =>
    show kernelRun0_A.sl.r_5 (F := Ideal) c arg6 harg6 x4 (ix2 0 s) = _
    pointwise [kernelRun0_A.sl.r_5, k0_pay22]
    exact ld_at arg6 harg6 x4 _ _ _ _ _ (by intro a; fin_cases a <;> first | rfl | exact (Nat.zero_add _).symm)

theorem xA (s : Fin 64) (j : Fin 512) :
    (inA (F := Ideal) c arg2 harg2 arg3 harg3 arg4 harg4 arg5 harg5 arg6 harg6 arg7 harg7 arg8 harg8 arg14 x0 x1 x2 x3 x4 x5 x6).x (ix2 s j) = x0 (ix2 s j) :=
  ld_at arg2 harg2 x0 _ _ _ _ _ (by intro a; fin_cases a <;> first | rfl | exact (Nat.zero_add _).symm)

theorem bA (s : Fin 64) (j : Fin 128) :
    (inA (F := Ideal) c arg2 harg2 arg3 harg3 arg4 harg4 arg5 harg5 arg6 harg6 arg7 harg7 arg8 harg8 arg14 x0 x1 x2 x3 x4 x5 x6).b (ix2 s j) = x1 (ix2 s j) :=
  ld_at arg3 harg3 x1 _ _ _ _ _ (by intro a; fin_cases a <;> first | rfl | exact (Nat.zero_add _).symm)

theorem cA (s : Fin 64) (j : Fin 128) :
    (inA (F := Ideal) c arg2 harg2 arg3 harg3 arg4 harg4 arg5 harg5 arg6 harg6 arg7 harg7 arg8 harg8 arg14 x0 x1 x2 x3 x4 x5 x6).c (ix2 s j) = x2 (ix2 s j) :=
  ld_at arg4 harg4 x2 _ _ _ _ _ (by intro a; fin_cases a <;> first | rfl | exact (Nat.zero_add _).symm)

theorem dyA (s : Fin 64) (j : Fin 512) :
    (inA (F := Ideal) c arg2 harg2 arg3 harg3 arg4 harg4 arg5 harg5 arg6 harg6 arg7 harg7 arg8 harg8 arg14 x0 x1 x2 x3 x4 x5 x6).dy (ix2 s j) = x6 (ix2 s j) :=
  ld_at arg8 harg8 x6 _ _ _ _ _ (by intro a; fin_cases a <;> first | rfl | exact (Nat.zero_add _).symm)

theorem dsA (p : Fin 4) (r l : Fin 128) :
    (inA (F := Ideal) c arg2 harg2 arg3 harg3 arg4 harg4 arg5 harg5 arg6 harg6 arg7 harg7 arg8 harg8 arg14 x0 x1 x2 x3 x4 x5 x6).ds p (ix2 r l) = 0 := by
  match p with
  | 0 =>
    show kernelRun0_A.sl.r_143 (F := Ideal) c arg14 (ix2 r l) = _
    pointwise [kernelRun0_A.sl.r_143, k0_pay218, kernelRun0_A.sl.v633]
    rw [View.readCov_eq_canon']
    exact zero_fill _
  | 1 =>
    show kernelRun0_A.sl.r_144 (F := Ideal) c arg14 (ix2 r l) = _
    pointwise [kernelRun0_A.sl.r_144, k0_pay219, kernelRun0_A.sl.v635]
    rw [View.readCov_eq_canon']
    exact zero_fill _
  | 2 =>
    show kernelRun0_A.sl.r_145 (F := Ideal) c arg14 (ix2 r l) = _
    pointwise [kernelRun0_A.sl.r_145, k0_pay220, kernelRun0_A.sl.v637]
    rw [View.readCov_eq_canon']
    exact zero_fill _
  | 3 =>
    show kernelRun0_A.sl.r_146 (F := Ideal) c arg14 (ix2 r l) = _
    pointwise [kernelRun0_A.sl.r_146, k0_pay221, kernelRun0_A.sl.v639]
    rw [View.readCov_eq_canon']
    exact zero_fill _

/-- What the step reads, when its blocks hold the chunk. -/
theorem readsA (I : Chunk) (hb : Blk x0 x1 x2 x3 x4 x5 x6 I) (hd' : ∀ r n e, I.D r n e = 0) :
    Reads (inA (F := Ideal) c arg2 harg2 arg3 harg3 arg4 harg4 arg5 harg5 arg6 harg6 arg7 harg7 arg8 harg8 arg14 x0 x1 x2 x3 x4 x5 x6) I where
  x p q s e := by
    refine Eq.trans ?_ (hb.x p q s e)
    pointwise [In.xs]
    exact xA ..
  dy p q s e := by
    refine Eq.trans ?_ (hb.dy p q s e)
    pointwise [In.dyp]
    exact dyA ..
  st p q n e := (stA ..).trans (hb.st p q n e)
  ds p q n e := (dsA ..).trans (hd' _ n e).symm
  dt p q s := (dtA ..).trans (hb.dt _ s)
  a p q s := (aA ..).trans (hb.a _ s)
  b s n := (bA ..).trans (hb.b s n)
  c s n := (cA ..).trans (hb.c s n)

end Cert.KernelIdeal.Scan
-- ==== Proof.Outs.lean ====
/- What one step of the kernel writes: the blocks of the five gradients, masked at the first chunk, and
   the gradient of the state it leaves for the next step. -/
module

public import proofs.«01_k».proof.Proof.Block

@[expose] public section

set_option maxRecDepth 16384

noncomputable section

namespace Cert.KernelIdeal.Scan

open Idealize.ShloMosaic Idealize.SL.Sem Cert.KernelIdeal.Gen Cert.Scan

/-- The mask down the rows of a block: only the first chunk has rows before the sequence begins. -/
theorem maskR (i : grid0.Coords) (s : Fin 64) (a b : EReal) :
    Scalar.select (k0_pay5 i (ix2 s 0)) a b = if (i 1).val = 64 ∧ s.val < 48 then b else a := by
  have hi : (i 1).val < 65 := (i 1).isLt
  pointwise [k0_pay5]
  word_cmp
  by_cases h1 : (i 1).val = 64 <;> by_cases h2 : s.val < 48
  · rw [decide_eq_true h1, decide_eq_false (not_le.mpr h2), if_pos ⟨h1, h2⟩]; rfl
  · rw [decide_eq_true h1, decide_eq_true (not_lt.mp h2), if_neg fun h => h2 h.2]; rfl
  · rw [decide_eq_false h1, decide_eq_false (not_le.mpr h2), if_neg fun h => h1 h.1]; rfl
  · rw [decide_eq_false h1, decide_eq_true (not_lt.mp h2), if_neg fun h => h1 h.1]; rfl
/-- The same mask along a row. -/
theorem maskC (i : grid0.Coords) (s : Fin 64) (a b : EReal) :
    Scalar.select (k0_pay6 i (ix2 0 s)) a b = if (i 1).val = 64 ∧ s.val < 48 then b else a := by
  refine Eq.trans ?_ (maskR i s a b)
  pointwise [k0_pay5, k0_pay6]

/-- The gradient of x, its eight heads beside each other. -/
theorem dxs_at {E : In Ideal} {I : Chunk} (h : Reads E I) (p : Fin 4) (q : Bool) (s e : Fin 64) :
    E.dxs (ix2 s (col p q e)) = I.dX (hd p q) s e := by
  have hl := (ln q e).isLt
  refine Eq.trans ?_ (In.dxsP_at h p q s e)
  have hc : (col p q e).val = 128 * p.val + (ln q e).val := rfl
  pointwise [In.dxs]
  match p with
  | 0 =>
    have h0 : (col 0 q e).val = (ln q e).val := by simpa using hc
    rw [dif_pos (by omega), dif_pos (by omega), dif_pos (by omega), dif_pos (by omega), dif_pos (by omega),
      dif_pos (by omega)]
    simp only [zero_add]; exact congrArg _ (congrArg (ix2 s) (Fin.ext h0))
  | 1 =>
    have h0 : (col 1 q e).val = 128 + (ln q e).val := by simpa using hc
    rw [dif_pos (by omega), dif_pos (by omega), dif_pos (by omega), dif_pos (by omega), dif_neg (by omega),
      dif_neg (by omega)]
    simp only [zero_add, add_zero]; exact congrArg _ (by idx_ext)
  | 2 =>
    have h0 : (col 2 q e).val = 256 + (ln q e).val := by simpa using hc
    rw [dif_pos (by omega), dif_pos (by omega), dif_neg (by omega), dif_neg (by omega), dif_neg (by omega)]
    simp only [zero_add, add_zero]; exact congrArg _ (by idx_ext)
  | 3 =>
    have h0 : (col 3 q e).val = 384 + (ln q e).val := by simpa using hc
    rw [dif_neg (by omega), dif_neg (by omega), dif_neg (by omega), dif_neg (by omega)]
    simp only [add_zero]; exact congrArg _ (by idx_ext)
/-- One row of a block of gradients, masked. -/
abbrev rowOf (m : Vec Ideal S1x64 .i1) (u : Vec Ideal S1x64 .f32) : Vec Ideal S1x1x1x64 .f32 :=
  shapeCast S1x1x1x64 (select m u (broadcast S1x64 (Scalar.ofBits (F := Ideal) .f32 0x00000000#32))) shapeCasts_S1x64_S1x1x1x64

theorem row_at (m : Vec Ideal S1x64 .i1) (u : Vec Ideal S1x64 .f32) (x : S1x1x1x64.Idx) (s : Fin 64)
    (h : s.val = (x 3).val) : rowOf m u x = Scalar.select (m (ix2 0 s)) (u (ix2 0 s)) 0 := by
  have hx : x = ix4 0 0 0 s := by
    idx_ext
  rw [hx]
  pointwise [rowOf]

/-- Eight rows stored one after the other. -/
theorem rows_at (m : Vec Ideal S1x64 .i1) (u0 u1 u2 u3 u4 u5 u6 u7 : Vec Ideal S1x64 .f32) (r : Fin 8) (s : Fin 64) :
    View.canon (Val := Elt Ideal) (s := S1x1x8x64) (e := .f32)
      [⟨Rect.unit (s := S1x1x8x64) ![0, 0, 7, 0] S1x1x1x64.size inb_S1x1x8x64_S1x1x1x64_0_0_7_0, rowOf m u7⟩,
       ⟨Rect.unit (s := S1x1x8x64) ![0, 0, 6, 0] S1x1x1x64.size inb_S1x1x8x64_S1x1x1x64_0_0_6_0, rowOf m u6⟩,
       ⟨Rect.unit (s := S1x1x8x64) ![0, 0, 5, 0] S1x1x1x64.size inb_S1x1x8x64_S1x1x1x64_0_0_5_0, rowOf m u5⟩,
       ⟨Rect.unit (s := S1x1x8x64) ![0, 0, 4, 0] S1x1x1x64.size inb_S1x1x8x64_S1x1x1x64_0_0_4_0, rowOf m u4⟩,
       ⟨Rect.unit (s := S1x1x8x64) ![0, 0, 3, 0] S1x1x1x64.size inb_S1x1x8x64_S1x1x1x64_0_0_3_0, rowOf m u3⟩,
       ⟨Rect.unit (s := S1x1x8x64) ![0, 0, 2, 0] S1x1x1x64.size inb_S1x1x8x64_S1x1x1x64_0_0_2_0, rowOf m u2⟩,
       ⟨Rect.unit (s := S1x1x8x64) ![0, 0, 1, 0] S1x1x1x64.size inb_S1x1x8x64_S1x1x1x64_0_0_1_0, rowOf m u1⟩,
       ⟨Rect.unit (s := S1x1x8x64) ![0, 0, 0, 0] S1x1x1x64.size inb_S1x1x8x64_S1x1x1x64_0_0_0_0, rowOf m u0⟩]
      (ix4 0 0 r s)
    = Scalar.select (m (ix2 0 s)) (((![u0, u1, u2, u3, u4, u5, u6, u7] : Fin 8 → Vec Ideal S1x64 .f32) r) (ix2 0 s)) 0 := by
  canon_tiles x h
  · obtain rfl : r = 7 := Fin.ext (show r.val = 7 from (by rw [show r.val = _ from h2]; omega))
    exact row_at m u7 x s h3
  · obtain rfl : r = 6 := Fin.ext (show r.val = 6 from (by rw [show r.val = _ from h2]; omega))
    exact row_at m u6 x s h3
  · obtain rfl : r = 5 := Fin.ext (show r.val = 5 from (by rw [show r.val = _ from h2]; omega))
    exact row_at m u5 x s h3
  · obtain rfl : r = 4 := Fin.ext (show r.val = 4 from (by rw [show r.val = _ from h2]; omega))
    exact row_at m u4 x s h3
  · obtain rfl : r = 3 := Fin.ext (show r.val = 3 from (by rw [show r.val = _ from h2]; omega))
    exact row_at m u3 x s h3
  · obtain rfl : r = 2 := Fin.ext (show r.val = 2 from (by rw [show r.val = _ from h2]; omega))
    exact row_at m u2 x s h3
  · obtain rfl : r = 1 := Fin.ext (show r.val = 1 from (by rw [show r.val = _ from h2]; omega))
    exact row_at m u1 x s h3
  · obtain rfl : r = 0 := Fin.ext (show r.val = 0 from (by rw [show r.val = _ from h2]; omega))
    exact row_at m u0 x s h3

/-- One slab of the state gradient, stored. -/
abbrev slabOf (u : Vec Ideal S128x128 .f32) : Vec Ideal S1x128x128 .f32 :=
  shapeCast S1x128x128 u shapeCasts_S128x128_S1x128x128

theorem slab_at (u : Vec Ideal S128x128 .f32) (x : S1x128x128.Idx) (n l : Fin 128)
    (h1 : n.val = (x 1).val) (h2 : l.val = (x 2).val) : slabOf u x = u (ix2 n l) := by
  have hx : x = ix3 0 n l := by
    idx_ext
  rw [hx]
  pointwise [slabOf]

/-- Four slabs stored one after the other. -/
abbrev slabs (u0 u1 u2 u3 : Vec Ideal S128x128 .f32) : List (View.Piece (Elt Ideal) S4x128x128 .f32) :=
      [⟨Rect.unit (s := S4x128x128) ![3, 0, 0] S1x128x128.size inb_S4x128x128_S1x128x128_3_0_0, slabOf u3⟩,
       ⟨Rect.unit (s := S4x128x128) ![2, 0, 0] S1x128x128.size inb_S4x128x128_S1x128x128_2_0_0, slabOf u2⟩,
       ⟨Rect.unit (s := S4x128x128) ![1, 0, 0] S1x128x128.size inb_S4x128x128_S1x128x128_1_0_0, slabOf u1⟩,
       ⟨Rect.unit (s := S4x128x128) ![0, 0, 0] S1x128x128.size inb_S4x128x128_S1x128x128_0_0_0, slabOf u0⟩]

theorem slabs_at (u0 u1 u2 u3 : Vec Ideal S128x128 .f32) (p : Fin 4) (n l : Fin 128) :
    View.canon (slabs u0 u1 u2 u3) (ix3 p n l)
    = ((![u0, u1, u2, u3] : Fin 4 → Vec Ideal S128x128 .f32) p) (ix2 n l) := by
  canon_tiles x h
  · obtain rfl : p = 3 := Fin.ext (show p.val = 3 from (by rw [show p.val = _ from h0]; omega))
    exact slab_at u3 x n l h1 h2
  · obtain rfl : p = 2 := Fin.ext (show p.val = 2 from (by rw [show p.val = _ from h0]; omega))
    exact slab_at u2 x n l h1 h2
  · obtain rfl : p = 1 := Fin.ext (show p.val = 1 from (by rw [show p.val = _ from h0]; omega))
    exact slab_at u1 x n l h1 h2
  · obtain rfl : p = 0 := Fin.ext (show p.val = 0 from (by rw [show p.val = _ from h0]; omega))
    exact slab_at u0 x n l h1 h2
/-- Where earlier stores are covered by later ones they do not matter. -/
theorem canon_over {S : Shape} {e : EltTy} (L' : List (View.Piece (Elt Ideal) S e)) :
    ∀ (L : List (View.Piece (Elt Ideal) S e)) (y : S.Idx), (∃ p ∈ L, y ∈ p.1.set) →
      View.canon (L ++ L') y = View.canon L y
  | [], _, h => by obtain ⟨_, hp, _⟩ := h; simp at hp
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      obtain ⟨q, hq, hy⟩ := h
      rcases List.mem_cons.mp hq with rfl | hq'
      · exact absurd hy hm
      · exact canon_over L' L y ⟨q, hq', hy⟩

/-- Four slabs stored over a fill. -/
theorem slabs_at_fill (u0 u1 u2 u3 : Vec Ideal S128x128 .f32) (L : List (View.Piece (Elt Ideal) S4x128x128 .f32))
    (p : Fin 4) (n l : Fin 128) : View.canon (slabs u0 u1 u2 u3 ++ L) (ix3 p n l)
      = ((![u0, u1, u2, u3] : Fin 4 → Vec Ideal S128x128 .f32) p) (ix2 n l) :=
  (canon_over _ _ _ (View.cover_of_tiledL (slabs u0 u1 u2 u3) S1x128x128.size (by sl_kernel_rfl) _)).trans
    (slabs_at u0 u1 u2 u3 p n l)

/-- One store of the whole block, masked: 512 columns. -/
theorem wide_at (m : Vec Ideal S64x1 .i1) (u : Vec Ideal S64x512 .f32) (s : Fin 64) (l : Fin 512) :
    View.canon (Val := Elt Ideal) (s := S64x512) (e := .f32)
      [⟨Rect.unit (s := S64x512) ![0, 0] S64x512.size inb_S64x512_S64x512_0_0, k0_pay466 (F := Ideal) m u⟩] (ix2 s l)
    = Scalar.select (m (ix2 s 0)) (u (ix2 s l)) 0 := by
  rw [View.canon_cons_unit_lit' (S := S64x512) (Val := Elt Ideal) _ _ _ (by decide)]
  pointwise [k0_pay466]

/-- The same with 128 columns. -/
theorem narrow_at (m : Vec Ideal S64x1 .i1) (u : Vec Ideal S64x128 .f32) (s : Fin 64) (l : Fin 128) :
    View.canon (Val := Elt Ideal) (s := S64x128) (e := .f32)
      [⟨Rect.unit (s := S64x128) ![0, 0] S64x128.size inb_S64x128_S64x128_0_0, k0_pay467 (F := Ideal) m u⟩] (ix2 s l)
    = Scalar.select (m (ix2 s 0)) (u (ix2 s l)) 0 := by
  rw [View.canon_cons_unit_lit' (S := S64x128) (Val := Elt Ideal) _ _ _ (by decide)]
  pointwise [k0_pay467]

/-- What a step has written, when its chunk is `I`. -/
structure Left (i : grid0.Coords) (I : Chunk) (o7 : Vec Ideal S64x512 .f32) (o8 o9 : Vec Ideal S64x128 .f32)
    (o10 o11 : Vec Ideal S1x1x8x64 .f32) (so : Vec Ideal S4x128x128 .f32) : Prop where
  dX : ∀ p q s e, o7 (ix2 s (col p q e)) = if (i 1).val = 64 ∧ s.val < 48 then 0 else I.dX (hd p q) s e
  dB : ∀ s n, o8 (ix2 s n) = if (i 1).val = 64 ∧ s.val < 48 then 0 else I.dB s n
  dC : ∀ s n, o9 (ix2 s n) = if (i 1).val = 64 ∧ s.val < 48 then 0 else I.dC s n
  dDT : ∀ r s, o10 (ix4 0 0 r s) = if (i 1).val = 64 ∧ s.val < 48 then 0 else I.dDT r s
  dA : ∀ r s, o11 (ix4 0 0 r s) = if (i 1).val = 64 ∧ s.val < 48 then 0 else I.dA r s
  dS : Holds I.dS so

variable (c : Dev nD) (i : grid0.Coords) (arg2 : Memref sig .tc .vmem S64x512 .f32) (harg2 : arg2.IsWhole)
  (arg3 : Memref sig .tc .vmem S64x128 .f32) (harg3 : arg3.IsWhole) (arg4 : Memref sig .tc .vmem S64x128
  .f32) (harg4 : arg4.IsWhole) (arg5 : Memref sig .tc .vmem S1x1x8x64 .f32) (harg5 : arg5.IsWhole) (arg6 :
  Memref sig .tc .vmem S1x1x8x64 .f32) (harg6 : arg6.IsWhole) (arg7 : Memref sig .tc .vmem S1x1x4x128x128
  .f32) (harg7 : arg7.IsWhole) (arg8 : Memref sig .tc .vmem S64x512 .f32) (harg8 : arg8.IsWhole) (arg9 :
  Memref sig .tc .vmem S64x512 .f32) (harg9 : arg9.IsWhole) (arg10 : Memref sig .tc .vmem S64x128 .f32)
  (harg10 : arg10.IsWhole) (arg11 : Memref sig .tc .vmem S64x128 .f32) (harg11 : arg11.IsWhole) (arg12 :
  Memref sig .tc .vmem S1x1x8x64 .f32) (harg12 : arg12.IsWhole) (arg13 : Memref sig .tc .vmem S1x1x8x64
  .f32) (harg13 : arg13.IsWhole) (arg14 : Memref sig .tc .vmem S4x128x128 .f32) (harg14 : arg14.IsWhole) (x0
  : Vec Ideal S64x512 .f32) (x1 : Vec Ideal S64x128 .f32) (x2 : Vec Ideal S64x128 .f32) (x3 : Vec Ideal
  S1x1x8x64 .f32) (x4 : Vec Ideal S1x1x8x64 .f32) (x5 : Vec Ideal S1x1x4x128x128 .f32) (x6 : Vec Ideal
  S64x512 .f32) (xs0 : Vec Ideal S4x128x128 .f32)

set_option maxHeartbeats 2000000 in
/-- The step writes the gradients of its chunk. -/
theorem leftB (hc0 : ¬cond0_0 i) (I : Chunk) (hb : Blk x0 x1 x2 x3 x4 x5 x6 I) (hd' : Holds I.D xs0) :
    Left i I
      (out0_B_7 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6 xs0)
      (out0_B_8 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6 xs0)
      (out0_B_9 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6 xs0)
      (out0_B_10 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6 xs0)
      (out0_B_11 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6 xs0)
      (sout0_B_0 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6 xs0) := by
  have hr := readsB c arg2 harg2 arg3 harg3 arg4 harg4 arg5 harg5 arg6 harg6 arg7 harg7 arg8 harg8 arg14
    harg14 x0 x1 x2 x3 x4 x5 x6 xs0 I hb hd'
  obtain ⟨v0, v1, v2, t0, t1, t2, t3, t4, t5, t6, t7, a0, a1, a2, a3, a4, a5, a6, a7, s0, s1, s2, s3⟩ :=
    valuesB (F := Ideal) c arg2 harg2 arg3 harg3 arg4 harg4 arg5 harg5 arg6 harg6 arg7 harg7 arg8 harg8 arg14
      harg14 x0 x1 x2 x3 x4 x5 x6 xs0 _ rfl
  generalize (inB (F := Ideal) c arg2 harg2 arg3 harg3 arg4 harg4 arg5 harg5 arg6 harg6 arg7 harg7 arg8 harg8 arg14 harg14 x0 x1 x2 x3 x4 x5 x6 xs0) = E at hr v0 v1 v2 t0 t1 t2 t3 t4 t5 t6 t7 a0 a1 a2 a3 a4 a5 a6 a7 s0 s1 s2 s3
  refine ⟨fun p q s e => ?_, fun s n => ?_, fun s n => ?_, fun r s => ?_, fun r s => ?_, fun p q n e => ?_⟩
  · unfold out0_B_7
    rw [View.read_writes_junk_eq_canon]
    refine (wide_at (k0_pay5 i) _ s (col p q e)).trans ?_
    rw [v0, maskR, dxs_at hr p q s e]
  · unfold out0_B_8
    rw [View.read_writes_junk_eq_canon]
    refine (narrow_at (k0_pay5 i) _ s n).trans ?_
    rw [v1, maskR, In.dB_at hr s n]
  · unfold out0_B_9
    rw [View.read_writes_junk_eq_canon]
    refine (narrow_at (k0_pay5 i) _ s n).trans ?_
    rw [v2, maskR, In.dC_at hr s n]
  · unfold out0_B_10
    rw [View.read_writes_junk_eq_canon]
    obtain ⟨p, q, rfl⟩ := exists_hd r
    refine Eq.trans (b := _) ?_ (maskC i s _ _)
    refine (rows_at (k0_pay6 i) (kernelRun0_B.sl.r_248 (F := Ideal) c arg2 harg2 arg3 harg3 arg4 harg4 arg6
      harg6 arg8 harg8 arg14 harg14 x0 x1 x2 x4 x6 xs0) (kernelRun0_B.sl.r_247 (F := Ideal) c arg2 harg2
      arg3 harg3 arg4 harg4 arg6 harg6 arg8 harg8 arg14 harg14 x0 x1 x2 x4 x6 xs0) (kernelRun0_B.sl.r_246 (F
      := Ideal) c arg2 harg2 arg3 harg3 arg4 harg4 arg6 harg6 arg8 harg8 arg14 harg14 x0 x1 x2 x4 x6 xs0)
      (kernelRun0_B.sl.r_245 (F := Ideal) c arg2 harg2 arg3 harg3 arg4 harg4 arg6 harg6 arg8 harg8 arg14
      harg14 x0 x1 x2 x4 x6 xs0) (kernelRun0_B.sl.r_244 (F := Ideal) c arg2 harg2 arg3 harg3 arg4 harg4 arg6
      harg6 arg8 harg8 arg14 harg14 x0 x1 x2 x4 x6 xs0) (kernelRun0_B.sl.r_243 (F := Ideal) c arg2 harg2
      arg3 harg3 arg4 harg4 arg6 harg6 arg8 harg8 arg14 harg14 x0 x1 x2 x4 x6 xs0) (kernelRun0_B.sl.r_242 (F
      := Ideal) c arg2 harg2 arg3 harg3 arg4 harg4 arg6 harg6 arg8 harg8 arg14 harg14 x0 x1 x2 x4 x6 xs0)
      (kernelRun0_B.sl.r_241 (F := Ideal) c arg2 harg2 arg3 harg3 arg4 harg4 arg6 harg6 arg8 harg8 arg14
      harg14 x0 x1 x2 x4 x6 xs0) (hd p q) s).trans ?_
    rw [t0, t1, t2, t3, t4, t5, t6, t7, ← In.ddtR_at hr p q s]
    refine congrArg (fun z => Scalar.select _ z (0 : EReal)) ?_
    match p, q with
    | 0, false => rfl
    | 0, true => rfl
    | 1, false => rfl
    | 1, true => rfl
    | 2, false => rfl
    | 2, true => rfl
    | 3, false => rfl
    | 3, true => rfl
  · unfold out0_B_11
    rw [View.read_writes_junk_eq_canon]
    obtain ⟨p, q, rfl⟩ := exists_hd r
    refine Eq.trans (b := _) ?_ (maskC i s _ _)
    refine (rows_at (k0_pay6 i) (kernelRun0_B.sl.r_317 (F := Ideal) c arg2 harg2 arg3 harg3 arg4 harg4 arg5
      harg5 arg6 harg6 arg7 harg7 arg8 harg8 arg14 harg14 x0 x1 x2 x3 x4 x5 x6 xs0) (kernelRun0_B.sl.r_316
      (F := Ideal) c arg2 harg2 arg3 harg3 arg4 harg4 arg5 harg5 arg6 harg6 arg7 harg7 arg8 harg8 arg14
      harg14 x0 x1 x2 x3 x4 x5 x6 xs0) (kernelRun0_B.sl.r_314 (F := Ideal) c arg2 harg2 arg3 harg3 arg4
      harg4 arg5 harg5 arg6 harg6 arg7 harg7 arg8 harg8 arg14 harg14 x0 x1 x2 x3 x4 x5 x6 xs0)
      (kernelRun0_B.sl.r_313 (F := Ideal) c arg2 harg2 arg3 harg3 arg4 harg4 arg5 harg5 arg6 harg6 arg7
      harg7 arg8 harg8 arg14 harg14 x0 x1 x2 x3 x4 x5 x6 xs0) (kernelRun0_B.sl.r_311 (F := Ideal) c arg2
      harg2 arg3 harg3 arg4 harg4 arg5 harg5 arg6 harg6 arg7 harg7 arg8 harg8 arg14 harg14 x0 x1 x2 x3 x4 x5
      x6 xs0) (kernelRun0_B.sl.r_310 (F := Ideal) c arg2 harg2 arg3 harg3 arg4 harg4 arg5 harg5 arg6 harg6
      arg7 harg7 arg8 harg8 arg14 harg14 x0 x1 x2 x3 x4 x5 x6 xs0) (kernelRun0_B.sl.r_308 (F := Ideal) c
      arg2 harg2 arg3 harg3 arg4 harg4 arg5 harg5 arg6 harg6 arg7 harg7 arg8 harg8 arg14 harg14 x0 x1 x2 x3
      x4 x5 x6 xs0) (kernelRun0_B.sl.r_307 (F := Ideal) c arg2 harg2 arg3 harg3 arg4 harg4 arg5 harg5 arg6
      harg6 arg7 harg7 arg8 harg8 arg14 harg14 x0 x1 x2 x3 x4 x5 x6 xs0) (hd p q) s).trans ?_
    rw [a0, a1, a2, a3, a4, a5, a6, a7, ← In.da_at hr p q s]
    refine congrArg (fun z => Scalar.select _ z (0 : EReal)) ?_
    match p, q with
    | 0, false => rfl
    | 0, true => rfl
    | 1, false => rfl
    | 1, true => rfl
    | 2, false => rfl
    | 2, true => rfl
    | 3, false => rfl
    | 3, true => rfl
  · unfold sout0_B_0
    rw [View.read_writes_junk_eq_canon]
    refine (slabs_at (kernelRun0_B.sl.r_208 (F := Ideal) c arg4 harg4 arg6 harg6 arg8 harg8 arg14 harg14 x2 x4
      x6 xs0) (kernelRun0_B.sl.r_207 (F := Ideal) c arg4 harg4 arg6 harg6 arg8 harg8 arg14 harg14 x2 x4 x6
      xs0) (kernelRun0_B.sl.r_206 (F := Ideal) c arg4 harg4 arg6 harg6 arg8 harg8 arg14 harg14 x2 x4 x6 xs0)
      (kernelRun0_B.sl.r_205 (F := Ideal) c arg4 harg4 arg6 harg6 arg8 harg8 arg14 harg14 x2 x4 x6 xs0) p n
      (ln q e)).trans ?_
    rw [s0, s1, s2, s3, ← In.dS_at hr p q n e]
    match p with
    | 0 => rfl
    | 1 => rfl
    | 2 => rfl
    | 3 => rfl

set_option maxHeartbeats 2000000 in
/-- The step writes the gradients of its chunk: the first position of a group, where the state starts at zero. -/
theorem leftA (hc0 : cond0_0 i) (I : Chunk) (hb : Blk x0 x1 x2 x3 x4 x5 x6 I) (hd' : ∀ r n e, I.D r n e = 0) :
    Left i I
      (out0_A_7 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6)
      (out0_A_8 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6)
      (out0_A_9 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6)
      (out0_A_10 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6)
      (out0_A_11 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6)
      (sout0_A_0 c i arg2 harg2 arg3 harg3 arg4 harg4 arg5 harg5 arg6 harg6 arg7 harg7 arg8 harg8 arg9 harg9 arg10
        harg10 arg11 harg11 arg12 harg12 arg13 harg13 arg14 harg14 hc0 x0 x1 x2 x3 x4 x5 x6) := by
  have hr := readsA c arg2 harg2 arg3 harg3 arg4 harg4 arg5 harg5 arg6 harg6 arg7 harg7 arg8 harg8 arg14 x0 x1
    x2 x3 x4 x5 x6 I hb hd'
  obtain ⟨v0, v1, v2, t0, t1, t2, t3, t4, t5, t6, t7, a0, a1, a2, a3, a4, a5, a6, a7, s0, s1, s2, s3⟩ :=
    valuesA (F := Ideal) c arg2 harg2 arg3 harg3 arg4 harg4 arg5 harg5 arg6 harg6 arg7 harg7 arg8 harg8 arg14 x0
      x1 x2 x3 x4 x5 x6 _ rfl
  generalize (inA (F := Ideal) c arg2 harg2 arg3 harg3 arg4 harg4 arg5 harg5 arg6 harg6 arg7 harg7 arg8 harg8 arg14 x0 x1 x2 x3 x4 x5 x6) = E at hr v0 v1 v2 t0 t1 t2 t3 t4 t5 t6 t7 a0 a1 a2 a3 a4 a5 a6 a7 s0 s1 s2 s3
  refine ⟨fun p q s e => ?_, fun s n => ?_, fun s n => ?_, fun r s => ?_, fun r s => ?_, fun p q n e => ?_⟩
  · unfold out0_A_7
    rw [View.read_writes_junk_eq_canon]
    refine (wide_at (k0_pay5 i) _ s (col p q e)).trans ?_
    rw [v0, maskR, dxs_at hr p q s e]
  · unfold out0_A_8
    rw [View.read_writes_junk_eq_canon]
    refine (narrow_at (k0_pay5 i) _ s n).trans ?_
    rw [v1, maskR, In.dB_at hr s n]
  · unfold out0_A_9
    rw [View.read_writes_junk_eq_canon]
    refine (narrow_at (k0_pay5 i) _ s n).trans ?_
    rw [v2, maskR, In.dC_at hr s n]
  · unfold out0_A_10
    rw [View.read_writes_junk_eq_canon]
    obtain ⟨p, q, rfl⟩ := exists_hd r
    refine Eq.trans (b := _) ?_ (maskC i s _ _)
    refine (rows_at (k0_pay6 i) (kernelRun0_A.sl.r_248 (F := Ideal) c arg2 harg2 arg3 harg3 arg4 harg4 arg6
      harg6 arg8 harg8 arg14 x0 x1 x2 x4 x6 ) (kernelRun0_A.sl.r_247 (F := Ideal) c arg2 harg2 arg3 harg3
      arg4 harg4 arg6 harg6 arg8 harg8 arg14 x0 x1 x2 x4 x6 ) (kernelRun0_A.sl.r_246 (F := Ideal) c arg2
      harg2 arg3 harg3 arg4 harg4 arg6 harg6 arg8 harg8 arg14 x0 x1 x2 x4 x6 ) (kernelRun0_A.sl.r_245 (F :=
      Ideal) c arg2 harg2 arg3 harg3 arg4 harg4 arg6 harg6 arg8 harg8 arg14 x0 x1 x2 x4 x6 )
      (kernelRun0_A.sl.r_244 (F := Ideal) c arg2 harg2 arg3 harg3 arg4 harg4 arg6 harg6 arg8 harg8 arg14 x0
      x1 x2 x4 x6 ) (kernelRun0_A.sl.r_243 (F := Ideal) c arg2 harg2 arg3 harg3 arg4 harg4 arg6 harg6 arg8
      harg8 arg14 x0 x1 x2 x4 x6 ) (kernelRun0_A.sl.r_242 (F := Ideal) c arg2 harg2 arg3 harg3 arg4 harg4
      arg6 harg6 arg8 harg8 arg14 x0 x1 x2 x4 x6 ) (kernelRun0_A.sl.r_241 (F := Ideal) c arg2 harg2 arg3
      harg3 arg4 harg4 arg6 harg6 arg8 harg8 arg14 x0 x1 x2 x4 x6 ) (hd p q) s).trans ?_
    rw [t0, t1, t2, t3, t4, t5, t6, t7, ← In.ddtR_at hr p q s]
    refine congrArg (fun z => Scalar.select _ z (0 : EReal)) ?_
    match p, q with
    | 0, false => rfl
    | 0, true => rfl
    | 1, false => rfl
    | 1, true => rfl
    | 2, false => rfl
    | 2, true => rfl
    | 3, false => rfl
    | 3, true => rfl
  · unfold out0_A_11
    rw [View.read_writes_junk_eq_canon]
    obtain ⟨p, q, rfl⟩ := exists_hd r
    refine Eq.trans (b := _) ?_ (maskC i s _ _)
    refine (rows_at (k0_pay6 i) (kernelRun0_A.sl.r_317 (F := Ideal) c arg2 harg2 arg3 harg3 arg4 harg4 arg5
      harg5 arg6 harg6 arg7 harg7 arg8 harg8 arg14 x0 x1 x2 x3 x4 x5 x6) (kernelRun0_A.sl.r_316 (F := Ideal)
      c arg2 harg2 arg3 harg3 arg4 harg4 arg5 harg5 arg6 harg6 arg7 harg7 arg8 harg8 arg14 x0 x1 x2 x3 x4 x5
      x6) (kernelRun0_A.sl.r_314 (F := Ideal) c arg2 harg2 arg3 harg3 arg4 harg4 arg5 harg5 arg6 harg6 arg7
      harg7 arg8 harg8 arg14 x0 x1 x2 x3 x4 x5 x6) (kernelRun0_A.sl.r_313 (F := Ideal) c arg2 harg2 arg3
      harg3 arg4 harg4 arg5 harg5 arg6 harg6 arg7 harg7 arg8 harg8 arg14 x0 x1 x2 x3 x4 x5 x6)
      (kernelRun0_A.sl.r_311 (F := Ideal) c arg2 harg2 arg3 harg3 arg4 harg4 arg5 harg5 arg6 harg6 arg7
      harg7 arg8 harg8 arg14 x0 x1 x2 x3 x4 x5 x6) (kernelRun0_A.sl.r_310 (F := Ideal) c arg2 harg2 arg3
      harg3 arg4 harg4 arg5 harg5 arg6 harg6 arg7 harg7 arg8 harg8 arg14 x0 x1 x2 x3 x4 x5 x6)
      (kernelRun0_A.sl.r_308 (F := Ideal) c arg2 harg2 arg3 harg3 arg4 harg4 arg5 harg5 arg6 harg6 arg7
      harg7 arg8 harg8 arg14 x0 x1 x2 x3 x4 x5 x6) (kernelRun0_A.sl.r_307 (F := Ideal) c arg2 harg2 arg3
      harg3 arg4 harg4 arg5 harg5 arg6 harg6 arg7 harg7 arg8 harg8 arg14 x0 x1 x2 x3 x4 x5 x6) (hd p q)
      s).trans ?_
    rw [a0, a1, a2, a3, a4, a5, a6, a7, ← In.da_at hr p q s]
    refine congrArg (fun z => Scalar.select _ z (0 : EReal)) ?_
    match p, q with
    | 0, false => rfl
    | 0, true => rfl
    | 1, false => rfl
    | 1, true => rfl
    | 2, false => rfl
    | 2, true => rfl
    | 3, false => rfl
    | 3, true => rfl
  · unfold sout0_A_0
    rw [View.read_writes_junk_eq_canon]
    refine (slabs_at_fill (kernelRun0_A.sl.r_208 (F := Ideal) c arg4 harg4 arg6 harg6 arg8 harg8 arg14 x2 x4 x6)
      (kernelRun0_A.sl.r_207 (F := Ideal) c arg4 harg4 arg6 harg6 arg8 harg8 arg14 x2 x4 x6)
      (kernelRun0_A.sl.r_206 (F := Ideal) c arg4 harg4 arg6 harg6 arg8 harg8 arg14 x2 x4 x6)
      (kernelRun0_A.sl.r_205 (F := Ideal) c arg4 harg4 arg6 harg6 arg8 harg8 arg14 x2 x4 x6)
      (kernelRun0_A.sl.HS0_1 (F := Ideal)) p n (ln q e)).trans ?_
    rw [s0, s1, s2, s3, ← In.dS_at hr p q n e]
    match p with
    | 0 => rfl
    | 1 => rfl
    | 2 => rfl
    | 3 => rfl

end Cert.KernelIdeal.Scan
-- ==== Proof.Steps.lean ====
/- The whole backward scan: the chunks cut from the arrays, last chunk first, each with the state gradient
   that the chunks after it leave. -/
module

public import proofs.«01_k».proof.Proof.Spec

@[expose] public section

noncomputable section

namespace Cert.Scan

open Idealize.ShloMosaic

/-- The five arrays, entry by entry: x, b and c beside each other; step sizes; decays; states before each
    chunk, two heads to a row of 128 lanes; gradient of the output. -/
structure Args where
  xbc : Fin 4160 → Fin 3072 → EReal
  dt : Fin 4160 → Fin 32 → EReal
  a : Fin 4160 → Fin 32 → EReal
  ss : Fin 65 → Fin 16 → Fin 128 → Fin 128 → EReal
  dy : Fin 4160 → Fin 2048 → EReal

/-- Position `s` of chunk `k`. -/
def row (k : Fin 65) (s : Fin 64) : Fin 4160 := ⟨64 * k.val + s.val, by omega⟩
/-- Head `r` of group `g`, its channel `e`, and a channel of the group's b. -/
def head (g : Fin 4) (r : Fin 8) : Fin 32 := ⟨8 * g.val + r.val, by omega⟩
def chan (g : Fin 4) (r : Fin 8) (e : Fin 64) : Fin 2048 := ⟨512 * g.val + 64 * r.val + e.val, by omega⟩
def gchan (g : Fin 4) (n : Fin 128) : Fin 512 := ⟨128 * g.val + n.val, by omega⟩

theorem exists_row (i : Fin 4160) : ∃ k s, i = row k s :=
  ⟨⟨i.val / 64, by omega⟩, ⟨i.val % 64, by omega⟩, Fin.ext (by simp only [row]; omega)⟩
theorem exists_head (i : Fin 32) : ∃ g r, i = head g r :=
  ⟨⟨i.val / 8, by omega⟩, ⟨i.val % 8, by omega⟩, Fin.ext (by simp only [head]; omega)⟩
theorem exists_chan (i : Fin 2048) : ∃ g r e, i = chan g r e :=
  ⟨⟨i.val / 512, by omega⟩, ⟨i.val % 512 / 64, by omega⟩, ⟨i.val % 64, by omega⟩,
    Fin.ext (by simp only [chan]; omega)⟩
theorem exists_gchan (i : Fin 512) : ∃ g n, i = gchan g n :=
  ⟨⟨i.val / 128, by omega⟩, ⟨i.val % 128, by omega⟩, Fin.ext (by simp only [gchan]; omega)⟩

namespace Args

variable (P : Args)

/-- Chunk `k` of group `g`, with the gradient `D` of the state after it. -/
def chunk (k : Fin 65) (g : Fin 4) (D : Fin 8 → Fin 128 → Fin 64 → EReal) : Chunk where
  X r s e := P.xbc (row k s) ⟨512 * g.val + 64 * r.val + e.val, by omega⟩
  DT r s := P.dt (row k s) (head g r)
  A r s := P.a (row k s) (head g r)
  B s n := P.xbc (row k s) ⟨2048 + 128 * g.val + n.val, by omega⟩
  C s n := P.xbc (row k s) ⟨2560 + 128 * g.val + n.val, by omega⟩
  S r n e := P.ss k ⟨4 * g.val + r.val / 2, by omega⟩ n ⟨64 * (r.val % 2) + e.val, by omega⟩
  D := D
  Y r s e := P.dy (row k s) (chan g r e)

/-- The gradient of the state before the last `n` chunks: zero after the last one. -/
def later (g : Fin 4) : ℕ → Fin 8 → Fin 128 → Fin 64 → EReal
  | 0 => fun _ _ _ => 0
  | n + 1 => (P.chunk ⟨64 - n, by omega⟩ g (later g n)).dS

/-- Chunk `k` with what the chunks after it leave. -/
def at_ (k : Fin 65) (g : Fin 4) : Chunk := P.chunk k g (P.later g (64 - k.val))

theorem later_succ (k : Fin 65) (g : Fin 4) (n : ℕ) (h : k.val + n = 64) :
    P.later g (n + 1) = (P.at_ k g).dS := by
  obtain rfl : n = 64 - k.val := by omega
  show (P.chunk ⟨64 - (64 - k.val), by omega⟩ g _).dS = _
  rw [show (⟨64 - (64 - k.val), by omega⟩ : Fin 65) = k from Fin.ext (by show 64 - (64 - k.val) = k.val; omega)]
  rfl

end Args

end Cert.Scan
-- ==== Proof.Kern.lean ====
/- The kernel's run: the scratch carries the gradient of the state from chunk to chunk, so each point works
   on the chunk of `Steps`, and the five result arrays hold the gradients. -/
module

public import proofs.«01_k».proof.Proof.Outs
public import proofs.«01_k».proof.Proof.Steps
public import proofs.«01_k».proof.Proof.Gen.KernelIdeal.Value

@[expose] public section

set_option maxRecDepth 16384

noncomputable section

namespace Cert.KernelIdeal.Scan

open Cert.KernelIdeal Cert.KernelIdeal.Gen Cert.Scan
open Idealize.ShloMosaic Idealize.ShloMosaic.TcCoe Idealize.SL.Sem
open Idealize.ShloMosaic.Pipeline (Dat)

variable (m : (ℓ : Loc nD τ sig) → Buf (Elt Ideal) ℓ) (c : Dev nD)

/-- The kernel's arguments. -/
def args : Args where
  xbc i j := (m ((c : Thread nD τ).loc main_arg0) : Vec Ideal S4160x3072 .f32) (ix2 i j)
  dt i j := (m ((c : Thread nD τ).loc main_arg1) : Vec Ideal S4160x32 .f32) (ix2 i j)
  a i j := (m ((c : Thread nD τ).loc main_arg2) : Vec Ideal S4160x32 .f32) (ix2 i j)
  ss k w n l := (m ((c : Thread nD τ).loc main_arg3) : Vec Ideal S1x65x16x128x128 .f32) (ix5 0 k w n l)
  dy i j := (m ((c : Thread nD τ).loc main_arg4) : Vec Ideal S4160x2048 .f32) (ix2 i j)

theorem idx : ∀ t : Fin cfg0.N,
    win0_0.index t = ![64 - t.val % 65, t.val / 65] ∧ win0_1.index t = ![64 - t.val % 65, 16 + t.val / 65]
    ∧ win0_2.index t = ![64 - t.val % 65, 20 + t.val / 65] ∧ win0_3.index t = ![t.val / 65, 64 - t.val % 65, 0, 0]
    ∧ win0_4.index t = ![t.val / 65, 64 - t.val % 65, 0, 0] ∧ win0_5.index t = ![0, 64 - t.val % 65, t.val / 65, 0, 0]
    ∧ win0_6.index t = ![64 - t.val % 65, t.val / 65] ∧ win0_7.index t = ![64 - t.val % 65, t.val / 65]
    ∧ win0_8.index t = ![64 - t.val % 65, t.val / 65] ∧ win0_9.index t = ![64 - t.val % 65, t.val / 65]
    ∧ win0_10.index t = ![t.val / 65, 64 - t.val % 65, 0, 0] ∧ win0_11.index t = ![t.val / 65, 64 - t.val % 65, 0, 0]
    ∧ (grid0.coords t 1).val = t.val % 65 :=
  (by decide +kernel : ∀ t : Fin grid0.N, _)

/-- Group and chunk of a point. -/
def grp (t : Fin cfg0.N) : Fin 4 := ⟨t.val / 65, by have := lt_of_lt_of_eq t.isLt (show cfg0.N = 260 from N_0); omega⟩
def chk (t : Fin cfg0.N) : Fin 65 := ⟨64 - t.val % 65, by omega⟩

theorem blk (t : Fin cfg0.N) (D : Fin 8 → Fin 128 → Fin 64 → EReal) :
    Blk (iblk m c 0 t) (iblk m c 1 t) (iblk m c 2 t) (iblk m c 3 t) (iblk m c 4 t) (iblk m c 5 t) (iblk m c 6 t)
      ((args m c).chunk (chk t) (grp t) D) where
  x p q s e := by
    show _ = (m ((c : Thread nD τ).loc main_arg0) : Vec Ideal S4160x3072 .f32) (ix2 _ _)
    have hg : (grp t).val = t.val / 65 := rfl
    have hk : (chk t).val = 64 - t.val % 65 := rfl
    have hr : (row (chk t) s).val = 64 * (64 - t.val % 65) + s.val := rfl
    have hh : (hd p q).val * 64 + e.val = 128 * p.val + (ln q e).val := by cases q <;> simp [hd, ln] <;> omega
    have hc : (col p q e).val = 128 * p.val + (ln q e).val := rfl
    blk_ext [iblk, V, idx t]
    all_goals omega
  dy p q s e := by
    show _ = (m ((c : Thread nD τ).loc main_arg4) : Vec Ideal S4160x2048 .f32) (ix2 _ _)
    have hg : (grp t).val = t.val / 65 := rfl
    have hk : (chk t).val = 64 - t.val % 65 := rfl
    have hr : (row (chk t) s).val = 64 * (64 - t.val % 65) + s.val := rfl
    have hh : (hd p q).val * 64 + e.val = 128 * p.val + (ln q e).val := by cases q <;> simp [hd, ln] <;> omega
    have hc : (col p q e).val = 128 * p.val + (ln q e).val := rfl
    have hc' : (chan (grp t) (hd p q) e).val = 512 * (grp t).val + 64 * (hd p q).val + e.val := rfl
    blk_ext [iblk, V, idx t]
    all_goals omega
  st p q n e := by
    show _ = (m ((c : Thread nD τ).loc main_arg3) : Vec Ideal S1x65x16x128x128 .f32) (ix5 _ _ _ _ _)
    have hg : (grp t).val = t.val / 65 := rfl
    have hk : (chk t).val = 64 - t.val % 65 := rfl
    have hh : (hd p q).val / 2 = p.val := by cases q <;> simp [hd] <;> omega
    have hl : 64 * ((hd p q).val % 2) + e.val = (ln q e).val := by cases q <;> simp [hd, ln]
    blk_ext [iblk, V, idx t]
    all_goals omega
  dt r s := by
    show _ = (m ((c : Thread nD τ).loc main_arg1) : Vec Ideal S4160x32 .f32) (ix2 _ _)
    have hg : (grp t).val = t.val / 65 := rfl
    have hk : (chk t).val = 64 - t.val % 65 := rfl
    have hr : (row (chk t) s).val = 64 * (64 - t.val % 65) + s.val := rfl
    have hh : (head (grp t) r).val = 8 * (grp t).val + r.val := rfl
    blk_simp [iblk, idx t]
    entry_read
    pointwise
    blk_ext [idx t]
    all_goals omega
  a r s := by
    show _ = (m ((c : Thread nD τ).loc main_arg2) : Vec Ideal S4160x32 .f32) (ix2 _ _)
    have hg : (grp t).val = t.val / 65 := rfl
    have hk : (chk t).val = 64 - t.val % 65 := rfl
    have hr : (row (chk t) s).val = 64 * (64 - t.val % 65) + s.val := rfl
    have hh : (head (grp t) r).val = 8 * (grp t).val + r.val := rfl
    blk_simp [iblk, idx t]
    entry_read
    pointwise
    blk_ext [idx t]
    all_goals omega
  b s n := by
    show _ = (m ((c : Thread nD τ).loc main_arg0) : Vec Ideal S4160x3072 .f32) (ix2 _ _)
    have hg : (grp t).val = t.val / 65 := rfl
    have hk : (chk t).val = 64 - t.val % 65 := rfl
    have hr : (row (chk t) s).val = 64 * (64 - t.val % 65) + s.val := rfl
    blk_ext [iblk, V, idx t]
    all_goals omega
  c s n := by
    show _ = (m ((c : Thread nD τ).loc main_arg0) : Vec Ideal S4160x3072 .f32) (ix2 _ _)
    have hg : (grp t).val = t.val / 65 := rfl
    have hk : (chk t).val = 64 - t.val % 65 := rfl
    have hr : (row (chk t) s).val = 64 * (64 - t.val % 65) + s.val := rfl
    blk_ext [iblk, V, idx t]
    all_goals omega

/-- The chunk a point works on. -/
def cell (t : Fin cfg0.N) : Chunk := (args m c).at_ (chk t) (grp t)

theorem cell_eq (t : Fin cfg0.N) : cell m c t = (args m c).chunk (chk t) (grp t) ((args m c).later (grp t) (t.val % 65)) := by
  unfold cell Args.at_
  rw [show 64 - (chk t).val = t.val % 65 by show 64 - (64 - t.val % 65) = _; omega]

/-- What a point leaves. -/
abbrev Done (t : Fin cfg0.N) : Prop :=
  Left (grid0.coords t) (cell m c t) (outsAt0 m c t.val t.isLt).1 (outsAt0 m c t.val t.isLt).2.1
    (outsAt0 m c t.val t.isLt).2.2.1 (outsAt0 m c t.val t.isLt).2.2.2.1 (outsAt0 m c t.val t.isLt).2.2.2.2.1
    (outsAt0 m c t.val t.isLt).2.2.2.2.2

/-- The first point of a group. -/
theorem doneA (t : Fin cfg0.N) (h0 : t.val % 65 = 0) : Done m c t := by
  have hb : Blk (iblk m c 0 t) (iblk m c 1 t) (iblk m c 2 t) (iblk m c 3 t) (iblk m c 4 t) (iblk m c 5 t)
      (iblk m c 6 t) (cell m c t) := by rw [cell_eq]; exact blk m c t _
  have hd' : ∀ r n e, (cell m c t).D r n e = 0 := by
    rw [cell_eq, h0]; exact fun _ _ _ => rfl
  unfold Done
  simp only [outsAt0_A m c t h0]
  exact leftA c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t)
      (hs0_8 t) (ms0_9 t) (hs0_9 t) (ms0_10 t) (hs0_10 t) (ms0_11 t) (hs0_11 t) scM0_0 (Memref.isWhole_whole
      _) (iblk m c 0 t) (iblk m c 1 t) (iblk m c 2 t) (iblk m c 3 t) (iblk m c 4 t) (iblk m c 5 t) (iblk m c
      6 t) ((hcond0_0 t).mpr h0) (cell m c t) hb hd'

/-- A later point, over what the point before left in the scratch. -/
theorem doneB (t : Fin cfg0.N) (h0 : ¬t.val % 65 = 0)
    (hd' : Holds (cell m c t).D (outsAt0 m c (t.val - 1) (Nat.lt_of_le_of_lt (Nat.sub_le _ _) t.isLt)).2.2.2.2.2) :
    Done m c t := by
  have hb : Blk (iblk m c 0 t) (iblk m c 1 t) (iblk m c 2 t) (iblk m c 3 t) (iblk m c 4 t) (iblk m c 5 t)
      (iblk m c 6 t) (cell m c t) := by rw [cell_eq]; exact blk m c t _
  unfold Done
  simp only [outsAt0_B m c t h0]
  exact leftB c (grid0.coords t) (ms0_0 t) (hs0_0 t) (ms0_1 t) (hs0_1 t) (ms0_2 t) (hs0_2 t) (ms0_3 t)
      (hs0_3 t) (ms0_4 t) (hs0_4 t) (ms0_5 t) (hs0_5 t) (ms0_6 t) (hs0_6 t) (ms0_7 t) (hs0_7 t) (ms0_8 t)
      (hs0_8 t) (ms0_9 t) (hs0_9 t) (ms0_10 t) (hs0_10 t) (ms0_11 t) (hs0_11 t) scM0_0 (Memref.isWhole_whole
      _) (iblk m c 0 t) (iblk m c 1 t) (iblk m c 2 t) (iblk m c 3 t) (iblk m c 4 t) (iblk m c 5 t) (iblk m c
      6 t) (outsAt0 m c (t.val - 1) (Nat.lt_of_le_of_lt (Nat.sub_le _ _) t.isLt)).2.2.2.2.2 (fun h => h0
      ((hcond0_0 t).mp h)) (cell m c t) hb hd'

/-- Every point leaves the gradients of its chunk. -/
theorem done (n : ℕ) : ∀ hn : n < cfg0.N, Done m c ⟨n, hn⟩ := by
  induction n with
  | zero => exact fun hn => doneA m c ⟨0, hn⟩ rfl
  | succ n ih =>
    intro hn
    by_cases h0 : (n + 1) % 65 = 0
    · exact doneA m c ⟨n + 1, hn⟩ h0
    · refine doneB m c ⟨n + 1, hn⟩ h0 ?_
      have hn' : n < cfg0.N := Nat.lt_of_succ_lt hn
      have hp : Holds (cell m c ⟨n, hn'⟩).dS (outsAt0 m c n hn').2.2.2.2.2 := (ih hn').dS
      have hD : (cell m c ⟨n + 1, hn⟩).D = (cell m c ⟨n, hn'⟩).dS := by
        have hg : grp ⟨n + 1, hn⟩ = grp ⟨n, hn'⟩ := Fin.ext (by show (n + 1) / 65 = n / 65; omega)
        have hm : (n + 1) % 65 = n % 65 + 1 := by omega
        rw [cell_eq]
        show (args m c).later (grp ⟨n + 1, hn⟩) ((n + 1) % 65) = _
        rw [hg, hm]
        exact (args m c).later_succ (chk ⟨n, hn'⟩) (grp ⟨n, hn'⟩) (n % 65) (by show 64 - n % 65 + n % 65 = 64; omega)
      rw [hD]
      exact hp

end Cert.KernelIdeal.Scan
-- ==== Proof.KernOut.lean ====
/- The kernel's five result arrays after its run, entry by entry: the gradients of `Steps`, zero before the
   sequence begins. -/
module
public import proofs.«01_k».proof.Proof.Kern
@[expose] public section
set_option maxRecDepth 16384
noncomputable section
namespace Cert.KernelIdeal.Scan
open Cert.KernelIdeal Cert.KernelIdeal.Gen Cert.Scan
open Idealize.ShloMosaic Idealize.ShloMosaic.TcCoe Idealize.SL.Sem
open Idealize.ShloMosaic.Pipeline (Dat)
variable (m : (ℓ : Loc nD τ sig) → Buf (Elt Ideal) ℓ) (c : Dev nD)

/-- The mask at a point: its first coordinate says whether its chunk is the first. -/
theorem mask_iff (t : Fin cfg0.N) (s : Fin 64) (k : Fin 65) (hk : k = chk t) :
    ((grid0.coords t 1).val = 64 ∧ s.val < 48) ↔ (k.val = 0 ∧ s.val < 48) := by
  have hi : (grid0.coords t 1).val = t.val % 65 := (idx t).2.2.2.2.2.2.2.2.2.2.2.2
  have hv : k.val = 64 - t.val % 65 := congrArg Fin.val hk
  rw [hi, hv]
  omega

/-- The gradient of x after the run. -/
theorem out_X (k : Fin 65) (s : Fin 64) (g : Fin 4) (r : Fin 8) (e : Fin 64) :
    ((dats m 0 c).arrAt 7 cfg0.N : Vec Ideal S4160x2048 .f32) (ix2 (row k s) (chan g r e))
      = if k.val = 0 ∧ s.val < 48 then 0 else ((args m c).at_ k g).dX r s e := by
  suffices h : ∀ i : S4160x2048.Idx, ∀ k s g r e, i = ix2 (row k s) (chan g r e) →
      ((dats m 0 c).arrAt 7 cfg0.N : Vec Ideal S4160x2048 .f32) i
        = if k.val = 0 ∧ s.val < 48 then 0 else ((args m c).at_ k g).dX r s e from h _ k s g r e rfl
  refine (dats m 0 c).arrAt_forall_of_covers 7 (fun i v => ∀ k s g r e, i = ix2 (row k s) (chan g r e) →
    v = if k.val = 0 ∧ s.val < 48 then 0 else ((args m c).at_ k g).dX r s e) (by decide +kernel) fun t hf y => ?_
  intro k s g r e hi
  rw [after0_7]
  have hl := (done m c t.val t.isLt).dX
  have ht := lt_of_lt_of_eq t.isLt (show cfg0.N = 260 from N_0)
  have h0 := congrArg Fin.val (congrFun hi 0)
  have h1 := congrArg Fin.val (congrFun hi 1)
  blk_simp [idx t] at h0 h1
  have hy0 : (y 0).val < 64 := (y 0).isLt
  have hy1 : (y 1).val < 512 := (y 1).isLt
  have hr : (row k s).val = 64 * k.val + s.val := rfl
  have hc : (chan g r e).val = 512 * g.val + 64 * r.val + e.val := rfl
  have hk : k = chk t := Fin.ext (by show k.val = 64 - t.val % 65; omega)
  have hg : g = grp t := Fin.ext (by show g.val = t.val / 65; omega)
  obtain ⟨p, q, rfl⟩ := exists_hd r
  have hh : (hd p q).val * 64 + e.val = 128 * p.val + (ln q e).val := by cases q <;> simp [hd, ln] <;> omega
  have hc' : (col p q e).val = 128 * p.val + (ln q e).val := rfl
  have hy : y = ix2 s (col p q e) := by
    idx_ext
    all_goals omega
  blk_simp
  show (outsAt0 m c t.val t.isLt).1 y = _
  rw [hy, hl]
  refine if_congr (mask_iff t s k hk) rfl ?_
  rw [hk, hg]; rfl

/-- The gradient of b after the run. -/
theorem out_B (k : Fin 65) (s : Fin 64) (g : Fin 4) (n : Fin 128) :
    ((dats m 0 c).arrAt 8 cfg0.N : Vec Ideal S4160x512 .f32) (ix2 (row k s) (gchan g n))
      = if k.val = 0 ∧ s.val < 48 then 0 else ((args m c).at_ k g).dB s n := by
  suffices h : ∀ i : S4160x512.Idx, ∀ k s g n, i = ix2 (row k s) (gchan g n) →
      ((dats m 0 c).arrAt 8 cfg0.N : Vec Ideal S4160x512 .f32) i
        = if k.val = 0 ∧ s.val < 48 then 0 else ((args m c).at_ k g).dB s n from h _ k s g n rfl
  refine (dats m 0 c).arrAt_forall_of_covers 8 (fun i v => ∀ k s g n, i = ix2 (row k s) (gchan g n) →
    v = if k.val = 0 ∧ s.val < 48 then 0 else ((args m c).at_ k g).dB s n) (by decide +kernel) fun t hf y => ?_
  intro k s g n hi
  rw [after0_8]
  have hl := (done m c t.val t.isLt).dB
  have ht := lt_of_lt_of_eq t.isLt (show cfg0.N = 260 from N_0)
  have h0 := congrArg Fin.val (congrFun hi 0)
  have h1 := congrArg Fin.val (congrFun hi 1)
  blk_simp [idx t] at h0 h1
  have hy0 : (y 0).val < 64 := (y 0).isLt
  have hy1 : (y 1).val < 128 := (y 1).isLt
  have hr : (row k s).val = 64 * k.val + s.val := rfl
  have hc : (gchan g n).val = 128 * g.val + n.val := rfl
  have hk : k = chk t := Fin.ext (by show k.val = 64 - t.val % 65; omega)
  have hg : g = grp t := Fin.ext (by show g.val = t.val / 65; omega)
  have hy : y = ix2 s n := by
    idx_ext
    all_goals omega
  blk_simp
  show (outsAt0 m c t.val t.isLt).2.1 y = _
  rw [hy, hl]
  refine if_congr (mask_iff t s k hk) rfl ?_
  rw [hk, hg]; rfl

/-- The gradient of c after the run. -/
theorem out_C (k : Fin 65) (s : Fin 64) (g : Fin 4) (n : Fin 128) :
    ((dats m 0 c).arrAt 9 cfg0.N : Vec Ideal S4160x512 .f32) (ix2 (row k s) (gchan g n))
      = if k.val = 0 ∧ s.val < 48 then 0 else ((args m c).at_ k g).dC s n := by
  suffices h : ∀ i : S4160x512.Idx, ∀ k s g n, i = ix2 (row k s) (gchan g n) →
      ((dats m 0 c).arrAt 9 cfg0.N : Vec Ideal S4160x512 .f32) i
        = if k.val = 0 ∧ s.val < 48 then 0 else ((args m c).at_ k g).dC s n from h _ k s g n rfl
  refine (dats m 0 c).arrAt_forall_of_covers 9 (fun i v => ∀ k s g n, i = ix2 (row k s) (gchan g n) →
    v = if k.val = 0 ∧ s.val < 48 then 0 else ((args m c).at_ k g).dC s n) (by decide +kernel) fun t hf y => ?_
  intro k s g n hi
  rw [after0_9]
  have hl := (done m c t.val t.isLt).dC
  have ht := lt_of_lt_of_eq t.isLt (show cfg0.N = 260 from N_0)
  have h0 := congrArg Fin.val (congrFun hi 0)
  have h1 := congrArg Fin.val (congrFun hi 1)
  blk_simp [idx t] at h0 h1
  have hy0 : (y 0).val < 64 := (y 0).isLt
  have hy1 : (y 1).val < 128 := (y 1).isLt
  have hr : (row k s).val = 64 * k.val + s.val := rfl
  have hc : (gchan g n).val = 128 * g.val + n.val := rfl
  have hk : k = chk t := Fin.ext (by show k.val = 64 - t.val % 65; omega)
  have hg : g = grp t := Fin.ext (by show g.val = t.val / 65; omega)
  have hy : y = ix2 s n := by
    idx_ext
    all_goals omega
  blk_simp
  show (outsAt0 m c t.val t.isLt).2.2.1 y = _
  rw [hy, hl]
  refine if_congr (mask_iff t s k hk) rfl ?_
  rw [hk, hg]; rfl

/-- The gradient of the step sizes after the run. -/
theorem out_DT (g : Fin 4) (k : Fin 65) (r : Fin 8) (s : Fin 64) :
    ((dats m 0 c).arrAt 10 cfg0.N : Vec Ideal S4x65x8x64 .f32) (ix4 g k r s)
      = if k.val = 0 ∧ s.val < 48 then 0 else ((args m c).at_ k g).dDT r s := by
  suffices h : ∀ i : S4x65x8x64.Idx, ∀ g k r s, i = ix4 g k r s →
      ((dats m 0 c).arrAt 10 cfg0.N : Vec Ideal S4x65x8x64 .f32) i
        = if k.val = 0 ∧ s.val < 48 then 0 else ((args m c).at_ k g).dDT r s from h _ g k r s rfl
  refine (dats m 0 c).arrAt_forall_of_covers 10 (fun i v => ∀ g k r s, i = ix4 g k r s →
    v = if k.val = 0 ∧ s.val < 48 then 0 else ((args m c).at_ k g).dDT r s) (by decide +kernel) fun t hf y => ?_
  intro g k r s hi
  rw [after0_10]
  have hl := (done m c t.val t.isLt).dDT
  have ht := lt_of_lt_of_eq t.isLt (show cfg0.N = 260 from N_0)
  have h0 := congrArg Fin.val (congrFun hi 0)
  have h1 := congrArg Fin.val (congrFun hi 1)
  have h2 := congrArg Fin.val (congrFun hi 2)
  have h3 := congrArg Fin.val (congrFun hi 3)
  blk_simp [idx t] at h0 h1 h2 h3
  have hy0 : (y 0).val < 1 := (y 0).isLt
  have hy1 : (y 1).val < 1 := (y 1).isLt
  have hk : k = chk t := Fin.ext (by show k.val = 64 - t.val % 65; omega)
  have hg : g = grp t := Fin.ext (by show g.val = t.val / 65; omega)
  have hy : y = ix4 0 0 r s := by
    idx_ext
    all_goals omega
  blk_simp
  show (outsAt0 m c t.val t.isLt).2.2.2.1 y = _
  rw [hy, hl]
  refine if_congr (mask_iff t s k hk) rfl ?_
  rw [hk, hg]; rfl

/-- The gradient of the decays after the run. -/
theorem out_A (g : Fin 4) (k : Fin 65) (r : Fin 8) (s : Fin 64) :
    ((dats m 0 c).arrAt 11 cfg0.N : Vec Ideal S4x65x8x64 .f32) (ix4 g k r s)
      = if k.val = 0 ∧ s.val < 48 then 0 else ((args m c).at_ k g).dA r s := by
  suffices h : ∀ i : S4x65x8x64.Idx, ∀ g k r s, i = ix4 g k r s →
      ((dats m 0 c).arrAt 11 cfg0.N : Vec Ideal S4x65x8x64 .f32) i
        = if k.val = 0 ∧ s.val < 48 then 0 else ((args m c).at_ k g).dA r s from h _ g k r s rfl
  refine (dats m 0 c).arrAt_forall_of_covers 11 (fun i v => ∀ g k r s, i = ix4 g k r s →
    v = if k.val = 0 ∧ s.val < 48 then 0 else ((args m c).at_ k g).dA r s) (by decide +kernel) fun t hf y => ?_
  intro g k r s hi
  rw [after0_11]
  have hl := (done m c t.val t.isLt).dA
  have ht := lt_of_lt_of_eq t.isLt (show cfg0.N = 260 from N_0)
  have h0 := congrArg Fin.val (congrFun hi 0)
  have h1 := congrArg Fin.val (congrFun hi 1)
  have h2 := congrArg Fin.val (congrFun hi 2)
  have h3 := congrArg Fin.val (congrFun hi 3)
  blk_simp [idx t] at h0 h1 h2 h3
  have hy0 : (y 0).val < 1 := (y 0).isLt
  have hy1 : (y 1).val < 1 := (y 1).isLt
  have hk : k = chk t := Fin.ext (by show k.val = 64 - t.val % 65; omega)
  have hg : g = grp t := Fin.ext (by show g.val = t.val / 65; omega)
  have hy : y = ix4 0 0 r s := by
    idx_ext
    all_goals omega
  blk_simp
  show (outsAt0 m c t.val t.isLt).2.2.2.2.1 y = _
  rw [hy, hl]
  refine if_congr (mask_iff t s k hk) rfl ?_
  rw [hk, hg]; rfl

end Cert.KernelIdeal.Scan
-- ==== Proof.Window.lean ====
/- Running sums over 64 positions, forwards and backwards, as the reference's windowed sums take them, over
   the extended reals. -/
module

public import proofs.«01_k».proof.ReferenceIdeal
public import Idealize.ShloMosaic.Lib.Pipeline.ValueKit

@[expose] public section

set_option maxRecDepth 16384

noncomputable section

namespace Cert.Scan

open Idealize.ShloMosaic Cert.ReferenceIdeal

/-- A left fold of additions from zero is the sum. -/
theorem foldl_add_eq_sum {n : Nat} (f : Fin n → EReal) :
    (List.finRange n).foldl (fun r k => r + f k) 0 = ∑ k, f k := by
  rw [Fin.sum_univ_def, List.sum_eq_foldl, List.foldl_map]

/-- A windowed sum from zero, at one position: the sum over the window of what lies inside the operand. -/
theorem window_apply {s t : Shape} (w st lo hi : Fin s.rank → Nat) (h : s.ReduceWindows w st lo hi t)
    (x : s.Idx → EReal) (j : t.Idx) :
    Ideal.hostReduceWindowAdd w st lo hi h x 0 j
      = ∑ i : (⟨s.rank, w⟩ : Shape).Idx,
          if hin : ∀ a, lo a ≤ (j (a.cast h.1.symm)).val * st a + (i a).val
              ∧ (j (a.cast h.1.symm)).val * st a + (i a).val - lo a < s.size a
          then x (fun a => ⟨(j (a.cast h.1.symm)).val * st a + (i a).val - lo a, (hin a).2⟩) else 0 := by
  unfold Ideal.hostReduceWindowAdd Host.reduceWindow
  rw [← Equiv.sum_comp (⟨s.rank, w⟩ : Shape).rowMajor.symm]
  let f : (⟨s.rank, w⟩ : Shape).Idx → EReal := fun i =>
    if hin : ∀ a, lo a ≤ (j (a.cast h.1.symm)).val * st a + (i a).val
        ∧ (j (a.cast h.1.symm)).val * st a + (i a).val - lo a < s.size a
    then x (fun a => ⟨(j (a.cast h.1.symm)).val * st a + (i a).val - lo a, (hin a).2⟩) else 0
  convert foldl_add_eq_sum fun n => f ((⟨s.rank, w⟩ : Shape).rowMajor.symm n)

/-- The window of 64 positions along axis 1. -/
abbrev W64 : Shape := ⟨4, ![1, 64, 1, 1]⟩

/-- The position along axis 1. -/
def pos (i : W64.Idx) : Fin 64 := i 1

/-- Positions of the window, shifted round by `k`. -/
def turn (k : Fin 64) : W64.Idx ≃ Fin 64 where
  toFun i := k + pos i
  invFun t := ix4 0 (t - k) 0 0
  left_inv i := by
    funext a
    fin_cases a
    · exact Subsingleton.elim (α := Fin 1) _ _
    · exact add_sub_cancel_left (G := Fin 64) k (pos i)
    · exact Subsingleton.elim (α := Fin 1) _ _
    · exact Subsingleton.elim (α := Fin 1) _ _
  right_inv t := add_sub_cancel k t

variable (x : FVec Ideal S1x64x4x8 .f32) (l : Fin 64) (g : Fin 4) (r : Fin 8)

theorem cumsum_at (h : S1x64x4x8.ReduceWindows ![1, 64, 1, 1] ![1, 1, 1, 1] ![0, 63, 0, 0] ![0, 0, 0, 0] S1x64x4x8) :
    Ideal.hostReduceWindowAdd ![1, 64, 1, 1] ![1, 1, 1, 1] ![0, 63, 0, 0] ![0, 0, 0, 0] h x 0 (ix4 0 l g r)
      = ∑ t : Fin 64, if t ≤ l then x (ix4 0 t g r) else (0 : EReal) := by
  rw [window_apply, ← Equiv.sum_comp (turn (l + 1))]
  refine Finset.sum_congr rfl fun i _ => ?_
  have hv : (turn (l + 1) i).val = (l.val + 1 + (i 1).val) % 64 := by
    show (l + 1 + pos i).val = _
    rw [Fin.val_add, Fin.val_add]
    show ((l.val + 1) % 64 + (i 1).val) % 64 = _
    exact Nat.mod_add_mod _ _ _
  have h0 : (i 0).val = 0 := by have : (i 0).val < 1 := (i 0).isLt; omega
  have h2 : (i 2).val = 0 := by have : (i 2).val < 1 := (i 2).isLt; omega
  have h3 : (i 3).val = 0 := by have : (i 3).val < 1 := (i 3).isLt; omega
  have h1 : (i 1).val < 64 := (i 1).isLt
  by_cases hle : 63 ≤ l.val + (i 1).val
  · have ht : (turn (l + 1) i).val = l.val + (i 1).val - 63 := by rw [hv]; omega
    rw [if_pos (by rw [Fin.le_def, ht]; omega), dif_pos]
    · refine congrArg x ?_
      funext a; apply Fin.ext; fin_cases a
      · show 0 * 1 + (i 0).val - 0 = 0; omega
      · show l.val * 1 + (i 1).val - 63 = (turn (l + 1) i).val; omega
      · show g.val * 1 + (i 2).val - 0 = g.val; omega
      · show r.val * 1 + (i 3).val - 0 = r.val; omega
    · intro a
      fin_cases a
      · show 0 ≤ 0 * 1 + (i 0).val ∧ 0 * 1 + (i 0).val - 0 < 1; omega
      · show 63 ≤ l.val * 1 + (i 1).val ∧ l.val * 1 + (i 1).val - 63 < 64; omega
      · show 0 ≤ g.val * 1 + (i 2).val ∧ g.val * 1 + (i 2).val - 0 < 4; omega
      · show 0 ≤ r.val * 1 + (i 3).val ∧ r.val * 1 + (i 3).val - 0 < 8; omega
  · rw [if_neg (by rw [Fin.le_def, hv]; omega), dif_neg]
    intro hin
    have := (hin 1).1
    have h' : 63 ≤ l.val * 1 + (i 1).val := this
    omega

theorem revsum_at (h : S1x64x4x8.ReduceWindows ![1, 64, 1, 1] ![1, 1, 1, 1] ![0, 0, 0, 0] ![0, 63, 0, 0] S1x64x4x8) :
    Ideal.hostReduceWindowAdd ![1, 64, 1, 1] ![1, 1, 1, 1] ![0, 0, 0, 0] ![0, 63, 0, 0] h x 0 (ix4 0 l g r)
      = ∑ t : Fin 64, if l ≤ t then x (ix4 0 t g r) else (0 : EReal) := by
  rw [window_apply, ← Equiv.sum_comp (turn l)]
  refine Finset.sum_congr rfl fun i _ => ?_
  have hv : (turn l i).val = (l.val + (i 1).val) % 64 := by
    show (l + pos i).val = _
    rw [Fin.val_add]; rfl
  have h0 : (i 0).val = 0 := by have : (i 0).val < 1 := (i 0).isLt; omega
  have h2 : (i 2).val = 0 := by have : (i 2).val < 1 := (i 2).isLt; omega
  have h3 : (i 3).val = 0 := by have : (i 3).val < 1 := (i 3).isLt; omega
  have h1 : (i 1).val < 64 := (i 1).isLt
  by_cases hle : l.val + (i 1).val < 64
  · have ht : (turn l i).val = l.val + (i 1).val := by rw [hv]; omega
    rw [if_pos (by rw [Fin.le_def, ht]; omega), dif_pos]
    · refine congrArg x ?_
      funext a; apply Fin.ext; fin_cases a
      · show 0 * 1 + (i 0).val - 0 = 0; omega
      · show l.val * 1 + (i 1).val - 0 = (turn l i).val; omega
      · show g.val * 1 + (i 2).val - 0 = g.val; omega
      · show r.val * 1 + (i 3).val - 0 = r.val; omega
    · intro a
      fin_cases a
      · show 0 ≤ 0 * 1 + (i 0).val ∧ 0 * 1 + (i 0).val - 0 < 1; omega
      · show 0 ≤ l.val * 1 + (i 1).val ∧ l.val * 1 + (i 1).val - 0 < 64; omega
      · show 0 ≤ g.val * 1 + (i 2).val ∧ g.val * 1 + (i 2).val - 0 < 4; omega
      · show 0 ≤ r.val * 1 + (i 3).val ∧ r.val * 1 + (i 3).val - 0 < 8; omega
  · rw [if_neg (by rw [Fin.le_def, hv]; omega), dif_neg]
    intro hin
    have := (hin 1).2
    have h' : l.val * 1 + (i 1).val - 0 < 64 := this
    omega

theorem cumsum_host (init : S_.Idx → EReal) (hu : 0 < S_.numel) (h0 : init (Shape.Idx.first hu) = 0)
    (h : S1x64x4x8.ReduceWindows ![1, 64, 1, 1] ![1, 1, 1, 1] ![0, 63, 0, 0] ![0, 0, 0, 0] S1x64x4x8) :
    Host.reduceWindowAdd (F := Ideal) (φ := .f32) ![1, 64, 1, 1] ![1, 1, 1, 1] ![0, 63, 0, 0] ![0, 0, 0, 0] x init h hu (ix4 0 l g r)
      = ∑ t : Fin 64, if t ≤ l then x (ix4 0 t g r) else (0 : EReal) := by
  rw [← cumsum_at x l g r h, ← h0]
  rfl

theorem revsum_host (init : S_.Idx → EReal) (hu : 0 < S_.numel) (h0 : init (Shape.Idx.first hu) = 0)
    (h : S1x64x4x8.ReduceWindows ![1, 64, 1, 1] ![1, 1, 1, 1] ![0, 0, 0, 0] ![0, 63, 0, 0] S1x64x4x8) :
    Host.reduceWindowAdd (F := Ideal) (φ := .f32) ![1, 64, 1, 1] ![1, 1, 1, 1] ![0, 0, 0, 0] ![0, 63, 0, 0] x init h hu (ix4 0 l g r)
      = ∑ t : Fin 64, if l ≤ t then x (ix4 0 t g r) else (0 : EReal) := by
  rw [← revsum_at x l g r h, ← h0]
  rfl

/-- A sum over dropped axes, over any index set that lists what reduces to `j`. -/
theorem reduce_of {s t : Shape} {axes : List (Fin s.rank)} (h : s.ReducesTo axes t) (x : s.Idx → EReal) (j : t.Idx)
    {ι : Type} [Fintype ι] (e : ι → s.Idx) (inj : Function.Injective e)
    (h1 : ∀ k, h.drop (e k) = j) (h2 : ∀ i, h.drop i = j → ∃ k, e k = i) :
    Ideal.hostReduceAdd h x 0 j = ∑ k, x (e k) := by
  unfold Ideal.hostReduceAdd
  rw [zero_add]
  refine ((Finset.sum_map Finset.univ ⟨e, inj⟩ x).symm.trans (Finset.sum_congr ?_ fun _ _ => rfl)).symm
  ext i
  simp only [Finset.mem_map, Finset.mem_univ, true_and, Finset.mem_filter, Function.Embedding.coeFn_mk]
  exact ⟨fun ⟨k, hk⟩ => hk ▸ h1 k, h2 i⟩

theorem one_val {i : Fin 1} : i.val = 0 := by omega

theorem unit_a (s : Fin 64) (g : Fin 4) (r : Fin 8) (h : S1x64x4x8x1.ReducesTo [0, 4] S64x4x8) (x : S1x64x4x8x1.Idx → EReal) :
    Ideal.hostReduceAdd h x 0 (ix3 s g r) = x (ix5 0 s g r 0) := by
  refine (reduce_of h x _ (fun _ : Unit => ix5 0 s g r 0) (fun _ _ _ => rfl) (fun _ => ?_) fun i hi => ⟨(), ?_⟩).trans (by simp)
  · funext b; fin_cases b <;> rfl
  · funext a; apply Fin.ext; fin_cases a
    · exact one_val.symm
    · exact (congrArg Fin.val (congrFun hi 0)).symm
    · exact (congrArg Fin.val (congrFun hi 1)).symm
    · exact (congrArg Fin.val (congrFun hi 2)).symm
    · exact one_val.symm

theorem unit_b (l s : Fin 64) (g : Fin 4) (h : S1x64x64x4x1.ReducesTo [0, 4] S64x64x4) (x : S1x64x64x4x1.Idx → EReal) :
    Ideal.hostReduceAdd h x 0 (ix3 l s g) = x (ix5 0 l s g 0) := by
  refine (reduce_of h x _ (fun _ : Unit => ix5 0 l s g 0) (fun _ _ _ => rfl) (fun _ => ?_) fun i hi => ⟨(), ?_⟩).trans (by simp)
  · funext b; fin_cases b <;> rfl
  · funext a; apply Fin.ext; fin_cases a
    · exact one_val.symm
    · exact (congrArg Fin.val (congrFun hi 0)).symm
    · exact (congrArg Fin.val (congrFun hi 1)).symm
    · exact (congrArg Fin.val (congrFun hi 2)).symm
    · exact one_val.symm

theorem unit_c (g : Fin 4) (r : Fin 8) (h : S1x1x4x8.ReducesTo [0, 1] S4x8) (x : S1x1x4x8.Idx → EReal) :
    Ideal.hostReduceAdd h x 0 (ix2 g r) = x (ix4 0 0 g r) := by
  refine (reduce_of h x _ (fun _ : Unit => ix4 0 0 g r) (fun _ _ _ => rfl) (fun _ => ?_) fun i hi => ⟨(), ?_⟩).trans (by simp)
  · funext b; fin_cases b <;> rfl
  · funext a; apply Fin.ext; fin_cases a
    · exact one_val.symm
    · exact one_val.symm
    · exact (congrArg Fin.val (congrFun hi 0)).symm
    · exact (congrArg Fin.val (congrFun hi 1)).symm

theorem unit_d (g : Fin 4) (r : Fin 8) (h : S1x4x8x1x1.ReducesTo [0, 3, 4] S4x8) (x : S1x4x8x1x1.Idx → EReal) :
    Ideal.hostReduceAdd h x 0 (ix2 g r) = x (ix5 0 g r 0 0) := by
  refine (reduce_of h x _ (fun _ : Unit => ix5 0 g r 0 0) (fun _ _ _ => rfl) (fun _ => ?_) fun i hi => ⟨(), ?_⟩).trans (by simp)
  · funext b; fin_cases b <;> rfl
  · funext a; apply Fin.ext; fin_cases a
    · exact one_val.symm
    · exact (congrArg Fin.val (congrFun hi 0)).symm
    · exact (congrArg Fin.val (congrFun hi 1)).symm
    · exact one_val.symm
    · exact one_val.symm

theorem unit_e (s : Fin 64) (g : Fin 4) (r : Fin 8) (h : S1x1x64x4x8.ReducesTo [0, 1] S64x4x8) (x : S1x1x64x4x8.Idx → EReal) :
    Ideal.hostReduceAdd h x 0 (ix3 s g r) = x (ix5 0 0 s g r) := by
  refine (reduce_of h x _ (fun _ : Unit => ix5 0 0 s g r) (fun _ _ _ => rfl) (fun _ => ?_) fun i hi => ⟨(), ?_⟩).trans (by simp)
  · funext b; fin_cases b <;> rfl
  · funext a; apply Fin.ext; fin_cases a
    · exact one_val.symm
    · exact one_val.symm
    · exact (congrArg Fin.val (congrFun hi 0)).symm
    · exact (congrArg Fin.val (congrFun hi 1)).symm
    · exact (congrArg Fin.val (congrFun hi 2)).symm

theorem unit_f (s : Fin 64) (g : Fin 4) (r : Fin 8) (h : S1x64x1x4x8.ReducesTo [0, 2] S64x4x8) (x : S1x64x1x4x8.Idx → EReal) :
    Ideal.hostReduceAdd h x 0 (ix3 s g r) = x (ix5 0 s 0 g r) := by
  refine (reduce_of h x _ (fun _ : Unit => ix5 0 s 0 g r) (fun _ _ _ => rfl) (fun _ => ?_) fun i hi => ⟨(), ?_⟩).trans (by simp)
  · funext b; fin_cases b <;> rfl
  · funext a; apply Fin.ext; fin_cases a
    · exact one_val.symm
    · exact (congrArg Fin.val (congrFun hi 0)).symm
    · exact one_val.symm
    · exact (congrArg Fin.val (congrFun hi 1)).symm
    · exact (congrArg Fin.val (congrFun hi 2)).symm

theorem sum_pn (g : Fin 4) (r : Fin 8) (h : S1x4x8x64x128.ReducesTo [3, 4] S1x4x8) (x : S1x4x8x64x128.Idx → EReal) :
    Ideal.hostReduceAdd h x 0 (ix3 0 g r) = ∑ p : Fin 64, ∑ n : Fin 128, x (ix5 0 g r p n) := by
  rw [← Fintype.sum_prod_type' (fun p n => x (ix5 0 g r p n))]
  refine reduce_of h x _ (fun k : Fin 64 × Fin 128 => ix5 0 g r k.1 k.2) (fun k k' hk => Prod.ext ?_ ?_) (fun k => ?_)
    fun i hi => ⟨(i 3, i 4), ?_⟩
  · exact congrFun hk 3
  · exact congrFun hk 4
  · funext b; fin_cases b <;> rfl
  · funext a; apply Fin.ext; fin_cases a
    · exact one_val.symm
    · exact (congrArg Fin.val (congrFun hi 1)).symm
    · exact (congrArg Fin.val (congrFun hi 2)).symm
    · rfl
    · rfl

theorem sum_swap {n : Nat} (f g : Fin n → EReal) : ∑ i, f i * g i = ∑ i, g i * f i :=
  Finset.sum_congr rfl fun _ _ => mul_comm _ _

end Cert.Scan
-- ==== Proof.RefPoint.lean ====
/- The values of one trip of the reference's loop over the extended reals, element by element: each is the
   sum of `Spec` it is named after. -/
module

public import proofs.«01_k».proof.Proof.Gen.ReferenceIdeal.Run
public import proofs.«01_k».proof.Proof.Spec
public import proofs.«01_k».proof.Proof.Window
public import Idealize.ShloMosaic.Lib.WordCmp
public import Idealize.ShloMosaic.Lib.DynamicIndex

@[expose] public section

set_option maxRecDepth 16384

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.Scan (Chunk cumsum_host revsum_host unit_a unit_b unit_c unit_d unit_e unit_f sum_pn sum_swap)

variable (V : Valuation τ sig (Elt Ideal))

/-! The carried buffers at their types. -/
abbrev vS : FVec Ideal S65x1x4x8x64x128 .f32 := V (Proc.devRef .tc main_v18_0)
abbrev vX : FVec Ideal S65x1x64x4x8x64 .f32 := V (Proc.devRef .tc main_v18_1)
abbrev vDT : FVec Ideal S65x1x64x4x8 .f32 := V (Proc.devRef .tc main_v18_2)
abbrev vA : FVec Ideal S65x1x64x4x8 .f32 := V (Proc.devRef .tc main_v18_3)
abbrev vB : FVec Ideal S65x1x64x4x128 .f32 := V (Proc.devRef .tc main_v18_4)
abbrev vC : FVec Ideal S65x1x64x4x128 .f32 := V (Proc.devRef .tc main_v18_5)
abbrev vY : FVec Ideal S65x1x64x4x8x64 .f32 := V (Proc.devRef .tc main_v18_6)
abbrev vN : IVec S_ 32 := V (Proc.devRef .tc main_v18_7)
abbrev vD : FVec Ideal S1x4x8x64x128 .f32 := V (Proc.devRef .tc main_v18_8)
abbrev oX : FVec Ideal S65x1x64x4x8x64 .f32 := V (Proc.devRef .tc main_v18_9)
abbrev oDT : FVec Ideal S65x1x64x4x8 .f32 := V (Proc.devRef .tc main_v18_10)
abbrev oA : FVec Ideal S65x1x64x4x8 .f32 := V (Proc.devRef .tc main_v18_11)
abbrev oB : FVec Ideal S65x1x64x4x128 .f32 := V (Proc.devRef .tc main_v18_12)
abbrev oC : FVec Ideal S65x1x64x4x128 .f32 := V (Proc.devRef .tc main_v18_13)

/-- The trip treats chunk `k`, whose inputs are `I g` for each group `g`. -/
structure Holds (k : Fin 65) (I : Fin 4 → Chunk) : Prop where
  n : vN V = constantI S_ 32 (BitVec.ofNat 32 (64 - k.val))
  x : ∀ g r s p, vX V (ix6 k 0 s g r p) = (I g).X r s p
  y : ∀ g r s p, vY V (ix6 k 0 s g r p) = (I g).Y r s p
  dt : ∀ g r s, vDT V (ix5 k 0 s g r) = (I g).DT r s
  a : ∀ g r s, vA V (ix5 k 0 s g r) = (I g).A r s
  b : ∀ g s n, vB V (ix5 k 0 s g n) = (I g).B s n
  c : ∀ g s n, vC V (ix5 k 0 s g n) = (I g).C s n
  s : ∀ g r n p, vS V (ix6 k 0 g r p n) = (I g).S r n p
  d : ∀ g r n p, vD V (ix5 0 g r p n) = (I g).D r n p

variable {V} {k : Fin 65} {I : Fin 4 → Chunk} (h : Holds V k I)
include h

theorem chunk_no : res_main_while0b_v38 V = constantI S_ 32 (BitVec.ofNat 32 k.val) := by
  unfold res_main_while0b_v38
  rw [show V (Proc.devRef .tc main_v18_7) = _ from h.n]
  funext j
  show 65#32 - BitVec.ofNat 32 (64 - k.val) - 1#32 = BitVec.ofNat 32 k.val
  apply BitVec.eq_of_toNat_eq
  have := k.isLt
  simp [BitVec.toNat_sub, BitVec.toNat_ofNat]
  omega

theorem start6 : (fun a : Fin 6 => ((![res_main_while0b_v38 V, constantI S_ 32 0#32, constantI S_ 32 0#32,
      constantI S_ 32 0#32, constantI S_ 32 0#32, constantI S_ 32 0#32] : Fin 6 → IVec S_ 32) a
        (Shape.Idx.first h_S_)).toInt) = fun a => ((![k.val, 0, 0, 0, 0, 0] a : Nat) : Int) := by
  rw [chunk_no h]
  have := k.isLt
  funext a
  fin_cases a
  · exact toInt_ofNat_of_lt (by omega)
  all_goals rfl

theorem start5 : (fun a : Fin 5 => ((![res_main_while0b_v38 V, constantI S_ 32 0#32, constantI S_ 32 0#32,
      constantI S_ 32 0#32, constantI S_ 32 0#32] : Fin 5 → IVec S_ 32) a
        (Shape.Idx.first h_S_)).toInt) = fun a => ((![k.val, 0, 0, 0, 0] a : Nat) : Int) := by
  rw [chunk_no h]
  have := k.isLt
  funext a
  fin_cases a
  · exact toInt_ofNat_of_lt (by omega)
  all_goals rfl

omit h
theorem fitsX (k : Fin 65) : S65x1x64x4x8x64.Slices ![k.val, 0, 0, 0, 0, 0] S1x1x64x4x8x64 := by
  have := k.isLt
  refine ⟨rfl, fun a => ?_⟩
  fin_cases a
  · show k.val + 1 ≤ 65; omega
  all_goals exact Nat.le_refl _
theorem fitsS (k : Fin 65) : S65x1x4x8x64x128.Slices ![k.val, 0, 0, 0, 0, 0] S1x1x4x8x64x128 := by
  have := k.isLt
  refine ⟨rfl, fun a => ?_⟩
  fin_cases a
  · show k.val + 1 ≤ 65; omega
  all_goals exact Nat.le_refl _
theorem fitsR (k : Fin 65) : S65x1x64x4x8.Slices ![k.val, 0, 0, 0, 0] S1x1x64x4x8 := by
  have := k.isLt
  refine ⟨rfl, fun a => ?_⟩
  fin_cases a
  · show k.val + 1 ≤ 65; omega
  all_goals exact Nat.le_refl _
theorem fitsB (k : Fin 65) : S65x1x64x4x128.Slices ![k.val, 0, 0, 0, 0] S1x1x64x4x128 := by
  have := k.isLt
  refine ⟨rfl, fun a => ?_⟩
  fin_cases a
  · show k.val + 1 ≤ 65; omega
  all_goals exact Nat.le_refl _
include h

variable (g : Fin 4) (r : Fin 8) (s l p : Fin 64) (n : Fin 128)

theorem x_at : res_main_while0b_v40 V (ix5 0 s g r p) = (I g).X r s p := by
  unfold res_main_while0b_v40
  rw [Host.dynamicSlice_eq_extractStridedSlice _ _ _ ![k.val, 0, 0, 0, 0, 0] _ (fitsX k) (fun a => congrFun (start6 h) a)]
  pointwise []
  exact h.x g r s p
theorem y_at : res_main_while0b_v45 V (ix5 0 s g r p) = (I g).Y r s p := by
  unfold res_main_while0b_v45
  rw [Host.dynamicSlice_eq_extractStridedSlice _ _ _ ![k.val, 0, 0, 0, 0, 0] _ (fitsX k) (fun a => congrFun (start6 h) a)]
  pointwise []
  exact h.y g r s p
theorem s_at : res_main_while0b_v39 V (ix5 0 g r p n) = (I g).S r n p := by
  unfold res_main_while0b_v39
  rw [Host.dynamicSlice_eq_extractStridedSlice _ _ _ ![k.val, 0, 0, 0, 0, 0] _ (fitsS k) (fun a => congrFun (start6 h) a)]
  pointwise []
  exact h.s g r n p
theorem b_at : res_main_while0b_v43 V (ix4 0 s g n) = (I g).B s n := by
  unfold res_main_while0b_v43
  rw [Host.dynamicSlice_eq_extractStridedSlice _ _ _ ![k.val, 0, 0, 0, 0] _ (fitsB k) (fun a => congrFun (start5 h) a)]
  pointwise []
  exact h.b g s n
theorem c_at : res_main_while0b_v44 V (ix4 0 s g n) = (I g).C s n := by
  unfold res_main_while0b_v44
  rw [Host.dynamicSlice_eq_extractStridedSlice _ _ _ ![k.val, 0, 0, 0, 0] _ (fitsB k) (fun a => congrFun (start5 h) a)]
  pointwise []
  exact h.c g s n
theorem dt_at : res_main_while0b_v57 V (ix5 0 s g r 0) = (I g).DT r s := by
  unfold res_main_while0b_v57
  rw [Host.dynamicSlice_eq_extractStridedSlice _ _ _ ![k.val, 0, 0, 0, 0] _ (fitsR k) (fun a => congrFun (start5 h) a)]
  pointwise []
  exact h.dt g r s

theorem acs_at : res_main_while0b_v49 V (ix4 0 l g r) = (I g).acs r l := by
  unfold res_main_while0b_v49
  rw [Host.dynamicSlice_eq_extractStridedSlice _ _ _ ![k.val, 0, 0, 0, 0] _ (fitsR k) (fun a => congrFun (start5 h) a)]
  refine (cumsum_host _ l g r _ _ (Ideal.ofBits_zero .f32) _).trans
    (Finset.sum_congr (M := EReal) rfl fun t _ => if_congr Iff.rfl ?_ rfl)
  pointwise []
  exact h.a g r t

omit h in
theorem mask_at (x y : EReal) :
    Scalar.select (res_main_while0b_v55_1 V (ix5 0 l s g r)) x y = if s ≤ l then x else y := by
  unfold res_main_while0b_v55_1
  pointwise []
  rw [show IntOp.addi (BitVec.ofNat 32 l.val) 0#32 = BitVec.ofNat 32 l.val from BitVec.add_zero _]
  by_cases hle : s ≤ l
  · rw [if_pos hle, show IntOp.cmpi .sge (BitVec.ofNat 32 l.val) (BitVec.ofNat 32 s.val) = 1#1 by
      word_cmp]; rfl
  · rw [if_neg hle, show IntOp.cmpi .sge (BitVec.ofNat 32 l.val) (BitVec.ofNat 32 s.val) = 0#1 by
      word_cmp]; rfl

theorem L_at : res_main_while0b_v56 V (ix5 0 l s g r) = (I g).L r l s := by
  unfold res_main_while0b_v56
  pointwise [mask_at, acs_at h]
  rfl

theorem xdt_at : res_main_while0b_v59 V (ix5 0 s g r p) = (I g).xdt r s p := by
  unfold res_main_while0b_v59
  pointwise [x_at h, dt_at h]
  rfl

theorem cb_at : res_main_while0b_v62 V (ix5 0 l s g 0) = (I g).cb l s := by
  unfold res_main_while0b_v62
  pointwise [b_at h, c_at h]
  exact sum_swap _ _

theorem cbL_at : res_main_while0b_v64 V (ix5 0 l s g r) = (I g).cb l s * (I g).L r l s := by
  unfold res_main_while0b_v64
  pointwise [cb_at h, L_at h]

theorem yo_at : res_main_while0b_v68 V (ix5 0 l g r p) = (I g).yo r l p := by
  unfold res_main_while0b_v68
  pointwise [s_at h, c_at h]
  exact sum_swap _ _

theorem E_at : res_main_while0b_v69 V (ix4 0 l g r) = (I g).E r l := by
  unfold res_main_while0b_v69
  pointwise [acs_at h]
  rfl

theorem Ecol_at : res_main_while0b_v70 V (ix5 0 l g r 0) = (I g).E r l := by
  unfold res_main_while0b_v70
  pointwise [E_at h]

theorem al_at : res_main_while0b_v74 V (ix3 0 g r) = (I g).al r := by
  unfold res_main_while0b_v74
  pointwise [acs_at h]
  refine (Finset.sum_congr (M := EReal) rfl fun t _ => if_pos ?_)
  have := t.isLt
  show t.val ≤ 63
  omega

theorem eal_at : res_main_while0b_v75 V (ix3 0 g r) = Ideal.exp ((I g).al r) := by
  unfold res_main_while0b_v75
  pointwise [al_at h]

theorem ealS_at : res_main_while0b_v76 V (ix5 0 g r 0 0) = Ideal.exp ((I g).al r) := by
  unfold res_main_while0b_v76
  pointwise [eal_at h]

theorem W_at : res_main_while0b_v82 V (ix4 0 s g r) = (I g).W r s := by
  unfold res_main_while0b_v82
  pointwise [al_at h, acs_at h]
  rfl

theorem Wcol_at : res_main_while0b_v83 V (ix5 0 s g r 0) = (I g).W r s := by
  unfold res_main_while0b_v83
  pointwise [W_at h]

theorem xw_at : res_main_while0b_v85 V (ix5 0 s g r p) = (I g).xdt r s p * (I g).W r s := by
  unfold res_main_while0b_v85
  pointwise [Wcol_at h, xdt_at h]
  exact mul_comm (G := EReal) _ _

theorem dxw_at : res_main_while0b_v92 V (ix5 0 s g r p) = (I g).dxw r s p := by
  unfold res_main_while0b_v92
  pointwise [b_at h]
  exact Finset.sum_congr (M := EReal) rfl fun n _ => congrArg (· * _) (h.d g r n p)

theorem dW_at : res_main_while0b_v100 V (ix4 0 s g r) = (I g).dW r s := by
  unfold res_main_while0b_v100
  pointwise [W_at h, unit_a]
  pointwise [dxw_at h, xdt_at h]
  exact congrArg (· * _) (sum_swap _ _)

theorem yE_at : res_main_while0b_v127 V (ix5 0 g r p l) = (I g).Y r l p * (I g).E r l := by
  unfold res_main_while0b_v127
  pointwise [y_at h, Ecol_at h]

theorem yT_at : res_main_while0b_v132 V (ix5 0 g r p l) = (I g).Y r l p := by
  unfold res_main_while0b_v132
  pointwise [y_at h]

theorem dM_at : res_main_while0b_v134 V (ix5 0 l s g r) = (I g).dM r l s := by
  unfold res_main_while0b_v134
  pointwise [yT_at h, xdt_at h]
  rfl

theorem dxdt_at : res_main_while0b_v137 V (ix5 0 s g r p) = (I g).dxdt r s p := by
  unfold res_main_while0b_v137
  pointwise [yT_at h, Wcol_at h, dxw_at h, cbL_at h]
  exact congrArg (· + _) (mul_comm _ _)

theorem dcb_at : res_main_while0b_v145 V (ix4 0 g s l) = (I g).dcb l s := by
  unfold res_main_while0b_v145
  pointwise [unit_b]
  pointwise [dM_at h, L_at h]
  rfl

theorem G_at : res_main_while0b_v160 V (ix5 0 l s g r) = (I g).G r l s := by
  unfold res_main_while0b_v160
  pointwise [cb_at h, dM_at h, L_at h]
  exact mask_at g r s l _ _

theorem d_step : step_main_v18_8 V (ix5 0 g r p n) = (I g).dS r n p := by
  unfold step_main_v18_8
  pointwise [id, ealS_at h, yE_at h, c_at h]
  exact congrArg (· * _ + _) (h.d g r n p)

omit h
/-! Which elements an update of one chunk covers. -/
theorem inX (k k' : Fin 65) (s : Fin 64) (g : Fin 4) (r : Fin 8) (p : Fin 64) : (∀ a : Fin 6, (![k.val, 0, 0, 0, 0, 0] : Fin 6 → Nat) a ≤ ((ix6 k' 0 s g r p : S65x1x64x4x8x64.Idx) a).val ∧
    ((ix6 k' 0 s g r p : S65x1x64x4x8x64.Idx) a).val < (![k.val, 0, 0, 0, 0, 0] : Fin 6 → Nat) a + (![1, 1, 64, 4, 8, 64] : Fin 6 → Nat) a) ↔ k' = k := by
  refine ⟨fun ha => ?_, fun e a => ?_⟩
  · have h0 : k.val ≤ k'.val ∧ k'.val < k.val + 1 := ha 0
    exact Fin.ext (by omega)
  · subst e
    fin_cases a
    · show k'.val ≤ k'.val ∧ k'.val < k'.val + 1; omega
    · show 0 ≤ 0 ∧ 0 < 0 + 1; omega
    · show 0 ≤ s.val ∧ s.val < 0 + 64; omega
    · show 0 ≤ g.val ∧ g.val < 0 + 4; omega
    · show 0 ≤ r.val ∧ r.val < 0 + 8; omega
    · show 0 ≤ p.val ∧ p.val < 0 + 64; omega
theorem inR (k k' : Fin 65) (s : Fin 64) (g : Fin 4) (r : Fin 8) : (∀ a : Fin 5, (![k.val, 0, 0, 0, 0] : Fin 5 → Nat) a ≤ ((ix5 k' 0 s g r : S65x1x64x4x8.Idx) a).val ∧
    ((ix5 k' 0 s g r : S65x1x64x4x8.Idx) a).val < (![k.val, 0, 0, 0, 0] : Fin 5 → Nat) a + (![1, 1, 64, 4, 8] : Fin 5 → Nat) a) ↔ k' = k := by
  refine ⟨fun ha => ?_, fun e a => ?_⟩
  · have h0 : k.val ≤ k'.val ∧ k'.val < k.val + 1 := ha 0
    exact Fin.ext (by omega)
  · subst e
    fin_cases a
    · show k'.val ≤ k'.val ∧ k'.val < k'.val + 1; omega
    · show 0 ≤ 0 ∧ 0 < 0 + 1; omega
    · show 0 ≤ s.val ∧ s.val < 0 + 64; omega
    · show 0 ≤ g.val ∧ g.val < 0 + 4; omega
    · show 0 ≤ r.val ∧ r.val < 0 + 8; omega
theorem inB (k k' : Fin 65) (s : Fin 64) (g : Fin 4) (n : Fin 128) : (∀ a : Fin 5, (![k.val, 0, 0, 0, 0] : Fin 5 → Nat) a ≤ ((ix5 k' 0 s g n : S65x1x64x4x128.Idx) a).val ∧
    ((ix5 k' 0 s g n : S65x1x64x4x128.Idx) a).val < (![k.val, 0, 0, 0, 0] : Fin 5 → Nat) a + (![1, 1, 64, 4, 128] : Fin 5 → Nat) a) ↔ k' = k := by
  refine ⟨fun ha => ?_, fun e a => ?_⟩
  · have h0 : k.val ≤ k'.val ∧ k'.val < k.val + 1 := ha 0
    exact Fin.ext (by omega)
  · subst e
    fin_cases a
    · show k'.val ≤ k'.val ∧ k'.val < k'.val + 1; omega
    · show 0 ≤ 0 ∧ 0 < 0 + 1; omega
    · show 0 ≤ s.val ∧ s.val < 0 + 64; omega
    · show 0 ≤ g.val ∧ g.val < 0 + 4; omega
    · show 0 ≤ n.val ∧ n.val < 0 + 128; omega
include h

theorem dX_step (k' : Fin 65) : step_main_v18_9 V (ix6 k' 0 s g r p)
    = if k' = k then (I g).dX r s p else oX V (ix6 k' 0 s g r p) := by
  unfold step_main_v18_9
  rw [WordCmp.dynamicUpdateSlice_eq_update _ _ _ _ ![k.val, 0, 0, 0, 0, 0] (fitsX k) (fun a => congrFun (start6 h) a)]
  pointwise [dxdt_at h, dt_at h, id]
  by_cases e : k' = k
  · refine (dif_pos (((inX k k' s g r p)).mpr e)).trans (Eq.trans ?_ (if_pos e).symm)
    rfl
  · exact (dif_neg (fun ha => e ((inX k k' s g r p).mp ha))).trans (if_neg e).symm

theorem dDT_step (k' : Fin 65) : step_main_v18_10 V (ix5 k' 0 s g r)
    = if k' = k then (I g).dDT r s else oDT V (ix5 k' 0 s g r) := by
  unfold step_main_v18_10
  rw [WordCmp.dynamicUpdateSlice_eq_update _ _ _ _ ![k.val, 0, 0, 0, 0] (fitsR k) (fun a => congrFun (start5 h) a)]
  pointwise [unit_a, id]
  pointwise [x_at h, dxdt_at h]
  by_cases e : k' = k
  · refine (dif_pos (((inR k k' s g r)).mpr e)).trans (Eq.trans ?_ (if_pos e).symm)
    rfl
  · exact (dif_neg (fun ha => e ((inR k k' s g r).mp ha))).trans (if_neg e).symm

theorem dB_step (k' : Fin 65) : step_main_v18_12 V (ix5 k' 0 s g n)
    = if k' = k then (I g).dB s n else oB V (ix5 k' 0 s g n) := by
  unfold step_main_v18_12
  rw [WordCmp.dynamicUpdateSlice_eq_update _ _ _ _ ![k.val, 0, 0, 0, 0] (fitsB k) (fun a => congrFun (start5 h) a)]
  pointwise [xw_at h, dcb_at h, c_at h, id]
  by_cases e : k' = k
  · refine (dif_pos (((inB k k' s g n)).mpr e)).trans (Eq.trans ?_ (if_pos e).symm)
    refine congrArg (· + _) (Finset.sum_congr (M := EReal) rfl fun r _ => Finset.sum_congr (M := EReal) rfl fun p _ => ?_)
    exact congrArg (· * _) (h.d g r n p)
  · exact (dif_neg (fun ha => e ((inB k k' s g n).mp ha))).trans (if_neg e).symm

theorem dC_step (k' : Fin 65) : step_main_v18_13 V (ix5 k' 0 s g n)
    = if k' = k then (I g).dC s n else oC V (ix5 k' 0 s g n) := by
  unfold step_main_v18_13
  rw [WordCmp.dynamicUpdateSlice_eq_update _ _ _ _ ![k.val, 0, 0, 0, 0] (fitsB k) (fun a => congrFun (start5 h) a)]
  pointwise [yE_at h, s_at h, dcb_at h, b_at h, id]
  by_cases e : k' = k
  · refine (dif_pos (((inB k k' s g n)).mpr e)).trans (Eq.trans ?_ (if_pos e).symm)
    rfl
  · exact (dif_neg (fun ha => e ((inB k k' s g n).mp ha))).trans (if_neg e).symm

omit h in
theorem dacs_swap (a b c d e : EReal) : a + b + c + d + e = b + (a + c + e + d) := by ac_rfl

theorem dA_step (k' : Fin 65) : step_main_v18_11 V (ix5 k' 0 s g r)
    = if k' = k then (I g).dA r s else oA V (ix5 k' 0 s g r) := by
  unfold step_main_v18_11
  rw [WordCmp.dynamicUpdateSlice_eq_update _ _ _ _ ![k.val, 0, 0, 0, 0] (fitsR k) (fun a => congrFun (start5 h) a)]
  pointwise [id]
  rw [revsum_host _ _ _ _ _ _ (Ideal.ofBits_zero .f32)]
  pointwise [unit_a, unit_b, unit_c, unit_d, unit_e, unit_f, sum_pn, dW_at h, eal_at h, s_at h, yo_at h, y_at h, E_at h]
  pointwise [G_at h]
  by_cases e : k' = k
  · refine (dif_pos (((inR k k' s g r)).mpr e)).trans (Eq.trans ?_ (if_pos e).symm)
    have hd : (∑ p, ∑ n, (I g).S r n p * vD V (ix5 0 g r p n)) = ∑ p, ∑ n, (I g).S r n p * (I g).D r n p :=
      Finset.sum_congr rfl fun p _ => Finset.sum_congr rfl fun n _ => congrArg (_ * ·) (h.d g r n p)
    have hx : ∀ x : Fin 64, (63 ≤ x.val ∧ x.val - 63 < 1) ↔ x = 63 := fun x => by
      rw [Fin.ext_iff]; have := x.isLt; show _ ↔ x.val = 63; omega
    have hs : s ≤ 63 := by show s.val ≤ 63; omega
    unfold Chunk.dA
    refine Eq.trans (Finset.sum_congr (M := EReal) rfl fun x _ => ?_)
      ((Finset.sum_add_distrib (f := fun x : Fin 64 => if x = 63 then (I g).dal r else 0)
        (g := fun x => if s ≤ x then (I g).dacs r x else 0)).trans
          (congrArg (· + _) (by rw [Finset.sum_ite_eq', if_pos (Finset.mem_univ _)])))
    by_cases e3 : x = 63
    · have hsx : s ≤ x := by rw [e3]; exact hs
      rw [if_pos hsx, if_pos e3, if_pos hsx]
      refine (congrArg (fun z => _ + z + _ + _ + _) ((dif_pos ((hx x).mpr e3)).trans
        (congrArg (fun z => _ + z * _) hd))).trans ?_
      unfold Chunk.dacs
      show _ = ((I g).dal r) + _
      exact dacs_swap _ _ _ _ _
    · rw [if_neg e3, zero_add]
      by_cases e4 : s ≤ x
      · rw [if_pos e4, if_pos e4]
        refine (congrArg (fun z => _ + z + _ + _ + _) (dif_neg (fun hh => e3 ((hx x).mp hh)))).trans ?_
        unfold Chunk.dacs
        exact (dacs_swap _ _ _ _ _).trans (zero_add _)
      · rw [if_neg e4, if_neg e4]
  · exact (dif_neg (fun ha => e ((inR k k' s g r).mp ha))).trans (if_neg e).symm

end Cert.ReferenceIdeal.Scan
-- ==== Proof.RefLoop.lean ====
/- The reference's loop: after `n` trips it has carried the state gradient through the last `n` chunks and
   stored those chunks' gradients. -/
module

public import proofs.«01_k».proof.Proof.RefPoint
public import proofs.«01_k».proof.Proof.Steps

@[expose] public section

set_option maxRecDepth 16384

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.Scan (Chunk Args row head chan gchan)

/-- What the loop holds after `n` trips over the arrays `P`. -/
structure Trip (P : Args) (n : ℕ) (V : Valuation τ sig (Elt Ideal)) : Prop where
  cnt : vN V = constantI S_ 32 (BitVec.ofNat 32 n)
  x : ∀ k g r s e D, vX V (ix6 k 0 s g r e) = (P.chunk k g D).X r s e
  y : ∀ k g r s e D, vY V (ix6 k 0 s g r e) = (P.chunk k g D).Y r s e
  dt : ∀ k g r s D, vDT V (ix5 k 0 s g r) = (P.chunk k g D).DT r s
  a : ∀ k g r s D, vA V (ix5 k 0 s g r) = (P.chunk k g D).A r s
  b : ∀ k g s n D, vB V (ix5 k 0 s g n) = (P.chunk k g D).B s n
  c : ∀ k g s n D, vC V (ix5 k 0 s g n) = (P.chunk k g D).C s n
  s : ∀ k g r n e D, vS V (ix6 k 0 g r e n) = (P.chunk k g D).S r n e
  d : ∀ g r n' e, vD V (ix5 0 g r e n') = P.later g n r n' e
  dX : ∀ k : Fin 65, 64 < k.val + n → ∀ g r s e, oX V (ix6 k 0 s g r e) = (P.at_ k g).dX r s e
  dDT : ∀ k : Fin 65, 64 < k.val + n → ∀ g r s, oDT V (ix5 k 0 s g r) = (P.at_ k g).dDT r s
  dA : ∀ k : Fin 65, 64 < k.val + n → ∀ g r s, oA V (ix5 k 0 s g r) = (P.at_ k g).dA r s
  dB : ∀ k : Fin 65, 64 < k.val + n → ∀ g s n', oB V (ix5 k 0 s g n') = (P.at_ k g).dB s n'
  dC : ∀ k : Fin 65, 64 < k.val + n → ∀ g s n', oC V (ix5 k 0 s g n') = (P.at_ k g).dC s n'

theorem Trip.holds {P : Args} {n : ℕ} {V : Valuation τ sig (Elt Ideal)} (h : Trip P n V) (k : Fin 65)
    (hk : k.val + n = 64) : Holds V k fun g => P.at_ k g where
  n := by rw [h.cnt, show 64 - k.val = n by omega]
  x g r s e := h.x k g r s e _
  y g r s e := h.y k g r s e _
  dt g r s := h.dt k g r s _
  a g r s := h.a k g r s _
  b g s n := h.b k g s n _
  c g s n := h.c k g s n _
  s g r n e := h.s k g r n e _
  d g r n' e := by
    rw [h.d]
    show _ = P.later g (64 - k.val) r n' e
    rw [show 64 - k.val = n by omega]

theorem Trip.succ {P : Args} {n : ℕ} {V : Valuation τ sig (Elt Ideal)} (h : Trip P n V) (hn : n < 65) :
    Trip P (n + 1) (STEP V) := by
  have hk : (⟨64 - n, by omega⟩ : Fin 65).val + n = 64 := by show 64 - n + n = 64; omega
  generalize (⟨64 - n, by omega⟩ : Fin 65) = k at hk
  have hh := h.holds k hk
  have hlt : ∀ k' : Fin 65, 64 < k'.val + (n + 1) → k' ≠ k → 64 < k'.val + n := fun k' h1 h2 => by
    have : k'.val ≠ k.val := fun e => h2 (Fin.ext e)
    omega
  constructor
  case cnt =>
    show STEP V (Proc.devRef .tc main_v18_7) = _
    rw [STEP_main_v18_7]
    have e : vN V = constantI S_ 32 (BitVec.ofNat 32 n) := h.cnt
    show addi (vN V) (constantI S_ 32 1#32) = _
    rw [e]
    funext i
    show BitVec.ofNat 32 n + 1#32 = BitVec.ofNat 32 (n + 1)
    rw [BitVec.ofNat_add]
  case x => intro k g r s e D; show STEP V (Proc.devRef .tc main_v18_1) _ = _; rw [STEP_main_v18_1]; exact h.x k g r s e D
  case y => intro k g r s e D; show STEP V (Proc.devRef .tc main_v18_6) _ = _; rw [STEP_main_v18_6]; exact h.y k g r s e D
  case dt => intro k g r s D; show STEP V (Proc.devRef .tc main_v18_2) _ = _; rw [STEP_main_v18_2]; exact h.dt k g r s D
  case a => intro k g r s D; show STEP V (Proc.devRef .tc main_v18_3) _ = _; rw [STEP_main_v18_3]; exact h.a k g r s D
  case b => intro k g s n D; show STEP V (Proc.devRef .tc main_v18_4) _ = _; rw [STEP_main_v18_4]; exact h.b k g s n D
  case c => intro k g s n D; show STEP V (Proc.devRef .tc main_v18_5) _ = _; rw [STEP_main_v18_5]; exact h.c k g s n D
  case s => intro k g r n e D; show STEP V (Proc.devRef .tc main_v18_0) _ = _; rw [STEP_main_v18_0]; exact h.s k g r n e D
  case d =>
    intro g r n' e
    show STEP V (Proc.devRef .tc main_v18_8) _ = _
    rw [STEP_main_v18_8, P.later_succ k g n hk]
    exact d_step hh g r e n'
  case dX =>
    intro k' hk' g r s e
    show STEP V (Proc.devRef .tc main_v18_9) _ = _
    rw [STEP_main_v18_9]
    refine (dX_step hh g r s e k').trans ?_
    by_cases hkk : k' = k
    · rw [if_pos hkk, hkk]
    · rw [if_neg hkk]; exact h.dX k' (hlt k' hk' hkk) g r s e
  case dDT =>
    intro k' hk' g r s
    show STEP V (Proc.devRef .tc main_v18_10) _ = _
    rw [STEP_main_v18_10]
    refine (dDT_step hh g r s k').trans ?_
    by_cases hkk : k' = k
    · rw [if_pos hkk, hkk]
    · rw [if_neg hkk]; exact h.dDT k' (hlt k' hk' hkk) g r s
  case dA =>
    intro k' hk' g r s
    show STEP V (Proc.devRef .tc main_v18_11) _ = _
    rw [STEP_main_v18_11]
    refine (dA_step hh g r s k').trans ?_
    by_cases hkk : k' = k
    · rw [if_pos hkk, hkk]
    · rw [if_neg hkk]; exact h.dA k' (hlt k' hk' hkk) g r s
  case dB =>
    intro k' hk' g s n'
    show STEP V (Proc.devRef .tc main_v18_12) _ = _
    rw [STEP_main_v18_12]
    refine (dB_step hh g s n' k').trans ?_
    by_cases hkk : k' = k
    · rw [if_pos hkk, hkk]
    · rw [if_neg hkk]; exact h.dB k' (hlt k' hk' hkk) g s n'
  case dC =>
    intro k' hk' g s n'
    show STEP V (Proc.devRef .tc main_v18_13) _ = _
    rw [STEP_main_v18_13]
    refine (dC_step hh g s n' k').trans ?_
    by_cases hkk : k' = k
    · rw [if_pos hkk, hkk]
    · rw [if_neg hkk]; exact h.dC k' (hlt k' hk' hkk) g s n'

theorem Trip.iterate {P : Args} {V : Valuation τ sig (Elt Ideal)} (h : Trip P 0 V) :
    ∀ n, n ≤ 65 → Trip P n (STEP^[n] V)
  | 0, _ => h
  | n + 1, hn => by
    rw [Function.iterate_succ_apply']
    exact (h.iterate n (by omega)).succ (by omega)

variable (m : (ℓ : Loc nD τ sig) → Buf (Elt Ideal) ℓ) (c : Dev nD)

/-- The reference's arguments. -/
def args : Args where
  xbc i j := (m ((c : Thread nD τ).loc main_arg0) : FVec Ideal S4160x3072 .f32) (ix2 i j)
  dt i j := (m ((c : Thread nD τ).loc main_arg1) : FVec Ideal S4160x32 .f32) (ix2 i j)
  a i j := (m ((c : Thread nD τ).loc main_arg2) : FVec Ideal S4160x32 .f32) (ix2 i j)
  ss k w n l := (m ((c : Thread nD τ).loc main_arg3) : FVec Ideal S1x65x16x128x128 .f32) (ix5 0 k w n l)
  dy i j := (m ((c : Thread nD τ).loc main_arg4) : FVec Ideal S4160x2048 .f32) (ix2 i j)

set_option maxRecDepth 65536 in
set_option maxHeartbeats 2000000 in
theorem entry : Trip (args m c) 0 (entryContents preI m c) := by
  constructor
  case cnt => exact ctr_entry m c
  case x =>
    intro k g r s e D
    show entryContents preI m c (Proc.devRef .tc main_v18_1) _ = _
    simp only [entryContents, afterL_cons, afterL_nil]
    after_reads_simp
    pointwise
    rw [id_eq]
    exact congrArg (m ((c : Thread nD τ).loc main_arg0) : FVec Ideal S4160x3072 .f32)
      (congrArg₂ ix2 (Fin.ext (show k.val * 64 + s.val = 64 * k.val + s.val by omega)) (Fin.ext (show g.val * 512 + r.val * 64 + e.val = 512 * g.val + 64 * r.val + e.val by omega)))
  case y =>
    intro k g r s e D
    show entryContents preI m c (Proc.devRef .tc main_v18_6) _ = _
    simp only [entryContents, afterL_cons, afterL_nil]
    after_reads_simp
    pointwise
    rw [id_eq]
    exact congrArg (m ((c : Thread nD τ).loc main_arg4) : FVec Ideal S4160x2048 .f32)
      (congrArg₂ ix2 (Fin.ext (show k.val * 64 + s.val = 64 * k.val + s.val by omega)) (Fin.ext (show g.val * 512 + r.val * 64 + e.val = 512 * g.val + 64 * r.val + e.val by omega)))
  case dt =>
    intro k g r s D
    show entryContents preI m c (Proc.devRef .tc main_v18_2) _ = _
    simp only [entryContents, afterL_cons, afterL_nil]
    after_reads_simp
    pointwise
    rw [id_eq]
    exact congrArg (m ((c : Thread nD τ).loc main_arg1) : FVec Ideal S4160x32 .f32)
      (congrArg₂ ix2 (Fin.ext (show k.val * 64 + s.val = 64 * k.val + s.val by omega)) (Fin.ext (show g.val * 8 + r.val = 8 * g.val + r.val by omega)))
  case a =>
    intro k g r s D
    show entryContents preI m c (Proc.devRef .tc main_v18_3) _ = _
    simp only [entryContents, afterL_cons, afterL_nil]
    after_reads_simp
    pointwise
    rw [id_eq]
    exact congrArg (m ((c : Thread nD τ).loc main_arg2) : FVec Ideal S4160x32 .f32)
      (congrArg₂ ix2 (Fin.ext (show k.val * 64 + s.val = 64 * k.val + s.val by omega)) (Fin.ext (show g.val * 8 + r.val = 8 * g.val + r.val by omega)))
  case b =>
    intro k g s n D
    show entryContents preI m c (Proc.devRef .tc main_v18_4) _ = _
    simp only [entryContents, afterL_cons, afterL_nil]
    after_reads_simp
    pointwise
    rw [id_eq]
    exact congrArg (m ((c : Thread nD τ).loc main_arg0) : FVec Ideal S4160x3072 .f32)
      (congrArg₂ ix2 (Fin.ext (show k.val * 64 + s.val = 64 * k.val + s.val by omega)) (Fin.ext (show 2048 + (g.val * 128 + n.val) = 2048 + 128 * g.val + n.val by omega)))
  case c =>
    intro k g s n D
    show entryContents preI m c (Proc.devRef .tc main_v18_5) _ = _
    simp only [entryContents, afterL_cons, afterL_nil]
    after_reads_simp
    pointwise
    rw [id_eq]
    exact congrArg (m ((c : Thread nD τ).loc main_arg0) : FVec Ideal S4160x3072 .f32)
      (congrArg₂ ix2 (Fin.ext (show k.val * 64 + s.val = 64 * k.val + s.val by omega)) (Fin.ext (show 2560 + (g.val * 128 + n.val) = 2560 + 128 * g.val + n.val by omega)))
  case s =>
    intro k g r n e D
    show entryContents preI m c (Proc.devRef .tc main_v18_0) _ = _
    simp only [entryContents, afterL_cons, afterL_nil]
    after_reads_simp
    pointwise
    rw [id_eq]
    have h1 : (⟨g.val * 4 + r.val / 2, by omega⟩ : Fin 16) = ⟨4 * g.val + r.val / 2, by omega⟩ := Fin.ext (by show g.val * 4 + r.val / 2 = 4 * g.val + r.val / 2; omega)
    have h2 : (⟨r.val % 2 * 64 + e.val, by omega⟩ : Fin 128) = ⟨64 * (r.val % 2) + e.val, by omega⟩ := Fin.ext (by show r.val % 2 * 64 + e.val = 64 * (r.val % 2) + e.val; omega)
    exact congrArg₂ (fun w l => (m ((c : Thread nD τ).loc main_arg3) : FVec Ideal S1x65x16x128x128 .f32) (ix5 0 k w n l)) h1 h2
  case d =>
    intro g r n' e
    show entryContents preI m c (Proc.devRef .tc main_v18_8) _ = _
    simp only [entryContents, afterL_cons, afterL_nil]
    after_reads_simp
    rw [id_eq]
    show _ = (0 : EReal)
    pointwise
  all_goals exact fun k hk => absurd hk (by omega)

end Cert.ReferenceIdeal.Scan
-- ==== Proof.RefOut.lean ====
/- The reference's five results, entry by entry: the gradients of `Steps`, zero before the sequence begins. -/
module

public import proofs.«01_k».proof.Proof.RefLoop

@[expose] public section

set_option maxRecDepth 16384

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.Scan (Chunk Args row head chan gchan)

variable {P : Args} {V : Valuation τ sig (Elt Ideal)} (h : Trip P 65 V)

/-- Positions from 48 on are kept. -/
theorem keep_at (i : Fin 4160) (x : EReal) :
    Scalar.select (IntOp.cmpi .sge (BitVec.ofNat 32 i.val) 48#32) x 0 = if i.val < 48 then 0 else x := by
  word_cmp
  by_cases hi : i.val < 48
  · rw [if_pos hi, if_neg (not_le.mpr hi)]
  · rw [if_neg hi, if_pos (not_lt.mp hi)]

theorem row_lt (k : Fin 65) (s : Fin 64) (x : EReal) :
    (if (row k s).val < 48 then 0 else x) = if k.val = 0 ∧ s.val < 48 then 0 else x := by
  refine if_congr ?_ rfl rfl
  show 64 * k.val + s.val < 48 ↔ _
  omega

theorem zero_at : id (constant (F := Ideal) S_ .f32 0#32) ix0 = (0 : EReal) := by
  rw [id_eq]
  pointwise

/-! An entry's chunk, position, group, head and channel, read off its place. -/
theorem row_div (k : Fin 65) (s : Fin 64) (h : (row k s).val / 64 < 65) : (⟨(row k s).val / 64, h⟩ : Fin 65) = k :=
  Fin.ext (by show (64 * k.val + s.val) / 64 = k.val; omega)
theorem row_mod (k : Fin 65) (s : Fin 64) (h : (row k s).val % 64 < 64) : (⟨(row k s).val % 64, h⟩ : Fin 64) = s :=
  Fin.ext (by show (64 * k.val + s.val) % 64 = s.val; omega)
theorem row_comm (k : Fin 65) (s : Fin 64) : k.val * 64 + s.val = (row k s).val := by
  show _ = 64 * k.val + s.val; omega
theorem chan_g (g : Fin 4) (r : Fin 8) (e : Fin 64) (h : (chan g r e).val / 512 < 4) :
    (⟨(chan g r e).val / 512, h⟩ : Fin 4) = g :=
  Fin.ext (by show (512 * g.val + 64 * r.val + e.val) / 512 = g.val; omega)
theorem chan_r (g : Fin 4) (r : Fin 8) (e : Fin 64) (h : (chan g r e).val / 64 % 8 < 8) :
    (⟨(chan g r e).val / 64 % 8, h⟩ : Fin 8) = r :=
  Fin.ext (by show (512 * g.val + 64 * r.val + e.val) / 64 % 8 = r.val; omega)
theorem chan_e (g : Fin 4) (r : Fin 8) (e : Fin 64) (h : (chan g r e).val % 64 < 64) :
    (⟨(chan g r e).val % 64, h⟩ : Fin 64) = e :=
  Fin.ext (by show (512 * g.val + 64 * r.val + e.val) % 64 = e.val; omega)
theorem gchan_g (g : Fin 4) (n : Fin 128) (h : (gchan g n).val / 128 < 4) : (⟨(gchan g n).val / 128, h⟩ : Fin 4) = g :=
  Fin.ext (by show (128 * g.val + n.val) / 128 = g.val; omega)
theorem gchan_n (g : Fin 4) (n : Fin 128) (h : (gchan g n).val % 128 < 128) : (⟨(gchan g n).val % 128, h⟩ : Fin 128) = n :=
  Fin.ext (by show (128 * g.val + n.val) % 128 = n.val; omega)

include h in
/-- The gradient of x. -/
theorem ref_X (k : Fin 65) (s : Fin 64) (g : Fin 4) (r : Fin 8) (e : Fin 64) :
    (out_main_v24 V : FVec Ideal S4160x2048 .f32) (ix2 (row k s) (chan g r e))
      = if k.val = 0 ∧ s.val < 48 then 0 else (P.at_ k g).dX r s e := by
  rw [← row_lt, ← keep_at, ← h.dX k (by omega) g r s e]
  pointwise [out_main_v24]
  simp only [row_div, row_mod, chan_g, chan_r, chan_e]
  exact congrArg _ zero_at

include h in
/-- The gradient of b. -/
theorem ref_B (k : Fin 65) (s : Fin 64) (g : Fin 4) (n : Fin 128) :
    (out_main_v26 V : FVec Ideal S4160x512 .f32) (ix2 (row k s) (gchan g n))
      = if k.val = 0 ∧ s.val < 48 then 0 else (P.at_ k g).dB s n := by
  rw [← row_lt, ← keep_at, ← h.dB k (by omega) g s n]
  pointwise [out_main_v26]
  simp only [row_div, row_mod, gchan_g, gchan_n]
  exact congrArg _ zero_at

include h in
/-- The gradient of c. -/
theorem ref_C (k : Fin 65) (s : Fin 64) (g : Fin 4) (n : Fin 128) :
    (out_main_v28 V : FVec Ideal S4160x512 .f32) (ix2 (row k s) (gchan g n))
      = if k.val = 0 ∧ s.val < 48 then 0 else (P.at_ k g).dC s n := by
  rw [← row_lt, ← keep_at, ← h.dC k (by omega) g s n]
  pointwise [out_main_v28]
  simp only [row_div, row_mod, gchan_g, gchan_n]
  exact congrArg _ zero_at

include h in
/-- The gradient of the step sizes. -/
theorem ref_DT (g : Fin 4) (k : Fin 65) (r : Fin 8) (s : Fin 64) :
    (out_main_v32 V : FVec Ideal S4x65x8x64 .f32) (ix4 g k r s)
      = if k.val = 0 ∧ s.val < 48 then 0 else (P.at_ k g).dDT r s := by
  rw [← row_lt, ← keep_at, ← h.dDT k (by omega) g r s]
  pointwise [out_main_v32]
  rw [row_comm]
  exact congrArg _ zero_at

include h in
/-- The gradient of the decays. -/
theorem ref_A (g : Fin 4) (k : Fin 65) (r : Fin 8) (s : Fin 64) :
    (out_main_v36 V : FVec Ideal S4x65x8x64 .f32) (ix4 g k r s)
      = if k.val = 0 ∧ s.val < 48 then 0 else (P.at_ k g).dA r s := by
  rw [← row_lt, ← keep_at, ← h.dA k (by omega) g r s]
  pointwise [out_main_v36]
  rw [row_comm]
  exact congrArg _ zero_at

end Cert.ReferenceIdeal.Scan
-- ==== Proof.Meet.lean ====
/- Kernel and reference, started from the same arguments, end with the same five arrays. -/
module

public import proofs.«01_k».proof.Proof.KernOut
public import proofs.«01_k».proof.Proof.RefOut

@[expose] public section

set_option maxRecDepth 16384

noncomputable section

namespace Cert.Scan

open Idealize.ShloMosaic Idealize.ShloMosaic.TcCoe Idealize.SL.Sem Idealize.ShloMosaic.StableHlo
open Cert.ReferenceIdeal.Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same five arguments on device `c`. -/
def Same (c : Dev Cert.KernelIdeal.nD) : Prop :=
  m' ((c : Thread Cert.ReferenceIdeal.nD Cert.ReferenceIdeal.τ).loc Cert.ReferenceIdeal.main_arg0)
      = m ((c : Thread Cert.KernelIdeal.nD Cert.KernelIdeal.τ).loc Cert.KernelIdeal.main_arg0)
  ∧ m' ((c : Thread Cert.ReferenceIdeal.nD Cert.ReferenceIdeal.τ).loc Cert.ReferenceIdeal.main_arg1)
      = m ((c : Thread Cert.KernelIdeal.nD Cert.KernelIdeal.τ).loc Cert.KernelIdeal.main_arg1)
  ∧ m' ((c : Thread Cert.ReferenceIdeal.nD Cert.ReferenceIdeal.τ).loc Cert.ReferenceIdeal.main_arg2)
      = m ((c : Thread Cert.KernelIdeal.nD Cert.KernelIdeal.τ).loc Cert.KernelIdeal.main_arg2)
  ∧ m' ((c : Thread Cert.ReferenceIdeal.nD Cert.ReferenceIdeal.τ).loc Cert.ReferenceIdeal.main_arg3)
      = m ((c : Thread Cert.KernelIdeal.nD Cert.KernelIdeal.τ).loc Cert.KernelIdeal.main_arg3)
  ∧ m' ((c : Thread Cert.ReferenceIdeal.nD Cert.ReferenceIdeal.τ).loc Cert.ReferenceIdeal.main_arg4)
      = m ((c : Thread Cert.KernelIdeal.nD Cert.KernelIdeal.τ).loc Cert.KernelIdeal.main_arg4)

variable {m m'} {c : Dev Cert.KernelIdeal.nD} (h : Same m m' c)

include h

theorem args_eq : Cert.ReferenceIdeal.Scan.args m' c = Cert.KernelIdeal.Scan.args m c := by
  obtain ⟨h0, h1, h2, h3, h4⟩ := h
  unfold Cert.ReferenceIdeal.Scan.args Cert.KernelIdeal.Scan.args
  rw [h0, h1, h2, h3, h4]

/-- The reference's loop, after its 65 trips, has done what the kernel's arguments ask for. -/
theorem trips : Cert.ReferenceIdeal.Scan.Trip (Cert.KernelIdeal.Scan.args m c) 65
    (STEP^[65] (entryContents preI m' c)) :=
  args_eq h ▸ (Cert.ReferenceIdeal.Scan.entry m' c).iterate 65 le_rfl

theorem same_X : (out_main_v24 (STEP^[65] (entryContents preI m' c)) : FVec Ideal Cert.ReferenceIdeal.S4160x2048 .f32)
    = (Cert.KernelIdeal.Gen.dats m 0 c).arrAt 7 Cert.KernelIdeal.cfg0.N := by
  funext i
  obtain ⟨i, j, rfl⟩ : ∃ a b, i = ix2 a b := ⟨_, _, eq_ix2 i⟩
  obtain ⟨k, s, rfl⟩ := exists_row i
  obtain ⟨g, r, e, rfl⟩ := exists_chan j
  exact (Cert.ReferenceIdeal.Scan.ref_X (trips h) k s g r e).trans (Cert.KernelIdeal.Scan.out_X m c k s g r e).symm

theorem same_B : (out_main_v26 (STEP^[65] (entryContents preI m' c)) : FVec Ideal Cert.ReferenceIdeal.S4160x512 .f32)
    = (Cert.KernelIdeal.Gen.dats m 0 c).arrAt 8 Cert.KernelIdeal.cfg0.N := by
  funext i
  obtain ⟨i, j, rfl⟩ : ∃ a b, i = ix2 a b := ⟨_, _, eq_ix2 i⟩
  obtain ⟨k, s, rfl⟩ := exists_row i
  obtain ⟨g, n, rfl⟩ := exists_gchan j
  exact (Cert.ReferenceIdeal.Scan.ref_B (trips h) k s g n).trans (Cert.KernelIdeal.Scan.out_B m c k s g n).symm

theorem same_C : (out_main_v28 (STEP^[65] (entryContents preI m' c)) : FVec Ideal Cert.ReferenceIdeal.S4160x512 .f32)
    = (Cert.KernelIdeal.Gen.dats m 0 c).arrAt 9 Cert.KernelIdeal.cfg0.N := by
  funext i
  obtain ⟨i, j, rfl⟩ : ∃ a b, i = ix2 a b := ⟨_, _, eq_ix2 i⟩
  obtain ⟨k, s, rfl⟩ := exists_row i
  obtain ⟨g, n, rfl⟩ := exists_gchan j
  exact (Cert.ReferenceIdeal.Scan.ref_C (trips h) k s g n).trans (Cert.KernelIdeal.Scan.out_C m c k s g n).symm

theorem same_DT : (out_main_v32 (STEP^[65] (entryContents preI m' c)) : FVec Ideal Cert.ReferenceIdeal.S4x65x8x64 .f32)
    = (Cert.KernelIdeal.Gen.dats m 0 c).arrAt 10 Cert.KernelIdeal.cfg0.N := by
  funext i
  obtain ⟨g, k, r, s, rfl⟩ : ∃ g k r s, i = ix4 g k r s := ⟨_, _, _, _, eq_ix4 i⟩
  exact (Cert.ReferenceIdeal.Scan.ref_DT (trips h) g k r s).trans (Cert.KernelIdeal.Scan.out_DT m c g k r s).symm

theorem same_A : (out_main_v36 (STEP^[65] (entryContents preI m' c)) : FVec Ideal Cert.ReferenceIdeal.S4x65x8x64 .f32)
    = (Cert.KernelIdeal.Gen.dats m 0 c).arrAt 11 Cert.KernelIdeal.cfg0.N := by
  funext i
  obtain ⟨g, k, r, s, rfl⟩ : ∃ g k r s, i = ix4 g k r s := ⟨_, _, _, _, eq_ix4 i⟩
  exact (Cert.ReferenceIdeal.Scan.ref_A (trips h) g k r s).trans (Cert.KernelIdeal.Scan.out_A m c g k r s).symm

end Cert.Scan

end
-- ==== Proof.Product2.lean ====
/- Ffn_down's weight: the call `gw_down` computes the product that the reference states.
   The call's grid has 4 by 2 blocks of the result, each the sum of 2 products. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel2Ideal.Product

open Cert.Kernel2Ideal Cert.Kernel2Ideal.Gen Idealize.ShloMosaic Idealize.ShloMosaic.TcCoe Idealize.SL.Sem

variable (m : (ℓ : Loc nD τ sig) → Buf (Elt Ideal) ℓ)

/-- The product of the transpose of x with w. -/
def prod (x : Vec Ideal S4160x5632 .bf16) (w : Vec Ideal S4160x2048 .bf16) : Vec Ideal S5632x2048 .bf16 :=
  fun i => ∑ k : Fin 4160, x (ix2 k (i 0)) * w (ix2 k (i 1))

/-- The blocks that a point reads and writes. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The accumulator is filled with zeros at the first point of a block. -/
theorem zero_apply (j : S1408x1024.Idx) : k0_pay1 (F := Ideal) j = 0 := by
  pointwise [k0_pay1]

/-- One point adds the product of its two blocks to the accumulator. -/
theorem acc_apply (a : Vec Ideal S1408x1024 .f32) (x : Vec Ideal S2080x1408 .bf16) (w : Vec Ideal S2080x1024 .bf16) (j : S1408x1024.Idx) :
    k0_pay2 (F := Ideal) a x w j = a j + ∑ k : Fin 2080, x (ix2 k (j 0)) * w (ix2 k (j 1)) := by
  pointwise [k0_pay2]

/-- What is written back is the accumulator, rounded: over the reals the accumulator itself. -/
theorem out_apply (a : Vec Ideal S1408x1024 .f32) (j : S1408x1024.Idx) : k0_pay3 (F := Ideal) a j = a j := by
  pointwise [k0_pay3]

/-- At the last point of a block the result's block is the accumulator. -/
theorem last (c : Dev nD) (t : Fin cfg0.N) (h : t.val % 2 = 1) (j : S1408x1024.Idx) :
    (outsAt0 m c t.val t.isLt).1 j = (outsAt0 m c t.val t.isLt).2 j := by
  rw [outsAt0_B m c t (by omega) h]
  frame_out
  rw [out_apply]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  have hl := (flush0_2 t).mp hf
  rw [after0_2, last m c t hl, Pipeline.eq_sum_fin_of_reset_step_apply_of_flush (fun n h => (outsAt0 m c n h).2) 2 (fun _ => 0) _
    (fun t h j => by rw [outsAt0_A m c t h (by omega)]; frame_out; rw [acc_apply, zero_apply])
    (fun t h j => by rw [outsAt0_B m c t h (by omega)]; frame_out; rw [acc_apply, read_unread_whole])
    t hl _, zero_add, prod]
  refine Fin.sum_mul_add_congr fun s k hk => ?_
  blk_point [iblk, V, idx t, idx ⟨_, Pipeline.run_point_lt_of_flush t ((flush0_2 t).mp hf) s⟩]

end Cert.Kernel2Ideal.Product

namespace Cert.Reference2Ideal.Product

open Cert.Reference2Ideal Cert.Reference2Ideal.Gen Idealize.ShloMosaic Idealize.ShloMosaic.TcCoe Idealize.SL.Sem

/-- The reference's term is the product. -/
theorem ref_eq (x : Vec Ideal S4160x5632 .bf16) (w : Vec Ideal S4160x2048 .bf16) :
    truncf (F := Ideal) .bf16 (transpose S5632x2048 [1, 0] (Host.dotGeneral dot_S4160x2048_S4160x5632_S2048x5632_0_0_1_1_n_n none (extf .f32 w bitsLt_bf16_f32) (extf .f32 x bitsLt_bf16_f32)) transposes_S2048x5632_S5632x2048_1_0) bitsLt_bf16_f32
      = Cert.Kernel2Ideal.Product.prod x w := by
  funext i
  pointwise [Cert.Kernel2Ideal.Product.prod]
  exact Finset.sum_congr rfl fun k _ => mul_comm _ _

/-- The reference leaves its arguments as they were; it declares no semaphore, so every counter stays at zero. -/
theorem frame : Cert.quiescent_Reference2Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel2Ideal_Reference2Ideal := by
  intro m g m' g' _ hagree
  refine ⟨_, Cert.Kernel2Ideal.Value.run_blocks m g, ?_⟩
  refine (θ_run defs _ _).mono (fun r h c => ⟨(h c).1.trans ?_, (h c).2⟩) (Value.run (F := Ideal) m' g')
  obtain ⟨h0, h1⟩ := hagree c
  rw [Cert.Kernel2Ideal.Product.final, ← h0, ← h1]
  exact ref_eq _ _

end Cert.Reference2Ideal.Product

end
-- ==== Proof.Product3.lean ====
/- Ffn_up's weight, the value half: the call `gw_up_v` computes the product that the reference states.
   The call's grid has 2 by 4 blocks of the result, each the sum of 2 products. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel3Ideal.Product

open Cert.Kernel3Ideal Cert.Kernel3Ideal.Gen Idealize.ShloMosaic Idealize.ShloMosaic.TcCoe Idealize.SL.Sem

variable (m : (ℓ : Loc nD τ sig) → Buf (Elt Ideal) ℓ)

/-- The product of the transpose of x with w. -/
def prod (x : Vec Ideal S4160x2048 .bf16) (w : Vec Ideal S4160x5632 .bf16) : Vec Ideal S2048x5632 .bf16 :=
  fun i => ∑ k : Fin 4160, x (ix2 k (i 0)) * w (ix2 k (i 1))

/-- The blocks that a point reads and writes. -/
theorem idx : ∀ t : Fin cfg0.N, win0_0.index t = ![t.val % 2, t.val / 8] ∧ win0_1.index t = ![t.val % 2, t.val / 2 % 4]
    ∧ win0_2.index t = ![t.val / 8, t.val / 2 % 4] :=
  (by decide +kernel : ∀ t : Fin grid0.N, _)

/-- The accumulator is filled with zeros at the first point of a block. -/
theorem zero_apply (j : S1024x1408.Idx) : k0_pay1 (F := Ideal) j = 0 := by
  pointwise [k0_pay1]

/-- One point adds the product of its two blocks to the accumulator. -/
theorem acc_apply (a : Vec Ideal S1024x1408 .f32) (x : Vec Ideal S2080x1024 .bf16) (w : Vec Ideal S2080x1408 .bf16) (j : S1024x1408.Idx) :
    k0_pay2 (F := Ideal) a x w j = a j + ∑ k : Fin 2080, x (ix2 k (j 0)) * w (ix2 k (j 1)) := by
  pointwise [k0_pay2]

/-- What is written back is the accumulator, rounded: over the reals the accumulator itself. -/
theorem out_apply (a : Vec Ideal S1024x1408 .f32) (j : S1024x1408.Idx) : k0_pay3 (F := Ideal) a j = a j := by
  pointwise [k0_pay3]

/-- At the last point of a block the result's block is the accumulator. -/
theorem last (c : Dev nD) (t : Fin cfg0.N) (h : t.val % 2 = 1) (j : S1024x1408.Idx) :
    (outsAt0 m c t.val t.isLt).1 j = (outsAt0 m c t.val t.isLt).2 j := by
  rw [outsAt0_B m c t (by omega) h]
  frame_out
  rw [out_apply]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  have hl := (flush0_2 t).mp hf
  rw [after0_2, last m c t hl, Pipeline.eq_sum_fin_of_reset_step_apply_of_flush (fun n h => (outsAt0 m c n h).2) 2 (fun _ => 0) _
    (fun t h j => by rw [outsAt0_A m c t h (by omega)]; frame_out; rw [acc_apply, zero_apply])
    (fun t h j => by rw [outsAt0_B m c t h (by omega)]; frame_out; rw [acc_apply, read_unread_whole])
    t hl _, zero_add, prod]
  refine Fin.sum_mul_add_congr fun s k hk => ?_
  blk_point [iblk, V, idx t, idx ⟨_, Pipeline.run_point_lt_of_flush t ((flush0_2 t).mp hf) s⟩]

end Cert.Kernel3Ideal.Product

namespace Cert.Reference3Ideal.Product

open Cert.Reference3Ideal Cert.Reference3Ideal.Gen Idealize.ShloMosaic Idealize.ShloMosaic.TcCoe Idealize.SL.Sem

/-- The reference's term is the product. -/
theorem ref_eq (x : Vec Ideal S4160x2048 .bf16) (w : Vec Ideal S4160x5632 .bf16) :
    truncf (F := Ideal) .bf16 (transpose S2048x5632 [1, 0] (Host.dotGeneral dot_S4160x5632_S4160x2048_S5632x2048_0_0_1_1_n_n none (extf .f32 w bitsLt_bf16_f32) (extf .f32 x bitsLt_bf16_f32)) transposes_S5632x2048_S2048x5632_1_0) bitsLt_bf16_f32
      = Cert.Kernel3Ideal.Product.prod x w := by
  funext i
  pointwise [Cert.Kernel3Ideal.Product.prod]
  exact Finset.sum_congr rfl fun k _ => mul_comm _ _

/-- The reference leaves its arguments as they were; it declares no semaphore, so every counter stays at zero. -/
theorem frame : Cert.quiescent_Reference3Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel3Ideal_Reference3Ideal := by
  intro m g m' g' _ hagree
  refine ⟨_, Cert.Kernel3Ideal.Value.run_blocks m g, ?_⟩
  refine (θ_run defs _ _).mono (fun r h c => ⟨(h c).1.trans ?_, (h c).2⟩) (Value.run (F := Ideal) m' g')
  obtain ⟨h0, h1⟩ := hagree c
  rw [Cert.Kernel3Ideal.Product.final, ← h0, ← h1]
  exact ref_eq _ _

end Cert.Reference3Ideal.Product

end
-- ==== Proof.Product4.lean ====
/- Ffn_up's weight, the gate half: the call `gw_up_g` computes the product that the reference states.
   The call's grid has 2 by 4 blocks of the result, each the sum of 2 products. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel4Ideal.Product

open Cert.Kernel4Ideal Cert.Kernel4Ideal.Gen Idealize.ShloMosaic Idealize.ShloMosaic.TcCoe Idealize.SL.Sem

variable (m : (ℓ : Loc nD τ sig) → Buf (Elt Ideal) ℓ)

/-- The product of the transpose of x with w. -/
def prod (x : Vec Ideal S4160x2048 .bf16) (w : Vec Ideal S4160x5632 .bf16) : Vec Ideal S2048x5632 .bf16 :=
  fun i => ∑ k : Fin 4160, x (ix2 k (i 0)) * w (ix2 k (i 1))

/-- The blocks that a point reads and writes. -/
theorem idx : ∀ t : Fin cfg0.N, win0_0.index t = ![t.val % 2, t.val / 8] ∧ win0_1.index t = ![t.val % 2, t.val / 2 % 4]
    ∧ win0_3.index t = ![t.val / 8, t.val / 2 % 4] :=
  (by decide +kernel : ∀ t : Fin grid0.N, _)

/-- The accumulator is filled with zeros at the first point of a block. -/
theorem zero_apply (j : S1024x1408.Idx) : k0_pay1 (F := Ideal) j = 0 := by
  pointwise [k0_pay1]

/-- One point adds the product of its two blocks to the accumulator. -/
theorem acc_apply (a : Vec Ideal S1024x1408 .f32) (x : Vec Ideal S2080x1024 .bf16) (w : Vec Ideal S2080x1408 .bf16) (j : S1024x1408.Idx) :
    k0_pay2 (F := Ideal) a x w j = a j + ∑ k : Fin 2080, x (ix2 k (j 0)) * w (ix2 k (j 1)) := by
  pointwise [k0_pay2]

/-- What is written back is the accumulator, rounded: over the reals the accumulator itself. -/
theorem out_apply (a : Vec Ideal S1024x1408 .f32) (j : S1024x1408.Idx) : k0_pay3 (F := Ideal) a j = a j := by
  pointwise [k0_pay3]

/-- At the last point of a block the result's block is the accumulator. -/
theorem last (c : Dev nD) (t : Fin cfg0.N) (h : t.val % 2 = 1) (j : S1024x1408.Idx) :
    (outsAt0 m c t.val t.isLt).1 j = (outsAt0 m c t.val t.isLt).2 j := by
  rw [outsAt0_B m c t (by omega) h]
  frame_out
  rw [out_apply]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  have hl := (flush0_3 t).mp hf
  rw [after0_3, last m c t hl, Pipeline.eq_sum_fin_of_reset_step_apply_of_flush (fun n h => (outsAt0 m c n h).2) 2 (fun _ => 0) _
    (fun t h j => by rw [outsAt0_A m c t h (by omega)]; frame_out; rw [acc_apply, zero_apply])
    (fun t h j => by rw [outsAt0_B m c t h (by omega)]; frame_out; rw [acc_apply, read_unread_whole])
    t hl _, zero_add, prod]
  refine Fin.sum_mul_add_congr fun s k hk => ?_
  blk_point [iblk, V, idx t, idx ⟨_, Pipeline.run_point_lt_of_flush t ((flush0_3 t).mp hf) s⟩]

end Cert.Kernel4Ideal.Product

namespace Cert.Reference4Ideal.Product

open Cert.Reference4Ideal Cert.Reference4Ideal.Gen Idealize.ShloMosaic Idealize.ShloMosaic.TcCoe Idealize.SL.Sem

/-- The reference's term is the product. -/
theorem ref_eq (x : Vec Ideal S4160x2048 .bf16) (w : Vec Ideal S4160x5632 .bf16) :
    truncf (F := Ideal) .bf16 (transpose S2048x5632 [1, 0] (Host.dotGeneral dot_S4160x5632_S4160x2048_S5632x2048_0_0_1_1_n_n none (extf .f32 w bitsLt_bf16_f32) (extf .f32 x bitsLt_bf16_f32)) transposes_S5632x2048_S2048x5632_1_0) bitsLt_bf16_f32
      = Cert.Kernel4Ideal.Product.prod x w := by
  funext i
  pointwise [Cert.Kernel4Ideal.Product.prod]
  exact Finset.sum_congr rfl fun k _ => mul_comm _ _

/-- The reference leaves its arguments as they were; it declares no semaphore, so every counter stays at zero. -/
theorem frame : Cert.quiescent_Reference4Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel4Ideal_Reference4Ideal := by
  intro m g m' g' _ hagree
  refine ⟨_, Cert.Kernel4Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel4Ideal.Product.final, ← h0, ← h1]
  exact ref_eq _ _

end Cert.Reference4Ideal.Product

end
-- ==== Proof.Product5.lean ====
/- Ffn_down's input: the call `d_act` computes the product that the reference states.
   The call's grid has 4 by 11 blocks of the result. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel5Ideal.Product

open Cert.Kernel5Ideal Cert.Kernel5Ideal.Gen Idealize.ShloMosaic Idealize.ShloMosaic.TcCoe Idealize.SL.Sem

variable (m : (ℓ : Loc nD τ sig) → Buf (Elt Ideal) ℓ)

/-- The product of x with the transpose of w. -/
def prod (x : Vec Ideal S4160x2048 .bf16) (w : Vec Ideal S5632x2048 .bf16) : Vec Ideal S4160x5632 .f32 :=
  fun i => ∑ k : Fin 2048, x (ix2 (i 0) k) * w (ix2 (i 1) k)

/-- The blocks that a point reads and writes. -/
theorem idx : ∀ t : Fin cfg0.N, win0_0.index t = ![t.val / 11, 0] ∧ win0_1.index t = ![t.val % 11, 0]
    ∧ win0_2.index t = ![t.val / 11, t.val % 11] :=
  (by decide +kernel : ∀ t : Fin grid0.N, _)

/-- What one point writes: the product of its two blocks. -/
theorem part_apply (x : Vec Ideal S1040x2048 .bf16) (w : Vec Ideal S512x2048 .bf16) (j : S1040x512.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  rw [after0_2]
  frame_out
  rw [part_apply, prod]
  blk_point [iblk, V, idx t]

end Cert.Kernel5Ideal.Product

namespace Cert.Reference5Ideal.Product

open Cert.Reference5Ideal Cert.Reference5Ideal.Gen Idealize.ShloMosaic Idealize.ShloMosaic.TcCoe Idealize.SL.Sem

/-- The reference's term is the product. -/
theorem ref_eq (x : Vec Ideal S4160x2048 .bf16) (w : Vec Ideal S5632x2048 .bf16) :
    Host.dotGeneral (F := Ideal) dot_S4160x2048_S5632x2048_S4160x5632_1_1_0_0_n_n none (extf .f32 x bitsLt_bf16_f32) (extf .f32 w bitsLt_bf16_f32)
      = Cert.Kernel5Ideal.Product.prod x w := by
  funext i
  pointwise [Cert.Kernel5Ideal.Product.prod]

/-- The reference leaves its arguments as they were; it declares no semaphore, so every counter stays at zero. -/
theorem frame : Cert.quiescent_Reference5Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel5Ideal_Reference5Ideal := by
  intro m g m' g' _ hagree
  refine ⟨_, Cert.Kernel5Ideal.Value.run_blocks m g, ?_⟩
  refine (θ_run defs _ _).mono (fun r h c => ⟨(h c).1.trans ?_, (h c).2⟩) (Value.run (F := Ideal) m' g')
  obtain ⟨h0, h1⟩ := hagree c
  rw [Cert.Kernel5Ideal.Product.final, ← h0, ← h1]
  exact ref_eq _ _

end Cert.Reference5Ideal.Product

end
-- ==== Proof.Product6.lean ====
/- Ffn_up's input, from the gate half: the call `d_hn2_g` computes the product that the reference states.
   The call's grid has 4 by 1 blocks of the result, each the sum of 4 products. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel6Ideal.Product

open Cert.Kernel6Ideal Cert.Kernel6Ideal.Gen Idealize.ShloMosaic Idealize.ShloMosaic.TcCoe Idealize.SL.Sem

variable (m : (ℓ : Loc nD τ sig) → Buf (Elt Ideal) ℓ)

/-- The product of x with the transpose of the part of w that the call takes. -/
def prod (x : Vec Ideal S4160x5632 .bf16) (w : Vec Ideal S2048x11264 .bf16) : Vec Ideal S4160x2048 .f32 :=
  fun i => ∑ k : Fin 5632, x (ix2 (i 0) k) * w (ix2 (i 1) ⟨k.val, by omega⟩)

/-- The blocks that a point reads and writes. -/
theorem idx : ∀ t : Fin cfg0.N, win0_0.index t = ![t.val / 4, t.val % 4] ∧ win0_1.index t = ![0, t.val % 4]
    ∧ win0_3.index t = ![t.val / 4, 0] :=
  (by decide +kernel : ∀ t : Fin grid0.N, _)

/-- The accumulator is filled with zeros at the first point of a block. -/
theorem zero_apply (j : S1040x2048.Idx) : k0_pay1 (F := Ideal) j = 0 := by
  pointwise [k0_pay1]

/-- One point adds the product of its two blocks to the accumulator. -/
theorem acc_apply (a : Vec Ideal S1040x2048 .f32) (x : Vec Ideal S1040x1408 .bf16) (w : Vec Ideal S2048x1408 .bf16) (j : S1040x2048.Idx) :
    k0_pay2 (F := Ideal) a x w j = a j + ∑ k : Fin 1408, x (ix2 (j 0) k) * w (ix2 (j 1) k) := by
  pointwise [k0_pay2]

/-- At the last point of a block the result's block is the accumulator. -/
theorem last (c : Dev nD) (t : Fin cfg0.N) (h : t.val % 4 = 3) (j : S1040x2048.Idx) :
    (outsAt0 m c t.val t.isLt).1 j = (outsAt0 m c t.val t.isLt).2 j := by
  rw [outsAt0_C m c t (by omega) h]
  frame_out

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  have hl := (flush0_3 t).mp hf
  rw [after0_3, last m c t hl, Pipeline.eq_sum_fin_of_reset_step_apply_of_flush (fun n h => (outsAt0 m c n h).2) 4 (fun _ => 0) _
    (fun t h j => by rw [outsAt0_A m c t h (by omega)]; frame_out; rw [acc_apply, zero_apply])
    (fun t h j => by
      by_cases h1 : t.val % 4 = 3
      · rw [outsAt0_C m c t h h1]; frame_out; rw [acc_apply, read_unread_whole]
      · rw [outsAt0_B m c t h h1]; frame_out; rw [acc_apply, read_unread_whole])
    t hl _, zero_add, prod]
  refine Fin.sum_mul_add_congr fun s k hk => ?_
  blk_point [iblk, V, idx t, idx ⟨_, Pipeline.run_point_lt_of_flush t ((flush0_3 t).mp hf) s⟩]

end Cert.Kernel6Ideal.Product

namespace Cert.Reference6Ideal.Product

open Cert.Reference6Ideal Cert.Reference6Ideal.Gen Idealize.ShloMosaic Idealize.ShloMosaic.TcCoe Idealize.SL.Sem

/-- The reference's term is the product. -/
theorem ref_eq (x : Vec Ideal S4160x5632 .bf16) (w : Vec Ideal S2048x11264 .bf16) :
    Host.dotGeneral (F := Ideal) dot_S4160x5632_S2048x5632_S4160x2048_1_1_0_0_n_n none (extf .f32 x bitsLt_bf16_f32) (extf .f32 (extractStridedSlice S2048x5632 ![0, 0] w slices_S2048x11264_S2048x5632_0_0) bitsLt_bf16_f32)
      = Cert.Kernel6Ideal.Product.prod x w := by
  funext i
  pointwise [Cert.Kernel6Ideal.Product.prod]

/-- The reference leaves its arguments as they were; it declares no semaphore, so every counter stays at zero. -/
theorem frame : Cert.quiescent_Reference6Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel6Ideal_Reference6Ideal := by
  intro m g m' g' _ hagree
  refine ⟨_, Cert.Kernel6Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel6Ideal.Product.final, ← h0, ← h1]
  exact ref_eq _ _

end Cert.Reference6Ideal.Product

end
-- ==== Proof.Product7.lean ====
/- Ffn_up's input, from the value half, with what the gate half gave: the call `d_hn2_v` computes the product that the reference states.
   The call's grid has 4 by 2 blocks of the result, each the sum of 4 products. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel7Ideal.Product

open Cert.Kernel7Ideal Cert.Kernel7Ideal.Gen Idealize.ShloMosaic Idealize.ShloMosaic.TcCoe Idealize.SL.Sem

variable (m : (ℓ : Loc nD τ sig) → Buf (Elt Ideal) ℓ)

/-- The product of x with the transpose of the part of w that the call takes, and the summand. -/
def prod (x : Vec Ideal S4160x5632 .bf16) (w : Vec Ideal S2048x11264 .bf16) (s : Vec Ideal S4160x2048 .f32) : Vec Ideal S4160x2048 .f32 :=
  fun i => (∑ k : Fin 5632, x (ix2 (i 0) k) * w (ix2 (i 1) ⟨5632 + k.val, by omega⟩)) + s i

/-- The blocks that a point reads and writes. -/
theorem idx : ∀ t : Fin cfg0.N, win0_0.index t = ![t.val / 8, t.val % 4] ∧ win0_1.index t = ![t.val / 4 % 2, t.val % 4 + 4]
    ∧ win0_2.index t = ![t.val / 8, t.val / 4 % 2]
    ∧ win0_4.index t = ![t.val / 8, t.val / 4 % 2] :=
  (by decide +kernel : ∀ t : Fin grid0.N, _)

/-- The accumulator is filled with zeros at the first point of a block. -/
theorem zero_apply (j : S1040x1024.Idx) : k0_pay1 (F := Ideal) j = 0 := by
  pointwise [k0_pay1]

/-- One point adds the product of its two blocks to the accumulator. -/
theorem acc_apply (a : Vec Ideal S1040x1024 .f32) (x : Vec Ideal S1040x1408 .bf16) (w : Vec Ideal S1024x1408 .bf16) (j : S1040x1024.Idx) :
    k0_pay2 (F := Ideal) a x w j = a j + ∑ k : Fin 1408, x (ix2 (j 0) k) * w (ix2 (j 1) k) := by
  pointwise [k0_pay2]

/-- What is written back is the accumulator and the summand's block. -/
theorem out_apply (a s : Vec Ideal S1040x1024 .f32) (j : S1040x1024.Idx) : k0_pay3 (F := Ideal) a s j = a j + s j := by
  pointwise [k0_pay3]

/-- At the last point of a block the result's block is the accumulator, and the summand's block. -/
theorem last (c : Dev nD) (t : Fin cfg0.N) (h : t.val % 4 = 3) (j : S1040x1024.Idx) :
    (outsAt0 m c t.val t.isLt).1 j = (outsAt0 m c t.val t.isLt).2 j + (show Vec Ideal S1040x1024 .f32 from iblk m c 2 t) j := by
  rw [outsAt0_C m c t (by omega) h]
  frame_out
  rw [out_apply]

/-- The result array is the product. -/
theorem final (c : Dev nD) : (dats m 0 c).arrAt 4 cfg0.N = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  have hl := (flush0_4 t).mp hf
  rw [after0_4, last m c t hl, Pipeline.eq_sum_fin_of_reset_step_apply_of_flush (fun n h => (outsAt0 m c n h).2) 4 (fun _ => 0) _
    (fun t h j => by rw [outsAt0_A m c t h (by omega)]; frame_out; rw [acc_apply, zero_apply])
    (fun t h j => by
      by_cases h1 : t.val % 4 = 3
      · rw [outsAt0_C m c t h h1]; frame_out; rw [acc_apply, read_unread_whole]
      · rw [outsAt0_B m c t h h1]; frame_out; rw [acc_apply, read_unread_whole])
    t hl _, zero_add, prod]
  refine congrArg₂ (· + ·) (Fin.sum_mul_add_congr fun s k hk => ?_) ?_
  · blk_point [iblk, V, idx t, idx ⟨_, Pipeline.run_point_lt_of_flush t ((flush0_4 t).mp hf) s⟩]
  · blk_ext [iblk, V, idx t]

end Cert.Kernel7Ideal.Product

namespace Cert.Reference7Ideal.Product

open Cert.Reference7Ideal Cert.Reference7Ideal.Gen Idealize.ShloMosaic Idealize.ShloMosaic.TcCoe Idealize.SL.Sem

/-- The reference's term is the product. -/
theorem ref_eq (x : Vec Ideal S4160x5632 .bf16) (w : Vec Ideal S2048x11264 .bf16) (s : Vec Ideal S4160x2048 .f32) :
    addf (F := Ideal) (Host.dotGeneral dot_S4160x5632_S2048x5632_S4160x2048_1_1_0_0_n_n none (extf .f32 x bitsLt_bf16_f32) (extf .f32 (extractStridedSlice S2048x5632 ![0, 5632] w slices_S2048x11264_S2048x5632_0_5632) bitsLt_bf16_f32)) s
      = Cert.Kernel7Ideal.Product.prod x w s := by
  funext i
  pointwise [Cert.Kernel7Ideal.Product.prod]

/-- The reference leaves its arguments as they were; it declares no semaphore, so every counter stays at zero. -/
theorem frame : Cert.quiescent_Reference7Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel7Ideal_Reference7Ideal := by
  intro m g m' g' _ hagree
  refine ⟨_, Cert.Kernel7Ideal.Value.run_blocks m g, ?_⟩
  refine (θ_run defs _ _).mono (fun r h c => ⟨(h c).1.trans ?_, (h c).2⟩) (Value.run (F := Ideal) m' g')
  obtain ⟨h0, h1, h2, h3⟩ := hagree c
  rw [Cert.Kernel7Ideal.Product.final, ← h0, ← h1, ← h2]
  exact ref_eq _ _ _

end Cert.Reference7Ideal.Product

end
-- ==== Proof.Product8.lean ====
/- W_out: the call `gw_out` computes the product that the reference states.
   The call's grid has 4 by 2 blocks of the result, each the sum of 2 products. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel8Ideal.Product

open Cert.Kernel8Ideal Cert.Kernel8Ideal.Gen Idealize.ShloMosaic Idealize.ShloMosaic.TcCoe Idealize.SL.Sem

variable (m : (ℓ : Loc nD τ sig) → Buf (Elt Ideal) ℓ)

/-- The product of the transpose of x with w. -/
def prod (x : Vec Ideal S4160x4096 .bf16) (w : Vec Ideal S4160x2048 .bf16) : Vec Ideal S4096x2048 .bf16 :=
  fun i => ∑ k : Fin 4160, x (ix2 k (i 0)) * w (ix2 k (i 1))

/-- The blocks that a point reads and writes. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The accumulator is filled with zeros at the first point of a block. -/
theorem zero_apply (j : S1024x1024.Idx) : k0_pay1 (F := Ideal) j = 0 := by
  pointwise [k0_pay1]

/-- One point adds the product of its two blocks to the accumulator. -/
theorem acc_apply (a : Vec Ideal S1024x1024 .f32) (x : Vec Ideal S2080x1024 .bf16) (w : Vec Ideal S2080x1024 .bf16) (j : S1024x1024.Idx) :
    k0_pay2 (F := Ideal) a x w j = a j + ∑ k : Fin 2080, x (ix2 k (j 0)) * w (ix2 k (j 1)) := by
  pointwise [k0_pay2]

/-- What is written back is the accumulator, rounded: over the reals the accumulator itself. -/
theorem out_apply (a : Vec Ideal S1024x1024 .f32) (j : S1024x1024.Idx) : k0_pay3 (F := Ideal) a j = a j := by
  pointwise [k0_pay3]

/-- At the last point of a block the result's block is the accumulator. -/
theorem last (c : Dev nD) (t : Fin cfg0.N) (h : t.val % 2 = 1) (j : S1024x1024.Idx) :
    (outsAt0 m c t.val t.isLt).1 j = (outsAt0 m c t.val t.isLt).2 j := by
  rw [outsAt0_B m c t (by omega) h]
  frame_out
  rw [out_apply]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  have hl := (flush0_2 t).mp hf
  rw [after0_2, last m c t hl, Pipeline.eq_sum_fin_of_reset_step_apply_of_flush (fun n h => (outsAt0 m c n h).2) 2 (fun _ => 0) _
    (fun t h j => by rw [outsAt0_A m c t h (by omega)]; frame_out; rw [acc_apply, zero_apply])
    (fun t h j => by rw [outsAt0_B m c t h (by omega)]; frame_out; rw [acc_apply, read_unread_whole])
    t hl _, zero_add, prod]
  refine Fin.sum_mul_add_congr fun s k hk => ?_
  blk_point [iblk, V, idx t, idx ⟨_, Pipeline.run_point_lt_of_flush t ((flush0_2 t).mp hf) s⟩]

end Cert.Kernel8Ideal.Product

namespace Cert.Reference8Ideal.Product

open Cert.Reference8Ideal Cert.Reference8Ideal.Gen Idealize.ShloMosaic Idealize.ShloMosaic.TcCoe Idealize.SL.Sem

/-- The reference's term is the product. -/
theorem ref_eq (x : Vec Ideal S4160x4096 .bf16) (w : Vec Ideal S4160x2048 .bf16) :
    truncf (F := Ideal) .bf16 (transpose S4096x2048 [1, 0] (Host.dotGeneral dot_S4160x2048_S4160x4096_S2048x4096_0_0_1_1_n_n none (extf .f32 w bitsLt_bf16_f32) (extf .f32 x bitsLt_bf16_f32)) transposes_S2048x4096_S4096x2048_1_0) bitsLt_bf16_f32
      = Cert.Kernel8Ideal.Product.prod x w := by
  funext i
  pointwise [Cert.Kernel8Ideal.Product.prod]
  exact Finset.sum_congr rfl fun k _ => mul_comm _ _

/-- The reference leaves its arguments as they were; it declares no semaphore, so every counter stays at zero. -/
theorem frame : Cert.quiescent_Reference8Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel8Ideal_Reference8Ideal := by
  intro m g m' g' _ hagree
  refine ⟨_, Cert.Kernel8Ideal.Value.run_blocks m g, ?_⟩
  refine (θ_run defs _ _).mono (fun r h c => ⟨(h c).1.trans ?_, (h c).2⟩) (Value.run (F := Ideal) m' g')
  obtain ⟨h0, h1⟩ := hagree c
  rw [Cert.Kernel8Ideal.Product.final, ← h0, ← h1]
  exact ref_eq _ _

end Cert.Reference8Ideal.Product

end
-- ==== Proof.Product9.lean ====
/- W_out's input: the call `d_mixed` computes the product that the reference states.
   The call's grid has 4 by 4 blocks of the result. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel9Ideal.Product

open Cert.Kernel9Ideal Cert.Kernel9Ideal.Gen Idealize.ShloMosaic Idealize.ShloMosaic.TcCoe Idealize.SL.Sem

variable (m : (ℓ : Loc nD τ sig) → Buf (Elt Ideal) ℓ)

/-- The product of x with the transpose of w. -/
def prod (x : Vec Ideal S4160x2048 .bf16) (w : Vec Ideal S4096x2048 .bf16) : Vec Ideal S4160x4096 .f32 :=
  fun i => ∑ k : Fin 2048, x (ix2 (i 0) k) * w (ix2 (i 1) k)

/-- The blocks that a point reads and writes. -/
theorem idx : ∀ t : Fin cfg0.N, win0_0.index t = ![t.val / 4, 0] ∧ win0_1.index t = ![t.val % 4, 0]
    ∧ win0_3.index t = ![t.val / 4, t.val % 4] :=
  (by decide +kernel : ∀ t : Fin grid0.N, _)

/-- What one point writes: the product of its two blocks. -/
theorem part_apply (x : Vec Ideal S1040x2048 .bf16) (w : Vec Ideal S1024x2048 .bf16) (j : S1040x1024.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  frame_out
  rw [part_apply, prod]
  blk_point [iblk, V, idx t]

end Cert.Kernel9Ideal.Product

namespace Cert.Reference9Ideal.Product

open Cert.Reference9Ideal Cert.Reference9Ideal.Gen Idealize.ShloMosaic Idealize.ShloMosaic.TcCoe Idealize.SL.Sem

/-- The reference's term is the product. -/
theorem ref_eq (x : Vec Ideal S4160x2048 .bf16) (w : Vec Ideal S4096x2048 .bf16) :
    Host.dotGeneral (F := Ideal) dot_S4160x2048_S4096x2048_S4160x4096_1_1_0_0_n_n none (extf .f32 x bitsLt_bf16_f32) (extf .f32 w bitsLt_bf16_f32)
      = Cert.Kernel9Ideal.Product.prod x w := by
  funext i
  pointwise [Cert.Kernel9Ideal.Product.prod]

/-- The reference leaves its arguments as they were; it declares no semaphore, so every counter stays at zero. -/
theorem frame : Cert.quiescent_Reference9Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel9Ideal_Reference9Ideal := by
  intro m g m' g' _ hagree
  refine ⟨_, Cert.Kernel9Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel9Ideal.Product.final, ← h0, ← h1]
  exact ref_eq _ _

end Cert.Reference9Ideal.Product

end
-- ==== Proof.Product10.lean ====
/- W_in, the columns of q, of k, of v, of z or of m2z: the call `gw_in_q` computes the product that the reference states.
   The call's grid has 2 by 2 blocks of the result, each the sum of 2 products. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel10Ideal.Product

open Cert.Kernel10Ideal Cert.Kernel10Ideal.Gen Idealize.ShloMosaic Idealize.ShloMosaic.TcCoe Idealize.SL.Sem

variable (m : (ℓ : Loc nD τ sig) → Buf (Elt Ideal) ℓ)

/-- The product of the transpose of x with w. -/
def prod (x : Vec Ideal S4160x2048 .bf16) (w : Vec Ideal S4160x2048 .bf16) : Vec Ideal S2048x2048 .bf16 :=
  fun i => ∑ k : Fin 4160, x (ix2 k (i 0)) * w (ix2 k (i 1))

/-- The blocks that a point reads and writes. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The accumulator is filled with zeros at the first point of a block. -/
theorem zero_apply (j : S1024x1024.Idx) : k0_pay1 (F := Ideal) j = 0 := by
  pointwise [k0_pay1]

/-- One point adds the product of its two blocks to the accumulator. -/
theorem acc_apply (a : Vec Ideal S1024x1024 .f32) (x : Vec Ideal S2080x1024 .bf16) (w : Vec Ideal S2080x1024 .bf16) (j : S1024x1024.Idx) :
    k0_pay2 (F := Ideal) a x w j = a j + ∑ k : Fin 2080, x (ix2 k (j 0)) * w (ix2 k (j 1)) := by
  pointwise [k0_pay2]

/-- What is written back is the accumulator, rounded: over the reals the accumulator itself. -/
theorem out_apply (a : Vec Ideal S1024x1024 .f32) (j : S1024x1024.Idx) : k0_pay3 (F := Ideal) a j = a j := by
  pointwise [k0_pay3]

/-- At the last point of a block the result's block is the accumulator. -/
theorem last (c : Dev nD) (t : Fin cfg0.N) (h : t.val % 2 = 1) (j : S1024x1024.Idx) :
    (outsAt0 m c t.val t.isLt).1 j = (outsAt0 m c t.val t.isLt).2 j := by
  rw [outsAt0_B m c t (by omega) h]
  frame_out
  rw [out_apply]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  have hl := (flush0_2 t).mp hf
  rw [after0_2, last m c t hl, Pipeline.eq_sum_fin_of_reset_step_apply_of_flush (fun n h => (outsAt0 m c n h).2) 2 (fun _ => 0) _
    (fun t h j => by rw [outsAt0_A m c t h (by omega)]; frame_out; rw [acc_apply, zero_apply])
    (fun t h j => by rw [outsAt0_B m c t h (by omega)]; frame_out; rw [acc_apply, read_unread_whole])
    t hl _, zero_add, prod]
  refine Fin.sum_mul_add_congr fun s k hk => ?_
  blk_point [iblk, V, idx t, idx ⟨_, Pipeline.run_point_lt_of_flush t ((flush0_2 t).mp hf) s⟩]

end Cert.Kernel10Ideal.Product

namespace Cert.Reference10Ideal.Product

open Cert.Reference10Ideal Cert.Reference10Ideal.Gen Idealize.ShloMosaic Idealize.ShloMosaic.TcCoe Idealize.SL.Sem

/-- The reference's term is the product. -/
theorem ref_eq (x : Vec Ideal S4160x2048 .bf16) (w : Vec Ideal S4160x2048 .bf16) :
    truncf (F := Ideal) .bf16 (transpose S2048x2048 [1, 0] (Host.dotGeneral dot_S4160x2048_S4160x2048_S2048x2048_0_0_1_1_n_n none (extf .f32 w bitsLt_bf16_f32) (extf .f32 x bitsLt_bf16_f32)) transposes_S2048x2048_S2048x2048_1_0) bitsLt_bf16_f32
      = Cert.Kernel10Ideal.Product.prod x w := by
  funext i
  pointwise [Cert.Kernel10Ideal.Product.prod]
  exact Finset.sum_congr rfl fun k _ => mul_comm _ _

/-- The reference leaves its arguments as they were; it declares no semaphore, so every counter stays at zero. -/
theorem frame : Cert.quiescent_Reference10Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel10Ideal_Reference10Ideal := by
  intro m g m' g' _ hagree
  refine ⟨_, Cert.Kernel10Ideal.Value.run_blocks m g, ?_⟩
  refine (θ_run defs _ _).mono (fun r h c => ⟨(h c).1.trans ?_, (h c).2⟩) (Value.run (F := Ideal) m' g')
  obtain ⟨h0, h1⟩ := hagree c
  rw [Cert.Kernel10Ideal.Product.final, ← h0, ← h1]
  exact ref_eq _ _

end Cert.Reference10Ideal.Product

end
-- ==== Proof.Product11.lean ====
/- W_in, the columns of xbc: the call `gw_in_xbc` computes the product that the reference states.
   The call's grid has 2 by 3 blocks of the result, each the sum of 2 products. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel11Ideal.Product

open Cert.Kernel11Ideal Cert.Kernel11Ideal.Gen Idealize.ShloMosaic Idealize.ShloMosaic.TcCoe Idealize.SL.Sem

variable (m : (ℓ : Loc nD τ sig) → Buf (Elt Ideal) ℓ)

/-- The product of the transpose of x with w. -/
def prod (x : Vec Ideal S4160x2048 .bf16) (w : Vec Ideal S4160x3072 .bf16) : Vec Ideal S2048x3072 .bf16 :=
  fun i => ∑ k : Fin 4160, x (ix2 k (i 0)) * w (ix2 k (i 1))

/-- The blocks that a point reads and writes. -/
theorem idx : ∀ t : Fin cfg0.N, win0_0.index t = ![t.val % 2, t.val / 6] ∧ win0_1.index t = ![t.val % 2, t.val / 2 % 3]
    ∧ win0_2.index t = ![t.val / 6, t.val / 2 % 3] :=
  (by decide +kernel : ∀ t : Fin grid0.N, _)

/-- The accumulator is filled with zeros at the first point of a block. -/
theorem zero_apply (j : S1024x1024.Idx) : k0_pay1 (F := Ideal) j = 0 := by
  pointwise [k0_pay1]

/-- One point adds the product of its two blocks to the accumulator. -/
theorem acc_apply (a : Vec Ideal S1024x1024 .f32) (x : Vec Ideal S2080x1024 .bf16) (w : Vec Ideal S2080x1024 .bf16) (j : S1024x1024.Idx) :
    k0_pay2 (F := Ideal) a x w j = a j + ∑ k : Fin 2080, x (ix2 k (j 0)) * w (ix2 k (j 1)) := by
  pointwise [k0_pay2]

/-- What is written back is the accumulator, rounded: over the reals the accumulator itself. -/
theorem out_apply (a : Vec Ideal S1024x1024 .f32) (j : S1024x1024.Idx) : k0_pay3 (F := Ideal) a j = a j := by
  pointwise [k0_pay3]

/-- At the last point of a block the result's block is the accumulator. -/
theorem last (c : Dev nD) (t : Fin cfg0.N) (h : t.val % 2 = 1) (j : S1024x1024.Idx) :
    (outsAt0 m c t.val t.isLt).1 j = (outsAt0 m c t.val t.isLt).2 j := by
  rw [outsAt0_B m c t (by omega) h]
  frame_out
  rw [out_apply]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  have hl := (flush0_2 t).mp hf
  rw [after0_2, last m c t hl, Pipeline.eq_sum_fin_of_reset_step_apply_of_flush (fun n h => (outsAt0 m c n h).2) 2 (fun _ => 0) _
    (fun t h j => by rw [outsAt0_A m c t h (by omega)]; frame_out; rw [acc_apply, zero_apply])
    (fun t h j => by rw [outsAt0_B m c t h (by omega)]; frame_out; rw [acc_apply, read_unread_whole])
    t hl _, zero_add, prod]
  refine Fin.sum_mul_add_congr fun s k hk => ?_
  blk_point [iblk, V, idx t, idx ⟨_, Pipeline.run_point_lt_of_flush t ((flush0_2 t).mp hf) s⟩]

end Cert.Kernel11Ideal.Product

namespace Cert.Reference11Ideal.Product

open Cert.Reference11Ideal Cert.Reference11Ideal.Gen Idealize.ShloMosaic Idealize.ShloMosaic.TcCoe Idealize.SL.Sem

/-- The reference's term is the product. -/
theorem ref_eq (x : Vec Ideal S4160x2048 .bf16) (w : Vec Ideal S4160x3072 .bf16) :
    truncf (F := Ideal) .bf16 (transpose S2048x3072 [1, 0] (Host.dotGeneral dot_S4160x3072_S4160x2048_S3072x2048_0_0_1_1_n_n none (extf .f32 w bitsLt_bf16_f32) (extf .f32 x bitsLt_bf16_f32)) transposes_S3072x2048_S2048x3072_1_0) bitsLt_bf16_f32
      = Cert.Kernel11Ideal.Product.prod x w := by
  funext i
  pointwise [Cert.Kernel11Ideal.Product.prod]
  exact Finset.sum_congr rfl fun k _ => mul_comm _ _

/-- The reference leaves its arguments as they were; it declares no semaphore, so every counter stays at zero. -/
theorem frame : Cert.quiescent_Reference11Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel11Ideal_Reference11Ideal := by
  intro m g m' g' _ hagree
  refine ⟨_, Cert.Kernel11Ideal.Value.run_blocks m g, ?_⟩
  refine (θ_run defs _ _).mono (fun r h c => ⟨(h c).1.trans ?_, (h c).2⟩) (Value.run (F := Ideal) m' g')
  obtain ⟨h0, h1⟩ := hagree c
  rw [Cert.Kernel11Ideal.Product.final, ← h0, ← h1]
  exact ref_eq _ _

end Cert.Reference11Ideal.Product

end
-- ==== Proof.Product12.lean ====
/- W_in, the columns of the gates: the call `gw_in_sm` computes the product that the reference states.
   The call's grid has 2 by 1 blocks of the result, each the sum of 2 products. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel12Ideal.Product

open Cert.Kernel12Ideal Cert.Kernel12Ideal.Gen Idealize.ShloMosaic Idealize.ShloMosaic.TcCoe Idealize.SL.Sem

variable (m : (ℓ : Loc nD τ sig) → Buf (Elt Ideal) ℓ)

/-- The product of the transpose of x with w. -/
def prod (x : Vec Ideal S4160x2048 .bf16) (w : Vec Ideal S4160x128 .bf16) : Vec Ideal S2048x128 .bf16 :=
  fun i => ∑ k : Fin 4160, x (ix2 k (i 0)) * w (ix2 k (i 1))

/-- The blocks that a point reads and writes. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The accumulator is filled with zeros at the first point of a block. -/
theorem zero_apply (j : S1024x128.Idx) : k0_pay1 (F := Ideal) j = 0 := by
  pointwise [k0_pay1]

/-- One point adds the product of its two blocks to the accumulator. -/
theorem acc_apply (a : Vec Ideal S1024x128 .f32) (x : Vec Ideal S2080x1024 .bf16) (w : Vec Ideal S2080x128 .bf16) (j : S1024x128.Idx) :
    k0_pay2 (F := Ideal) a x w j = a j + ∑ k : Fin 2080, x (ix2 k (j 0)) * w (ix2 k (j 1)) := by
  pointwise [k0_pay2]

/-- What is written back is the accumulator, rounded: over the reals the accumulator itself. -/
theorem out_apply (a : Vec Ideal S1024x128 .f32) (j : S1024x128.Idx) : k0_pay3 (F := Ideal) a j = a j := by
  pointwise [k0_pay3]

/-- At the last point of a block the result's block is the accumulator. -/
theorem last (c : Dev nD) (t : Fin cfg0.N) (h : t.val % 2 = 1) (j : S1024x128.Idx) :
    (outsAt0 m c t.val t.isLt).1 j = (outsAt0 m c t.val t.isLt).2 j := by
  rw [outsAt0_B m c t (by omega) h]
  frame_out
  rw [out_apply]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  have hl := (flush0_2 t).mp hf
  rw [after0_2, last m c t hl, Pipeline.eq_sum_fin_of_reset_step_apply_of_flush (fun n h => (outsAt0 m c n h).2) 2 (fun _ => 0) _
    (fun t h j => by rw [outsAt0_A m c t h (by omega)]; frame_out; rw [acc_apply, zero_apply])
    (fun t h j => by rw [outsAt0_B m c t h (by omega)]; frame_out; rw [acc_apply, read_unread_whole])
    t hl _, zero_add, prod]
  refine Fin.sum_mul_add_congr fun s k hk => ?_
  blk_point [iblk, V, idx t, idx ⟨_, Pipeline.run_point_lt_of_flush t ((flush0_2 t).mp hf) s⟩]

end Cert.Kernel12Ideal.Product

namespace Cert.Reference12Ideal.Product

open Cert.Reference12Ideal Cert.Reference12Ideal.Gen Idealize.ShloMosaic Idealize.ShloMosaic.TcCoe Idealize.SL.Sem

/-- The reference's term is the product. -/
theorem ref_eq (x : Vec Ideal S4160x2048 .bf16) (w : Vec Ideal S4160x128 .bf16) :
    truncf (F := Ideal) .bf16 (transpose S2048x128 [1, 0] (Host.dotGeneral dot_S4160x128_S4160x2048_S128x2048_0_0_1_1_n_n none (extf .f32 w bitsLt_bf16_f32) (extf .f32 x bitsLt_bf16_f32)) transposes_S128x2048_S2048x128_1_0) bitsLt_bf16_f32
      = Cert.Kernel12Ideal.Product.prod x w := by
  funext i
  pointwise [Cert.Kernel12Ideal.Product.prod]
  exact Finset.sum_congr rfl fun k _ => mul_comm _ _

/-- The reference leaves its arguments as they were; it declares no semaphore, so every counter stays at zero. -/
theorem frame : Cert.quiescent_Reference12Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel12Ideal_Reference12Ideal := by
  intro m g m' g' _ hagree
  refine ⟨_, Cert.Kernel12Ideal.Value.run_blocks m g, ?_⟩
  refine (θ_run defs _ _).mono (fun r h c => ⟨(h c).1.trans ?_, (h c).2⟩) (Value.run (F := Ideal) m' g')
  obtain ⟨h0, h1⟩ := hagree c
  rw [Cert.Kernel12Ideal.Product.final, ← h0, ← h1]
  exact ref_eq _ _

end Cert.Reference12Ideal.Product

end
-- ==== Proof.WholeBlock.lean ====
/- A window whose blocks don't tile its array, at a point where the block lies inside the array. -/
module

public import Idealize.ShloMosaic.Lib.Pipeline.Frame

@[expose] public section

namespace Cert.WholeBlock

open Idealize.ShloMosaic Idealize.ShloMosaic.Pipeline

/-- A fetch that moves the whole block leaves nothing of what the buffer held before. -/
theorem fill_apply {sig : RefSig} {G : Grid} (w : Window sig G) (i : G.Coords)
    (h : ∀ j, w.moved i j = true) {α : Type} (d : w.block.Idx → α) (g : (w.xblock i).Idx → α) (j : w.block.Idx) :
    w.fill i d g j = g fun a => ⟨(j a).val, (w.moved_iff i j).mp (h j) a⟩ := by
  unfold Window.fill
  rw [dif_pos (h j)]

end Cert.WholeBlock
-- ==== Proof.Product13.lean ====
/- W_in's input, from the columns of q: the call `d_hn1_q` computes the product that the reference states.
   The call's grid has 4 by 2 blocks of the result. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel13Ideal.Product

open Cert.Kernel13Ideal Cert.Kernel13Ideal.Gen Idealize.ShloMosaic Idealize.ShloMosaic.TcCoe Idealize.SL.Sem

variable (m : (ℓ : Loc nD τ sig) → Buf (Elt Ideal) ℓ)

/-- The product of x with the part of w that the call takes. -/
def prod (x : Vec Ideal S4160x2048 .bf16) (w : Vec Ideal S13440x2048 .bf16) : Vec Ideal S4160x2048 .f32 :=
  fun i => ∑ k : Fin 2048, x (ix2 (i 0) k) * w (ix2 ⟨k.val, by omega⟩ (i 1))

/-- The blocks that a point reads and writes. -/
theorem idx : ∀ t : Fin cfg0.N, win0_0.index t = ![t.val / 2, 0] ∧ win0_1.index t = ![0, t.val % 2]
    ∧ win0_3.index t = ![t.val / 2, t.val % 2] :=
  (by decide +kernel : ∀ t : Fin grid0.N, _)

/-- The block of w at a point, read in w. -/
theorem block_apply (c : Dev nD) (t : Fin cfg0.N) (j : S2048x1024.Idx) (i : S13440x2048.Idx)
    (h0 : (i 0).val = (0 : ℕ) * 2048 + (j 0).val) (h1 : (i 1).val = (t.val % 2) * 1024 + (j 1).val) :
    X0_1 m c t j = m ((c : Thread nD τ).loc main_arg1) i := by
  unfold X0_1
  rw [WholeBlock.fill_apply _ _ (moved0_1 t)]
  have e : i = ix2 ⟨(0 : ℕ) * 2048 + (j 0).val, h0 ▸ (i 0).isLt⟩ ⟨(t.val % 2) * 1024 + (j 1).val, h1 ▸ (i 1).isLt⟩ := by
    funext a
    match a with
    | 0 => exact Fin.ext h0
    | 1 => exact Fin.ext h1
  rw [e]
  blk_ext [iblk, V, idx t]

/-- What one point writes: the product of its two blocks. -/
theorem part_apply (x : Vec Ideal S1040x2048 .bf16) (w : Vec Ideal S2048x1024 .bf16) (j : S1040x1024.Idx) :
    k0_pay1 (F := Ideal) x w j = ∑ k : Fin 2048, x (ix2 (j 0) k) * w (ix2 k (j 1)) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  unfold outsAt0
  frame_out
  rw [part_apply, prod]
  refine Fin.sum_fin_congr fun k => congrArg₂ (· * ·) ?_ ?_
  · blk_ext [iblk, V, idx t]
  · refine block_apply m c t _ _ ?_ ?_
    · blk_simp [idx t] <;> dsimp only <;> omega
    · blk_simp [idx t] <;> dsimp only <;> omega

end Cert.Kernel13Ideal.Product

namespace Cert.Reference13Ideal.Product

open Cert.Reference13Ideal Cert.Reference13Ideal.Gen Idealize.ShloMosaic Idealize.ShloMosaic.TcCoe Idealize.SL.Sem

/-- The reference's term is the product. -/
theorem ref_eq (x : Vec Ideal S4160x2048 .bf16) (w : Vec Ideal S13440x2048 .bf16) :
    Host.dotGeneral (F := Ideal) dot_S4160x2048_S2048x2048_S4160x2048_1_1_0_0_n_n none (extf .f32 x bitsLt_bf16_f32) (extf .f32 (transpose S2048x2048 [1, 0] (extractStridedSlice S2048x2048 ![0, 0] w slices_S13440x2048_S2048x2048_0_0) transposes_S2048x2048_S2048x2048_1_0) bitsLt_bf16_f32)
      = Cert.Kernel13Ideal.Product.prod x w := by
  funext i
  pointwise [Cert.Kernel13Ideal.Product.prod]

/-- The reference leaves its arguments as they were; it declares no semaphore, so every counter stays at zero. -/
theorem frame : Cert.quiescent_Reference13Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel13Ideal_Reference13Ideal := by
  intro m g m' g' _ hagree
  refine ⟨_, Cert.Kernel13Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel13Ideal.Product.final, ← h0, ← h1]
  exact ref_eq _ _

end Cert.Reference13Ideal.Product

end
-- ==== Proof.Product14.lean ====
/- W_in's input, from the columns of k, with what the columns before gave: the call `d_hn1_k` computes the product that the reference states.
   The call's grid has 4 by 2 blocks of the result. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel14Ideal.Product

open Cert.Kernel14Ideal Cert.Kernel14Ideal.Gen Idealize.ShloMosaic Idealize.ShloMosaic.TcCoe Idealize.SL.Sem

variable (m : (ℓ : Loc nD τ sig) → Buf (Elt Ideal) ℓ)

/-- The product of x with the part of w that the call takes, and the summand. -/
def prod (x : Vec Ideal S4160x2048 .bf16) (w : Vec Ideal S13440x2048 .bf16) (s : Vec Ideal S4160x2048 .f32) : Vec Ideal S4160x2048 .f32 :=
  fun i => (∑ k : Fin 2048, x (ix2 (i 0) k) * w (ix2 ⟨2048 + k.val, by omega⟩ (i 1))) + s i

/-- The blocks that a point reads and writes. -/
theorem idx : ∀ t : Fin cfg0.N, win0_0.index t = ![t.val / 2, 0] ∧ win0_1.index t = ![1, t.val % 2]
    ∧ win0_2.index t = ![t.val / 2, t.val % 2]
    ∧ win0_4.index t = ![t.val / 2, t.val % 2] :=
  (by decide +kernel : ∀ t : Fin grid0.N, _)

/-- The block of w at a point, read in w. -/
theorem block_apply (c : Dev nD) (t : Fin cfg0.N) (j : S2048x1024.Idx) (i : S13440x2048.Idx)
    (h0 : (i 0).val = 1 * 2048 + (j 0).val) (h1 : (i 1).val = (t.val % 2) * 1024 + (j 1).val) :
    X0_1 m c t j = m ((c : Thread nD τ).loc main_arg1) i := by
  unfold X0_1
  rw [WholeBlock.fill_apply _ _ (moved0_1 t)]
  have e : i = ix2 ⟨1 * 2048 + (j 0).val, h0 ▸ (i 0).isLt⟩ ⟨(t.val % 2) * 1024 + (j 1).val, h1 ▸ (i 1).isLt⟩ := by
    funext a
    match a with
    | 0 => exact Fin.ext h0
    | 1 => exact Fin.ext h1
  rw [e]
  blk_ext [iblk, V, idx t]

/-- What one point writes: the product of its two blocks, and the summand's block. -/
theorem part_apply (x : Vec Ideal S1040x2048 .bf16) (w : Vec Ideal S2048x1024 .bf16) (s : Vec Ideal S1040x1024 .f32) (j : S1040x1024.Idx) :
    k0_pay1 (F := Ideal) x w s j = (∑ k : Fin 2048, x (ix2 (j 0) k) * w (ix2 k (j 1))) + s j := by
  pointwise [k0_pay1]

/-- The result array is the product. -/
theorem final (c : Dev nD) : (dats m 0 c).arrAt 4 cfg0.N = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  rw [after0_4]
  unfold outsAt0
  frame_out
  rw [part_apply, prod]
  refine congrArg₂ (· + ·) (Fin.sum_fin_congr fun k => congrArg₂ (· * ·) ?_ ?_) ?_
  · blk_ext [iblk, V, idx t]
  · refine block_apply m c t _ _ ?_ ?_
    · blk_simp [idx t] <;> dsimp only <;> omega
    · blk_simp [idx t] <;> dsimp only <;> omega
  · blk_ext [iblk, V, idx t]

end Cert.Kernel14Ideal.Product

namespace Cert.Reference14Ideal.Product

open Cert.Reference14Ideal Cert.Reference14Ideal.Gen Idealize.ShloMosaic Idealize.ShloMosaic.TcCoe Idealize.SL.Sem

/-- The reference's term is the product. -/
theorem ref_eq (x : Vec Ideal S4160x2048 .bf16) (w : Vec Ideal S13440x2048 .bf16) (s : Vec Ideal S4160x2048 .f32) :
    addf (F := Ideal) (Host.dotGeneral dot_S4160x2048_S2048x2048_S4160x2048_1_1_0_0_n_n none (extf .f32 x bitsLt_bf16_f32) (extf .f32 (transpose S2048x2048 [1, 0] (extractStridedSlice S2048x2048 ![2048, 0] w slices_S13440x2048_S2048x2048_2048_0) transposes_S2048x2048_S2048x2048_1_0) bitsLt_bf16_f32)) s
      = Cert.Kernel14Ideal.Product.prod x w s := by
  funext i
  pointwise [Cert.Kernel14Ideal.Product.prod]

/-- The reference leaves its arguments as they were; it declares no semaphore, so every counter stays at zero. -/
theorem frame : Cert.quiescent_Reference14Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel14Ideal_Reference14Ideal := by
  intro m g m' g' _ hagree
  refine ⟨_, Cert.Kernel14Ideal.Value.run_blocks m g, ?_⟩
  refine (θ_run defs _ _).mono (fun r h c => ⟨(h c).1.trans ?_, (h c).2⟩) (Value.run (F := Ideal) m' g')
  obtain ⟨h0, h1, h2, h3⟩ := hagree c
  rw [Cert.Kernel14Ideal.Product.final, ← h0, ← h1, ← h2]
  exact ref_eq _ _ _

end Cert.Reference14Ideal.Product

end
-- ==== Proof.Product15.lean ====
/- W_in's input, from the columns of v, with what the columns before gave: the call `d_hn1_v` computes the product that the reference states.
   The call's grid has 4 by 2 blocks of the result. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel15Ideal.Product

open Cert.Kernel15Ideal Cert.Kernel15Ideal.Gen Idealize.ShloMosaic Idealize.ShloMosaic.TcCoe Idealize.SL.Sem

variable (m : (ℓ : Loc nD τ sig) → Buf (Elt Ideal) ℓ)

/-- The product of x with the part of w that the call takes, and the summand. -/
def prod (x : Vec Ideal S4160x2048 .bf16) (w : Vec Ideal S13440x2048 .bf16) (s : Vec Ideal S4160x2048 .f32) : Vec Ideal S4160x2048 .f32 :=
  fun i => (∑ k : Fin 2048, x (ix2 (i 0) k) * w (ix2 ⟨4096 + k.val, by omega⟩ (i 1))) + s i

/-- The blocks that a point reads and writes. -/
theorem idx : ∀ t : Fin cfg0.N, win0_0.index t = ![t.val / 2, 0] ∧ win0_1.index t = ![2, t.val % 2]
    ∧ win0_2.index t = ![t.val / 2, t.val % 2]
    ∧ win0_4.index t = ![t.val / 2, t.val % 2] :=
  (by decide +kernel : ∀ t : Fin grid0.N, _)

/-- The block of w at a point, read in w. -/
theorem block_apply (c : Dev nD) (t : Fin cfg0.N) (j : S2048x1024.Idx) (i : S13440x2048.Idx)
    (h0 : (i 0).val = 2 * 2048 + (j 0).val) (h1 : (i 1).val = (t.val % 2) * 1024 + (j 1).val) :
    X0_1 m c t j = m ((c : Thread nD τ).loc main_arg1) i := by
  unfold X0_1
  rw [WholeBlock.fill_apply _ _ (moved0_1 t)]
  have e : i = ix2 ⟨2 * 2048 + (j 0).val, h0 ▸ (i 0).isLt⟩ ⟨(t.val % 2) * 1024 + (j 1).val, h1 ▸ (i 1).isLt⟩ := by
    funext a
    match a with
    | 0 => exact Fin.ext h0
    | 1 => exact Fin.ext h1
  rw [e]
  blk_ext [iblk, V, idx t]

/-- What one point writes: the product of its two blocks, and the summand's block. -/
theorem part_apply (x : Vec Ideal S1040x2048 .bf16) (w : Vec Ideal S2048x1024 .bf16) (s : Vec Ideal S1040x1024 .f32) (j : S1040x1024.Idx) :
    k0_pay1 (F := Ideal) x w s j = (∑ k : Fin 2048, x (ix2 (j 0) k) * w (ix2 k (j 1))) + s j := by
  pointwise [k0_pay1]

/-- The result array is the product. -/
theorem final (c : Dev nD) : (dats m 0 c).arrAt 4 cfg0.N = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  rw [after0_4]
  unfold outsAt0
  frame_out
  rw [part_apply, prod]
  refine congrArg₂ (· + ·) (Fin.sum_fin_congr fun k => congrArg₂ (· * ·) ?_ ?_) ?_
  · blk_ext [iblk, V, idx t]
  · refine block_apply m c t _ _ ?_ ?_
    · blk_simp [idx t] <;> dsimp only <;> omega
    · blk_simp [idx t] <;> dsimp only <;> omega
  · blk_ext [iblk, V, idx t]

end Cert.Kernel15Ideal.Product

namespace Cert.Reference15Ideal.Product

open Cert.Reference15Ideal Cert.Reference15Ideal.Gen Idealize.ShloMosaic Idealize.ShloMosaic.TcCoe Idealize.SL.Sem

/-- The reference's term is the product. -/
theorem ref_eq (x : Vec Ideal S4160x2048 .bf16) (w : Vec Ideal S13440x2048 .bf16) (s : Vec Ideal S4160x2048 .f32) :
    addf (F := Ideal) (Host.dotGeneral dot_S4160x2048_S2048x2048_S4160x2048_1_1_0_0_n_n none (extf .f32 x bitsLt_bf16_f32) (extf .f32 (transpose S2048x2048 [1, 0] (extractStridedSlice S2048x2048 ![4096, 0] w slices_S13440x2048_S2048x2048_4096_0) transposes_S2048x2048_S2048x2048_1_0) bitsLt_bf16_f32)) s
      = Cert.Kernel15Ideal.Product.prod x w s := by
  funext i
  pointwise [Cert.Kernel15Ideal.Product.prod]

/-- The reference leaves its arguments as they were; it declares no semaphore, so every counter stays at zero. -/
theorem frame : Cert.quiescent_Reference15Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel15Ideal_Reference15Ideal := by
  intro m g m' g' _ hagree
  refine ⟨_, Cert.Kernel15Ideal.Value.run_blocks m g, ?_⟩
  refine (θ_run defs _ _).mono (fun r h c => ⟨(h c).1.trans ?_, (h c).2⟩) (Value.run (F := Ideal) m' g')
  obtain ⟨h0, h1, h2, h3⟩ := hagree c
  rw [Cert.Kernel15Ideal.Product.final, ← h0, ← h1, ← h2]
  exact ref_eq _ _ _

end Cert.Reference15Ideal.Product

end
-- ==== Proof.Product16.lean ====
/- W_in's input, from the columns of z, with what the columns before gave: the call `d_hn1_z` computes the product that the reference states.
   The call's grid has 4 by 2 blocks of the result. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel16Ideal.Product

open Cert.Kernel16Ideal Cert.Kernel16Ideal.Gen Idealize.ShloMosaic Idealize.ShloMosaic.TcCoe Idealize.SL.Sem

variable (m : (ℓ : Loc nD τ sig) → Buf (Elt Ideal) ℓ)

/-- The product of x with the part of w that the call takes, and the summand. -/
def prod (x : Vec Ideal S4160x2048 .bf16) (w : Vec Ideal S13440x2048 .bf16) (s : Vec Ideal S4160x2048 .f32) : Vec Ideal S4160x2048 .f32 :=
  fun i => (∑ k : Fin 2048, x (ix2 (i 0) k) * w (ix2 ⟨6144 + k.val, by omega⟩ (i 1))) + s i

/-- The blocks that a point reads and writes. -/
theorem idx : ∀ t : Fin cfg0.N, win0_0.index t = ![t.val / 2, 0] ∧ win0_1.index t = ![3, t.val % 2]
    ∧ win0_2.index t = ![t.val / 2, t.val % 2]
    ∧ win0_4.index t = ![t.val / 2, t.val % 2] :=
  (by decide +kernel : ∀ t : Fin grid0.N, _)

/-- The block of w at a point, read in w. -/
theorem block_apply (c : Dev nD) (t : Fin cfg0.N) (j : S2048x1024.Idx) (i : S13440x2048.Idx)
    (h0 : (i 0).val = 3 * 2048 + (j 0).val) (h1 : (i 1).val = (t.val % 2) * 1024 + (j 1).val) :
    X0_1 m c t j = m ((c : Thread nD τ).loc main_arg1) i := by
  unfold X0_1
  rw [WholeBlock.fill_apply _ _ (moved0_1 t)]
  have e : i = ix2 ⟨3 * 2048 + (j 0).val, h0 ▸ (i 0).isLt⟩ ⟨(t.val % 2) * 1024 + (j 1).val, h1 ▸ (i 1).isLt⟩ := by
    funext a
    match a with
    | 0 => exact Fin.ext h0
    | 1 => exact Fin.ext h1
  rw [e]
  blk_ext [iblk, V, idx t]

/-- What one point writes: the product of its two blocks, and the summand's block. -/
theorem part_apply (x : Vec Ideal S1040x2048 .bf16) (w : Vec Ideal S2048x1024 .bf16) (s : Vec Ideal S1040x1024 .f32) (j : S1040x1024.Idx) :
    k0_pay1 (F := Ideal) x w s j = (∑ k : Fin 2048, x (ix2 (j 0) k) * w (ix2 k (j 1))) + s j := by
  pointwise [k0_pay1]

/-- The result array is the product. -/
theorem final (c : Dev nD) : (dats m 0 c).arrAt 4 cfg0.N = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  rw [after0_4]
  unfold outsAt0
  frame_out
  rw [part_apply, prod]
  refine congrArg₂ (· + ·) (Fin.sum_fin_congr fun k => congrArg₂ (· * ·) ?_ ?_) ?_
  · blk_ext [iblk, V, idx t]
  · refine block_apply m c t _ _ ?_ ?_
    · blk_simp [idx t] <;> dsimp only <;> omega
    · blk_simp [idx t] <;> dsimp only <;> omega
  · blk_ext [iblk, V, idx t]

end Cert.Kernel16Ideal.Product

namespace Cert.Reference16Ideal.Product

open Cert.Reference16Ideal Cert.Reference16Ideal.Gen Idealize.ShloMosaic Idealize.ShloMosaic.TcCoe Idealize.SL.Sem

/-- The reference's term is the product. -/
theorem ref_eq (x : Vec Ideal S4160x2048 .bf16) (w : Vec Ideal S13440x2048 .bf16) (s : Vec Ideal S4160x2048 .f32) :
    addf (F := Ideal) (Host.dotGeneral dot_S4160x2048_S2048x2048_S4160x2048_1_1_0_0_n_n none (extf .f32 x bitsLt_bf16_f32) (extf .f32 (transpose S2048x2048 [1, 0] (extractStridedSlice S2048x2048 ![6144, 0] w slices_S13440x2048_S2048x2048_6144_0) transposes_S2048x2048_S2048x2048_1_0) bitsLt_bf16_f32)) s
      = Cert.Kernel16Ideal.Product.prod x w s := by
  funext i
  pointwise [Cert.Kernel16Ideal.Product.prod]

/-- The reference leaves its arguments as they were; it declares no semaphore, so every counter stays at zero. -/
theorem frame : Cert.quiescent_Reference16Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel16Ideal_Reference16Ideal := by
  intro m g m' g' _ hagree
  refine ⟨_, Cert.Kernel16Ideal.Value.run_blocks m g, ?_⟩
  refine (θ_run defs _ _).mono (fun r h c => ⟨(h c).1.trans ?_, (h c).2⟩) (Value.run (F := Ideal) m' g')
  obtain ⟨h0, h1, h2, h3⟩ := hagree c
  rw [Cert.Kernel16Ideal.Product.final, ← h0, ← h1, ← h2]
  exact ref_eq _ _ _

end Cert.Reference16Ideal.Product

end
-- ==== Proof.Product17.lean ====
/- W_in's input, from the columns of m2z, with what the columns before gave: the call `d_hn1_m2z` computes the product that the reference states.
   The call's grid has 4 by 2 blocks of the result. -/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel17Ideal.Product

open Cert.Kernel17Ideal Cert.Kernel17Ideal.Gen Idealize.ShloMosaic Idealize.ShloMosaic.TcCoe Idealize.SL.Sem

variable (m : (ℓ : Loc nD τ sig) → Buf (Elt Ideal) ℓ)

/-- The product of x with the part of w that the call takes, and the summand. -/
def prod (x : Vec Ideal S4160x2048 .bf16) (w : Vec Ideal S13440x2048 .bf16) (s : Vec Ideal S4160x2048 .f32) : Vec Ideal S4160x2048 .f32 :=
  fun i => (∑ k : Fin 2048, x (ix2 (i 0) k) * w (ix2 ⟨8192 + k.val, by omega⟩ (i 1))) + s i

/-- The blocks that a point reads and writes. -/
theorem idx : ∀ t : Fin cfg0.N, win0_0.index t = ![t.val / 2, 0] ∧ win0_1.index t = ![4, t.val % 2]
    ∧ win0_2.index t = ![t.val / 2, t.val % 2]
    ∧ win0_4.index t = ![t.val / 2, t.val % 2] :=
  (by decide +kernel : ∀ t : Fin grid0.N, _)

/-- The block of w at a point, read in w. -/
theorem block_apply (c : Dev nD) (t : Fin cfg0.N) (j : S2048x1024.Idx) (i : S13440x2048.Idx)
    (h0 : (i 0).val = 4 * 2048 + (j 0).val) (h1 : (i 1).val = (t.val % 2) * 1024 + (j 1).val) :
    X0_1 m c t j = m ((c : Thread nD τ).loc main_arg1) i := by
  unfold X0_1
  rw [WholeBlock.fill_apply _ _ (moved0_1 t)]
  have e : i = ix2 ⟨4 * 2048 + (j 0).val, h0 ▸ (i 0).isLt⟩ ⟨(t.val % 2) * 1024 + (j 1).val, h1 ▸ (i 1).isLt⟩ := by
    funext a
    match a with
    | 0 => exact Fin.ext h0
    | 1 => exact Fin.ext h1
  rw [e]
  blk_ext [iblk, V, idx t]

/-- What one point writes: the product of its two blocks, and the summand's block. -/
theorem part_apply (x : Vec Ideal S1040x2048 .bf16) (w : Vec Ideal S2048x1024 .bf16) (s : Vec Ideal S1040x1024 .f32) (j : S1040x1024.Idx) :
    k0_pay1 (F := Ideal) x w s j = (∑ k : Fin 2048, x (ix2 (j 0) k) * w (ix2 k (j 1))) + s j := by
  pointwise [k0_pay1]

/-- The result array is the product. -/
theorem final (c : Dev nD) : (dats m 0 c).arrAt 4 cfg0.N = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  rw [after0_4]
  unfold outsAt0
  frame_out
  rw [part_apply, prod]
  refine congrArg₂ (· + ·) (Fin.sum_fin_congr fun k => congrArg₂ (· * ·) ?_ ?_) ?_
  · blk_ext [iblk, V, idx t]
  · refine block_apply m c t _ _ ?_ ?_
    · blk_simp [idx t] <;> dsimp only <;> omega
    · blk_simp [idx t] <;> dsimp only <;> omega
  · blk_ext [iblk, V, idx t]

end Cert.Kernel17Ideal.Product

namespace Cert.Reference17Ideal.Product

open Cert.Reference17Ideal Cert.Reference17Ideal.Gen Idealize.ShloMosaic Idealize.ShloMosaic.TcCoe Idealize.SL.Sem

/-- The reference's term is the product. -/
theorem ref_eq (x : Vec Ideal S4160x2048 .bf16) (w : Vec Ideal S13440x2048 .bf16) (s : Vec Ideal S4160x2048 .f32) :
    addf (F := Ideal) (Host.dotGeneral dot_S4160x2048_S2048x2048_S4160x2048_1_1_0_0_n_n none (extf .f32 x bitsLt_bf16_f32) (extf .f32 (transpose S2048x2048 [1, 0] (extractStridedSlice S2048x2048 ![8192, 0] w slices_S13440x2048_S2048x2048_8192_0) transposes_S2048x2048_S2048x2048_1_0) bitsLt_bf16_f32)) s
      = Cert.Kernel17Ideal.Product.prod x w s := by
  funext i
  pointwise [Cert.Kernel17Ideal.Product.prod]

/-- The reference leaves its arguments as they were; it declares no semaphore, so every counter stays at zero. -/
theorem frame : Cert.quiescent_Reference17Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel17Ideal_Reference17Ideal := by
  intro m g m' g' _ hagree
  refine ⟨_, Cert.Kernel17Ideal.Value.run_blocks m g, ?_⟩
  refine (θ_run defs _ _).mono (fun r h c => ⟨(h c).1.trans ?_, (h c).2⟩) (Value.run (F := Ideal) m' g')
  obtain ⟨h0, h1, h2, h3⟩ := hagree c
  rw [Cert.Kernel17Ideal.Product.final, ← h0, ← h1, ← h2]
  exact ref_eq _ _ _

end Cert.Reference17Ideal.Product

end
-- ==== Proof.Product18.lean ====
/- W_in's input, from the columns of xbc, with what the columns before gave: the call `d_hn1_xbc` computes the product that the reference states.
   The call's grid has 4 by 2 blocks of the result, each the sum of 3 products. -/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel18Ideal.Product

open Cert.Kernel18Ideal Cert.Kernel18Ideal.Gen Idealize.ShloMosaic Idealize.ShloMosaic.TcCoe Idealize.SL.Sem

variable (m : (ℓ : Loc nD τ sig) → Buf (Elt Ideal) ℓ)

/-- The product of x with the part of w that the call takes, and the summand. -/
def prod (x : Vec Ideal S4160x3072 .bf16) (w : Vec Ideal S13440x2048 .bf16) (s : Vec Ideal S4160x2048 .f32) : Vec Ideal S4160x2048 .f32 :=
  fun i => (∑ k : Fin 3072, x (ix2 (i 0) k) * w (ix2 ⟨10240 + k.val, by omega⟩ (i 1))) + s i

/-- The blocks that a point reads and writes. -/
theorem idx : ∀ t : Fin cfg0.N, win0_0.index t = ![t.val / 6, t.val % 3] ∧ win0_1.index t = ![t.val % 3 + 10, t.val / 3 % 2]
    ∧ win0_2.index t = ![t.val / 6, t.val / 3 % 2]
    ∧ win0_4.index t = ![t.val / 6, t.val / 3 % 2] :=
  (by decide +kernel : ∀ t : Fin grid0.N, _)

/-- The block of w at a point, read in w. -/
theorem block_apply (c : Dev nD) (t : Fin cfg0.N) (j : S1024x1024.Idx) (i : S13440x2048.Idx)
    (h0 : (i 0).val = (t.val % 3 + 10) * 1024 + (j 0).val) (h1 : (i 1).val = (t.val / 3 % 2) * 1024 + (j 1).val) :
    X0_1 m c t j = m ((c : Thread nD τ).loc main_arg1) i := by
  unfold X0_1
  rw [WholeBlock.fill_apply _ _ (moved0_1 t)]
  have e : i = ix2 ⟨(t.val % 3 + 10) * 1024 + (j 0).val, h0 ▸ (i 0).isLt⟩ ⟨(t.val / 3 % 2) * 1024 + (j 1).val, h1 ▸ (i 1).isLt⟩ := by
    funext a
    match a with
    | 0 => exact Fin.ext h0
    | 1 => exact Fin.ext h1
  rw [e]
  blk_ext [iblk, V, idx t]

/-- The accumulator is filled with zeros at the first point of a block. -/
theorem zero_apply (j : S1040x1024.Idx) : k0_pay1 (F := Ideal) j = 0 := by
  pointwise [k0_pay1]

/-- One point adds the product of its two blocks to the accumulator. -/
theorem acc_apply (a : Vec Ideal S1040x1024 .f32) (x : Vec Ideal S1040x1024 .bf16) (w : Vec Ideal S1024x1024 .bf16) (j : S1040x1024.Idx) :
    k0_pay2 (F := Ideal) a x w j = a j + ∑ k : Fin 1024, x (ix2 (j 0) k) * w (ix2 k (j 1)) := by
  pointwise [k0_pay2]

/-- What is written back is the accumulator and the summand's block. -/
theorem out_apply (a s : Vec Ideal S1040x1024 .f32) (j : S1040x1024.Idx) : k0_pay3 (F := Ideal) a s j = a j + s j := by
  pointwise [k0_pay3]

/-- At the last point of a block the result's block is the accumulator, and the summand's block. -/
theorem last (c : Dev nD) (t : Fin cfg0.N) (h : t.val % 3 = 2) (j : S1040x1024.Idx) :
    (outsAt0 m c t.val t.isLt).1 j = (outsAt0 m c t.val t.isLt).2 j + (show Vec Ideal S1040x1024 .f32 from iblk m c 2 t) j := by
  rw [outsAt0_C m c t (by omega) h]
  frame_out
  rw [out_apply]

/-- The result array is the product. -/
theorem final (c : Dev nD) : (dats m 0 c).arrAt 4 cfg0.N = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  have hl := (flush0_4 t).mp hf
  rw [after0_4, last m c t hl, Pipeline.eq_sum_fin_of_reset_step_apply_of_flush (fun n h => (outsAt0 m c n h).2) 3 (fun _ => 0) _
    (fun t h j => by rw [outsAt0_A m c t h (by omega)]; frame_out; rw [acc_apply, zero_apply])
    (fun t h j => by
      by_cases h1 : t.val % 3 = 2
      · rw [outsAt0_C m c t h h1]; frame_out; rw [acc_apply, read_unread_whole]
      · rw [outsAt0_B m c t h h1]; frame_out; rw [acc_apply, read_unread_whole])
    t hl _, zero_add, prod]
  refine congrArg₂ (· + ·) (Fin.sum_mul_add_congr fun s k hk => ?_) ?_
  · refine congrArg₂ (· * ·) ?_ ?_
    · blk_ext [iblk, V, idx t, idx ⟨_, Pipeline.run_point_lt_of_flush t ((flush0_4 t).mp hf) s⟩]
    · refine block_apply m c _ _ _ ?_ ?_
      · blk_simp [idx t] <;> dsimp only <;> omega
      · blk_simp [idx t] <;> dsimp only <;> omega
  · blk_ext [iblk, V, idx t]

end Cert.Kernel18Ideal.Product

namespace Cert.Reference18Ideal.Product

open Cert.Reference18Ideal Cert.Reference18Ideal.Gen Idealize.ShloMosaic Idealize.ShloMosaic.TcCoe Idealize.SL.Sem

/-- The reference's term is the product. -/
theorem ref_eq (x : Vec Ideal S4160x3072 .bf16) (w : Vec Ideal S13440x2048 .bf16) (s : Vec Ideal S4160x2048 .f32) :
    addf (F := Ideal) (Host.dotGeneral dot_S4160x3072_S2048x3072_S4160x2048_1_1_0_0_n_n none (extf .f32 x bitsLt_bf16_f32) (extf .f32 (transpose S2048x3072 [1, 0] (extractStridedSlice S3072x2048 ![10240, 0] w slices_S13440x2048_S3072x2048_10240_0) transposes_S3072x2048_S2048x3072_1_0) bitsLt_bf16_f32)) s
      = Cert.Kernel18Ideal.Product.prod x w s := by
  funext i
  pointwise [Cert.Kernel18Ideal.Product.prod]

/-- The reference leaves its arguments as they were; it declares no semaphore, so every counter stays at zero. -/
theorem frame : Cert.quiescent_Reference18Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel18Ideal_Reference18Ideal := by
  intro m g m' g' _ hagree
  refine ⟨_, Cert.Kernel18Ideal.Value.run_blocks m g, ?_⟩
  refine (θ_run defs _ _).mono (fun r h c => ⟨(h c).1.trans ?_, (h c).2⟩) (Value.run (F := Ideal) m' g')
  obtain ⟨h0, h1, h2, h3⟩ := hagree c
  rw [Cert.Kernel18Ideal.Product.final, ← h0, ← h1, ← h2]
  exact ref_eq _ _ _

end Cert.Reference18Ideal.Product

end
-- ==== Proof.Product19.lean ====
/- W_in's input, from the columns of the gates, with what the columns before gave: the call `d_hn1_sm` computes the product that the reference states.
   The call's grid has 4 by 2 blocks of the result. -/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel19Ideal.Product

open Cert.Kernel19Ideal Cert.Kernel19Ideal.Gen Idealize.ShloMosaic Idealize.ShloMosaic.TcCoe Idealize.SL.Sem

variable (m : (ℓ : Loc nD τ sig) → Buf (Elt Ideal) ℓ)

/-- The product of x with the part of w that the call takes, and the summand. -/
def prod (x : Vec Ideal S4160x128 .bf16) (w : Vec Ideal S13440x2048 .bf16) (s : Vec Ideal S4160x2048 .f32) : Vec Ideal S4160x2048 .f32 :=
  fun i => (∑ k : Fin 128, x (ix2 (i 0) k) * w (ix2 ⟨13312 + k.val, by omega⟩ (i 1))) + s i

/-- The blocks that a point reads and writes. -/
theorem idx : ∀ t : Fin cfg0.N, win0_0.index t = ![t.val / 2, 0] ∧ win0_1.index t = ![104, t.val % 2]
    ∧ win0_2.index t = ![t.val / 2, t.val % 2]
    ∧ win0_4.index t = ![t.val / 2, t.val % 2] :=
  (by decide +kernel : ∀ t : Fin grid0.N, _)

/-- What one point writes: the product of its two blocks, and the summand's block. -/
theorem part_apply (x : Vec Ideal S1040x128 .bf16) (w : Vec Ideal S128x1024 .bf16) (s : Vec Ideal S1040x1024 .f32) (j : S1040x1024.Idx) :
    k0_pay1 (F := Ideal) x w s j = (∑ k : Fin 128, x (ix2 (j 0) k) * w (ix2 k (j 1))) + s j := by
  pointwise [k0_pay1]

/-- The result array is the product. -/
theorem final (c : Dev nD) : (dats m 0 c).arrAt 4 cfg0.N = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  rw [after0_4]
  frame_out
  rw [part_apply, prod]
  blk_point [iblk, V, idx t]

end Cert.Kernel19Ideal.Product

namespace Cert.Reference19Ideal.Product

open Cert.Reference19Ideal Cert.Reference19Ideal.Gen Idealize.ShloMosaic Idealize.ShloMosaic.TcCoe Idealize.SL.Sem

/-- The reference's term is the product. -/
theorem ref_eq (x : Vec Ideal S4160x128 .bf16) (w : Vec Ideal S13440x2048 .bf16) (s : Vec Ideal S4160x2048 .f32) :
    addf (F := Ideal) (Host.dotGeneral dot_S4160x128_S2048x128_S4160x2048_1_1_0_0_n_n none (extf .f32 x bitsLt_bf16_f32) (extf .f32 (transpose S2048x128 [1, 0] (extractStridedSlice S128x2048 ![13312, 0] w slices_S13440x2048_S128x2048_13312_0) transposes_S128x2048_S2048x128_1_0) bitsLt_bf16_f32)) s
      = Cert.Kernel19Ideal.Product.prod x w s := by
  funext i
  pointwise [Cert.Kernel19Ideal.Product.prod]

/-- The reference leaves its arguments as they were; it declares no semaphore, so every counter stays at zero. -/
theorem frame : Cert.quiescent_Reference19Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel19Ideal_Reference19Ideal := by
  intro m g m' g' _ hagree
  refine ⟨_, Cert.Kernel19Ideal.Value.run_blocks m g, ?_⟩
  refine (θ_run defs _ _).mono (fun r h c => ⟨(h c).1.trans ?_, (h c).2⟩) (Value.run (F := Ideal) m' g')
  obtain ⟨h0, h1, h2, h3⟩ := hagree c
  rw [Cert.Kernel19Ideal.Product.final, ← h0, ← h1, ← h2]
  exact ref_eq _ _ _

end Cert.Reference19Ideal.Product

end
-- ==== Proof.Product20.lean ====
/- Forward: ffn_up, the gate half: the call `ffn_up_g` computes the product that the reference states.
   The call's grid has 4 by 11 blocks of the result. -/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel20Ideal.Product

open Cert.Kernel20Ideal Cert.Kernel20Ideal.Gen Idealize.ShloMosaic Idealize.ShloMosaic.TcCoe Idealize.SL.Sem

variable (m : (ℓ : Loc nD τ sig) → Buf (Elt Ideal) ℓ)

/-- The place in w of the result's column. -/
def col (i : S4160x5632.Idx) : Fin 11264 := ⟨(i 1).val, by have h : (i 1).val < 5632 := (i 1).isLt; omega⟩

/-- The product of x with the part of w that the call takes. -/
def prod (x : Vec Ideal S4160x2048 .bf16) (w : Vec Ideal S2048x11264 .bf16) : Vec Ideal S4160x5632 .f32 :=
  fun i => ∑ k : Fin 2048, x (ix2 (i 0) k) * w (ix2 k (col i))

/-- The blocks that a point reads and writes. -/
theorem idx : ∀ t : Fin cfg0.N, win0_0.index t = ![t.val / 11, 0] ∧ win0_1.index t = ![0, t.val % 11]
    ∧ win0_2.index t = ![t.val / 11, t.val % 11] :=
  (by decide +kernel : ∀ t : Fin grid0.N, _)

/-- What one point writes: the product of its two blocks. -/
theorem part_apply (x : Vec Ideal S1040x2048 .bf16) (w : Vec Ideal S2048x512 .bf16) (j : S1040x512.Idx) :
    k0_pay1 (F := Ideal) x w j = ∑ k : Fin 2048, x (ix2 (j 0) k) * w (ix2 k (j 1)) := by
  pointwise [k0_pay1]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  rw [after0_2]
  frame_out
  rw [part_apply, prod]
  blk_point [iblk, V, idx t, col]

end Cert.Kernel20Ideal.Product

namespace Cert.Reference20Ideal.Product

open Cert.Reference20Ideal Cert.Reference20Ideal.Gen Idealize.ShloMosaic Idealize.ShloMosaic.TcCoe Idealize.SL.Sem

/-- The reference's term is the product. -/
theorem ref_eq (x : Vec Ideal S4160x2048 .bf16) (w : Vec Ideal S2048x11264 .bf16) :
    Host.dotGeneral (F := Ideal) dot_S4160x2048_S2048x5632_S4160x5632_1_0_0_1_n_n none (extf .f32 x bitsLt_bf16_f32) (extf .f32 (extractStridedSlice S2048x5632 ![0, 0] w slices_S2048x11264_S2048x5632_0_0) bitsLt_bf16_f32)
      = Cert.Kernel20Ideal.Product.prod x w := by
  funext i
  pointwise [Cert.Kernel20Ideal.Product.prod, Cert.Kernel20Ideal.Product.col]

/-- The reference leaves its arguments as they were; it declares no semaphore, so every counter stays at zero. -/
theorem frame : Cert.quiescent_Reference20Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel20Ideal_Reference20Ideal := by
  intro m g m' g' _ hagree
  refine ⟨_, Cert.Kernel20Ideal.Value.run_blocks m g, ?_⟩
  refine (θ_run defs _ _).mono (fun r h c => ⟨(h c).1.trans ?_, (h c).2⟩) (Value.run (F := Ideal) m' g')
  obtain ⟨h0, h1⟩ := hagree c
  rw [Cert.Kernel20Ideal.Product.final, ← h0, ← h1]
  exact ref_eq _ _

end Cert.Reference20Ideal.Product

end
-- ==== Proof.Product21.lean ====
/- Forward: ffn_up, the value half: the call `ffn_up_v` computes the product that the reference states.
   The call's grid has 4 by 11 blocks of the result. -/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel21Ideal.Product

open Cert.Kernel21Ideal Cert.Kernel21Ideal.Gen Idealize.ShloMosaic Idealize.ShloMosaic.TcCoe Idealize.SL.Sem

variable (m : (ℓ : Loc nD τ sig) → Buf (Elt Ideal) ℓ)

/-- The place in w of the result's column. -/
def col (i : S4160x5632.Idx) : Fin 11264 := ⟨5632 + (i 1).val, by have h : (i 1).val < 5632 := (i 1).isLt; omega⟩

/-- The product of x with the part of w that the call takes. -/
def prod (x : Vec Ideal S4160x2048 .bf16) (w : Vec Ideal S2048x11264 .bf16) : Vec Ideal S4160x5632 .f32 :=
  fun i => ∑ k : Fin 2048, x (ix2 (i 0) k) * w (ix2 k (col i))

/-- The blocks that a point reads and writes. -/
theorem idx : ∀ t : Fin cfg0.N, win0_0.index t = ![t.val / 11, 0] ∧ win0_1.index t = ![0, t.val % 11 + 11]
    ∧ win0_2.index t = ![t.val / 11, t.val % 11] :=
  (by decide +kernel : ∀ t : Fin grid0.N, _)

/-- What one point writes: the product of its two blocks. -/
theorem part_apply (x : Vec Ideal S1040x2048 .bf16) (w : Vec Ideal S2048x512 .bf16) (j : S1040x512.Idx) :
    k0_pay1 (F := Ideal) x w j = ∑ k : Fin 2048, x (ix2 (j 0) k) * w (ix2 k (j 1)) := by
  pointwise [k0_pay1]

/-- The result array is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp [idx t]
  rw [after0_2]
  frame_out
  rw [part_apply, prod]
  blk_point [iblk, V, idx t, col]

end Cert.Kernel21Ideal.Product

namespace Cert.Reference21Ideal.Product

open Cert.Reference21Ideal Cert.Reference21Ideal.Gen Idealize.ShloMosaic Idealize.ShloMosaic.TcCoe Idealize.SL.Sem

/-- The reference's term is the product. -/
theorem ref_eq (x : Vec Ideal S4160x2048 .bf16) (w : Vec Ideal S2048x11264 .bf16) :
    Host.dotGeneral (F := Ideal) dot_S4160x2048_S2048x5632_S4160x5632_1_0_0_1_n_n none (extf .f32 x bitsLt_bf16_f32) (extf .f32 (extractStridedSlice S2048x5632 ![0, 5632] w slices_S2048x11264_S2048x5632_0_5632) bitsLt_bf16_f32)
      = Cert.Kernel21Ideal.Product.prod x w := by
  funext i
  pointwise [Cert.Kernel21Ideal.Product.prod, Cert.Kernel21Ideal.Product.col]

/-- The reference leaves its arguments as they were; it declares no semaphore, so every counter stays at zero. -/
theorem frame : Cert.quiescent_Reference21Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel21Ideal_Reference21Ideal := by
  intro m g m' g' _ hagree
  refine ⟨_, Cert.Kernel21Ideal.Value.run_blocks m g, ?_⟩
  refine (θ_run defs _ _).mono (fun r h c => ⟨(h c).1.trans ?_, (h c).2⟩) (Value.run (F := Ideal) m' g')
  obtain ⟨h0, h1⟩ := hagree c
  rw [Cert.Kernel21Ideal.Product.final, ← h0, ← h1]
  exact ref_eq _ _

end Cert.Reference21Ideal.Product

end
-- ==== Proof.Product22.lean ====
/- Forward: ffn_down and the residual: the call `ffn_down` computes the product that the reference states.
   The call's grid has 4 by 2 blocks of the result, each the sum of 4 products. -/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel22Ideal.Product

open Cert.Kernel22Ideal Cert.Kernel22Ideal.Gen Idealize.ShloMosaic Idealize.ShloMosaic.TcCoe Idealize.SL.Sem

variable (m : (ℓ : Loc nD τ sig) → Buf (Elt Ideal) ℓ)

/-- The product of x with w, and the summand. -/
def prod (x : Vec Ideal S4160x5632 .bf16) (w : Vec Ideal S5632x2048 .bf16) (s : Vec Ideal S4160x2048 .f32) : Vec Ideal S4160x2048 .f32 :=
  fun i => (∑ k : Fin 5632, x (ix2 (i 0) k) * w (ix2 k (i 1))) + s i

/-- The blocks that a point reads and writes. -/
theorem idx : ∀ t : Fin cfg0.N, win0_0.index t = ![t.val / 8, t.val % 4] ∧ win0_1.index t = ![t.val % 4, t.val / 4 % 2]
    ∧ win0_2.index t = ![t.val / 8, t.val / 4 % 2]
    ∧ win0_3.index t = ![t.val / 8, t.val / 4 % 2] :=
  (by decide +kernel : ∀ t : Fin grid0.N, _)

/-- The accumulator is filled with zeros at the first point of a block. -/
theorem zero_apply (j : S1040x1024.Idx) : k0_pay1 (F := Ideal) j = 0 := by
  pointwise [k0_pay1]

/-- One point adds the product of its two blocks to the accumulator. -/
theorem acc_apply (a : Vec Ideal S1040x1024 .f32) (x : Vec Ideal S1040x1408 .bf16) (w : Vec Ideal S1408x1024 .bf16) (j : S1040x1024.Idx) :
    k0_pay2 (F := Ideal) a x w j = a j + ∑ k : Fin 1408, x (ix2 (j 0) k) * w (ix2 k (j 1)) := by
  pointwise [k0_pay2]

/-- What is written back is the accumulator and the summand's block. -/
theorem out_apply (a s : Vec Ideal S1040x1024 .f32) (j : S1040x1024.Idx) : k0_pay3 (F := Ideal) a s j = a j + s j := by
  pointwise [k0_pay3]

/-- At the last point of a block the result's block is the accumulator, and the summand's block. -/
theorem last (c : Dev nD) (t : Fin cfg0.N) (h : t.val % 4 = 3) (j : S1040x1024.Idx) :
    (outsAt0 m c t.val t.isLt).1 j = (outsAt0 m c t.val t.isLt).2 j + (show Vec Ideal S1040x1024 .f32 from iblk m c 2 t) j := by
  rw [outsAt0_C m c t (by omega) h]
  frame_out
  rw [out_apply]

/-- The result array is the product. -/
theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp [idx t]
  have hl := (flush0_3 t).mp hf
  rw [after0_3, last m c t hl, Pipeline.eq_sum_fin_of_reset_step_apply_of_flush (fun n h => (outsAt0 m c n h).2) 4 (fun _ => 0) _
    (fun t h j => by rw [outsAt0_A m c t h (by omega)]; frame_out; rw [acc_apply, zero_apply])
    (fun t h j => by
      by_cases h1 : t.val % 4 = 3
      · rw [outsAt0_C m c t h h1]; frame_out; rw [acc_apply, read_unread_whole]
      · rw [outsAt0_B m c t h h1]; frame_out; rw [acc_apply, read_unread_whole])
    t hl _, zero_add, prod]
  refine congrArg₂ (· + ·) (Fin.sum_mul_add_congr fun s k hk => ?_) ?_
  · blk_point [iblk, V, idx t, idx ⟨_, Pipeline.run_point_lt_of_flush t ((flush0_3 t).mp hf) s⟩]
  · blk_ext [iblk, V, idx t]

end Cert.Kernel22Ideal.Product

namespace Cert.Reference22Ideal.Product

open Cert.Reference22Ideal Cert.Reference22Ideal.Gen Idealize.ShloMosaic Idealize.ShloMosaic.TcCoe Idealize.SL.Sem

/-- The reference's term is the product. -/
theorem ref_eq (x : Vec Ideal S4160x5632 .bf16) (w : Vec Ideal S5632x2048 .bf16) (s : Vec Ideal S4160x2048 .f32) :
    addf (F := Ideal) s (Host.dotGeneral dot_S4160x5632_S5632x2048_S4160x2048_1_0_0_1_n_n none (extf .f32 x bitsLt_bf16_f32) (extf .f32 w bitsLt_bf16_f32))
      = Cert.Kernel22Ideal.Product.prod x w s := by
  funext i
  refine Eq.trans ?_ (add_comm _ _)
  pointwise []

/-- The reference leaves its arguments as they were; it declares no semaphore, so every counter stays at zero. -/
theorem frame : Cert.quiescent_Reference22Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel22Ideal_Reference22Ideal := by
  intro m g m' g' _ hagree
  refine ⟨_, Cert.Kernel22Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel22Ideal.Product.final, ← h0, ← h1, ← h2]
  exact ref_eq _ _ _

end Cert.Reference22Ideal.Product

end
-- ==== Proof.Product23.lean ====
/- Forward: w_out and the residual: the call `out_proj` computes the product that the reference states.
   The call's grid has 4 by 2 blocks of the result, each the sum of 2 products. -/
module

public import proofs.«01_k».proof.Defs
public import proofs.«01_k».proof.Proof.Gen.Kernel23.Frame
public import proofs.«01_k».proof.Proof.Gen.Kernel23Ideal.Value
public import proofs.«01_k».proof.Proof.Gen.Reference23Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel23Ideal.Product

open Cert.Kernel23Ideal Cert.Kernel23Ideal.Gen Idealize.ShloMosaic Idealize.ShloMosaic.TcCoe Idealize.SL.Sem

variable (m : (ℓ : Loc nD τ sig) → Buf (Elt Ideal) ℓ)

/-- The product of x with w, and the summand. -/
def prod (x : Vec Ideal S4160x4096 .bf16) (w : Vec Ideal S4096x2048 .bf16) (s : Vec Ideal S4160x2048 .f32) : Vec Ideal S4160x2048 .f32 :=
  fun i => (∑ k : Fin 4096, x (ix2 (i 0) k) * w (ix2 k (i 1))) + s i

/-- The blocks that a point reads and writes. -/
theorem idx : ∀ t : Fin cfg0.N, win0_0.index t = ![t.val / 4, t.val % 2] ∧ win0_1.index t = ![t.val % 2, t.val / 2 % 2]
    ∧ win0_2.index t = ![t.val / 4, t.val / 2 % 2]
    ∧ win0_3.index t = ![t.val / 4, t.val / 2 % 2] :=
  (by decide +kernel : ∀ t : Fin grid0.N, _)

/-- The accumulator is filled with zeros at the first point of a block. -/
theorem zero_apply (j : S1040x1024.Idx) : k0_pay1 (F := Ideal) j = 0 := by
  pointwise [k0_pay1]

/-- One point adds the product of its two blocks to the accumulator. -/
theorem acc_apply (a : Vec Ideal S1040x1024 .f32) (x : Vec Ideal S1040x2048 .bf16) (w : Vec Ideal S2048x1024 .bf16) (j : S1040x1024.Idx) :
    k0_pay2 (F := Ideal) a x w j = a j + ∑ k : Fin 2048, x (ix2 (j 0) k) * w (ix2 k (j 1)) := by
  pointwise [k0_pay2]

/-- What is written back is the accumulator and the summand's block. -/
theorem out_apply (a s : Vec Ideal S1040x1024 .f32) (j : S1040x1024.Idx) : k0_pay3 (F := Ideal) a s j = a j + s j := by
  pointwise [k0_pay3]

/-- At the last point of a block the result's block is the accumulator, and the summand's block. -/
theorem last (c : Dev nD) (t : Fin cfg0.N) (h : t.val % 2 = 1) (j : S1040x1024.Idx) :
    (outsAt0 m c t.val t.isLt).1 j = (outsAt0 m c t.val t.isLt).2 j + (show Vec Ideal S1040x1024 .f32 from iblk m c 2 t) j := by
  rw [outsAt0_B m c t (by omega) h]
  frame_out
  rw [out_apply]

/-- The result array is the product. -/
theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp [idx t]
  have hl := (flush0_3 t).mp hf
  rw [after0_3, last m c t hl, Pipeline.eq_sum_fin_of_reset_step_apply_of_flush (fun n h => (outsAt0 m c n h).2) 2 (fun _ => 0) _
    (fun t h j => by rw [outsAt0_A m c t h (by omega)]; frame_out; rw [acc_apply, zero_apply])
    (fun t h j => by rw [outsAt0_B m c t h (by omega)]; frame_out; rw [acc_apply, read_unread_whole])
    t hl _, zero_add, prod]
  refine congrArg₂ (· + ·) (Fin.sum_mul_add_congr fun s k hk => ?_) ?_
  · blk_point [iblk, V, idx t, idx ⟨_, Pipeline.run_point_lt_of_flush t ((flush0_3 t).mp hf) s⟩]
  · blk_ext [iblk, V, idx t]

end Cert.Kernel23Ideal.Product

namespace Cert.Reference23Ideal.Product

open Cert.Reference23Ideal Cert.Reference23Ideal.Gen Idealize.ShloMosaic Idealize.ShloMosaic.TcCoe Idealize.SL.Sem

/-- The reference's term is the product. -/
theorem ref_eq (x : Vec Ideal S4160x4096 .bf16) (w : Vec Ideal S4096x2048 .bf16) (s : Vec Ideal S4160x2048 .f32) :
    addf (F := Ideal) s (Host.dotGeneral dot_S4160x4096_S4096x2048_S4160x2048_1_0_0_1_n_n none (extf .f32 x bitsLt_bf16_f32) (extf .f32 w bitsLt_bf16_f32))
      = Cert.Kernel23Ideal.Product.prod x w s := by
  funext i
  refine Eq.trans ?_ (add_comm _ _)
  pointwise []

/-- The reference leaves its arguments as they were; it declares no semaphore, so every counter stays at zero. -/
theorem frame : Cert.quiescent_Reference23Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel23Ideal_Reference23Ideal := by
  intro m g m' g' _ hagree
  refine ⟨_, Cert.Kernel23Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel23Ideal.Product.final, ← h0, ← h1, ← h2]
  exact ref_eq _ _ _

end Cert.Reference23Ideal.Product

end
-- ==== Proof.Product24.lean ====
/- Forward: w_in, the columns of q: the call `proj_q` computes the product that the reference states.
   The call's grid has 4 by 2 blocks of the result. -/
module

public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel24Ideal.Product

open Cert.Kernel24Ideal Cert.Kernel24Ideal.Gen Idealize.ShloMosaic Idealize.ShloMosaic.TcCoe Idealize.SL.Sem

variable (m : (ℓ : Loc nD τ sig) → Buf (Elt Ideal) ℓ)

/-- The place in w of the result's column. -/
def col (i : S4160x2048.Idx) : Fin 13440 := ⟨(i 1).val, by have h : (i 1).val < 2048 := (i 1).isLt; omega⟩

/-- The product of x with the transpose of the part of w that the call takes. -/
def prod (x : Vec Ideal S4160x2048 .bf16) (w : Vec Ideal S13440x2048 .bf16) : Vec Ideal S4160x2048 .f32 :=
  fun i => ∑ k : Fin 2048, x (ix2 (i 0) k) * w (ix2 (col i) k)

/-- The blocks that a point reads and writes. -/
theorem idx : ∀ t : Fin cfg0.N, win0_0.index t = ![t.val / 2, 0] ∧ win0_1.index t = ![t.val % 2, 0]
    ∧ win0_3.index t = ![t.val / 2, t.val % 2] :=
  (by decide +kernel : ∀ t : Fin grid0.N, _)

/-- The block of w at a point, read in w. -/
theorem block_apply (c : Dev nD) (t : Fin cfg0.N) (j : S1024x2048.Idx) (i : S13440x2048.Idx)
    (h0 : (i 0).val = (t.val % 2) * 1024 + (j 0).val) (h1 : (i 1).val = (0 : ℕ) * 2048 + (j 1).val) :
    X0_1 m c t j = m ((c : Thread nD τ).loc main_arg1) i := by
  unfold X0_1
  rw [WholeBlock.fill_apply _ _ (moved0_1 t)]
  have e : i = ix2 ⟨(t.val % 2) * 1024 + (j 0).val, h0 ▸ (i 0).isLt⟩ ⟨(0 : ℕ) * 2048 + (j 1).val, h1 ▸ (i 1).isLt⟩ := by
    funext a
    match a with
    | 0 => exact Fin.ext h0
    | 1 => exact Fin.ext h1
  rw [e]
  blk_ext [iblk, V, idx t]

/-- What one point writes: the product of its two blocks. -/
theorem part_apply (x : Vec Ideal S1040x2048 .bf16) (w : Vec Ideal S1024x2048 .bf16) (j : S1040x1024.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  unfold outsAt0
  frame_out
  rw [part_apply, prod]
  refine Fin.sum_fin_congr fun k => congrArg₂ (· * ·) ?_ ?_
  · blk_ext [iblk, V, idx t]
  · refine block_apply m c t _ _ ?_ ?_
    · blk_simp [idx t, col] <;> dsimp only <;> omega
    · blk_simp [idx t, col] <;> dsimp only <;> omega

end Cert.Kernel24Ideal.Product

namespace Cert.Reference24Ideal.Product

open Cert.Reference24Ideal Cert.Reference24Ideal.Gen Idealize.ShloMosaic Idealize.ShloMosaic.TcCoe Idealize.SL.Sem

/-- The reference's term is the product. -/
theorem ref_eq (x : Vec Ideal S4160x2048 .bf16) (w : Vec Ideal S13440x2048 .bf16) :
    Host.dotGeneral (F := Ideal) dot_S4160x2048_S2048x2048_S4160x2048_1_0_0_1_n_n none (extf .f32 x bitsLt_bf16_f32) (extf .f32 (transpose S2048x2048 [1, 0] (extractStridedSlice S2048x2048 ![0, 0] w slices_S13440x2048_S2048x2048_0_0) transposes_S2048x2048_S2048x2048_1_0) bitsLt_bf16_f32)
      = Cert.Kernel24Ideal.Product.prod x w := by
  funext i
  pointwise [Cert.Kernel24Ideal.Product.prod, Cert.Kernel24Ideal.Product.col]

/-- The reference leaves its arguments as they were; it declares no semaphore, so every counter stays at zero. -/
theorem frame : Cert.quiescent_Reference24Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel24Ideal_Reference24Ideal := by
  intro m g m' g' _ hagree
  refine ⟨_, Cert.Kernel24Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel24Ideal.Product.final, ← h0, ← h1]
  exact ref_eq _ _

end Cert.Reference24Ideal.Product

end
-- ==== Proof.Product25.lean ====
/- Forward: w_in, the columns of k: the call `proj_k` computes the product that the reference states.
   The call's grid has 4 by 2 blocks of the result. -/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel25Ideal.Product

open Cert.Kernel25Ideal Cert.Kernel25Ideal.Gen Idealize.ShloMosaic Idealize.ShloMosaic.TcCoe Idealize.SL.Sem

variable (m : (ℓ : Loc nD τ sig) → Buf (Elt Ideal) ℓ)

/-- The place in w of the result's column. -/
def col (i : S4160x2048.Idx) : Fin 13440 := ⟨2048 + (i 1).val, by have h : (i 1).val < 2048 := (i 1).isLt; omega⟩

/-- The product of x with the transpose of the part of w that the call takes. -/
def prod (x : Vec Ideal S4160x2048 .bf16) (w : Vec Ideal S13440x2048 .bf16) : Vec Ideal S4160x2048 .f32 :=
  fun i => ∑ k : Fin 2048, x (ix2 (i 0) k) * w (ix2 (col i) k)

/-- The blocks that a point reads and writes. -/
theorem idx : ∀ t : Fin cfg0.N, win0_0.index t = ![t.val / 2, 0] ∧ win0_1.index t = ![t.val % 2 + 2, 0]
    ∧ win0_3.index t = ![t.val / 2, t.val % 2] :=
  (by decide +kernel : ∀ t : Fin grid0.N, _)

/-- The block of w at a point, read in w. -/
theorem block_apply (c : Dev nD) (t : Fin cfg0.N) (j : S1024x2048.Idx) (i : S13440x2048.Idx)
    (h0 : (i 0).val = (t.val % 2 + 2) * 1024 + (j 0).val) (h1 : (i 1).val = (0 : ℕ) * 2048 + (j 1).val) :
    X0_1 m c t j = m ((c : Thread nD τ).loc main_arg1) i := by
  unfold X0_1
  rw [WholeBlock.fill_apply _ _ (moved0_1 t)]
  have e : i = ix2 ⟨(t.val % 2 + 2) * 1024 + (j 0).val, h0 ▸ (i 0).isLt⟩ ⟨(0 : ℕ) * 2048 + (j 1).val, h1 ▸ (i 1).isLt⟩ := by
    funext a
    match a with
    | 0 => exact Fin.ext h0
    | 1 => exact Fin.ext h1
  rw [e]
  blk_ext [iblk, V, idx t]

/-- What one point writes: the product of its two blocks. -/
theorem part_apply (x : Vec Ideal S1040x2048 .bf16) (w : Vec Ideal S1024x2048 .bf16) (j : S1040x1024.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  unfold outsAt0
  frame_out
  rw [part_apply, prod]
  refine Fin.sum_fin_congr fun k => congrArg₂ (· * ·) ?_ ?_
  · blk_ext [iblk, V, idx t]
  · refine block_apply m c t _ _ ?_ ?_
    · blk_simp [idx t, col] <;> dsimp only <;> omega
    · blk_simp [idx t, col] <;> dsimp only <;> omega

end Cert.Kernel25Ideal.Product

namespace Cert.Reference25Ideal.Product

open Cert.Reference25Ideal Cert.Reference25Ideal.Gen Idealize.ShloMosaic Idealize.ShloMosaic.TcCoe Idealize.SL.Sem

/-- The reference's term is the product. -/
theorem ref_eq (x : Vec Ideal S4160x2048 .bf16) (w : Vec Ideal S13440x2048 .bf16) :
    Host.dotGeneral (F := Ideal) dot_S4160x2048_S2048x2048_S4160x2048_1_0_0_1_n_n none (extf .f32 x bitsLt_bf16_f32) (extf .f32 (transpose S2048x2048 [1, 0] (extractStridedSlice S2048x2048 ![2048, 0] w slices_S13440x2048_S2048x2048_2048_0) transposes_S2048x2048_S2048x2048_1_0) bitsLt_bf16_f32)
      = Cert.Kernel25Ideal.Product.prod x w := by
  funext i
  pointwise [Cert.Kernel25Ideal.Product.prod, Cert.Kernel25Ideal.Product.col]

/-- The reference leaves its arguments as they were; it declares no semaphore, so every counter stays at zero. -/
theorem frame : Cert.quiescent_Reference25Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel25Ideal_Reference25Ideal := by
  intro m g m' g' _ hagree
  refine ⟨_, Cert.Kernel25Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel25Ideal.Product.final, ← h0, ← h1]
  exact ref_eq _ _

end Cert.Reference25Ideal.Product

end
-- ==== Proof.Product26.lean ====
/- Forward: w_in, the columns of v: the call `proj_v` computes the product that the reference states.
   The call's grid has 4 by 2 blocks of the result. -/
module

public import proofs.«01_k».proof.Defs
public import proofs.«01_k».proof.Proof.Gen.Kernel26.Frame
public import proofs.«01_k».proof.Proof.Gen.Kernel26Ideal.Value
public import proofs.«01_k».proof.Proof.Gen.Reference26Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel26Ideal.Product

open Cert.Kernel26Ideal Cert.Kernel26Ideal.Gen Idealize.ShloMosaic Idealize.ShloMosaic.TcCoe Idealize.SL.Sem

variable (m : (ℓ : Loc nD τ sig) → Buf (Elt Ideal) ℓ)

/-- The place in w of the result's column. -/
def col (i : S4160x2048.Idx) : Fin 13440 := ⟨4096 + (i 1).val, by have h : (i 1).val < 2048 := (i 1).isLt; omega⟩

/-- The product of x with the transpose of the part of w that the call takes. -/
def prod (x : Vec Ideal S4160x2048 .bf16) (w : Vec Ideal S13440x2048 .bf16) : Vec Ideal S4160x2048 .f32 :=
  fun i => ∑ k : Fin 2048, x (ix2 (i 0) k) * w (ix2 (col i) k)

/-- The blocks that a point reads and writes. -/
theorem idx : ∀ t : Fin cfg0.N, win0_0.index t = ![t.val / 2, 0] ∧ win0_1.index t = ![t.val % 2 + 4, 0]
    ∧ win0_3.index t = ![t.val / 2, t.val % 2] :=
  (by decide +kernel : ∀ t : Fin grid0.N, _)

/-- The block of w at a point, read in w. -/
theorem block_apply (c : Dev nD) (t : Fin cfg0.N) (j : S1024x2048.Idx) (i : S13440x2048.Idx)
    (h0 : (i 0).val = (t.val % 2 + 4) * 1024 + (j 0).val) (h1 : (i 1).val = (0 : ℕ) * 2048 + (j 1).val) :
    X0_1 m c t j = m ((c : Thread nD τ).loc main_arg1) i := by
  unfold X0_1
  rw [WholeBlock.fill_apply _ _ (moved0_1 t)]
  have e : i = ix2 ⟨(t.val % 2 + 4) * 1024 + (j 0).val, h0 ▸ (i 0).isLt⟩ ⟨(0 : ℕ) * 2048 + (j 1).val, h1 ▸ (i 1).isLt⟩ := by
    funext a
    match a with
    | 0 => exact Fin.ext h0
    | 1 => exact Fin.ext h1
  rw [e]
  blk_ext [iblk, V, idx t]

/-- What one point writes: the product of its two blocks. -/
theorem part_apply (x : Vec Ideal S1040x2048 .bf16) (w : Vec Ideal S1024x2048 .bf16) (j : S1040x1024.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  unfold outsAt0
  frame_out
  rw [part_apply, prod]
  refine Fin.sum_fin_congr fun k => congrArg₂ (· * ·) ?_ ?_
  · blk_ext [iblk, V, idx t]
  · refine block_apply m c t _ _ ?_ ?_
    · blk_simp [idx t, col] <;> dsimp only <;> omega
    · blk_simp [idx t, col] <;> dsimp only <;> omega

end Cert.Kernel26Ideal.Product

namespace Cert.Reference26Ideal.Product

open Cert.Reference26Ideal Cert.Reference26Ideal.Gen Idealize.ShloMosaic Idealize.ShloMosaic.TcCoe Idealize.SL.Sem

/-- The reference's term is the product. -/
theorem ref_eq (x : Vec Ideal S4160x2048 .bf16) (w : Vec Ideal S13440x2048 .bf16) :
    Host.dotGeneral (F := Ideal) dot_S4160x2048_S2048x2048_S4160x2048_1_0_0_1_n_n none (extf .f32 x bitsLt_bf16_f32) (extf .f32 (transpose S2048x2048 [1, 0] (extractStridedSlice S2048x2048 ![4096, 0] w slices_S13440x2048_S2048x2048_4096_0) transposes_S2048x2048_S2048x2048_1_0) bitsLt_bf16_f32)
      = Cert.Kernel26Ideal.Product.prod x w := by
  funext i
  pointwise [Cert.Kernel26Ideal.Product.prod, Cert.Kernel26Ideal.Product.col]

/-- The reference leaves its arguments as they were; it declares no semaphore, so every counter stays at zero. -/
theorem frame : Cert.quiescent_Reference26Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel26Ideal_Reference26Ideal := by
  intro m g m' g' _ hagree
  refine ⟨_, Cert.Kernel26Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel26Ideal.Product.final, ← h0, ← h1]
  exact ref_eq _ _

end Cert.Reference26Ideal.Product

end
-- ==== Proof.Product27.lean ====
/- Forward: w_in, the columns of z: the call `proj_z` computes the product that the reference states.
   The call's grid has 4 by 2 blocks of the result. -/
module

public import proofs.«01_k».proof.Defs
public import proofs.«01_k».proof.Proof.Gen.Kernel27.Frame
public import proofs.«01_k».proof.Proof.Gen.Kernel27Ideal.Value
public import proofs.«01_k».proof.Proof.Gen.Reference27Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel27Ideal.Product

open Cert.Kernel27Ideal Cert.Kernel27Ideal.Gen Idealize.ShloMosaic Idealize.ShloMosaic.TcCoe Idealize.SL.Sem

variable (m : (ℓ : Loc nD τ sig) → Buf (Elt Ideal) ℓ)

/-- The place in w of the result's column. -/
def col (i : S4160x2048.Idx) : Fin 13440 := ⟨6144 + (i 1).val, by have h : (i 1).val < 2048 := (i 1).isLt; omega⟩

/-- The product of x with the transpose of the part of w that the call takes. -/
def prod (x : Vec Ideal S4160x2048 .bf16) (w : Vec Ideal S13440x2048 .bf16) : Vec Ideal S4160x2048 .f32 :=
  fun i => ∑ k : Fin 2048, x (ix2 (i 0) k) * w (ix2 (col i) k)

/-- The blocks that a point reads and writes. -/
theorem idx : ∀ t : Fin cfg0.N, win0_0.index t = ![t.val / 2, 0] ∧ win0_1.index t = ![t.val % 2 + 6, 0]
    ∧ win0_3.index t = ![t.val / 2, t.val % 2] :=
  (by decide +kernel : ∀ t : Fin grid0.N, _)

/-- The block of w at a point, read in w. -/
theorem block_apply (c : Dev nD) (t : Fin cfg0.N) (j : S1024x2048.Idx) (i : S13440x2048.Idx)
    (h0 : (i 0).val = (t.val % 2 + 6) * 1024 + (j 0).val) (h1 : (i 1).val = (0 : ℕ) * 2048 + (j 1).val) :
    X0_1 m c t j = m ((c : Thread nD τ).loc main_arg1) i := by
  unfold X0_1
  rw [WholeBlock.fill_apply _ _ (moved0_1 t)]
  have e : i = ix2 ⟨(t.val % 2 + 6) * 1024 + (j 0).val, h0 ▸ (i 0).isLt⟩ ⟨(0 : ℕ) * 2048 + (j 1).val, h1 ▸ (i 1).isLt⟩ := by
    funext a
    match a with
    | 0 => exact Fin.ext h0
    | 1 => exact Fin.ext h1
  rw [e]
  blk_ext [iblk, V, idx t]

/-- What one point writes: the product of its two blocks. -/
theorem part_apply (x : Vec Ideal S1040x2048 .bf16) (w : Vec Ideal S1024x2048 .bf16) (j : S1040x1024.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  unfold outsAt0
  frame_out
  rw [part_apply, prod]
  refine Fin.sum_fin_congr fun k => congrArg₂ (· * ·) ?_ ?_
  · blk_ext [iblk, V, idx t]
  · refine block_apply m c t _ _ ?_ ?_
    · blk_simp [idx t, col] <;> dsimp only <;> omega
    · blk_simp [idx t, col] <;> dsimp only <;> omega

end Cert.Kernel27Ideal.Product

namespace Cert.Reference27Ideal.Product

open Cert.Reference27Ideal Cert.Reference27Ideal.Gen Idealize.ShloMosaic Idealize.ShloMosaic.TcCoe Idealize.SL.Sem

/-- The reference's term is the product. -/
theorem ref_eq (x : Vec Ideal S4160x2048 .bf16) (w : Vec Ideal S13440x2048 .bf16) :
    Host.dotGeneral (F := Ideal) dot_S4160x2048_S2048x2048_S4160x2048_1_0_0_1_n_n none (extf .f32 x bitsLt_bf16_f32) (extf .f32 (transpose S2048x2048 [1, 0] (extractStridedSlice S2048x2048 ![6144, 0] w slices_S13440x2048_S2048x2048_6144_0) transposes_S2048x2048_S2048x2048_1_0) bitsLt_bf16_f32)
      = Cert.Kernel27Ideal.Product.prod x w := by
  funext i
  pointwise [Cert.Kernel27Ideal.Product.prod, Cert.Kernel27Ideal.Product.col]

/-- The reference leaves its arguments as they were; it declares no semaphore, so every counter stays at zero. -/
theorem frame : Cert.quiescent_Reference27Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel27Ideal_Reference27Ideal := by
  intro m g m' g' _ hagree
  refine ⟨_, Cert.Kernel27Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel27Ideal.Product.final, ← h0, ← h1]
  exact ref_eq _ _

end Cert.Reference27Ideal.Product

end
-- ==== Proof.Product28.lean ====
/- Forward: w_in, the columns of m2z: the call `proj_m2z` computes the product that the reference states.
   The call's grid has 4 by 2 blocks of the result. -/
module

public import proofs.«01_k».proof.Defs
public import proofs.«01_k».proof.Proof.Gen.Kernel28.Frame
public import proofs.«01_k».proof.Proof.Gen.Kernel28Ideal.Value
public import proofs.«01_k».proof.Proof.Gen.Reference28Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel28Ideal.Product

open Cert.Kernel28Ideal Cert.Kernel28Ideal.Gen Idealize.ShloMosaic Idealize.ShloMosaic.TcCoe Idealize.SL.Sem

variable (m : (ℓ : Loc nD τ sig) → Buf (Elt Ideal) ℓ)

/-- The place in w of the result's column. -/
def col (i : S4160x2048.Idx) : Fin 13440 := ⟨8192 + (i 1).val, by have h : (i 1).val < 2048 := (i 1).isLt; omega⟩

/-- The product of x with the transpose of the part of w that the call takes. -/
def prod (x : Vec Ideal S4160x2048 .bf16) (w : Vec Ideal S13440x2048 .bf16) : Vec Ideal S4160x2048 .f32 :=
  fun i => ∑ k : Fin 2048, x (ix2 (i 0) k) * w (ix2 (col i) k)

/-- The blocks that a point reads and writes. -/
theorem idx : ∀ t : Fin cfg0.N, win0_0.index t = ![t.val / 2, 0] ∧ win0_1.index t = ![t.val % 2 + 8, 0]
    ∧ win0_3.index t = ![t.val / 2, t.val % 2] :=
  (by decide +kernel : ∀ t : Fin grid0.N, _)

/-- The block of w at a point, read in w. -/
theorem block_apply (c : Dev nD) (t : Fin cfg0.N) (j : S1024x2048.Idx) (i : S13440x2048.Idx)
    (h0 : (i 0).val = (t.val % 2 + 8) * 1024 + (j 0).val) (h1 : (i 1).val = (0 : ℕ) * 2048 + (j 1).val) :
    X0_1 m c t j = m ((c : Thread nD τ).loc main_arg1) i := by
  unfold X0_1
  rw [WholeBlock.fill_apply _ _ (moved0_1 t)]
  have e : i = ix2 ⟨(t.val % 2 + 8) * 1024 + (j 0).val, h0 ▸ (i 0).isLt⟩ ⟨(0 : ℕ) * 2048 + (j 1).val, h1 ▸ (i 1).isLt⟩ := by
    funext a
    match a with
    | 0 => exact Fin.ext h0
    | 1 => exact Fin.ext h1
  rw [e]
  blk_ext [iblk, V, idx t]

/-- What one point writes: the product of its two blocks. -/
theorem part_apply (x : Vec Ideal S1040x2048 .bf16) (w : Vec Ideal S1024x2048 .bf16) (j : S1040x1024.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  unfold outsAt0
  frame_out
  rw [part_apply, prod]
  refine Fin.sum_fin_congr fun k => congrArg₂ (· * ·) ?_ ?_
  · blk_ext [iblk, V, idx t]
  · refine block_apply m c t _ _ ?_ ?_
    · blk_simp [idx t, col] <;> dsimp only <;> omega
    · blk_simp [idx t, col] <;> dsimp only <;> omega

end Cert.Kernel28Ideal.Product

namespace Cert.Reference28Ideal.Product

open Cert.Reference28Ideal Cert.Reference28Ideal.Gen Idealize.ShloMosaic Idealize.ShloMosaic.TcCoe Idealize.SL.Sem

/-- The reference's term is the product. -/
theorem ref_eq (x : Vec Ideal S4160x2048 .bf16) (w : Vec Ideal S13440x2048 .bf16) :
    Host.dotGeneral (F := Ideal) dot_S4160x2048_S2048x2048_S4160x2048_1_0_0_1_n_n none (extf .f32 x bitsLt_bf16_f32) (extf .f32 (transpose S2048x2048 [1, 0] (extractStridedSlice S2048x2048 ![8192, 0] w slices_S13440x2048_S2048x2048_8192_0) transposes_S2048x2048_S2048x2048_1_0) bitsLt_bf16_f32)
      = Cert.Kernel28Ideal.Product.prod x w := by
  funext i
  pointwise [Cert.Kernel28Ideal.Product.prod, Cert.Kernel28Ideal.Product.col]

/-- The reference leaves its arguments as they were; it declares no semaphore, so every counter stays at zero. -/
theorem frame : Cert.quiescent_Reference28Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel28Ideal_Reference28Ideal := by
  intro m g m' g' _ hagree
  refine ⟨_, Cert.Kernel28Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel28Ideal.Product.final, ← h0, ← h1]
  exact ref_eq _ _

end Cert.Reference28Ideal.Product

end
-- ==== Proof.Product29.lean ====
/- Forward: w_in, the columns of xbc: the call `proj_xbc` computes the product that the reference states.
   The call's grid has 4 by 3 blocks of the result. -/
module

public import proofs.«01_k».proof.Defs
public import proofs.«01_k».proof.Proof.Gen.Kernel29.Frame
public import proofs.«01_k».proof.Proof.Gen.Kernel29Ideal.Value
public import proofs.«01_k».proof.Proof.Gen.Reference29Ideal.Run
public import proofs.«01_k».proof.Proof.WholeBlock
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel29Ideal.Product

open Cert.Kernel29Ideal Cert.Kernel29Ideal.Gen Idealize.ShloMosaic Idealize.ShloMosaic.TcCoe Idealize.SL.Sem

variable (m : (ℓ : Loc nD τ sig) → Buf (Elt Ideal) ℓ)

/-- The place in w of the result's column. -/
def col (i : S4160x3072.Idx) : Fin 13440 := ⟨10240 + (i 1).val, by have h : (i 1).val < 3072 := (i 1).isLt; omega⟩

/-- The product of x with the transpose of the part of w that the call takes. -/
def prod (x : Vec Ideal S4160x2048 .bf16) (w : Vec Ideal S13440x2048 .bf16) : Vec Ideal S4160x3072 .f32 :=
  fun i => ∑ k : Fin 2048, x (ix2 (i 0) k) * w (ix2 (col i) k)

/-- The blocks that a point reads and writes. -/
theorem idx : ∀ t : Fin cfg0.N, win0_0.index t = ![t.val / 3, 0] ∧ win0_1.index t = ![t.val % 3 + 10, 0]
    ∧ win0_3.index t = ![t.val / 3, t.val % 3] :=
  (by decide +kernel : ∀ t : Fin grid0.N, _)

/-- The block of w at a point, read in w. -/
theorem block_apply (c : Dev nD) (t : Fin cfg0.N) (j : S1024x2048.Idx) (i : S13440x2048.Idx)
    (h0 : (i 0).val = (t.val % 3 + 10) * 1024 + (j 0).val) (h1 : (i 1).val = (0 : ℕ) * 2048 + (j 1).val) :
    X0_1 m c t j = m ((c : Thread nD τ).loc main_arg1) i := by
  unfold X0_1
  rw [WholeBlock.fill_apply _ _ (moved0_1 t)]
  have e : i = ix2 ⟨(t.val % 3 + 10) * 1024 + (j 0).val, h0 ▸ (i 0).isLt⟩ ⟨(0 : ℕ) * 2048 + (j 1).val, h1 ▸ (i 1).isLt⟩ := by
    funext a
    match a with
    | 0 => exact Fin.ext h0
    | 1 => exact Fin.ext h1
  rw [e]
  blk_ext [iblk, V, idx t]

/-- What one point writes: the product of its two blocks. -/
theorem part_apply (x : Vec Ideal S1040x2048 .bf16) (w : Vec Ideal S1024x2048 .bf16) (j : S1040x1024.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  unfold outsAt0
  frame_out
  rw [part_apply, prod]
  refine Fin.sum_fin_congr fun k => congrArg₂ (· * ·) ?_ ?_
  · blk_ext [iblk, V, idx t]
  · refine block_apply m c t _ _ ?_ ?_
    · blk_simp [idx t, col] <;> dsimp only <;> omega
    · blk_simp [idx t, col] <;> dsimp only <;> omega

end Cert.Kernel29Ideal.Product

namespace Cert.Reference29Ideal.Product

open Cert.Reference29Ideal Cert.Reference29Ideal.Gen Idealize.ShloMosaic Idealize.ShloMosaic.TcCoe Idealize.SL.Sem

/-- The reference's term is the product. -/
theorem ref_eq (x : Vec Ideal S4160x2048 .bf16) (w : Vec Ideal S13440x2048 .bf16) :
    Host.dotGeneral (F := Ideal) dot_S4160x2048_S2048x3072_S4160x3072_1_0_0_1_n_n none (extf .f32 x bitsLt_bf16_f32) (extf .f32 (transpose S2048x3072 [1, 0] (extractStridedSlice S3072x2048 ![10240, 0] w slices_S13440x2048_S3072x2048_10240_0) transposes_S3072x2048_S2048x3072_1_0) bitsLt_bf16_f32)
      = Cert.Kernel29Ideal.Product.prod x w := by
  funext i
  pointwise [Cert.Kernel29Ideal.Product.prod, Cert.Kernel29Ideal.Product.col]

/-- The reference leaves its arguments as they were; it declares no semaphore, so every counter stays at zero. -/
theorem frame : Cert.quiescent_Reference29Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel29Ideal_Reference29Ideal := by
  intro m g m' g' _ hagree
  refine ⟨_, Cert.Kernel29Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel29Ideal.Product.final, ← h0, ← h1]
  exact ref_eq _ _

end Cert.Reference29Ideal.Product

end
-- ==== Proof.Product30.lean ====
/- Forward: w_in, the columns of the gates: the call `proj_sm` computes the product that the reference states.
   The call's grid has 4 by 1 blocks of the result. -/
module

public import proofs.«01_k».proof.Defs
public import proofs.«01_k».proof.Proof.Gen.Kernel30.Frame
public import proofs.«01_k».proof.Proof.Gen.Kernel30Ideal.Value
public import proofs.«01_k».proof.Proof.Gen.Reference30Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel30Ideal.Product

open Cert.Kernel30Ideal Cert.Kernel30Ideal.Gen Idealize.ShloMosaic Idealize.ShloMosaic.TcCoe Idealize.SL.Sem

variable (m : (ℓ : Loc nD τ sig) → Buf (Elt Ideal) ℓ)

/-- The place in w of the result's column. -/
def col (i : S4160x128.Idx) : Fin 13440 := ⟨13312 + (i 1).val, by have h : (i 1).val < 128 := (i 1).isLt; omega⟩

/-- The product of x with the transpose of the part of w that the call takes. -/
def prod (x : Vec Ideal S4160x2048 .bf16) (w : Vec Ideal S13440x2048 .bf16) : Vec Ideal S4160x128 .f32 :=
  fun i => ∑ k : Fin 2048, x (ix2 (i 0) k) * w (ix2 (col i) k)

/-- The blocks that a point reads and writes. -/
theorem idx : ∀ t : Fin cfg0.N, win0_0.index t = ![t.val / 1, 0] ∧ win0_1.index t = ![104, 0]
    ∧ win0_3.index t = ![t.val / 1, 0] :=
  (by decide +kernel : ∀ t : Fin grid0.N, _)

/-- What one point writes: the product of its two blocks. -/
theorem part_apply (x : Vec Ideal S1040x2048 .bf16) (w : Vec Ideal S128x2048 .bf16) (j : S1040x128.Idx) :
    k0_pay1 (F := Ideal) x w j = ∑ k : Fin 2048, x (ix2 (j 0) k) * w (ix2 (j 1) k) := by
  pointwise [k0_pay1]

/-- The result array is the product. -/
theorem final (c : Dev nD) : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp [idx t]
  rw [after0_3]
  frame_out
  rw [part_apply, prod]
  blk_point [iblk, V, idx t, col]

end Cert.Kernel30Ideal.Product

namespace Cert.Reference30Ideal.Product

open Cert.Reference30Ideal Cert.Reference30Ideal.Gen Idealize.ShloMosaic Idealize.ShloMosaic.TcCoe Idealize.SL.Sem

/-- The reference's term is the product. -/
theorem ref_eq (x : Vec Ideal S4160x2048 .bf16) (w : Vec Ideal S13440x2048 .bf16) :
    Host.dotGeneral (F := Ideal) dot_S4160x2048_S2048x128_S4160x128_1_0_0_1_n_n none (extf .f32 x bitsLt_bf16_f32) (extf .f32 (transpose S2048x128 [1, 0] (extractStridedSlice S128x2048 ![13312, 0] w slices_S13440x2048_S128x2048_13312_0) transposes_S128x2048_S2048x128_1_0) bitsLt_bf16_f32)
      = Cert.Kernel30Ideal.Product.prod x w := by
  funext i
  pointwise [Cert.Kernel30Ideal.Product.prod, Cert.Kernel30Ideal.Product.col]

/-- The reference leaves its arguments as they were; it declares no semaphore, so every counter stays at zero. -/
theorem frame : Cert.quiescent_Reference30Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel30Ideal_Reference30Ideal := by
  intro m g m' g' _ hagree
  refine ⟨_, Cert.Kernel30Ideal.Value.run_blocks m g, ?_⟩
  refine (θ_run defs _ _).mono (fun r h c => ⟨(h c).1.trans ?_, (h c).2⟩) (Value.run (F := Ideal) m' g')
  obtain ⟨h0, h1, h2⟩ := hagree c
  rw [Cert.Kernel30Ideal.Product.final, ← h0, ← h1]
  exact ref_eq _ _

end Cert.Reference30Ideal.Product

end
-- ==== Proof.Norm.lean ====
/- The gradient of the root-mean-square norm: the call `norm_mix_bwd` computes what the reference states. Its grid has 20
   blocks of 208 rows; each writes its rows of the input's gradient, and adds its rows' part of the weight's. -/
module

public import proofs.«01_k».proof.Defs
public import proofs.«01_k».proof.Proof.Gen.Kernel31.Frame
public import proofs.«01_k».proof.Proof.Gen.Kernel31Ideal.Value
public import proofs.«01_k».proof.Proof.Gen.Reference31Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Norm

open Idealize.ShloMosaic

/-- A row of the arrays, 2048 numbers. -/
abbrev Row := Fin 2048 → EReal

/-- The mean of a row's squares, and the small constant. -/
def var (x : Row) : EReal := Ideal.div (∑ k, x k * x k) (Ideal.ofBits .f32 1157627904#32) + Ideal.ofBits .f32 897988541#32

/-- What the norm multiplies a row by, before the weight. -/
def fac (x : Row) : EReal := Ideal.rsqrt (var x)

/-- The gradient of a row's sum of squares. -/
def sq (w x dy : Row) : EReal :=
  ∑ _ : Fin 1, Ideal.div ((∑ k, x k * (dy k * w k)) * (Ideal.ofBits .f32 3204448256#32 * Ideal.div (fac x) (var x)))
    (Ideal.ofBits .f32 1157627904#32)

/-- The gradient of a row's input: through the factor held fixed, through the factor twice, and through the residual. -/
def input (w x dy r : Row) (k : Fin 2048) : EReal :=
  dy k * w k * fac x + x k * sq w x dy + sq w x dy * x k + r k

/-- A row's part of the weight's gradient. -/
def weight (x dy : Row) (k : Fin 2048) : EReal := x k * fac x * dy k

end Cert.Norm

namespace Cert.Kernel31Ideal.Norm

open Cert.Kernel31Ideal Cert.Kernel31Ideal.Gen Idealize.ShloMosaic Idealize.ShloMosaic.TcCoe Idealize.SL.Sem

variable (m : (ℓ : Loc nD τ sig) → Buf (Elt Ideal) ℓ)

/-- The input's gradient, row by row. -/
def inputs (x : Vec Ideal S4160x2048 .f32) (w : Vec Ideal S1x2048 .f32) (dy r : Vec Ideal S4160x2048 .f32) :
    Vec Ideal S4160x2048 .f32 :=
  fun i => Norm.input (fun k => w (ix2 0 k)) (fun k => x (ix2 (i 0) k)) (fun k => dy (ix2 (i 0) k)) (fun k => r (ix2 (i 0) k)) (i 1)

/-- The weight's gradient: the sum over the rows. -/
def weights (x dy : Vec Ideal S4160x2048 .f32) : Vec Ideal S1x2048 .f32 :=
  fun i => ∑ n : Fin 4160, Norm.weight (fun k => x (ix2 n k)) (fun k => dy (ix2 n k)) (i 1)

/-- A block's rows of the input's gradient. -/
theorem input_apply (w : Vec Ideal S1x2048 .f32) (x dy r : Vec Ideal S208x2048 .f32) (a : Fin 208) (b : Fin 2048) :
    k0_pay7 (F := Ideal) w x dy r (ix2 a b)
      = Norm.input (fun k => w (ix2 0 k)) (fun k => x (ix2 a k)) (fun k => dy (ix2 a k)) (fun k => r (ix2 a k)) b := by
  pointwise [k0_pay4, k0_pay5, k0_pay7, Norm.input, Norm.sq, Norm.fac, Norm.var]

/-- Rounding changes nothing over the reals. -/
theorem round_apply (v : Vec Ideal S208x2048 .f32) (j : S208x2048.Idx) : k0_pay1 (F := Ideal) v j = v j := by
  pointwise [k0_pay1]

/-- A block's part of the weight's gradient. -/
theorem weight_apply (x dy : Vec Ideal S208x2048 .f32) (j : S1x2048.Idx) :
    k0_pay6 (F := Ideal) x dy j = ∑ a : Fin 208, Norm.weight (fun k => x (ix2 a k)) (fun k => dy (ix2 a k)) (j 1) := by
  pointwise [k0_pay4, k0_pay5, k0_pay6, Norm.weight, Norm.fac, Norm.var]

/-- The weight's gradient is filled with zeros first. -/
theorem zero_apply (j : S1x2048.Idx) : k0_pay2 (F := Ideal) j = 0 := by
  pointwise [k0_pay2]

/-- What a point adds. -/
theorem acc_apply (v a : Vec Ideal S1x2048 .f32) (j : S1x2048.Idx) : k0_pay3 (F := Ideal) v a j = a j + v j := by
  pointwise [k0_pay3]

/-- The blocks that a point reads and writes. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![0, 0] :=
  (by decide +kernel : ∀ t : Fin grid0.N, _)

/-- A point's block of rows, read in the array. -/
theorem x_apply (c : Dev nD) (t : Fin cfg0.N) (a : Fin 208) (n : Fin 4160) (h : n.val = t.val * 208 + a.val) (k : Fin 2048) :
    iblk m c 0 t (ix2 a k) = m ((c : Thread nD τ).loc main_arg0) (ix2 n k) := by
  have hn : t.val * 208 + a.val < 4160 := h ▸ n.isLt
  obtain rfl : n = ⟨t.val * 208 + a.val, hn⟩ := Fin.ext h
  blk_ext [iblk, V, idx t]
/-- The weight, whole at every point. -/
theorem w_apply (c : Dev nD) (t : Fin cfg0.N) (k : Fin 2048) :
    iblk m c 1 t (ix2 0 k) = m ((c : Thread nD τ).loc main_arg1) (ix2 0 k) := by
  blk_ext [iblk, V, idx t]
/-- A point's block of the output's gradient. -/
theorem dy_apply (c : Dev nD) (t : Fin cfg0.N) (a : Fin 208) (n : Fin 4160) (h : n.val = t.val * 208 + a.val) (k : Fin 2048) :
    iblk m c 2 t (ix2 a k) = m ((c : Thread nD τ).loc main_arg2) (ix2 n k) := by
  have hn : t.val * 208 + a.val < 4160 := h ▸ n.isLt
  obtain rfl : n = ⟨t.val * 208 + a.val, hn⟩ := Fin.ext h
  blk_ext [iblk, V, idx t]
/-- A point's block of the residual's gradient. -/
theorem r_apply (c : Dev nD) (t : Fin cfg0.N) (a : Fin 208) (n : Fin 4160) (h : n.val = t.val * 208 + a.val) (k : Fin 2048) :
    iblk m c 3 t (ix2 a k) = m ((c : Thread nD τ).loc main_arg3) (ix2 n k) := by
  have hn : t.val * 208 + a.val < 4160 := h ▸ n.isLt
  obtain rfl : n = ⟨t.val * 208 + a.val, hn⟩ := Fin.ext h
  blk_ext [iblk, V, idx t]

/-- What a point writes of the input's gradient. -/
theorem inputs_block (c : Dev nD) (t : Fin cfg0.N) (a : Fin 208) (b : Fin 2048) (n : Fin 4160) (h : n.val = t.val * 208 + a.val) :
    k0_pay7 (F := Ideal) (iblk m c 1 t) (iblk m c 0 t) (iblk m c 2 t) (iblk m c 3 t) (ix2 a b)
      = inputs (m ((c : Thread nD τ).loc main_arg0)) (m ((c : Thread nD τ).loc main_arg1)) (m ((c : Thread nD τ).loc main_arg2))
          (m ((c : Thread nD τ).loc main_arg3)) (ix2 n b) := by
  rw [input_apply]
  simp only [x_apply m c t a n h, w_apply m c t, dy_apply m c t a n h, r_apply m c t a n h]
  rfl

/-- The blocks that the body leaves, at a first point as at the others. -/
theorem out4 (c : Dev nD) (t : Fin cfg0.N) :
    (outsAt0 m c t.val t.isLt).1 = k0_pay7 (F := Ideal) (iblk m c 1 t) (iblk m c 0 t) (iblk m c 2 t) (iblk m c 3 t) := by
  by_cases h : t.val % 20 = 0
  · rw [outsAt0_A m c t h]; frame_out
  · rw [outsAt0_B m c t h]; frame_out

theorem out5 (c : Dev nD) (t : Fin cfg0.N) :
    (outsAt0 m c t.val t.isLt).2.1
      = k0_pay1 (k0_pay7 (F := Ideal) (iblk m c 1 t) (iblk m c 0 t) (iblk m c 2 t) (iblk m c 3 t)) := by
  by_cases h : t.val % 20 = 0
  · rw [outsAt0_A m c t h]; frame_out
  · rw [outsAt0_B m c t h]; frame_out

/-- The input's gradient after the call. -/
theorem final4 (c : Dev nD) : (dats m 0 c).arrAt 4 cfg0.N = inputs (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  rw [after0_4, out4]
  obtain ⟨a, b, rfl⟩ : ∃ (a : Fin 208) (b : Fin 2048), y = ix2 a b := ⟨y 0, y 1, eq_ix2 y⟩
  have hn : t.val * 208 + a.val < 4160 := by have : t.val < 20 := t.isLt; omega
  refine (inputs_block m c t a b ⟨t.val * 208 + a.val, hn⟩ rfl).trans (congrArg _ ?_)
  blk_ext [idx t]

/-- Its rounded copy. -/
theorem final5 (c : Dev nD) : (dats m 0 c).arrAt 5 cfg0.N = inputs (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t hf y => ?_
  rw [after0_5, out5]
  obtain ⟨a, b, rfl⟩ : ∃ (a : Fin 208) (b : Fin 2048), y = ix2 a b := ⟨y 0, y 1, eq_ix2 y⟩
  have hn : t.val * 208 + a.val < 4160 := by have : t.val < 20 := t.isLt; omega
  refine (round_apply _ _).trans ((inputs_block m c t a b ⟨t.val * 208 + a.val, hn⟩ rfl).trans (congrArg _ ?_))
  blk_ext [idx t]

/-- The weight's gradient after the call: the 20 points' parts, added up. -/
theorem final6 (c : Dev nD) : (dats m 0 c).arrAt 6 cfg0.N = weights (m ((c : Thread nD τ).loc main_arg0)) (m ((c : Thread nD τ).loc main_arg2)) := by
  refine (dats m 0 c).arrAt_eq_of_covers 6 _ (by decide +kernel) fun t hf y => ?_
  blk_simp [idx t]
  have hl := (flush0_6 t).mp hf
  obtain ⟨a, b, rfl⟩ : ∃ (a : Fin 1) (b : Fin 2048), y = ix2 a b := ⟨y 0, y 1, eq_ix2 y⟩
  rw [after0_6, Pipeline.eq_sum_fin_of_reset_step_apply_of_flush (fun n h => (outsAt0 m c n h).2.2) 20 (fun _ => 0) _
    (fun t h j => by rw [outsAt0_A m c t h]; frame_out; rw [acc_apply, zero_apply, weight_apply])
    (fun t h j => by rw [outsAt0_B m c t h]; frame_out; rw [acc_apply, weight_apply])
    t hl _, zero_add]
  have hz : t.val / 20 = 0 := by have : t.val < 20 := t.isLt; omega
  have he : (win0_6.blk t).view.emb (ix2 a b) = ix2 a b := by blk_ext [idx t]
  refine Eq.trans ?_ (congrArg (weights _ _) he.symm)
  refine Fin.sum_mul_add_congr fun s a hk => ?_
  exact congrArg₂ (fun f g => Norm.weight f g b) (funext fun k => x_apply m c _ a _ (by dsimp only; omega) k)
    (funext fun k => dy_apply m c _ a _ (by dsimp only; omega) k)

end Cert.Kernel31Ideal.Norm
namespace Cert.Reference31Ideal.Norm

open Cert.Reference31Ideal Cert.Reference31Ideal.Gen Idealize.ShloMosaic Idealize.ShloMosaic.TcCoe Idealize.SL.Sem
variable (m : (ℓ : Loc nD τ sig) → Buf (Elt Ideal) ℓ)

/-- The mean of each row's squares, and the small constant. -/
abbrev vars (x : Vec Ideal S4160x2048 .f32) : Vec Ideal S4160x1 .f32 :=
  addf (F := Ideal) (φ := .f32) (Host.divf (broadcastInDim S4160x1 ![0] bcast_S4160_S4160x1_0 (Host.reduceAdd (mulf x x) (constant S_ .f32 0x00000000#32) reducesTo_S4160x2048_S4160_d1 h_S_)) (broadcastInDim S4160x1 ![] bcast_S_S4160x1 (constant S_ .f32 0x45000000#32))) (broadcastInDim S4160x1 ![] bcast_S_S4160x1 (constant S_ .f32 0x358637BD#32))

/-- The output's gradient times the weight. -/
abbrev weighted (w : Vec Ideal S1x2048 .f32) (dy : Vec Ideal S4160x2048 .f32) : Vec Ideal S4160x2048 .f32 :=
  mulf (F := Ideal) (φ := .f32) dy (broadcastInDim S4160x2048 ![0, 1] bcast_S1x2048_S4160x2048_0_1 (broadcastInDim S1x2048 ![1] bcast_S2048_S1x2048_1 (shapeCast _ w shapeCasts_S1x2048_S2048)))

/-- The gradient of each row's sum of squares, from the row's mean and the weighted gradient. -/
abbrev squares (v : Vec Ideal S4160x1 .f32) (x g : Vec Ideal S4160x2048 .f32) : Vec Ideal S4160 .f32 :=
  Host.reduceAdd (F := Ideal) (φ := .f32) (Host.divf (mulf (shapeCast _ (Host.reduceAdd (mulf x g) (constant S_ .f32 0x00000000#32) reducesTo_S4160x2048_S4160_d1 h_S_) shapeCasts_S4160_S4160x1) (mulf (broadcastInDim S4160x1 ![] bcast_S_S4160x1 (constant S_ .f32 0xBF000000#32)) (Host.divf (Host.rsqrt v) v))) (broadcastInDim S4160x1 ![] bcast_S_S4160x1 (constant S_ .f32 0x45000000#32))) (constant S_ .f32 0x00000000#32) reducesTo_S4160x1_S4160_d1 h_S_

/-- The input's gradient, from these. -/
abbrev dh (v : Vec Ideal S4160x1 .f32) (q : Vec Ideal S4160 .f32) (x g r : Vec Ideal S4160x2048 .f32) :
    Vec Ideal S4160x2048 .f32 :=
  addf (F := Ideal) (φ := .f32) (addf (addf r (mulf g (broadcastInDim S4160x2048 ![0, 1] bcast_S4160x1_S4160x2048_0_1 (Host.rsqrt v)))) (mulf x (broadcastInDim S4160x2048 ![0] bcast_S4160_S4160x2048_0 q))) (mulf (broadcastInDim S4160x2048 ![0] bcast_S4160_S4160x2048_0 q) x)

/-- The weight's gradient. -/
abbrev dw (v : Vec Ideal S4160x1 .f32) (x dy : Vec Ideal S4160x2048 .f32) : Vec Ideal S1x2048 .f32 :=
  broadcastInDim S1x2048 ![1] bcast_S2048_S1x2048_1 (Host.reduceAdd (F := Ideal) (shapeCast _ (Host.reduceAdd (F := Ideal) (mulf (φ := .f32) (mulf (φ := .f32) x (broadcastInDim S4160x2048 ![0, 1] bcast_S4160x1_S4160x2048_0_1 (Host.rsqrt v))) dy) (constant S_ .f32 0x00000000#32) reducesTo_S4160x2048_S2048_d0 h_S_) shapeCasts_S2048_S1x2048) (constant S_ .f32 0x00000000#32) reducesTo_S1x2048_S2048_d0 h_S_)

/-- These terms, number by number. -/
theorem vars_apply (x : Vec Ideal S4160x2048 .f32) (a : Fin 4160) (b : Fin 1) :
    vars x (ix2 a b) = Norm.var (fun k => x (ix2 a k)) := by
  pointwise [vars, Norm.var]

theorem weighted_apply (w : Vec Ideal S1x2048 .f32) (dy : Vec Ideal S4160x2048 .f32) (a : Fin 4160) (b : Fin 2048) :
    weighted w dy (ix2 a b) = dy (ix2 a b) * w (ix2 0 b) := by
  pointwise [weighted]

theorem squares_apply (v : Vec Ideal S4160x1 .f32) (x g : Vec Ideal S4160x2048 .f32) (i : S4160.Idx) :
    squares v x g i = ∑ b : Fin 1, Ideal.div ((∑ k : Fin 2048, x (ix2 (i 0) k) * g (ix2 (i 0) k))
      * (Ideal.ofBits .f32 3204448256#32 * Ideal.div (Ideal.rsqrt (v (ix2 (i 0) b))) (v (ix2 (i 0) b))))
        (Ideal.ofBits .f32 1157627904#32) := by
  pointwise [squares]

theorem dh_apply (v : Vec Ideal S4160x1 .f32) (q : Vec Ideal S4160 .f32) (x g r : Vec Ideal S4160x2048 .f32)
    (a : Fin 4160) (b : Fin 2048) :
    dh v q x g r (ix2 a b) = r (ix2 a b) + g (ix2 a b) * Ideal.rsqrt (v (ix2 a 0)) + x (ix2 a b) * q (ix1 a)
      + q (ix1 a) * x (ix2 a b) := by
  pointwise [dh]

theorem dw_apply (v : Vec Ideal S4160x1 .f32) (x dy : Vec Ideal S4160x2048 .f32) (a : Fin 1) (b : Fin 2048) :
    dw v x dy (ix2 a b) = ∑ n : Fin 4160, x (ix2 n b) * Ideal.rsqrt (v (ix2 n 0)) * dy (ix2 n b) := by
  pointwise [dw]
  exact Fin.sum_univ_one _

/-- The terms together: the input's gradient. -/
theorem inputs_eq (x : Vec Ideal S4160x2048 .f32) (w : Vec Ideal S1x2048 .f32) (dy r : Vec Ideal S4160x2048 .f32) :
    dh (vars x) (squares (vars x) x (weighted w dy)) x (weighted w dy) r = Cert.Kernel31Ideal.Norm.inputs x w dy r := by
  funext i
  obtain ⟨a, b, rfl⟩ : ∃ (a : Fin 4160) (b : Fin 2048), i = ix2 a b := ⟨i 0, i 1, eq_ix2 i⟩
  rw [dh_apply, squares_apply, vars_apply, weighted_apply]
  have hs : (∑ b' : Fin 1, Ideal.div ((∑ k : Fin 2048, x (ix2 ((ix1 a : S4160.Idx) 0) k) * weighted w dy (ix2 ((ix1 a : S4160.Idx) 0) k))
      * (Ideal.ofBits .f32 3204448256#32 * Ideal.div (Ideal.rsqrt (vars x (ix2 ((ix1 a : S4160.Idx) 0) b'))) (vars x (ix2 ((ix1 a : S4160.Idx) 0) b'))))
        (Ideal.ofBits .f32 1157627904#32))
      = Norm.sq (fun k => w (ix2 0 k)) (fun k => x (ix2 a k)) (fun k => dy (ix2 a k)) := by
    refine Finset.sum_congr rfl fun b' _ => ?_
    have hv := vars_apply x a b'
    have hw := fun k => weighted_apply w dy a k
    show Ideal.div ((∑ k : Fin 2048, x (ix2 a k) * weighted w dy (ix2 a k)) * (_ * Ideal.div (Ideal.rsqrt (vars x (ix2 a b'))) (vars x (ix2 a b')))) _ = _
    rw [hv, Finset.sum_congr rfl fun k _ => congrArg (x (ix2 a k) * ·) (hw k)]
    rfl
  rw [hs]
  show _ = Norm.input _ _ _ _ _
  unfold Norm.input Norm.fac
  rw [add_assoc, add_assoc, add_comm, ← add_assoc]
  rfl

/-- The terms together: the weight's gradient. -/
theorem weights_eq (x dy : Vec Ideal S4160x2048 .f32) : dw (vars x) x dy = Cert.Kernel31Ideal.Norm.weights x dy := by
  funext i
  obtain ⟨a, b, rfl⟩ : ∃ (a : Fin 1) (b : Fin 2048), i = ix2 a b := ⟨i 0, i 1, eq_ix2 i⟩
  rw [dw_apply]
  refine Finset.sum_congr rfl fun n _ => ?_
  rw [vars_apply]
  rfl

/-- What the reference returns: the input's gradient, the same rounded, and the weight's gradient. -/
theorem v37 (c : Dev nD) : Value.res_main_v37 m c = Cert.Kernel31Ideal.Norm.inputs (m ((c : Thread nD τ).loc main_arg0)) (m ((c : Thread nD τ).loc main_arg1)) (m ((c : Thread nD τ).loc main_arg2)) (m ((c : Thread nD τ).loc main_arg3)) := by
  rw [← inputs_eq]
  unfold Value.res_main_v37
  rfl

theorem v39 (c : Dev nD) : Value.res_main_v39 m c = Cert.Kernel31Ideal.Norm.inputs (m ((c : Thread nD τ).loc main_arg0)) (m ((c : Thread nD τ).loc main_arg1)) (m ((c : Thread nD τ).loc main_arg2)) (m ((c : Thread nD τ).loc main_arg3)) := by
  rw [← v37]
  unfold Value.res_main_v37 Value.res_main_v39
  rfl

/-- The reference leaves its arguments as they were; it declares no semaphore, so every counter stays at zero. -/
theorem frame : Cert.quiescent_Reference31Ideal := fun m g _ =>
  (θ_run defs _ _).mono (fun r h => ⟨fun c => (h c).2.2.2, sem_eq_zero_of_no_sems (by decide) r.2⟩) (Value.run (F := Ideal) m g)

/-- Both programs end with the same arrays. -/
theorem algebraic : Cert.algebraic_Kernel31Ideal_Reference31Ideal := by
  intro m g m' g' _ hagree
  refine ⟨_, _, _, Cert.Kernel31Ideal.Value.run_blocks m g, ?_⟩
  refine (θ_run defs _ _).mono (fun r h c => ⟨(h c).1.trans ?_, (h c).2.1.trans ?_, (h c).2.2.1.trans ?_, (h c).2.2.2⟩)
    (Value.run (F := Ideal) m' g')
  all_goals obtain ⟨h0, h1, h2, h3⟩ := hagree c
  · rw [Cert.Kernel31Ideal.Norm.final4, ← h0, ← h1, ← h2, ← h3]
    exact v37 m' c
  · rw [Cert.Kernel31Ideal.Norm.final5, ← h0, ← h1, ← h2, ← h3]
    exact v39 m' c
  · rw [Cert.Kernel31Ideal.Norm.final6, ← h0, ← h2]
    exact weights_eq _ _

end Cert.Reference31Ideal.Norm

end
-- ==== Proof.Adam.lean ====
/- AdamW on one number: the gradient of the whole batch is the sum of the eight devices' gradients, and from it come the
   two moments and the step. -/
module

public import Idealize.ShloMosaic.Lib.Pipeline.ValueKit

@[expose] public section

noncomputable section

namespace Cert.Adam

open Idealize.ShloMosaic

/-- The gradient of the whole batch. -/
def grad (s : Fin 8 → EReal) : EReal := ∑ k, s k

/-- The new first moment. -/
def mean (g m : EReal) : EReal := Ideal.ofBits .f32 0x3F666666#32 * m + Ideal.ofBits .f32 0x3DCCCCCD#32 * g

/-- The new second moment. -/
def square (g v : EReal) : EReal := Ideal.ofBits .f32 0x3F7FBE77#32 * v + Ideal.ofBits .f32 0x3A83126F#32 * (g * g)

/-- The step: the corrected first moment over the root of the corrected second, and the weight's decay. -/
def delta (g w m v : EReal) : EReal :=
  Ideal.ofBits .f32 0xBA83126F#32 * (Ideal.div (Ideal.div (mean g m) (Ideal.ofBits .f32 0x3F26BD02#32))
      (Ideal.sqrt (Ideal.div (square g v) (Ideal.ofBits .f32 0x3C231ACC#32)) + Ideal.ofBits .f32 0x322BCC77#32)
    + Ideal.ofBits .f32 0x3C23D70A#32 * w)

/-- Adding the eight in turn is their sum. -/
theorem grad_eq (s : Fin 8 → EReal) : s 0 + s 1 + s 2 + s 3 + s 4 + s 5 + s 6 + s 7 = grad s :=
  (Fin.sum_univ_eight s).symm

end Cert.Adam

end
-- ==== Proof.Adam32.lean ====
/- AdamW on one device's part of ffn_down: the call computes what the reference states, block by block. -/
module

public import proofs.«01_k».proof.Defs
public import proofs.«01_k».proof.Proof.Adam
public import proofs.«01_k».proof.Proof.Gen.Kernel32.Frame
public import proofs.«01_k».proof.Proof.Gen.Kernel32Ideal.Value
public import proofs.«01_k».proof.Proof.Gen.Reference32Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel32Ideal.Update

open Cert.Kernel32Ideal Cert.Kernel32Ideal.Gen Idealize.ShloMosaic Idealize.ShloMosaic.TcCoe Idealize.SL.Sem

variable (m : (ℓ : Loc nD τ sig) → Buf (Elt Ideal) ℓ)

/-- The gradients of the whole batch, from the devices' gradients. -/
def grads (s : Vec Ideal S8x704x2048 .bf16) : Vec Ideal S704x2048 .f32 := fun i => Adam.grad fun k => s (ix3 k (i 0) (i 1))

/-- The new first moments. -/
def means (s : Vec Ideal S8x704x2048 .bf16) (x : Vec Ideal S704x2048 .f32) : Vec Ideal S704x2048 .f32 := fun i => Adam.mean (grads s i) (x i)

/-- The new second moments. -/
def squares (s : Vec Ideal S8x704x2048 .bf16) (y : Vec Ideal S704x2048 .f32) : Vec Ideal S704x2048 .f32 := fun i => Adam.square (grads s i) (y i)

/-- The steps. -/
def deltas (s : Vec Ideal S8x704x2048 .bf16) (w x y : Vec Ideal S704x2048 .f32) : Vec Ideal S704x2048 .f32 :=
  fun i => Adam.delta (grads s i) (w i) (x i) (y i)

/-- The blocks that a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- What the body writes, number by number. -/
theorem grad_apply (s : Vec Ideal S8x176x2048 .bf16) (x y z : Vec Ideal S176x2048 .f32) (a : Fin 176) (b : Fin 2048) :
    k0_pay5 (F := Ideal) s x y z (ix2 a b) = Adam.grad fun k => s (ix3 k a b) := by
  rw [← Adam.grad_eq]
  pointwise [k0_pay5, k0_pay4]

theorem mean_apply (g x : Vec Ideal S176x2048 .f32) (j : S176x2048.Idx) :
    k0_pay1 (F := Ideal) g x (Scalar.ofBits .f32 0x3F666666#32) j = Adam.mean (g j) (x j) := by
  pointwise [k0_pay1, Adam.mean]

theorem square_apply (g y : Vec Ideal S176x2048 .f32) (j : S176x2048.Idx) : k0_pay2 (F := Ideal) g y j = Adam.square (g j) (y j) := by
  pointwise [k0_pay2, Adam.square]

theorem delta_apply (g x y w : Vec Ideal S176x2048 .f32) (j : S176x2048.Idx) :
    k0_pay3 (F := Ideal) g x (Scalar.ofBits .f32 0x3F666666#32) y w j = Adam.delta (g j) (w j) (x j) (y j) := by
  pointwise [k0_pay3, k0_pay1, k0_pay2, Adam.delta, Adam.mean, Adam.square]

/-- A point's blocks, read in the arrays. -/
theorem grads_block (c : Dev nD) (t : Fin cfg0.N) (a : Fin 176) (b : Fin 2048) (h : t.val * 176 + a.val < 704) :
    k0_pay5 (F := Ideal) (iblk m c 0 t) (iblk m c 1 t) (iblk m c 2 t) (iblk m c 3 t) (ix2 a b)
      = grads (m ((c : Thread nD τ).loc main_arg0)) (ix2 ⟨t.val * 176 + a.val, h⟩ b) := by
  rw [grad_apply]
  refine congrArg Adam.grad (funext fun k => ?_)
  blk_ext [iblk, V, idx t]

theorem block1 (c : Dev nD) (t : Fin cfg0.N) (a : Fin 176) (b : Fin 2048) (h : t.val * 176 + a.val < 704) :
    iblk m c 1 t (ix2 a b) = m ((c : Thread nD τ).loc main_arg1) (ix2 ⟨t.val * 176 + a.val, h⟩ b) := by
  blk_ext [iblk, V, idx t]

theorem block2 (c : Dev nD) (t : Fin cfg0.N) (a : Fin 176) (b : Fin 2048) (h : t.val * 176 + a.val < 704) :
    iblk m c 2 t (ix2 a b) = m ((c : Thread nD τ).loc main_arg2) (ix2 ⟨t.val * 176 + a.val, h⟩ b) := by
  blk_ext [iblk, V, idx t]

theorem block3 (c : Dev nD) (t : Fin cfg0.N) (a : Fin 176) (b : Fin 2048) (h : t.val * 176 + a.val < 704) :
    iblk m c 3 t (ix2 a b) = m ((c : Thread nD τ).loc main_arg3) (ix2 ⟨t.val * 176 + a.val, h⟩ b) := by
  blk_ext [iblk, V, idx t]

/-- The four arrays after the call. -/
theorem final4 (c : Dev nD) : (dats m 0 c).arrAt 4 cfg0.N = grads (m ((c : Thread nD τ).loc main_arg0)) := by
  refine (dats m 0 c).arrAt_eq_of_covers 4 _ (by decide +kernel) fun t hf y => ?_
  blk_simp [idx t]
  obtain ⟨a, b, rfl⟩ : ∃ (a : Fin 176) (b : Fin 2048), y = ix2 a b := ⟨y 0, y 1, eq_ix2 y⟩
  have hn : t.val * 176 + a.val < 704 := by have : t.val < 4 := t.isLt; omega
  have he : (win0_4.blk t).view.emb (ix2 a b) = ix2 ⟨t.val * 176 + a.val, hn⟩ b := by blk_ext [idx t]
  rw [after0_4]
  frame_out
  refine Eq.trans ?_ (congrArg (grads _) he.symm)
  exact grads_block m c t a b hn

theorem final5 (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  obtain ⟨a, b, rfl⟩ : ∃ (a : Fin 176) (b : Fin 2048), y = ix2 a b := ⟨y 0, y 1, eq_ix2 y⟩
  have hn : t.val * 176 + a.val < 704 := by have : t.val < 4 := t.isLt; omega
  have he : (win0_5.blk t).view.emb (ix2 a b) = ix2 ⟨t.val * 176 + a.val, hn⟩ b := by blk_ext [idx t]
  rw [after0_5]
  frame_out
  refine Eq.trans ?_ (congrArg (deltas _ _ _ _) he.symm)
  rw [delta_apply, grads_block m c t a b hn, block1 m c t a b hn, block2 m c t a b hn, block3 m c t a b hn]
  rfl

theorem final6 (c : Dev nD) : (dats m 0 c).arrAt 6 cfg0.N = means (m ((c : Thread nD τ).loc main_arg0)) (m ((c : Thread nD τ).loc main_arg2)) := by
  refine (dats m 0 c).arrAt_eq_of_covers 6 _ (by decide +kernel) fun t hf y => ?_
  blk_simp [idx t]
  obtain ⟨a, b, rfl⟩ : ∃ (a : Fin 176) (b : Fin 2048), y = ix2 a b := ⟨y 0, y 1, eq_ix2 y⟩
  have hn : t.val * 176 + a.val < 704 := by have : t.val < 4 := t.isLt; omega
  have he : (win0_6.blk t).view.emb (ix2 a b) = ix2 ⟨t.val * 176 + a.val, hn⟩ b := by blk_ext [idx t]
  rw [after0_6]
  frame_out
  refine Eq.trans ?_ (congrArg (means _ _) he.symm)
  rw [mean_apply, grads_block m c t a b hn, block2 m c t a b hn]
  rfl

theorem final7 (c : Dev nD) : (dats m 0 c).arrAt 7 cfg0.N = squares (m ((c : Thread nD τ).loc main_arg0)) (m ((c : Thread nD τ).loc main_arg3)) := by
  refine (dats m 0 c).arrAt_eq_of_covers 7 _ (by decide +kernel) fun t hf y => ?_
  blk_simp [idx t]
  obtain ⟨a, b, rfl⟩ : ∃ (a : Fin 176) (b : Fin 2048), y = ix2 a b := ⟨y 0, y 1, eq_ix2 y⟩
  have hn : t.val * 176 + a.val < 704 := by have : t.val < 4 := t.isLt; omega
  have he : (win0_7.blk t).view.emb (ix2 a b) = ix2 ⟨t.val * 176 + a.val, hn⟩ b := by blk_ext [idx t]
  rw [after0_7]
  frame_out
  refine Eq.trans ?_ (congrArg (squares _ _) he.symm)
  rw [square_apply, grads_block m c t a b hn, block3 m c t a b hn]
  rfl

end Cert.Kernel32Ideal.Update

namespace Cert.Reference32Ideal.Update

open Cert.Reference32Ideal Cert.Reference32Ideal.Gen Idealize.ShloMosaic Idealize.ShloMosaic.TcCoe Idealize.SL.Sem

/-- The reference's terms, number by number. -/
theorem grads_eq (s : Vec Ideal S8x704x2048 .bf16) :
    Host.reduceAdd (F := Ideal) (φ := .f32) (extf .f32 s bitsLt_bf16_f32) (constant S_ .f32 0x00000000#32) reducesTo_S8x704x2048_S704x2048_d0 h_S_
      = Cert.Kernel32Ideal.Update.grads s := by
  funext i
  pointwise [Cert.Kernel32Ideal.Update.grads, Adam.grad]

theorem deltas_eq (g w x y : Vec Ideal S704x2048 .f32) :
    mulf (F := Ideal) (φ := .f32) (broadcastInDim S704x2048 ![] bcast_S_S704x2048 (constant S_ .f32 0xBA83126F#32)) (addf (Host.divf (Host.divf (addf (mulf (broadcastInDim S704x2048 ![] bcast_S_S704x2048 (constant S_ .f32 0x3F666666#32)) x) (mulf (broadcastInDim S704x2048 ![] bcast_S_S704x2048 (constant S_ .f32 0x3DCCCCCD#32)) g)) (broadcastInDim S704x2048 ![] bcast_S_S704x2048 (constant S_ .f32 0x3F26BD02#32))) (addf (Host.sqrt (Host.divf (addf (mulf (broadcastInDim S704x2048 ![] bcast_S_S704x2048 (constant S_ .f32 0x3F7FBE77#32)) y) (mulf (broadcastInDim S704x2048 ![] bcast_S_S704x2048 (constant S_ .f32 0x3A83126F#32)) (mulf g g))) (broadcastInDim S704x2048 ![] bcast_S_S704x2048 (constant S_ .f32 0x3C231ACC#32)))) (broadcastInDim S704x2048 ![] bcast_S_S704x2048 (constant S_ .f32 0x322BCC77#32)))) (mulf (broadcastInDim S704x2048 ![] bcast_S_S704x2048 (constant S_ .f32 0x3C23D70A#32)) w))
      = fun i => Adam.delta (g i) (w i) (x i) (y i) := by
  funext i
  pointwise [Adam.delta, Adam.mean, Adam.square]

theorem means_eq (g x : Vec Ideal S704x2048 .f32) :
    addf (F := Ideal) (φ := .f32) (mulf (broadcastInDim S704x2048 ![] bcast_S_S704x2048 (constant S_ .f32 0x3F666666#32)) x) (mulf (broadcastInDim S704x2048 ![] bcast_S_S704x2048 (constant S_ .f32 0x3DCCCCCD#32)) g)
      = fun i => Adam.mean (g i) (x i) := by
  funext i
  pointwise [Adam.mean]

theorem squares_eq (g y : Vec Ideal S704x2048 .f32) :
    addf (F := Ideal) (φ := .f32) (mulf (broadcastInDim S704x2048 ![] bcast_S_S704x2048 (constant S_ .f32 0x3F7FBE77#32)) y) (mulf (broadcastInDim S704x2048 ![] bcast_S_S704x2048 (constant S_ .f32 0x3A83126F#32)) (mulf g g))
      = fun i => Adam.square (g i) (y i) := by
  funext i
  pointwise [Adam.square]

/-- The reference leaves its arguments as they were; it declares no semaphore, so every counter stays at zero. -/
theorem frame : Cert.quiescent_Reference32Ideal := fun m g _ =>
  (θ_run defs _ _).mono (fun r h => ⟨fun c => (h c).2.2.2.2, sem_eq_zero_of_no_sems (by decide) r.2⟩) (Value.run (F := Ideal) m g)

/-- Both programs end with the same arrays. -/
theorem algebraic : Cert.algebraic_Kernel32Ideal_Reference32Ideal := by
  intro m g m' g' _ hagree
  refine ⟨_, _, _, _, Cert.Kernel32Ideal.Value.run_blocks m g, ?_⟩
  refine (θ_run defs _ _).mono (fun r h c => ⟨(h c).1.trans ?_, (h c).2.1.trans ?_, (h c).2.2.1.trans ?_, (h c).2.2.2.1.trans ?_,
    (h c).2.2.2.2⟩) (Value.run (F := Ideal) m' g')
  all_goals obtain ⟨h0, h1, h2, h3⟩ := hagree c
  · rw [Cert.Kernel32Ideal.Update.final4, ← h0]
    exact grads_eq _
  · rw [Cert.Kernel32Ideal.Update.final5, ← h0, ← h1, ← h2, ← h3]
    refine (deltas_eq _ _ _ _).trans ?_
    rw [grads_eq]
    rfl
  · rw [Cert.Kernel32Ideal.Update.final6, ← h0, ← h2]
    refine (means_eq _ _).trans ?_
    rw [grads_eq]
    rfl
  · rw [Cert.Kernel32Ideal.Update.final7, ← h0, ← h3]
    refine (squares_eq _ _).trans ?_
    rw [grads_eq]
    rfl

end Cert.Reference32Ideal.Update

end
-- ==== Proof.Adam33.lean ====
/- AdamW on one device's part of ffn_up: the call computes what the reference states, block by block. -/
module

public import proofs.«01_k».proof.Defs
public import proofs.«01_k».proof.Proof.Adam
public import proofs.«01_k».proof.Proof.Gen.Kernel33.Frame
public import proofs.«01_k».proof.Proof.Gen.Kernel33Ideal.Value
public import proofs.«01_k».proof.Proof.Gen.Reference33Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel33Ideal.Update

open Cert.Kernel33Ideal Cert.Kernel33Ideal.Gen Idealize.ShloMosaic Idealize.ShloMosaic.TcCoe Idealize.SL.Sem

variable (m : (ℓ : Loc nD τ sig) → Buf (Elt Ideal) ℓ)

/-- The gradients of the whole batch, from the devices' gradients. -/
def grads (s : Vec Ideal S8x2048x1408 .bf16) : Vec Ideal S2048x1408 .f32 := fun i => Adam.grad fun k => s (ix3 k (i 0) (i 1))

/-- The new first moments. -/
def means (s : Vec Ideal S8x2048x1408 .bf16) (x : Vec Ideal S2048x1408 .f32) : Vec Ideal S2048x1408 .f32 := fun i => Adam.mean (grads s i) (x i)

/-- The new second moments. -/
def squares (s : Vec Ideal S8x2048x1408 .bf16) (y : Vec Ideal S2048x1408 .f32) : Vec Ideal S2048x1408 .f32 := fun i => Adam.square (grads s i) (y i)

/-- The steps. -/
def deltas (s : Vec Ideal S8x2048x1408 .bf16) (w x y : Vec Ideal S2048x1408 .f32) : Vec Ideal S2048x1408 .f32 :=
  fun i => Adam.delta (grads s i) (w i) (x i) (y i)

/-- The blocks that a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- What the body writes, number by number. -/
theorem grad_apply (s : Vec Ideal S8x256x1408 .bf16) (x y z : Vec Ideal S256x1408 .f32) (a : Fin 256) (b : Fin 1408) :
    k0_pay5 (F := Ideal) s x y z (ix2 a b) = Adam.grad fun k => s (ix3 k a b) := by
  rw [← Adam.grad_eq]
  pointwise [k0_pay5, k0_pay4]

theorem mean_apply (g x : Vec Ideal S256x1408 .f32) (j : S256x1408.Idx) :
    k0_pay1 (F := Ideal) g x (Scalar.ofBits .f32 0x3F666666#32) j = Adam.mean (g j) (x j) := by
  pointwise [k0_pay1, Adam.mean]

theorem square_apply (g y : Vec Ideal S256x1408 .f32) (j : S256x1408.Idx) : k0_pay2 (F := Ideal) g y j = Adam.square (g j) (y j) := by
  pointwise [k0_pay2, Adam.square]

theorem delta_apply (g x y w : Vec Ideal S256x1408 .f32) (j : S256x1408.Idx) :
    k0_pay3 (F := Ideal) g x (Scalar.ofBits .f32 0x3F666666#32) y w j = Adam.delta (g j) (w j) (x j) (y j) := by
  pointwise [k0_pay3, k0_pay1, k0_pay2, Adam.delta, Adam.mean, Adam.square]

/-- A point's blocks, read in the arrays. -/
theorem grads_block (c : Dev nD) (t : Fin cfg0.N) (a : Fin 256) (b : Fin 1408) (h : t.val * 256 + a.val < 2048) :
    k0_pay5 (F := Ideal) (iblk m c 0 t) (iblk m c 1 t) (iblk m c 2 t) (iblk m c 3 t) (ix2 a b)
      = grads (m ((c : Thread nD τ).loc main_arg0)) (ix2 ⟨t.val * 256 + a.val, h⟩ b) := by
  rw [grad_apply]
  refine congrArg Adam.grad (funext fun k => ?_)
  blk_ext [iblk, V, idx t]

theorem block1 (c : Dev nD) (t : Fin cfg0.N) (a : Fin 256) (b : Fin 1408) (h : t.val * 256 + a.val < 2048) :
    iblk m c 1 t (ix2 a b) = m ((c : Thread nD τ).loc main_arg1) (ix2 ⟨t.val * 256 + a.val, h⟩ b) := by
  blk_ext [iblk, V, idx t]

theorem block2 (c : Dev nD) (t : Fin cfg0.N) (a : Fin 256) (b : Fin 1408) (h : t.val * 256 + a.val < 2048) :
    iblk m c 2 t (ix2 a b) = m ((c : Thread nD τ).loc main_arg2) (ix2 ⟨t.val * 256 + a.val, h⟩ b) := by
  blk_ext [iblk, V, idx t]

theorem block3 (c : Dev nD) (t : Fin cfg0.N) (a : Fin 256) (b : Fin 1408) (h : t.val * 256 + a.val < 2048) :
    iblk m c 3 t (ix2 a b) = m ((c : Thread nD τ).loc main_arg3) (ix2 ⟨t.val * 256 + a.val, h⟩ b) := by
  blk_ext [iblk, V, idx t]

/-- The four arrays after the call. -/
theorem final4 (c : Dev nD) : (dats m 0 c).arrAt 4 cfg0.N = grads (m ((c : Thread nD τ).loc main_arg0)) := by
  refine (dats m 0 c).arrAt_eq_of_covers 4 _ (by decide +kernel) fun t hf y => ?_
  blk_simp [idx t]
  obtain ⟨a, b, rfl⟩ : ∃ (a : Fin 256) (b : Fin 1408), y = ix2 a b := ⟨y 0, y 1, eq_ix2 y⟩
  have hn : t.val * 256 + a.val < 2048 := by have : t.val < 8 := t.isLt; omega
  have he : (win0_4.blk t).view.emb (ix2 a b) = ix2 ⟨t.val * 256 + a.val, hn⟩ b := by blk_ext [idx t]
  rw [after0_4]
  frame_out
  refine Eq.trans ?_ (congrArg (grads _) he.symm)
  exact grads_block m c t a b hn

theorem final5 (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  obtain ⟨a, b, rfl⟩ : ∃ (a : Fin 256) (b : Fin 1408), y = ix2 a b := ⟨y 0, y 1, eq_ix2 y⟩
  have hn : t.val * 256 + a.val < 2048 := by have : t.val < 8 := t.isLt; omega
  have he : (win0_5.blk t).view.emb (ix2 a b) = ix2 ⟨t.val * 256 + a.val, hn⟩ b := by blk_ext [idx t]
  rw [after0_5]
  frame_out
  refine Eq.trans ?_ (congrArg (deltas _ _ _ _) he.symm)
  rw [delta_apply, grads_block m c t a b hn, block1 m c t a b hn, block2 m c t a b hn, block3 m c t a b hn]
  rfl

theorem final6 (c : Dev nD) : (dats m 0 c).arrAt 6 cfg0.N = means (m ((c : Thread nD τ).loc main_arg0)) (m ((c : Thread nD τ).loc main_arg2)) := by
  refine (dats m 0 c).arrAt_eq_of_covers 6 _ (by decide +kernel) fun t hf y => ?_
  blk_simp [idx t]
  obtain ⟨a, b, rfl⟩ : ∃ (a : Fin 256) (b : Fin 1408), y = ix2 a b := ⟨y 0, y 1, eq_ix2 y⟩
  have hn : t.val * 256 + a.val < 2048 := by have : t.val < 8 := t.isLt; omega
  have he : (win0_6.blk t).view.emb (ix2 a b) = ix2 ⟨t.val * 256 + a.val, hn⟩ b := by blk_ext [idx t]
  rw [after0_6]
  frame_out
  refine Eq.trans ?_ (congrArg (means _ _) he.symm)
  rw [mean_apply, grads_block m c t a b hn, block2 m c t a b hn]
  rfl

theorem final7 (c : Dev nD) : (dats m 0 c).arrAt 7 cfg0.N = squares (m ((c : Thread nD τ).loc main_arg0)) (m ((c : Thread nD τ).loc main_arg3)) := by
  refine (dats m 0 c).arrAt_eq_of_covers 7 _ (by decide +kernel) fun t hf y => ?_
  blk_simp [idx t]
  obtain ⟨a, b, rfl⟩ : ∃ (a : Fin 256) (b : Fin 1408), y = ix2 a b := ⟨y 0, y 1, eq_ix2 y⟩
  have hn : t.val * 256 + a.val < 2048 := by have : t.val < 8 := t.isLt; omega
  have he : (win0_7.blk t).view.emb (ix2 a b) = ix2 ⟨t.val * 256 + a.val, hn⟩ b := by blk_ext [idx t]
  rw [after0_7]
  frame_out
  refine Eq.trans ?_ (congrArg (squares _ _) he.symm)
  rw [square_apply, grads_block m c t a b hn, block3 m c t a b hn]
  rfl

end Cert.Kernel33Ideal.Update

namespace Cert.Reference33Ideal.Update

open Cert.Reference33Ideal Cert.Reference33Ideal.Gen Idealize.ShloMosaic Idealize.ShloMosaic.TcCoe Idealize.SL.Sem

/-- The reference's terms, number by number. -/
theorem grads_eq (s : Vec Ideal S8x2048x1408 .bf16) :
    Host.reduceAdd (F := Ideal) (φ := .f32) (extf .f32 s bitsLt_bf16_f32) (constant S_ .f32 0x00000000#32) reducesTo_S8x2048x1408_S2048x1408_d0 h_S_
      = Cert.Kernel33Ideal.Update.grads s := by
  funext i
  pointwise [Cert.Kernel33Ideal.Update.grads, Adam.grad]

theorem deltas_eq (g w x y : Vec Ideal S2048x1408 .f32) :
    mulf (F := Ideal) (φ := .f32) (broadcastInDim S2048x1408 ![] bcast_S_S2048x1408 (constant S_ .f32 0xBA83126F#32)) (addf (Host.divf (Host.divf (addf (mulf (broadcastInDim S2048x1408 ![] bcast_S_S2048x1408 (constant S_ .f32 0x3F666666#32)) x) (mulf (broadcastInDim S2048x1408 ![] bcast_S_S2048x1408 (constant S_ .f32 0x3DCCCCCD#32)) g)) (broadcastInDim S2048x1408 ![] bcast_S_S2048x1408 (constant S_ .f32 0x3F26BD02#32))) (addf (Host.sqrt (Host.divf (addf (mulf (broadcastInDim S2048x1408 ![] bcast_S_S2048x1408 (constant S_ .f32 0x3F7FBE77#32)) y) (mulf (broadcastInDim S2048x1408 ![] bcast_S_S2048x1408 (constant S_ .f32 0x3A83126F#32)) (mulf g g))) (broadcastInDim S2048x1408 ![] bcast_S_S2048x1408 (constant S_ .f32 0x3C231ACC#32)))) (broadcastInDim S2048x1408 ![] bcast_S_S2048x1408 (constant S_ .f32 0x322BCC77#32)))) (mulf (broadcastInDim S2048x1408 ![] bcast_S_S2048x1408 (constant S_ .f32 0x3C23D70A#32)) w))
      = fun i => Adam.delta (g i) (w i) (x i) (y i) := by
  funext i
  pointwise [Adam.delta, Adam.mean, Adam.square]

theorem means_eq (g x : Vec Ideal S2048x1408 .f32) :
    addf (F := Ideal) (φ := .f32) (mulf (broadcastInDim S2048x1408 ![] bcast_S_S2048x1408 (constant S_ .f32 0x3F666666#32)) x) (mulf (broadcastInDim S2048x1408 ![] bcast_S_S2048x1408 (constant S_ .f32 0x3DCCCCCD#32)) g)
      = fun i => Adam.mean (g i) (x i) := by
  funext i
  pointwise [Adam.mean]

theorem squares_eq (g y : Vec Ideal S2048x1408 .f32) :
    addf (F := Ideal) (φ := .f32) (mulf (broadcastInDim S2048x1408 ![] bcast_S_S2048x1408 (constant S_ .f32 0x3F7FBE77#32)) y) (mulf (broadcastInDim S2048x1408 ![] bcast_S_S2048x1408 (constant S_ .f32 0x3A83126F#32)) (mulf g g))
      = fun i => Adam.square (g i) (y i) := by
  funext i
  pointwise [Adam.square]

/-- The reference leaves its arguments as they were; it declares no semaphore, so every counter stays at zero. -/
theorem frame : Cert.quiescent_Reference33Ideal := fun m g _ =>
  (θ_run defs _ _).mono (fun r h => ⟨fun c => (h c).2.2.2.2, sem_eq_zero_of_no_sems (by decide) r.2⟩) (Value.run (F := Ideal) m g)

/-- Both programs end with the same arrays. -/
theorem algebraic : Cert.algebraic_Kernel33Ideal_Reference33Ideal := by
  intro m g m' g' _ hagree
  refine ⟨_, _, _, _, Cert.Kernel33Ideal.Value.run_blocks m g, ?_⟩
  refine (θ_run defs _ _).mono (fun r h c => ⟨(h c).1.trans ?_, (h c).2.1.trans ?_, (h c).2.2.1.trans ?_, (h c).2.2.2.1.trans ?_,
    (h c).2.2.2.2⟩) (Value.run (F := Ideal) m' g')
  all_goals obtain ⟨h0, h1, h2, h3⟩ := hagree c
  · rw [Cert.Kernel33Ideal.Update.final4, ← h0]
    exact grads_eq _
  · rw [Cert.Kernel33Ideal.Update.final5, ← h0, ← h1, ← h2, ← h3]
    refine (deltas_eq _ _ _ _).trans ?_
    rw [grads_eq]
    rfl
  · rw [Cert.Kernel33Ideal.Update.final6, ← h0, ← h2]
    refine (means_eq _ _).trans ?_
    rw [grads_eq]
    rfl
  · rw [Cert.Kernel33Ideal.Update.final7, ← h0, ← h3]
    refine (squares_eq _ _).trans ?_
    rw [grads_eq]
    rfl

end Cert.Reference33Ideal.Update

end
-- ==== Proof.Adam34.lean ====
/- AdamW on one device's part of w_out: the call computes what the reference states, block by block. -/
module

public import proofs.«01_k».proof.Defs
public import proofs.«01_k».proof.Proof.Adam
public import proofs.«01_k».proof.Proof.Gen.Kernel34.Frame
public import proofs.«01_k».proof.Proof.Gen.Kernel34Ideal.Value
public import proofs.«01_k».proof.Proof.Gen.Reference34Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel34Ideal.Update

open Cert.Kernel34Ideal Cert.Kernel34Ideal.Gen Idealize.ShloMosaic Idealize.ShloMosaic.TcCoe Idealize.SL.Sem

variable (m : (ℓ : Loc nD τ sig) → Buf (Elt Ideal) ℓ)

/-- The gradients of the whole batch, from the devices' gradients. -/
def grads (s : Vec Ideal S8x512x2048 .bf16) : Vec Ideal S512x2048 .f32 := fun i => Adam.grad fun k => s (ix3 k (i 0) (i 1))

/-- The new first moments. -/
def means (s : Vec Ideal S8x512x2048 .bf16) (x : Vec Ideal S512x2048 .f32) : Vec Ideal S512x2048 .f32 := fun i => Adam.mean (grads s i) (x i)

/-- The new second moments. -/
def squares (s : Vec Ideal S8x512x2048 .bf16) (y : Vec Ideal S512x2048 .f32) : Vec Ideal S512x2048 .f32 := fun i => Adam.square (grads s i) (y i)

/-- The steps. -/
def deltas (s : Vec Ideal S8x512x2048 .bf16) (w x y : Vec Ideal S512x2048 .f32) : Vec Ideal S512x2048 .f32 :=
  fun i => Adam.delta (grads s i) (w i) (x i) (y i)

/-- The blocks that a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- What the body writes, number by number. -/
theorem grad_apply (s : Vec Ideal S8x256x2048 .bf16) (x y z : Vec Ideal S256x2048 .f32) (a : Fin 256) (b : Fin 2048) :
    k0_pay5 (F := Ideal) s x y z (ix2 a b) = Adam.grad fun k => s (ix3 k a b) := by
  rw [← Adam.grad_eq]
  pointwise [k0_pay5, k0_pay4]

theorem mean_apply (g x : Vec Ideal S256x2048 .f32) (j : S256x2048.Idx) :
    k0_pay1 (F := Ideal) g x (Scalar.ofBits .f32 0x3F666666#32) j = Adam.mean (g j) (x j) := by
  pointwise [k0_pay1, Adam.mean]

theorem square_apply (g y : Vec Ideal S256x2048 .f32) (j : S256x2048.Idx) : k0_pay2 (F := Ideal) g y j = Adam.square (g j) (y j) := by
  pointwise [k0_pay2, Adam.square]

theorem delta_apply (g x y w : Vec Ideal S256x2048 .f32) (j : S256x2048.Idx) :
    k0_pay3 (F := Ideal) g x (Scalar.ofBits .f32 0x3F666666#32) y w j = Adam.delta (g j) (w j) (x j) (y j) := by
  pointwise [k0_pay3, k0_pay1, k0_pay2, Adam.delta, Adam.mean, Adam.square]

/-- A point's blocks, read in the arrays. -/
theorem grads_block (c : Dev nD) (t : Fin cfg0.N) (a : Fin 256) (b : Fin 2048) (h : t.val * 256 + a.val < 512) :
    k0_pay5 (F := Ideal) (iblk m c 0 t) (iblk m c 1 t) (iblk m c 2 t) (iblk m c 3 t) (ix2 a b)
      = grads (m ((c : Thread nD τ).loc main_arg0)) (ix2 ⟨t.val * 256 + a.val, h⟩ b) := by
  rw [grad_apply]
  refine congrArg Adam.grad (funext fun k => ?_)
  blk_ext [iblk, V, idx t]

theorem block1 (c : Dev nD) (t : Fin cfg0.N) (a : Fin 256) (b : Fin 2048) (h : t.val * 256 + a.val < 512) :
    iblk m c 1 t (ix2 a b) = m ((c : Thread nD τ).loc main_arg1) (ix2 ⟨t.val * 256 + a.val, h⟩ b) := by
  blk_ext [iblk, V, idx t]

theorem block2 (c : Dev nD) (t : Fin cfg0.N) (a : Fin 256) (b : Fin 2048) (h : t.val * 256 + a.val < 512) :
    iblk m c 2 t (ix2 a b) = m ((c : Thread nD τ).loc main_arg2) (ix2 ⟨t.val * 256 + a.val, h⟩ b) := by
  blk_ext [iblk, V, idx t]

theorem block3 (c : Dev nD) (t : Fin cfg0.N) (a : Fin 256) (b : Fin 2048) (h : t.val * 256 + a.val < 512) :
    iblk m c 3 t (ix2 a b) = m ((c : Thread nD τ).loc main_arg3) (ix2 ⟨t.val * 256 + a.val, h⟩ b) := by
  blk_ext [iblk, V, idx t]

/-- The four arrays after the call. -/
theorem final4 (c : Dev nD) : (dats m 0 c).arrAt 4 cfg0.N = grads (m ((c : Thread nD τ).loc main_arg0)) := by
  refine (dats m 0 c).arrAt_eq_of_covers 4 _ (by decide +kernel) fun t hf y => ?_
  blk_simp [idx t]
  obtain ⟨a, b, rfl⟩ : ∃ (a : Fin 256) (b : Fin 2048), y = ix2 a b := ⟨y 0, y 1, eq_ix2 y⟩
  have hn : t.val * 256 + a.val < 512 := by have : t.val < 2 := t.isLt; omega
  have he : (win0_4.blk t).view.emb (ix2 a b) = ix2 ⟨t.val * 256 + a.val, hn⟩ b := by blk_ext [idx t]
  rw [after0_4]
  frame_out
  refine Eq.trans ?_ (congrArg (grads _) he.symm)
  exact grads_block m c t a b hn

theorem final5 (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  obtain ⟨a, b, rfl⟩ : ∃ (a : Fin 256) (b : Fin 2048), y = ix2 a b := ⟨y 0, y 1, eq_ix2 y⟩
  have hn : t.val * 256 + a.val < 512 := by have : t.val < 2 := t.isLt; omega
  have he : (win0_5.blk t).view.emb (ix2 a b) = ix2 ⟨t.val * 256 + a.val, hn⟩ b := by blk_ext [idx t]
  rw [after0_5]
  frame_out
  refine Eq.trans ?_ (congrArg (deltas _ _ _ _) he.symm)
  rw [delta_apply, grads_block m c t a b hn, block1 m c t a b hn, block2 m c t a b hn, block3 m c t a b hn]
  rfl

theorem final6 (c : Dev nD) : (dats m 0 c).arrAt 6 cfg0.N = means (m ((c : Thread nD τ).loc main_arg0)) (m ((c : Thread nD τ).loc main_arg2)) := by
  refine (dats m 0 c).arrAt_eq_of_covers 6 _ (by decide +kernel) fun t hf y => ?_
  blk_simp [idx t]
  obtain ⟨a, b, rfl⟩ : ∃ (a : Fin 256) (b : Fin 2048), y = ix2 a b := ⟨y 0, y 1, eq_ix2 y⟩
  have hn : t.val * 256 + a.val < 512 := by have : t.val < 2 := t.isLt; omega
  have he : (win0_6.blk t).view.emb (ix2 a b) = ix2 ⟨t.val * 256 + a.val, hn⟩ b := by blk_ext [idx t]
  rw [after0_6]
  frame_out
  refine Eq.trans ?_ (congrArg (means _ _) he.symm)
  rw [mean_apply, grads_block m c t a b hn, block2 m c t a b hn]
  rfl

theorem final7 (c : Dev nD) : (dats m 0 c).arrAt 7 cfg0.N = squares (m ((c : Thread nD τ).loc main_arg0)) (m ((c : Thread nD τ).loc main_arg3)) := by
  refine (dats m 0 c).arrAt_eq_of_covers 7 _ (by decide +kernel) fun t hf y => ?_
  blk_simp [idx t]
  obtain ⟨a, b, rfl⟩ : ∃ (a : Fin 256) (b : Fin 2048), y = ix2 a b := ⟨y 0, y 1, eq_ix2 y⟩
  have hn : t.val * 256 + a.val < 512 := by have : t.val < 2 := t.isLt; omega
  have he : (win0_7.blk t).view.emb (ix2 a b) = ix2 ⟨t.val * 256 + a.val, hn⟩ b := by blk_ext [idx t]
  rw [after0_7]
  frame_out
  refine Eq.trans ?_ (congrArg (squares _ _) he.symm)
  rw [square_apply, grads_block m c t a b hn, block3 m c t a b hn]
  rfl

end Cert.Kernel34Ideal.Update

namespace Cert.Reference34Ideal.Update

open Cert.Reference34Ideal Cert.Reference34Ideal.Gen Idealize.ShloMosaic Idealize.ShloMosaic.TcCoe Idealize.SL.Sem

/-- The reference's terms, number by number. -/
theorem grads_eq (s : Vec Ideal S8x512x2048 .bf16) :
    Host.reduceAdd (F := Ideal) (φ := .f32) (extf .f32 s bitsLt_bf16_f32) (constant S_ .f32 0x00000000#32) reducesTo_S8x512x2048_S512x2048_d0 h_S_
      = Cert.Kernel34Ideal.Update.grads s := by
  funext i
  pointwise [Cert.Kernel34Ideal.Update.grads, Adam.grad]

theorem deltas_eq (g w x y : Vec Ideal S512x2048 .f32) :
    mulf (F := Ideal) (φ := .f32) (broadcastInDim S512x2048 ![] bcast_S_S512x2048 (constant S_ .f32 0xBA83126F#32)) (addf (Host.divf (Host.divf (addf (mulf (broadcastInDim S512x2048 ![] bcast_S_S512x2048 (constant S_ .f32 0x3F666666#32)) x) (mulf (broadcastInDim S512x2048 ![] bcast_S_S512x2048 (constant S_ .f32 0x3DCCCCCD#32)) g)) (broadcastInDim S512x2048 ![] bcast_S_S512x2048 (constant S_ .f32 0x3F26BD02#32))) (addf (Host.sqrt (Host.divf (addf (mulf (broadcastInDim S512x2048 ![] bcast_S_S512x2048 (constant S_ .f32 0x3F7FBE77#32)) y) (mulf (broadcastInDim S512x2048 ![] bcast_S_S512x2048 (constant S_ .f32 0x3A83126F#32)) (mulf g g))) (broadcastInDim S512x2048 ![] bcast_S_S512x2048 (constant S_ .f32 0x3C231ACC#32)))) (broadcastInDim S512x2048 ![] bcast_S_S512x2048 (constant S_ .f32 0x322BCC77#32)))) (mulf (broadcastInDim S512x2048 ![] bcast_S_S512x2048 (constant S_ .f32 0x3C23D70A#32)) w))
      = fun i => Adam.delta (g i) (w i) (x i) (y i) := by
  funext i
  pointwise [Adam.delta, Adam.mean, Adam.square]

theorem means_eq (g x : Vec Ideal S512x2048 .f32) :
    addf (F := Ideal) (φ := .f32) (mulf (broadcastInDim S512x2048 ![] bcast_S_S512x2048 (constant S_ .f32 0x3F666666#32)) x) (mulf (broadcastInDim S512x2048 ![] bcast_S_S512x2048 (constant S_ .f32 0x3DCCCCCD#32)) g)
      = fun i => Adam.mean (g i) (x i) := by
  funext i
  pointwise [Adam.mean]

theorem squares_eq (g y : Vec Ideal S512x2048 .f32) :
    addf (F := Ideal) (φ := .f32) (mulf (broadcastInDim S512x2048 ![] bcast_S_S512x2048 (constant S_ .f32 0x3F7FBE77#32)) y) (mulf (broadcastInDim S512x2048 ![] bcast_S_S512x2048 (constant S_ .f32 0x3A83126F#32)) (mulf g g))
      = fun i => Adam.square (g i) (y i) := by
  funext i
  pointwise [Adam.square]

/-- The reference leaves its arguments as they were; it declares no semaphore, so every counter stays at zero. -/
theorem frame : Cert.quiescent_Reference34Ideal := fun m g _ =>
  (θ_run defs _ _).mono (fun r h => ⟨fun c => (h c).2.2.2.2, sem_eq_zero_of_no_sems (by decide) r.2⟩) (Value.run (F := Ideal) m g)

/-- Both programs end with the same arrays. -/
theorem algebraic : Cert.algebraic_Kernel34Ideal_Reference34Ideal := by
  intro m g m' g' _ hagree
  refine ⟨_, _, _, _, Cert.Kernel34Ideal.Value.run_blocks m g, ?_⟩
  refine (θ_run defs _ _).mono (fun r h c => ⟨(h c).1.trans ?_, (h c).2.1.trans ?_, (h c).2.2.1.trans ?_, (h c).2.2.2.1.trans ?_,
    (h c).2.2.2.2⟩) (Value.run (F := Ideal) m' g')
  all_goals obtain ⟨h0, h1, h2, h3⟩ := hagree c
  · rw [Cert.Kernel34Ideal.Update.final4, ← h0]
    exact grads_eq _
  · rw [Cert.Kernel34Ideal.Update.final5, ← h0, ← h1, ← h2, ← h3]
    refine (deltas_eq _ _ _ _).trans ?_
    rw [grads_eq]
    rfl
  · rw [Cert.Kernel34Ideal.Update.final6, ← h0, ← h2]
    refine (means_eq _ _).trans ?_
    rw [grads_eq]
    rfl
  · rw [Cert.Kernel34Ideal.Update.final7, ← h0, ← h3]
    refine (squares_eq _ _).trans ?_
    rw [grads_eq]
    rfl

end Cert.Reference34Ideal.Update

end
-- ==== Proof.Adam35.lean ====
/- AdamW on one device's part of w_in: the call computes what the reference states, block by block. -/
module

public import proofs.«01_k».proof.Defs
public import proofs.«01_k».proof.Proof.Adam
public import proofs.«01_k».proof.Proof.Gen.Kernel35.Frame
public import proofs.«01_k».proof.Proof.Gen.Kernel35Ideal.Value
public import proofs.«01_k».proof.Proof.Gen.Reference35Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel35Ideal.Update

open Cert.Kernel35Ideal Cert.Kernel35Ideal.Gen Idealize.ShloMosaic Idealize.ShloMosaic.TcCoe Idealize.SL.Sem

variable (m : (ℓ : Loc nD τ sig) → Buf (Elt Ideal) ℓ)

/-- The gradients of the whole batch, from the devices' gradients. -/
def grads (s : Vec Ideal S8x2048x1672 .bf16) : Vec Ideal S2048x1672 .f32 := fun i => Adam.grad fun k => s (ix3 k (i 0) (i 1))

/-- The new first moments. -/
def means (s : Vec Ideal S8x2048x1672 .bf16) (x : Vec Ideal S2048x1672 .f32) : Vec Ideal S2048x1672 .f32 := fun i => Adam.mean (grads s i) (x i)

/-- The new second moments. -/
def squares (s : Vec Ideal S8x2048x1672 .bf16) (y : Vec Ideal S2048x1672 .f32) : Vec Ideal S2048x1672 .f32 := fun i => Adam.square (grads s i) (y i)

/-- The steps. -/
def deltas (s : Vec Ideal S8x2048x1672 .bf16) (w x y : Vec Ideal S2048x1672 .f32) : Vec Ideal S2048x1672 .f32 :=
  fun i => Adam.delta (grads s i) (w i) (x i) (y i)

/-- The blocks that a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- What the body writes, number by number. -/
theorem grad_apply (s : Vec Ideal S8x256x1672 .bf16) (x y z : Vec Ideal S256x1672 .f32) (a : Fin 256) (b : Fin 1672) :
    k0_pay5 (F := Ideal) s x y z (ix2 a b) = Adam.grad fun k => s (ix3 k a b) := by
  rw [← Adam.grad_eq]
  pointwise [k0_pay5, k0_pay4]

theorem mean_apply (g x : Vec Ideal S256x1672 .f32) (j : S256x1672.Idx) :
    k0_pay1 (F := Ideal) g x (Scalar.ofBits .f32 0x3F666666#32) j = Adam.mean (g j) (x j) := by
  pointwise [k0_pay1, Adam.mean]

theorem square_apply (g y : Vec Ideal S256x1672 .f32) (j : S256x1672.Idx) : k0_pay2 (F := Ideal) g y j = Adam.square (g j) (y j) := by
  pointwise [k0_pay2, Adam.square]

theorem delta_apply (g x y w : Vec Ideal S256x1672 .f32) (j : S256x1672.Idx) :
    k0_pay3 (F := Ideal) g x (Scalar.ofBits .f32 0x3F666666#32) y w j = Adam.delta (g j) (w j) (x j) (y j) := by
  pointwise [k0_pay3, k0_pay1, k0_pay2, Adam.delta, Adam.mean, Adam.square]

/-- A point's blocks, read in the arrays. -/
theorem grads_block (c : Dev nD) (t : Fin cfg0.N) (a : Fin 256) (b : Fin 1672) (h : t.val * 256 + a.val < 2048) :
    k0_pay5 (F := Ideal) (iblk m c 0 t) (iblk m c 1 t) (iblk m c 2 t) (iblk m c 3 t) (ix2 a b)
      = grads (m ((c : Thread nD τ).loc main_arg0)) (ix2 ⟨t.val * 256 + a.val, h⟩ b) := by
  rw [grad_apply]
  refine congrArg Adam.grad (funext fun k => ?_)
  blk_ext [iblk, V, idx t]

theorem block1 (c : Dev nD) (t : Fin cfg0.N) (a : Fin 256) (b : Fin 1672) (h : t.val * 256 + a.val < 2048) :
    iblk m c 1 t (ix2 a b) = m ((c : Thread nD τ).loc main_arg1) (ix2 ⟨t.val * 256 + a.val, h⟩ b) := by
  blk_ext [iblk, V, idx t]

theorem block2 (c : Dev nD) (t : Fin cfg0.N) (a : Fin 256) (b : Fin 1672) (h : t.val * 256 + a.val < 2048) :
    iblk m c 2 t (ix2 a b) = m ((c : Thread nD τ).loc main_arg2) (ix2 ⟨t.val * 256 + a.val, h⟩ b) := by
  blk_ext [iblk, V, idx t]

theorem block3 (c : Dev nD) (t : Fin cfg0.N) (a : Fin 256) (b : Fin 1672) (h : t.val * 256 + a.val < 2048) :
    iblk m c 3 t (ix2 a b) = m ((c : Thread nD τ).loc main_arg3) (ix2 ⟨t.val * 256 + a.val, h⟩ b) := by
  blk_ext [iblk, V, idx t]

/-- The four arrays after the call. -/
theorem final4 (c : Dev nD) : (dats m 0 c).arrAt 4 cfg0.N = grads (m ((c : Thread nD τ).loc main_arg0)) := by
  refine (dats m 0 c).arrAt_eq_of_covers 4 _ (by decide +kernel) fun t hf y => ?_
  blk_simp [idx t]
  obtain ⟨a, b, rfl⟩ : ∃ (a : Fin 256) (b : Fin 1672), y = ix2 a b := ⟨y 0, y 1, eq_ix2 y⟩
  have hn : t.val * 256 + a.val < 2048 := by have : t.val < 8 := t.isLt; omega
  have he : (win0_4.blk t).view.emb (ix2 a b) = ix2 ⟨t.val * 256 + a.val, hn⟩ b := by blk_ext [idx t]
  rw [after0_4]
  frame_out
  refine Eq.trans ?_ (congrArg (grads _) he.symm)
  exact grads_block m c t a b hn

theorem final5 (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  obtain ⟨a, b, rfl⟩ : ∃ (a : Fin 256) (b : Fin 1672), y = ix2 a b := ⟨y 0, y 1, eq_ix2 y⟩
  have hn : t.val * 256 + a.val < 2048 := by have : t.val < 8 := t.isLt; omega
  have he : (win0_5.blk t).view.emb (ix2 a b) = ix2 ⟨t.val * 256 + a.val, hn⟩ b := by blk_ext [idx t]
  rw [after0_5]
  frame_out
  refine Eq.trans ?_ (congrArg (deltas _ _ _ _) he.symm)
  rw [delta_apply, grads_block m c t a b hn, block1 m c t a b hn, block2 m c t a b hn, block3 m c t a b hn]
  rfl

theorem final6 (c : Dev nD) : (dats m 0 c).arrAt 6 cfg0.N = means (m ((c : Thread nD τ).loc main_arg0)) (m ((c : Thread nD τ).loc main_arg2)) := by
  refine (dats m 0 c).arrAt_eq_of_covers 6 _ (by decide +kernel) fun t hf y => ?_
  blk_simp [idx t]
  obtain ⟨a, b, rfl⟩ : ∃ (a : Fin 256) (b : Fin 1672), y = ix2 a b := ⟨y 0, y 1, eq_ix2 y⟩
  have hn : t.val * 256 + a.val < 2048 := by have : t.val < 8 := t.isLt; omega
  have he : (win0_6.blk t).view.emb (ix2 a b) = ix2 ⟨t.val * 256 + a.val, hn⟩ b := by blk_ext [idx t]
  rw [after0_6]
  frame_out
  refine Eq.trans ?_ (congrArg (means _ _) he.symm)
  rw [mean_apply, grads_block m c t a b hn, block2 m c t a b hn]
  rfl

theorem final7 (c : Dev nD) : (dats m 0 c).arrAt 7 cfg0.N = squares (m ((c : Thread nD τ).loc main_arg0)) (m ((c : Thread nD τ).loc main_arg3)) := by
  refine (dats m 0 c).arrAt_eq_of_covers 7 _ (by decide +kernel) fun t hf y => ?_
  blk_simp [idx t]
  obtain ⟨a, b, rfl⟩ : ∃ (a : Fin 256) (b : Fin 1672), y = ix2 a b := ⟨y 0, y 1, eq_ix2 y⟩
  have hn : t.val * 256 + a.val < 2048 := by have : t.val < 8 := t.isLt; omega
  have he : (win0_7.blk t).view.emb (ix2 a b) = ix2 ⟨t.val * 256 + a.val, hn⟩ b := by blk_ext [idx t]
  rw [after0_7]
  frame_out
  refine Eq.trans ?_ (congrArg (squares _ _) he.symm)
  rw [square_apply, grads_block m c t a b hn, block3 m c t a b hn]
  rfl

end Cert.Kernel35Ideal.Update

namespace Cert.Reference35Ideal.Update

open Cert.Reference35Ideal Cert.Reference35Ideal.Gen Idealize.ShloMosaic Idealize.ShloMosaic.TcCoe Idealize.SL.Sem

/-- The reference's terms, number by number. -/
theorem grads_eq (s : Vec Ideal S8x2048x1672 .bf16) :
    Host.reduceAdd (F := Ideal) (φ := .f32) (extf .f32 s bitsLt_bf16_f32) (constant S_ .f32 0x00000000#32) reducesTo_S8x2048x1672_S2048x1672_d0 h_S_
      = Cert.Kernel35Ideal.Update.grads s := by
  funext i
  pointwise [Cert.Kernel35Ideal.Update.grads, Adam.grad]

theorem deltas_eq (g w x y : Vec Ideal S2048x1672 .f32) :
    mulf (F := Ideal) (φ := .f32) (broadcastInDim S2048x1672 ![] bcast_S_S2048x1672 (constant S_ .f32 0xBA83126F#32)) (addf (Host.divf (Host.divf (addf (mulf (broadcastInDim S2048x1672 ![] bcast_S_S2048x1672 (constant S_ .f32 0x3F666666#32)) x) (mulf (broadcastInDim S2048x1672 ![] bcast_S_S2048x1672 (constant S_ .f32 0x3DCCCCCD#32)) g)) (broadcastInDim S2048x1672 ![] bcast_S_S2048x1672 (constant S_ .f32 0x3F26BD02#32))) (addf (Host.sqrt (Host.divf (addf (mulf (broadcastInDim S2048x1672 ![] bcast_S_S2048x1672 (constant S_ .f32 0x3F7FBE77#32)) y) (mulf (broadcastInDim S2048x1672 ![] bcast_S_S2048x1672 (constant S_ .f32 0x3A83126F#32)) (mulf g g))) (broadcastInDim S2048x1672 ![] bcast_S_S2048x1672 (constant S_ .f32 0x3C231ACC#32)))) (broadcastInDim S2048x1672 ![] bcast_S_S2048x1672 (constant S_ .f32 0x322BCC77#32)))) (mulf (broadcastInDim S2048x1672 ![] bcast_S_S2048x1672 (constant S_ .f32 0x3C23D70A#32)) w))
      = fun i => Adam.delta (g i) (w i) (x i) (y i) := by
  funext i
  pointwise [Adam.delta, Adam.mean, Adam.square]

theorem means_eq (g x : Vec Ideal S2048x1672 .f32) :
    addf (F := Ideal) (φ := .f32) (mulf (broadcastInDim S2048x1672 ![] bcast_S_S2048x1672 (constant S_ .f32 0x3F666666#32)) x) (mulf (broadcastInDim S2048x1672 ![] bcast_S_S2048x1672 (constant S_ .f32 0x3DCCCCCD#32)) g)
      = fun i => Adam.mean (g i) (x i) := by
  funext i
  pointwise [Adam.mean]

theorem squares_eq (g y : Vec Ideal S2048x1672 .f32) :
    addf (F := Ideal) (φ := .f32) (mulf (broadcastInDim S2048x1672 ![] bcast_S_S2048x1672 (constant S_ .f32 0x3F7FBE77#32)) y) (mulf (broadcastInDim S2048x1672 ![] bcast_S_S2048x1672 (constant S_ .f32 0x3A83126F#32)) (mulf g g))
      = fun i => Adam.square (g i) (y i) := by
  funext i
  pointwise [Adam.square]

/-- The reference leaves its arguments as they were; it declares no semaphore, so every counter stays at zero. -/
theorem frame : Cert.quiescent_Reference35Ideal := fun m g _ =>
  (θ_run defs _ _).mono (fun r h => ⟨fun c => (h c).2.2.2.2, sem_eq_zero_of_no_sems (by decide) r.2⟩) (Value.run (F := Ideal) m g)

/-- Both programs end with the same arrays. -/
theorem algebraic : Cert.algebraic_Kernel35Ideal_Reference35Ideal := by
  intro m g m' g' _ hagree
  refine ⟨_, _, _, _, Cert.Kernel35Ideal.Value.run_blocks m g, ?_⟩
  refine (θ_run defs _ _).mono (fun r h c => ⟨(h c).1.trans ?_, (h c).2.1.trans ?_, (h c).2.2.1.trans ?_, (h c).2.2.2.1.trans ?_,
    (h c).2.2.2.2⟩) (Value.run (F := Ideal) m' g')
  all_goals obtain ⟨h0, h1, h2, h3⟩ := hagree c
  · rw [Cert.Kernel35Ideal.Update.final4, ← h0]
    exact grads_eq _
  · rw [Cert.Kernel35Ideal.Update.final5, ← h0, ← h1, ← h2, ← h3]
    refine (deltas_eq _ _ _ _).trans ?_
    rw [grads_eq]
    rfl
  · rw [Cert.Kernel35Ideal.Update.final6, ← h0, ← h2]
    refine (means_eq _ _).trans ?_
    rw [grads_eq]
    rfl
  · rw [Cert.Kernel35Ideal.Update.final7, ← h0, ← h3]
    refine (squares_eq _ _).trans ?_
    rw [grads_eq]
    rfl

end Cert.Reference35Ideal.Update

end
-- ==== Proof.Adam36.lean ====
/- AdamW on one device's part of the four small weights cut over the devices, packed into one array: the call computes what the reference states, block by block. -/
module

public import proofs.«01_k».proof.Defs
public import proofs.«01_k».proof.Proof.Adam
public import proofs.«01_k».proof.Proof.Gen.Kernel36.Frame
public import proofs.«01_k».proof.Proof.Gen.Kernel36Ideal.Value
public import proofs.«01_k».proof.Proof.Gen.Reference36Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel36Ideal.Update

open Cert.Kernel36Ideal Cert.Kernel36Ideal.Gen Idealize.ShloMosaic Idealize.ShloMosaic.TcCoe Idealize.SL.Sem

variable (m : (ℓ : Loc nD τ sig) → Buf (Elt Ideal) ℓ)

/-- The gradients of the whole batch, from the devices' gradients. -/
def grads (s : Vec Ideal S8x104x128 .f32) : Vec Ideal S104x128 .f32 := fun i => Adam.grad fun k => s (ix3 k (i 0) (i 1))

/-- The new first moments. -/
def means (s : Vec Ideal S8x104x128 .f32) (x : Vec Ideal S104x128 .f32) : Vec Ideal S104x128 .f32 := fun i => Adam.mean (grads s i) (x i)

/-- The new second moments. -/
def squares (s : Vec Ideal S8x104x128 .f32) (y : Vec Ideal S104x128 .f32) : Vec Ideal S104x128 .f32 := fun i => Adam.square (grads s i) (y i)

/-- The steps. -/
def deltas (s : Vec Ideal S8x104x128 .f32) (w x y : Vec Ideal S104x128 .f32) : Vec Ideal S104x128 .f32 :=
  fun i => Adam.delta (grads s i) (w i) (x i) (y i)

/-- The blocks that a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- What the body writes, number by number. -/
theorem grad_apply (s : Vec Ideal S8x104x128 .f32) (x y z : Vec Ideal S104x128 .f32) (a : Fin 104) (b : Fin 128) :
    k0_pay5 (F := Ideal) s x y z (ix2 a b) = Adam.grad fun k => s (ix3 k a b) := by
  rw [← Adam.grad_eq]
  pointwise [k0_pay5, k0_pay3]

theorem mean_apply (s : Vec Ideal S8x104x128 .f32) (x y z : Vec Ideal S104x128 .f32) (a : Fin 104) (b : Fin 128) :
    k0_pay6 (F := Ideal) s x y z (ix2 a b) = Adam.mean (k0_pay5 (F := Ideal) s x y z (ix2 a b)) (y (ix2 a b)) := by
  rw [grad_apply, ← Adam.grad_eq]
  pointwise [k0_pay6, k0_pay4, k0_pay3, Adam.mean]

theorem square_apply (g y : Vec Ideal S104x128 .f32) (j : S104x128.Idx) : k0_pay1 (F := Ideal) g y j = Adam.square (g j) (y j) := by
  pointwise [k0_pay1, Adam.square]

theorem delta_apply (g e y w : Vec Ideal S104x128 .f32) (j : S104x128.Idx) (x : EReal) (h : e j = Adam.mean (g j) x) :
    k0_pay2 (F := Ideal) g e y w j = Adam.delta (g j) (w j) x (y j) := by
  unfold Adam.delta
  rw [← h]
  pointwise [k0_pay2, k0_pay1, Adam.square]

/-- A point's blocks, read in the arrays. -/
theorem grads_block (c : Dev nD) (t : Fin cfg0.N) (a : Fin 104) (b : Fin 128) (h : t.val * 104 + a.val < 104) :
    k0_pay5 (F := Ideal) (iblk m c 0 t) (iblk m c 1 t) (iblk m c 2 t) (iblk m c 3 t) (ix2 a b)
      = grads (m ((c : Thread nD τ).loc main_arg0)) (ix2 ⟨t.val * 104 + a.val, h⟩ b) := by
  rw [grad_apply]
  refine congrArg Adam.grad (funext fun k => ?_)
  blk_ext [iblk, V, idx t]

theorem block1 (c : Dev nD) (t : Fin cfg0.N) (a : Fin 104) (b : Fin 128) (h : t.val * 104 + a.val < 104) :
    iblk m c 1 t (ix2 a b) = m ((c : Thread nD τ).loc main_arg1) (ix2 ⟨t.val * 104 + a.val, h⟩ b) := by
  blk_ext [iblk, V, idx t]

theorem block2 (c : Dev nD) (t : Fin cfg0.N) (a : Fin 104) (b : Fin 128) (h : t.val * 104 + a.val < 104) :
    iblk m c 2 t (ix2 a b) = m ((c : Thread nD τ).loc main_arg2) (ix2 ⟨t.val * 104 + a.val, h⟩ b) := by
  blk_ext [iblk, V, idx t]

theorem block3 (c : Dev nD) (t : Fin cfg0.N) (a : Fin 104) (b : Fin 128) (h : t.val * 104 + a.val < 104) :
    iblk m c 3 t (ix2 a b) = m ((c : Thread nD τ).loc main_arg3) (ix2 ⟨t.val * 104 + a.val, h⟩ b) := by
  blk_ext [iblk, V, idx t]

/-- The four arrays after the call. -/
theorem final4 (c : Dev nD) : (dats m 0 c).arrAt 4 cfg0.N = grads (m ((c : Thread nD τ).loc main_arg0)) := by
  refine (dats m 0 c).arrAt_eq_of_covers 4 _ (by decide +kernel) fun t hf y => ?_
  blk_simp [idx t]
  obtain ⟨a, b, rfl⟩ : ∃ (a : Fin 104) (b : Fin 128), y = ix2 a b := ⟨y 0, y 1, eq_ix2 y⟩
  have hn : t.val * 104 + a.val < 104 := by have : t.val < 1 := t.isLt; omega
  have he : (win0_4.blk t).view.emb (ix2 a b) = ix2 ⟨t.val * 104 + a.val, hn⟩ b := by blk_ext [idx t]
  rw [after0_4]
  frame_out
  refine Eq.trans ?_ (congrArg (grads _) he.symm)
  exact grads_block m c t a b hn

theorem final5 (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  obtain ⟨a, b, rfl⟩ : ∃ (a : Fin 104) (b : Fin 128), y = ix2 a b := ⟨y 0, y 1, eq_ix2 y⟩
  have hn : t.val * 104 + a.val < 104 := by have : t.val < 1 := t.isLt; omega
  have he : (win0_5.blk t).view.emb (ix2 a b) = ix2 ⟨t.val * 104 + a.val, hn⟩ b := by blk_ext [idx t]
  rw [after0_5]
  frame_out
  refine Eq.trans ?_ (congrArg (deltas _ _ _ _) he.symm)
  rw [delta_apply _ _ _ _ _ _ (mean_apply _ _ _ _ _ _), grads_block m c t a b hn, block1 m c t a b hn, block2 m c t a b hn, block3 m c t a b hn]
  rfl

theorem final6 (c : Dev nD) : (dats m 0 c).arrAt 6 cfg0.N = means (m ((c : Thread nD τ).loc main_arg0)) (m ((c : Thread nD τ).loc main_arg2)) := by
  refine (dats m 0 c).arrAt_eq_of_covers 6 _ (by decide +kernel) fun t hf y => ?_
  blk_simp [idx t]
  obtain ⟨a, b, rfl⟩ : ∃ (a : Fin 104) (b : Fin 128), y = ix2 a b := ⟨y 0, y 1, eq_ix2 y⟩
  have hn : t.val * 104 + a.val < 104 := by have : t.val < 1 := t.isLt; omega
  have he : (win0_6.blk t).view.emb (ix2 a b) = ix2 ⟨t.val * 104 + a.val, hn⟩ b := by blk_ext [idx t]
  rw [after0_6]
  frame_out
  refine Eq.trans ?_ (congrArg (means _ _) he.symm)
  rw [mean_apply, grads_block m c t a b hn, block2 m c t a b hn]
  rfl

theorem final7 (c : Dev nD) : (dats m 0 c).arrAt 7 cfg0.N = squares (m ((c : Thread nD τ).loc main_arg0)) (m ((c : Thread nD τ).loc main_arg3)) := by
  refine (dats m 0 c).arrAt_eq_of_covers 7 _ (by decide +kernel) fun t hf y => ?_
  blk_simp [idx t]
  obtain ⟨a, b, rfl⟩ : ∃ (a : Fin 104) (b : Fin 128), y = ix2 a b := ⟨y 0, y 1, eq_ix2 y⟩
  have hn : t.val * 104 + a.val < 104 := by have : t.val < 1 := t.isLt; omega
  have he : (win0_7.blk t).view.emb (ix2 a b) = ix2 ⟨t.val * 104 + a.val, hn⟩ b := by blk_ext [idx t]
  rw [after0_7]
  frame_out
  refine Eq.trans ?_ (congrArg (squares _ _) he.symm)
  rw [square_apply, grads_block m c t a b hn, block3 m c t a b hn]
  rfl

end Cert.Kernel36Ideal.Update

namespace Cert.Reference36Ideal.Update

open Cert.Reference36Ideal Cert.Reference36Ideal.Gen Idealize.ShloMosaic Idealize.ShloMosaic.TcCoe Idealize.SL.Sem

/-- The reference's terms, number by number. -/
theorem grads_eq (s : Vec Ideal S8x104x128 .f32) :
    Host.reduceAdd (F := Ideal) (φ := .f32) s (constant S_ .f32 0x00000000#32) reducesTo_S8x104x128_S104x128_d0 h_S_
      = Cert.Kernel36Ideal.Update.grads s := by
  funext i
  pointwise [Cert.Kernel36Ideal.Update.grads, Adam.grad]

theorem deltas_eq (g w x y : Vec Ideal S104x128 .f32) :
    mulf (F := Ideal) (φ := .f32) (broadcastInDim S104x128 ![] bcast_S_S104x128 (constant S_ .f32 0xBA83126F#32)) (addf (Host.divf (Host.divf (addf (mulf (broadcastInDim S104x128 ![] bcast_S_S104x128 (constant S_ .f32 0x3F666666#32)) x) (mulf (broadcastInDim S104x128 ![] bcast_S_S104x128 (constant S_ .f32 0x3DCCCCCD#32)) g)) (broadcastInDim S104x128 ![] bcast_S_S104x128 (constant S_ .f32 0x3F26BD02#32))) (addf (Host.sqrt (Host.divf (addf (mulf (broadcastInDim S104x128 ![] bcast_S_S104x128 (constant S_ .f32 0x3F7FBE77#32)) y) (mulf (broadcastInDim S104x128 ![] bcast_S_S104x128 (constant S_ .f32 0x3A83126F#32)) (mulf g g))) (broadcastInDim S104x128 ![] bcast_S_S104x128 (constant S_ .f32 0x3C231ACC#32)))) (broadcastInDim S104x128 ![] bcast_S_S104x128 (constant S_ .f32 0x322BCC77#32)))) (mulf (broadcastInDim S104x128 ![] bcast_S_S104x128 (constant S_ .f32 0x3C23D70A#32)) w))
      = fun i => Adam.delta (g i) (w i) (x i) (y i) := by
  funext i
  pointwise [Adam.delta, Adam.mean, Adam.square]

theorem means_eq (g x : Vec Ideal S104x128 .f32) :
    addf (F := Ideal) (φ := .f32) (mulf (broadcastInDim S104x128 ![] bcast_S_S104x128 (constant S_ .f32 0x3F666666#32)) x) (mulf (broadcastInDim S104x128 ![] bcast_S_S104x128 (constant S_ .f32 0x3DCCCCCD#32)) g)
      = fun i => Adam.mean (g i) (x i) := by
  funext i
  pointwise [Adam.mean]

theorem squares_eq (g y : Vec Ideal S104x128 .f32) :
    addf (F := Ideal) (φ := .f32) (mulf (broadcastInDim S104x128 ![] bcast_S_S104x128 (constant S_ .f32 0x3F7FBE77#32)) y) (mulf (broadcastInDim S104x128 ![] bcast_S_S104x128 (constant S_ .f32 0x3A83126F#32)) (mulf g g))
      = fun i => Adam.square (g i) (y i) := by
  funext i
  pointwise [Adam.square]

/-- The reference leaves its arguments as they were; it declares no semaphore, so every counter stays at zero. -/
theorem frame : Cert.quiescent_Reference36Ideal := fun m g _ =>
  (θ_run defs _ _).mono (fun r h => ⟨fun c => (h c).2.2.2.2, sem_eq_zero_of_no_sems (by decide) r.2⟩) (Value.run (F := Ideal) m g)

/-- Both programs end with the same arrays. -/
theorem algebraic : Cert.algebraic_Kernel36Ideal_Reference36Ideal := by
  intro m g m' g' _ hagree
  refine ⟨_, _, _, _, Cert.Kernel36Ideal.Value.run_blocks m g, ?_⟩
  refine (θ_run defs _ _).mono (fun r h c => ⟨(h c).1.trans ?_, (h c).2.1.trans ?_, (h c).2.2.1.trans ?_, (h c).2.2.2.1.trans ?_,
    (h c).2.2.2.2⟩) (Value.run (F := Ideal) m' g')
  all_goals obtain ⟨h0, h1, h2, h3⟩ := hagree c
  · rw [Cert.Kernel36Ideal.Update.final4, ← h0]
    exact grads_eq _
  · rw [Cert.Kernel36Ideal.Update.final5, ← h0, ← h1, ← h2, ← h3]
    refine (deltas_eq _ _ _ _).trans ?_
    rw [grads_eq]
    rfl
  · rw [Cert.Kernel36Ideal.Update.final6, ← h0, ← h2]
    refine (means_eq _ _).trans ?_
    rw [grads_eq]
    rfl
  · rw [Cert.Kernel36Ideal.Update.final7, ← h0, ← h3]
    refine (squares_eq _ _).trans ?_
    rw [grads_eq]
    rfl

end Cert.Reference36Ideal.Update

end
-- ==== Proof.Adam37.lean ====
/- AdamW on one device's part of the eleven weights that every device holds whole, packed into one array: the call computes what the reference states, block by block. -/
module

public import proofs.«01_k».proof.Defs
public import proofs.«01_k».proof.Proof.Adam
public import proofs.«01_k».proof.Proof.Gen.Kernel37.Frame
public import proofs.«01_k».proof.Proof.Gen.Kernel37Ideal.Value
public import proofs.«01_k».proof.Proof.Gen.Reference37Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel37Ideal.Update

open Cert.Kernel37Ideal Cert.Kernel37Ideal.Gen Idealize.ShloMosaic Idealize.ShloMosaic.TcCoe Idealize.SL.Sem

variable (m : (ℓ : Loc nD τ sig) → Buf (Elt Ideal) ℓ)

/-- The gradients of the whole batch, from the devices' gradients. -/
def grads (s : Vec Ideal S8x96x128 .f32) : Vec Ideal S96x128 .f32 := fun i => Adam.grad fun k => s (ix3 k (i 0) (i 1))

/-- The new first moments. -/
def means (s : Vec Ideal S8x96x128 .f32) (x : Vec Ideal S96x128 .f32) : Vec Ideal S96x128 .f32 := fun i => Adam.mean (grads s i) (x i)

/-- The new second moments. -/
def squares (s : Vec Ideal S8x96x128 .f32) (y : Vec Ideal S96x128 .f32) : Vec Ideal S96x128 .f32 := fun i => Adam.square (grads s i) (y i)

/-- The steps. -/
def deltas (s : Vec Ideal S8x96x128 .f32) (w x y : Vec Ideal S96x128 .f32) : Vec Ideal S96x128 .f32 :=
  fun i => Adam.delta (grads s i) (w i) (x i) (y i)

/-- The blocks that a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- What the body writes, number by number. -/
theorem grad_apply (s : Vec Ideal S8x96x128 .f32) (x y z : Vec Ideal S96x128 .f32) (a : Fin 96) (b : Fin 128) :
    k0_pay5 (F := Ideal) s x y z (ix2 a b) = Adam.grad fun k => s (ix3 k a b) := by
  rw [← Adam.grad_eq]
  pointwise [k0_pay5, k0_pay3]

theorem mean_apply (s : Vec Ideal S8x96x128 .f32) (x y z : Vec Ideal S96x128 .f32) (a : Fin 96) (b : Fin 128) :
    k0_pay6 (F := Ideal) s x y z (ix2 a b) = Adam.mean (k0_pay5 (F := Ideal) s x y z (ix2 a b)) (y (ix2 a b)) := by
  rw [grad_apply, ← Adam.grad_eq]
  pointwise [k0_pay6, k0_pay4, k0_pay3, Adam.mean]

theorem square_apply (g y : Vec Ideal S96x128 .f32) (j : S96x128.Idx) : k0_pay1 (F := Ideal) g y j = Adam.square (g j) (y j) := by
  pointwise [k0_pay1, Adam.square]

theorem delta_apply (g e y w : Vec Ideal S96x128 .f32) (j : S96x128.Idx) (x : EReal) (h : e j = Adam.mean (g j) x) :
    k0_pay2 (F := Ideal) g e y w j = Adam.delta (g j) (w j) x (y j) := by
  unfold Adam.delta
  rw [← h]
  pointwise [k0_pay2, k0_pay1, Adam.square]

/-- A point's blocks, read in the arrays. -/
theorem grads_block (c : Dev nD) (t : Fin cfg0.N) (a : Fin 96) (b : Fin 128) (h : t.val * 96 + a.val < 96) :
    k0_pay5 (F := Ideal) (iblk m c 0 t) (iblk m c 1 t) (iblk m c 2 t) (iblk m c 3 t) (ix2 a b)
      = grads (m ((c : Thread nD τ).loc main_arg0)) (ix2 ⟨t.val * 96 + a.val, h⟩ b) := by
  rw [grad_apply]
  refine congrArg Adam.grad (funext fun k => ?_)
  blk_ext [iblk, V, idx t]

theorem block1 (c : Dev nD) (t : Fin cfg0.N) (a : Fin 96) (b : Fin 128) (h : t.val * 96 + a.val < 96) :
    iblk m c 1 t (ix2 a b) = m ((c : Thread nD τ).loc main_arg1) (ix2 ⟨t.val * 96 + a.val, h⟩ b) := by
  blk_ext [iblk, V, idx t]

theorem block2 (c : Dev nD) (t : Fin cfg0.N) (a : Fin 96) (b : Fin 128) (h : t.val * 96 + a.val < 96) :
    iblk m c 2 t (ix2 a b) = m ((c : Thread nD τ).loc main_arg2) (ix2 ⟨t.val * 96 + a.val, h⟩ b) := by
  blk_ext [iblk, V, idx t]

theorem block3 (c : Dev nD) (t : Fin cfg0.N) (a : Fin 96) (b : Fin 128) (h : t.val * 96 + a.val < 96) :
    iblk m c 3 t (ix2 a b) = m ((c : Thread nD τ).loc main_arg3) (ix2 ⟨t.val * 96 + a.val, h⟩ b) := by
  blk_ext [iblk, V, idx t]

/-- The four arrays after the call. -/
theorem final4 (c : Dev nD) : (dats m 0 c).arrAt 4 cfg0.N = grads (m ((c : Thread nD τ).loc main_arg0)) := by
  refine (dats m 0 c).arrAt_eq_of_covers 4 _ (by decide +kernel) fun t hf y => ?_
  blk_simp [idx t]
  obtain ⟨a, b, rfl⟩ : ∃ (a : Fin 96) (b : Fin 128), y = ix2 a b := ⟨y 0, y 1, eq_ix2 y⟩
  have hn : t.val * 96 + a.val < 96 := by have : t.val < 1 := t.isLt; omega
  have he : (win0_4.blk t).view.emb (ix2 a b) = ix2 ⟨t.val * 96 + a.val, hn⟩ b := by blk_ext [idx t]
  rw [after0_4]
  frame_out
  refine Eq.trans ?_ (congrArg (grads _) he.symm)
  exact grads_block m c t a b hn

theorem final5 (c : Dev nD) : (dats m 0 c).arrAt 5 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  obtain ⟨a, b, rfl⟩ : ∃ (a : Fin 96) (b : Fin 128), y = ix2 a b := ⟨y 0, y 1, eq_ix2 y⟩
  have hn : t.val * 96 + a.val < 96 := by have : t.val < 1 := t.isLt; omega
  have he : (win0_5.blk t).view.emb (ix2 a b) = ix2 ⟨t.val * 96 + a.val, hn⟩ b := by blk_ext [idx t]
  rw [after0_5]
  frame_out
  refine Eq.trans ?_ (congrArg (deltas _ _ _ _) he.symm)
  rw [delta_apply _ _ _ _ _ _ (mean_apply _ _ _ _ _ _), grads_block m c t a b hn, block1 m c t a b hn, block2 m c t a b hn, block3 m c t a b hn]
  rfl

theorem final6 (c : Dev nD) : (dats m 0 c).arrAt 6 cfg0.N = means (m ((c : Thread nD τ).loc main_arg0)) (m ((c : Thread nD τ).loc main_arg2)) := by
  refine (dats m 0 c).arrAt_eq_of_covers 6 _ (by decide +kernel) fun t hf y => ?_
  blk_simp [idx t]
  obtain ⟨a, b, rfl⟩ : ∃ (a : Fin 96) (b : Fin 128), y = ix2 a b := ⟨y 0, y 1, eq_ix2 y⟩
  have hn : t.val * 96 + a.val < 96 := by have : t.val < 1 := t.isLt; omega
  have he : (win0_6.blk t).view.emb (ix2 a b) = ix2 ⟨t.val * 96 + a.val, hn⟩ b := by blk_ext [idx t]
  rw [after0_6]
  frame_out
  refine Eq.trans ?_ (congrArg (means _ _) he.symm)
  rw [mean_apply, grads_block m c t a b hn, block2 m c t a b hn]
  rfl

theorem final7 (c : Dev nD) : (dats m 0 c).arrAt 7 cfg0.N = squares (m ((c : Thread nD τ).loc main_arg0)) (m ((c : Thread nD τ).loc main_arg3)) := by
  refine (dats m 0 c).arrAt_eq_of_covers 7 _ (by decide +kernel) fun t hf y => ?_
  blk_simp [idx t]
  obtain ⟨a, b, rfl⟩ : ∃ (a : Fin 96) (b : Fin 128), y = ix2 a b := ⟨y 0, y 1, eq_ix2 y⟩
  have hn : t.val * 96 + a.val < 96 := by have : t.val < 1 := t.isLt; omega
  have he : (win0_7.blk t).view.emb (ix2 a b) = ix2 ⟨t.val * 96 + a.val, hn⟩ b := by blk_ext [idx t]
  rw [after0_7]
  frame_out
  refine Eq.trans ?_ (congrArg (squares _ _) he.symm)
  rw [square_apply, grads_block m c t a b hn, block3 m c t a b hn]
  rfl

end Cert.Kernel37Ideal.Update

namespace Cert.Reference37Ideal.Update

open Cert.Reference37Ideal Cert.Reference37Ideal.Gen Idealize.ShloMosaic Idealize.ShloMosaic.TcCoe Idealize.SL.Sem

/-- The reference's terms, number by number. -/
theorem grads_eq (s : Vec Ideal S8x96x128 .f32) :
    Host.reduceAdd (F := Ideal) (φ := .f32) s (constant S_ .f32 0x00000000#32) reducesTo_S8x96x128_S96x128_d0 h_S_
      = Cert.Kernel37Ideal.Update.grads s := by
  funext i
  pointwise [Cert.Kernel37Ideal.Update.grads, Adam.grad]

theorem deltas_eq (g w x y : Vec Ideal S96x128 .f32) :
    mulf (F := Ideal) (φ := .f32) (broadcastInDim S96x128 ![] bcast_S_S96x128 (constant S_ .f32 0xBA83126F#32)) (addf (Host.divf (Host.divf (addf (mulf (broadcastInDim S96x128 ![] bcast_S_S96x128 (constant S_ .f32 0x3F666666#32)) x) (mulf (broadcastInDim S96x128 ![] bcast_S_S96x128 (constant S_ .f32 0x3DCCCCCD#32)) g)) (broadcastInDim S96x128 ![] bcast_S_S96x128 (constant S_ .f32 0x3F26BD02#32))) (addf (Host.sqrt (Host.divf (addf (mulf (broadcastInDim S96x128 ![] bcast_S_S96x128 (constant S_ .f32 0x3F7FBE77#32)) y) (mulf (broadcastInDim S96x128 ![] bcast_S_S96x128 (constant S_ .f32 0x3A83126F#32)) (mulf g g))) (broadcastInDim S96x128 ![] bcast_S_S96x128 (constant S_ .f32 0x3C231ACC#32)))) (broadcastInDim S96x128 ![] bcast_S_S96x128 (constant S_ .f32 0x322BCC77#32)))) (mulf (broadcastInDim S96x128 ![] bcast_S_S96x128 (constant S_ .f32 0x3C23D70A#32)) w))
      = fun i => Adam.delta (g i) (w i) (x i) (y i) := by
  funext i
  pointwise [Adam.delta, Adam.mean, Adam.square]

theorem means_eq (g x : Vec Ideal S96x128 .f32) :
    addf (F := Ideal) (φ := .f32) (mulf (broadcastInDim S96x128 ![] bcast_S_S96x128 (constant S_ .f32 0x3F666666#32)) x) (mulf (broadcastInDim S96x128 ![] bcast_S_S96x128 (constant S_ .f32 0x3DCCCCCD#32)) g)
      = fun i => Adam.mean (g i) (x i) := by
  funext i
  pointwise [Adam.mean]

theorem squares_eq (g y : Vec Ideal S96x128 .f32) :
    addf (F := Ideal) (φ := .f32) (mulf (broadcastInDim S96x128 ![] bcast_S_S96x128 (constant S_ .f32 0x3F7FBE77#32)) y) (mulf (broadcastInDim S96x128 ![] bcast_S_S96x128 (constant S_ .f32 0x3A83126F#32)) (mulf g g))
      = fun i => Adam.square (g i) (y i) := by
  funext i
  pointwise [Adam.square]

/-- The reference leaves its arguments as they were; it declares no semaphore, so every counter stays at zero. -/
theorem frame : Cert.quiescent_Reference37Ideal := fun m g _ =>
  (θ_run defs _ _).mono (fun r h => ⟨fun c => (h c).2.2.2.2, sem_eq_zero_of_no_sems (by decide) r.2⟩) (Value.run (F := Ideal) m g)

/-- Both programs end with the same arrays. -/
theorem algebraic : Cert.algebraic_Kernel37Ideal_Reference37Ideal := by
  intro m g m' g' _ hagree
  refine ⟨_, _, _, _, Cert.Kernel37Ideal.Value.run_blocks m g, ?_⟩
  refine (θ_run defs _ _).mono (fun r h c => ⟨(h c).1.trans ?_, (h c).2.1.trans ?_, (h c).2.2.1.trans ?_, (h c).2.2.2.1.trans ?_,
    (h c).2.2.2.2⟩) (Value.run (F := Ideal) m' g')
  all_goals obtain ⟨h0, h1, h2, h3⟩ := hagree c
  · rw [Cert.Kernel37Ideal.Update.final4, ← h0]
    exact grads_eq _
  · rw [Cert.Kernel37Ideal.Update.final5, ← h0, ← h1, ← h2, ← h3]
    refine (deltas_eq _ _ _ _).trans ?_
    rw [grads_eq]
    rfl
  · rw [Cert.Kernel37Ideal.Update.final6, ← h0, ← h2]
    refine (means_eq _ _).trans ?_
    rw [grads_eq]
    rfl
  · rw [Cert.Kernel37Ideal.Update.final7, ← h0, ← h3]
    refine (squares_eq _ _).trans ?_
    rw [grads_eq]
    rfl

end Cert.Reference37Ideal.Update

end
-- ==== Proof.NormForward.lean ====
/- The root-mean-square norm of the forward pass: the call `norm_mix` computes what the reference states. Its grid has 20
   blocks of 208 rows; each writes its rows. -/
module

public import proofs.«01_k».proof.Defs
public import proofs.«01_k».proof.Proof.Norm
public import proofs.«01_k».proof.Proof.Gen.Kernel38.Frame
public import proofs.«01_k».proof.Proof.Gen.Kernel38Ideal.Value
public import proofs.«01_k».proof.Proof.Gen.Reference38Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Kernel38Ideal.NormForward

open Cert.Kernel38Ideal Cert.Kernel38Ideal.Gen Idealize.ShloMosaic Idealize.ShloMosaic.TcCoe Idealize.SL.Sem

variable (m : (ℓ : Loc nD τ sig) → Buf (Elt Ideal) ℓ)

/-- The norm of every row, times the weight. -/
def normed (x : Vec Ideal S4160x2048 .f32) (w : Vec Ideal S1x2048 .f32) : Vec Ideal S4160x2048 .bf16 :=
  fun i => x (ix2 (i 0) (i 1)) * Norm.fac (fun k => x (ix2 (i 0) k)) * w (ix2 0 (i 1))

/-- What the body writes, number by number. -/
theorem normed_apply (w : Vec Ideal S1x2048 .f32) (x : Vec Ideal S208x2048 .f32) (a : Fin 208) (b : Fin 2048) :
    k0_pay1 (F := Ideal) w x (ix2 a b) = x (ix2 a b) * Norm.fac (fun k => x (ix2 a k)) * w (ix2 0 b) := by
  pointwise [k0_pay1, Norm.fac, Norm.var]

/-- The blocks that a point reads and writes. -/
theorem idx : ∀ t : Fin cfg0.N, win0_0.index t = ![t.val, 0] ∧ win0_1.index t = ![0, 0] ∧ win0_2.index t = ![t.val, 0] :=
  (by decide +kernel : ∀ t : Fin grid0.N, _)

/-- A point's blocks, read in the arrays. -/
theorem block0 (c : Dev nD) (t : Fin cfg0.N) (a : Fin 208) (b : Fin 2048) (h : t.val * 208 + a.val < 4160) :
    iblk m c 0 t (ix2 a b) = m ((c : Thread nD τ).loc main_arg0) (ix2 ⟨t.val * 208 + a.val, h⟩ b) := by
  blk_ext [iblk, V, idx t]

theorem block1 (c : Dev nD) (t : Fin cfg0.N) (b : Fin 2048) :
    iblk m c 1 t (ix2 0 b) = m ((c : Thread nD τ).loc main_arg1) (ix2 0 b) := by
  blk_ext [iblk, V, idx t]

/-- The array after the call. -/
theorem final2 (c : Dev nD) : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp [idx t]
  obtain ⟨a, b, rfl⟩ : ∃ (a : Fin 208) (b : Fin 2048), y = ix2 a b := ⟨y 0, y 1, eq_ix2 y⟩
  have hn : t.val * 208 + a.val < 4160 := by have : t.val < 20 := t.isLt; omega
  have he : (win0_2.blk t).view.emb (ix2 a b) = ix2 ⟨t.val * 208 + a.val, hn⟩ b := by blk_ext [idx t]
  rw [after0_2]
  frame_out
  refine Eq.trans ?_ (congrArg (normed _ _) he.symm)
  rw [normed_apply]
  simp only [block0 m c t _ _ hn, block1 m c t]
  rfl

end Cert.Kernel38Ideal.NormForward

namespace Cert.Reference38Ideal.NormForward

open Cert.Reference38Ideal Cert.Reference38Ideal.Gen Idealize.ShloMosaic Idealize.ShloMosaic.TcCoe Idealize.SL.Sem

/-- The reference's term, number by number. -/
theorem normed_eq (x : Vec Ideal S4160x2048 .f32) (w : Vec Ideal S1x2048 .f32) :
    truncf (F := Ideal) (φ := .f32) .bf16 (mulf (F := Ideal) (φ := .f32) (mulf x (broadcastInDim S4160x2048 ![0, 1] bcast_S4160x1_S4160x2048_0_1 (Host.rsqrt (addf (Host.divf (broadcastInDim S4160x1 ![0] bcast_S4160_S4160x1_0 (Host.reduceAdd (mulf x x) (constant S_ .f32 0x00000000#32) reducesTo_S4160x2048_S4160_d1 h_S_)) (broadcastInDim S4160x1 ![] bcast_S_S4160x1 (constant S_ .f32 0x45000000#32))) (broadcastInDim S4160x1 ![] bcast_S_S4160x1 (constant S_ .f32 0x358637BD#32)))))) (broadcastInDim S4160x2048 ![0, 1] bcast_S1x2048_S4160x2048_0_1 (broadcastInDim S1x2048 ![1] bcast_S2048_S1x2048_1 (shapeCast _ w shapeCasts_S1x2048_S2048)))) bitsLt_bf16_f32
      = Cert.Kernel38Ideal.NormForward.normed x w := by
  funext i
  obtain ⟨a, b, rfl⟩ : ∃ (a : Fin 4160) (b : Fin 2048), i = ix2 a b := ⟨i 0, i 1, eq_ix2 i⟩
  pointwise [Cert.Kernel38Ideal.NormForward.normed, Norm.fac, Norm.var]

/-- The reference leaves its arguments as they were; it declares no semaphore, so every counter stays at zero. -/
theorem frame : Cert.quiescent_Reference38Ideal := fun m g _ =>
  (θ_run defs _ _).mono (fun r h => ⟨fun c => (h c).2, sem_eq_zero_of_no_sems (by decide) r.2⟩) (Value.run (F := Ideal) m g)

/-- Both programs end with the same array. -/
theorem algebraic : Cert.algebraic_Kernel38Ideal_Reference38Ideal := by
  intro m g m' g' _ hagree
  refine ⟨_, Cert.Kernel38Ideal.Value.run_blocks m g, ?_⟩
  refine (θ_run defs _ _).mono (fun r h c => ⟨(h c).1.trans ?_, (h c).2⟩) (Value.run (F := Ideal) m' g')
  obtain ⟨h0, h1⟩ := hagree c
  rw [Cert.Kernel38Ideal.NormForward.final2, ← h0, ← h1]
  exact normed_eq _ _

end Cert.Reference38Ideal.NormForward

end
-- ==== Proof.LossHead.lean ====
/- The loss and its gradients: the call `loss_head` computes what the reference states. Its grid has 65 blocks of 64 rows;
   each writes its rows of the input's gradient, and adds its rows' part of the weight's gradient and of the loss. The first
   block's rows come before the sequence and have no part in the loss. -/
module

public import proofs.«01_k».proof.Defs
public import proofs.«01_k».proof.Proof.Norm
public import proofs.«01_k».proof.Proof.Gen.Kernel39.Frame
public import proofs.«01_k».proof.Proof.Gen.Kernel39Ideal.Value
public import proofs.«01_k».proof.Proof.Gen.Reference39Ideal.Run
public import Idealize.ShloMosaic.Lib.Pipeline.ValueKit
public import Idealize.ShloMosaic.Lib.Pipeline.ReadBack
public import Idealize.ShloMosaic.Lib.KernelVsHost
public import Idealize.ShloMosaic.Adequacy
public import Idealize.ShloMosaic.Init

@[expose] public section

set_option maxRecDepth 16384

noncomputable section

namespace Cert.Loss

open Idealize.ShloMosaic

/-- The constants of the loss, as numbers. -/
theorem half_eq : Ideal.ofBits .f32 1056964608#32 = ((1 / 2 : ℝ) : EReal) := by
  simp [Ideal.ofBits, Ideal.ieee, -EReal.coe_mul]; norm_num

theorem one_eq : Ideal.ofBits .f32 1065353216#32 = ((1 : ℝ) : EReal) := by
  simp [Ideal.ofBits, Ideal.ieee, -EReal.coe_mul]; norm_num

theorem two_eq : Ideal.ofBits .f32 1073741824#32 = ((2 : ℝ) : EReal) := by
  simp [Ideal.ofBits, Ideal.ieee, -EReal.coe_mul]; norm_num

theorem width_eq : Ideal.ofBits .f32 1157627904#32 = ((2048 : ℝ) : EReal) := by
  simp [Ideal.ofBits, Ideal.ieee, -EReal.coe_mul]; norm_num

/-- The gradient of the loss by one squared error. -/
def step : EReal :=
  Ideal.div (Ideal.ofBits .f32 1056964608#32 * Ideal.ofBits .f32 1065353216#32) (Ideal.ofBits .f32 1157627904#32)

theorem step_eq : step = ((1 / 4096 : ℝ) : EReal) := by
  rw [step, half_eq, one_eq, width_eq, ← EReal.coe_mul, Ideal.div_coe (by norm_num), ← EReal.coe_mul]
  norm_num

/-- The gradient of the loss by one error. -/
def grad (e : EReal) : EReal := step * (Ideal.ofBits .f32 1073741824#32 * e)

theorem grad_eq (e : EReal) : e * step + step * e = grad e := by
  have h0 : (0 : EReal) ≤ ((1 / 4096 : ℝ) : EReal) := EReal.coe_nonneg.mpr (by norm_num)
  have h2 : ((2 : ℝ) : EReal) = ((1 : ℝ) : EReal) + ((1 : ℝ) : EReal) := by rw [← EReal.coe_add]; norm_num
  have h1 : (0 : EReal) ≤ ((1 : ℝ) : EReal) := EReal.coe_nonneg.mpr (by norm_num)
  rw [grad, two_eq, step_eq, h2, EReal.right_distrib_of_nonneg h1 h1,
    EReal.left_distrib_of_nonneg_of_ne_top h0 (EReal.coe_ne_top _), EReal.coe_one, one_mul, mul_comm e]

theorem grad_zero : grad 0 = 0 := by rw [grad, mul_zero, mul_zero]

/-- Half of a sum is the sum of the halves. -/
theorem half_sum {α : Type} (s : Finset α) (f : α → EReal) :
    Ideal.ofBits .f32 1056964608#32 * ∑ a ∈ s, f a = ∑ a ∈ s, Ideal.ofBits .f32 1056964608#32 * f a := by
  classical
  have h0 : (0 : EReal) ≤ ((1 / 2 : ℝ) : EReal) := EReal.coe_nonneg.mpr (by norm_num)
  rw [half_eq]
  induction s using Finset.induction_on with
  | empty => rw [Finset.sum_empty, Finset.sum_empty, mul_zero]
  | insert a s ha ih =>
    rw [Finset.sum_insert ha, Finset.sum_insert ha, EReal.left_distrib_of_nonneg_of_ne_top h0 (EReal.coe_ne_top _), ih]

/-- The mean of a row's squared errors. -/
def mean (e : Norm.Row) : EReal := Ideal.div (∑ k, e k * e k) (Ideal.ofBits .f32 1157627904#32)

theorem mean_zero : mean (fun _ => 0) = 0 := by
  rw [mean, Finset.sum_congr rfl fun k _ => mul_zero (0 : EReal), Finset.sum_const_zero, width_eq, Ideal.div_coe (by norm_num), zero_mul]

end Cert.Loss

namespace Cert.Kernel39Ideal.Loss

open Cert.Kernel39Ideal Cert.Kernel39Ideal.Gen Idealize.ShloMosaic Idealize.ShloMosaic.TcCoe Idealize.SL.Sem

variable (m : (ℓ : Loc nD τ sig) → Buf (Elt Ideal) ℓ)

/-- The comparison of a row's number with the first number of the sequence. -/
theorem before : ∀ (n : Fin 65) (a : Fin 64),
    IntOp.cmpi .sge (IntOp.addi (Scalar.addi (Scalar.muli (BitVec.ofNat 32 n.val) 64#32) 0#32) (BitVec.ofNat 32 a.val)) 64#32
      = if n.val = 0 then 0#1 else 1#1 := by
  decide +kernel

/-- The mask of the rows that come before the sequence: those of the first block. -/
theorem mask (i : grid0.Coords) (a : Fin 64) (b : Fin 2048) (u v : EReal) :
    Scalar.select (k0_pay10 i (ix2 a b)) u v = if (i 1).val = 0 then v else u := by
  have hi : (i 1).val < 65 := (i 1).isLt
  pointwise [k0_pay10]
  refine (congrArg (Scalar.select · u v) (before ⟨(i 1).val, hi⟩ a)).trans ?_
  by_cases h : (i 1).val = 0
  · rw [if_pos h, if_pos h]; rfl
  · rw [if_neg h, if_neg h]; rfl

/-- A block's errors. -/
theorem err_apply (i : grid0.Coords) (w : Vec Ideal S1x2048 .f32) (x t : Vec Ideal S64x2048 .f32) (a : Fin 64) (b : Fin 2048) :
    k0_pay11 (F := Ideal) i w x t (ix2 a b)
      = if (i 1).val = 0 then 0 else x (ix2 a b) * Norm.fac (fun k => x (ix2 a k)) * w (ix2 0 b) - t (ix2 a b) := by
  refine Eq.trans ?_ (mask i a b _ _)
  pointwise [k0_pay11, k0_pay9, k0_pay7, k0_pay6, k0_pay5, Norm.fac, Norm.var]

/-- The gradient of the loss by the normed rows. -/
theorem grad_apply (i : grid0.Coords) (e : Vec Ideal S64x2048 .f32) (a : Fin 64) (b : Fin 2048) :
    k0_pay14 (F := Ideal) (k0_pay10 i) e (ix2 a b) = if (i 1).val = 0 then 0 else Loss.grad (e (ix2 a b)) := by
  rw [← Loss.grad_eq]
  refine Eq.trans ?_ (mask i a b _ _)
  pointwise [k0_pay14, Loss.step]
  simp only [Finset.sum_const, Finset.card_univ, Fintype.card_fin, one_smul]

/-- A block's rows of the input's gradient. -/
theorem input_apply (w : Vec Ideal S1x2048 .f32) (x : Vec Ideal S64x2048 .f32) (q : IVec S64x2048 1) (e : Vec Ideal S64x2048 .f32)
    (a : Fin 64) (b : Fin 2048) :
    k0_pay16 (F := Ideal) (k0_pay5 w) x (k0_pay7 x) (k0_pay8 x) q e (ix2 a b)
      = Norm.input (fun k => w (ix2 0 k)) (fun k => x (ix2 a k)) (fun k => k0_pay14 (F := Ideal) q e (ix2 a k)) (fun _ => 0) b := by
  unfold Norm.input
  rw [add_zero]
  pointwise [k0_pay16, k0_pay8, k0_pay7, k0_pay6, k0_pay5, Norm.sq, Norm.fac, Norm.var]

/-- A block's part of the weight's gradient. -/
theorem weight_apply (x : Vec Ideal S64x2048 .f32) (q : IVec S64x2048 1) (e : Vec Ideal S64x2048 .f32) (j : S1x2048.Idx) :
    k0_pay15 (F := Ideal) (k0_pay9 x) q e j
      = ∑ a : Fin 64, Norm.weight (fun k => x (ix2 a k)) (fun k => k0_pay14 (F := Ideal) q e (ix2 a k)) (j 1) := by
  pointwise [k0_pay15, k0_pay9, k0_pay7, k0_pay6, Norm.weight, Norm.fac, Norm.var]

/-- A block's part of the loss. -/
theorem loss_apply (i : grid0.Coords) (w : Vec Ideal S1x2048 .f32) (x t : Vec Ideal S64x2048 .f32) (j : S1x128.Idx) :
    k0_pay17 (F := Ideal) (k0_pay12 i w x t) k0_pay13 j
      = Ideal.ofBits .f32 1056964608#32 * ∑ a : Fin 64, Loss.mean (fun k => k0_pay11 (F := Ideal) i w x t (ix2 a k)) := by
  pointwise [k0_pay17, k0_pay13, k0_pay12, Loss.mean]

/-- Rounding changes nothing over the reals. -/
theorem round_apply (w : Vec Ideal S1x2048 .f32) (x : Vec Ideal S64x2048 .f32) (r h : Vec Ideal S64x1 .f32) (q : IVec S64x2048 1)
    (e : Vec Ideal S64x2048 .f32) (j : S64x2048.Idx) : k0_pay18 (F := Ideal) w x r h q e j = k0_pay16 (F := Ideal) w x r h q e j := by
  pointwise [k0_pay18]

/-- The sums are filled with zeros first. -/
theorem zero_weight (j : S1x2048.Idx) : k0_pay1 (F := Ideal) j = 0 := by
  pointwise [k0_pay1]

theorem zero_loss (j : S1x128.Idx) : k0_pay3 (F := Ideal) j = 0 := by
  pointwise [k0_pay3]

/-- What a point adds. -/
theorem add_weight (v a : Vec Ideal S1x2048 .f32) (j : S1x2048.Idx) : k0_pay2 (F := Ideal) v a j = a j + v j := by
  pointwise [k0_pay2]

theorem add_loss (v a : Vec Ideal S1x128 .f32) (j : S1x128.Idx) : k0_pay4 (F := Ideal) v a j = a j + v j := by
  pointwise [k0_pay4]

/-- The blocks that a point reads and writes. -/
theorem idx : ∀ t : Fin cfg0.N, win0_0.index t = ![t.val, 0] ∧ win0_1.index t = ![0, 0] ∧ win0_2.index t = ![t.val - 1, 0]
    ∧ win0_3.index t = ![t.val, 0] ∧ win0_4.index t = ![t.val, 0] ∧ win0_5.index t = ![0, 0] ∧ win0_6.index t = ![0, 0] :=
  (by decide +kernel : ∀ t : Fin grid0.N, _)

/-- A point's second coordinate is its number. -/
theorem coord : ∀ t : Fin cfg0.N, (grid0.coords t 1).val = t.val :=
  (by decide +kernel : ∀ t : Fin grid0.N, _)

/-- The errors, row by row; the rows before the sequence have none. -/
def errs (x : Vec Ideal S4160x2048 .f32) (w : Vec Ideal S2048 .f32) (t : Vec Ideal S1x4096x2048 .f32) (n : Fin 4160) : Norm.Row :=
  fun k => if n.val < 64 then 0
    else x (ix2 n k) * Norm.fac (fun k => x (ix2 n k)) * w (ix1 k) - t (ix3 0 ⟨n.val - 64, by have := n.isLt; omega⟩ k)

/-- The gradient of the loss by the input, row by row. -/
def inputs (x : Vec Ideal S4160x2048 .f32) (w : Vec Ideal S2048 .f32) (t : Vec Ideal S1x4096x2048 .f32) : Vec Ideal S4160x2048 .f32 :=
  fun i => Norm.input (fun k => w (ix1 k)) (fun k => x (ix2 (i 0) k)) (fun k => Loss.grad (errs x w t (i 0) k)) (fun _ => 0) (i 1)

/-- The gradient by the weight: the sum over the rows. -/
def weights (x : Vec Ideal S4160x2048 .f32) (w : Vec Ideal S2048 .f32) (t : Vec Ideal S1x4096x2048 .f32) : Vec Ideal S1x2048 .f32 :=
  fun i => ∑ n : Fin 4160, Norm.weight (fun k => x (ix2 n k)) (fun k => Loss.grad (errs x w t n k)) (i 1)

/-- The loss: half the sum of the rows' mean squared errors. -/
def loss (x : Vec Ideal S4160x2048 .f32) (w : Vec Ideal S2048 .f32) (t : Vec Ideal S1x4096x2048 .f32) : Vec Ideal S1x128 .f32 :=
  fun _ => Ideal.ofBits .f32 1056964608#32 * ∑ n : Fin 4160, Loss.mean (errs x w t n)

/-- A point's block of rows, read in the array. -/
theorem x_apply (c : Dev nD) (t : Fin cfg0.N) (a : Fin 64) (n : Fin 4160) (h : n.val = t.val * 64 + a.val) (k : Fin 2048) :
    iblk m c 0 t (ix2 a k) = m ((c : Thread nD τ).loc main_arg0) (ix2 n k) := by
  have hn : t.val * 64 + a.val < 4160 := h ▸ n.isLt
  obtain rfl : n = ⟨t.val * 64 + a.val, hn⟩ := Fin.ext h
  blk_ext [iblk, V, idx t]

/-- The weight as one row, and the target without its first axis, as the call takes them. -/
theorem w_row (c : Dev nD) : V m c main_v0 = shapeCast S1x2048 (m ((c : Thread nD τ).loc main_arg1)) shapeCasts_S2048_S1x2048 := by
  unfold V
  after_results <;> rfl

theorem t_rows (c : Dev nD) :
    V m c main_v1 = shapeCast S4096x2048 (m ((c : Thread nD τ).loc main_arg2)) shapeCasts_S1x4096x2048_S4096x2048 := by
  unfold V
  after_results <;> rfl

theorem row_apply (w : Vec Ideal S2048 .f32) (k : Fin 2048) : shapeCast S1x2048 w shapeCasts_S2048_S1x2048 (ix2 0 k) = w (ix1 k) := by
  pointwise []

theorem drop_apply (t : Vec Ideal S1x4096x2048 .f32) (n : Fin 4096) (k : Fin 2048) :
    shapeCast S4096x2048 t shapeCasts_S1x4096x2048_S4096x2048 (ix2 n k) = t (ix3 0 n k) := by
  pointwise []

/-- The weight, whole at every point. -/
theorem w_apply (c : Dev nD) (t : Fin cfg0.N) (k : Fin 2048) :
    iblk m c 1 t (ix2 0 k) = m ((c : Thread nD τ).loc main_arg1) (ix1 k) := by
  have he : (win0_1.blk t).view.emb (ix2 0 k) = ix2 0 k := by blk_ext [idx t]
  exact (congrArg (V m c main_v0) he).trans ((congrFun (w_row m c) _).trans (row_apply _ k))

/-- A point's block of the target: the rows of the block before. -/
theorem t_apply (c : Dev nD) (t : Fin cfg0.N) (a : Fin 64) (n : Fin 4096) (h : n.val = (t.val - 1) * 64 + a.val) (k : Fin 2048) :
    iblk m c 2 t (ix2 a k) = m ((c : Thread nD τ).loc main_arg2) (ix3 0 n k) := by
  have hn : (t.val - 1) * 64 + a.val < 4096 := h ▸ n.isLt
  obtain rfl : n = ⟨(t.val - 1) * 64 + a.val, hn⟩ := Fin.ext h
  have he : (win0_2.blk t).view.emb (ix2 a k) = ix2 ⟨(t.val - 1) * 64 + a.val, hn⟩ k := by blk_ext [idx t]
  exact (congrArg (V m c main_v1) he).trans ((congrFun (t_rows m c) _).trans (drop_apply _ _ k))

/-- A point's errors. -/
theorem errs_block (c : Dev nD) (t : Fin cfg0.N) (a : Fin 64) (n : Fin 4160) (h : n.val = t.val * 64 + a.val) (k : Fin 2048) :
    k0_pay11 (F := Ideal) (grid0.coords t) (iblk m c 1 t) (iblk m c 0 t) (iblk m c 2 t) (ix2 a k)
      = errs (m ((c : Thread nD τ).loc main_arg0)) (m ((c : Thread nD τ).loc main_arg1)) (m ((c : Thread nD τ).loc main_arg2)) n k := by
  rw [err_apply, coord t, errs]
  have ha : a.val < 64 := a.isLt
  by_cases h0 : t.val = 0
  · rw [if_pos h0, if_pos (by omega)]
  · rw [if_neg h0, if_neg (by omega)]
    have ht := t_apply m c t a ⟨n.val - 64, by have := n.isLt; omega⟩ (by dsimp only; omega) k
    rw [ht]
    simp only [x_apply m c t a n h, w_apply m c t]

/-- A point's gradient of the loss by the normed rows. -/
theorem grads_block (c : Dev nD) (t : Fin cfg0.N) (a : Fin 64) (n : Fin 4160) (h : n.val = t.val * 64 + a.val) (k : Fin 2048) :
    k0_pay14 (F := Ideal) (k0_pay10 (grid0.coords t))
        (k0_pay11 (F := Ideal) (grid0.coords t) (iblk m c 1 t) (iblk m c 0 t) (iblk m c 2 t)) (ix2 a k)
      = Loss.grad (errs (m ((c : Thread nD τ).loc main_arg0)) (m ((c : Thread nD τ).loc main_arg1)) (m ((c : Thread nD τ).loc main_arg2)) n k) := by
  rw [grad_apply, errs_block m c t a n h]
  by_cases h0 : (grid0.coords t 1).val = 0
  · have ha : a.val < 64 := a.isLt
    rw [if_pos h0, errs, if_pos (by rw [coord t] at h0; omega), Loss.grad_zero]
  · rw [if_neg h0]

/-- What a point writes of the input's gradient. -/
theorem inputs_block (c : Dev nD) (t : Fin cfg0.N) (a : Fin 64) (b : Fin 2048) (n : Fin 4160) (h : n.val = t.val * 64 + a.val) :
    k0_pay16 (F := Ideal) (k0_pay5 (iblk m c 1 t)) (iblk m c 0 t) (k0_pay7 (iblk m c 0 t)) (k0_pay8 (iblk m c 0 t))
        (k0_pay10 (grid0.coords t)) (k0_pay11 (F := Ideal) (grid0.coords t) (iblk m c 1 t) (iblk m c 0 t) (iblk m c 2 t)) (ix2 a b)
      = inputs (m ((c : Thread nD τ).loc main_arg0)) (m ((c : Thread nD τ).loc main_arg1)) (m ((c : Thread nD τ).loc main_arg2)) (ix2 n b) := by
  rw [input_apply]
  simp only [grads_block m c t a n h, x_apply m c t a n h, w_apply m c t]
  rfl

/-- The blocks that the body leaves, at a first point as at the others. -/
theorem out3 (c : Dev nD) (t : Fin cfg0.N) :
    (outsAt0 m c t.val t.isLt).1
      = k0_pay16 (F := Ideal) (k0_pay5 (iblk m c 1 t)) (iblk m c 0 t) (k0_pay7 (iblk m c 0 t)) (k0_pay8 (iblk m c 0 t))
        (k0_pay10 (grid0.coords t)) (k0_pay11 (F := Ideal) (grid0.coords t) (iblk m c 1 t) (iblk m c 0 t) (iblk m c 2 t)) := by
  by_cases h : t.val % 65 = 0
  · rw [outsAt0_A m c t h h]; frame_out
  · rw [outsAt0_B m c t h h]; frame_out

theorem out4 (c : Dev nD) (t : Fin cfg0.N) :
    (outsAt0 m c t.val t.isLt).2.1
      = k0_pay18 (F := Ideal) (k0_pay5 (iblk m c 1 t)) (iblk m c 0 t) (k0_pay7 (iblk m c 0 t)) (k0_pay8 (iblk m c 0 t))
        (k0_pay10 (grid0.coords t)) (k0_pay11 (F := Ideal) (grid0.coords t) (iblk m c 1 t) (iblk m c 0 t) (iblk m c 2 t)) := by
  by_cases h : t.val % 65 = 0
  · rw [outsAt0_A m c t h h]; frame_out
  · rw [outsAt0_B m c t h h]; frame_out

/-- The input's gradient after the call. -/
theorem final3 (c : Dev nD) : (dats m 0 c).arrAt 3 cfg0.N = inputs (m ((c : Thread nD τ).loc main_arg0))
    (m ((c : Thread nD τ).loc main_arg1)) (m ((c : Thread nD τ).loc main_arg2)) := by
  refine (dats m 0 c).arrAt_eq_of_covers 3 _ (by decide +kernel) fun t hf y => ?_
  rw [after0_3, out3]
  obtain ⟨a, b, rfl⟩ : ∃ (a : Fin 64) (b : Fin 2048), y = ix2 a b := ⟨y 0, y 1, eq_ix2 y⟩
  have hn : t.val * 64 + a.val < 4160 := by have : t.val < 65 := t.isLt; omega
  refine (inputs_block m c t a b ⟨t.val * 64 + a.val, hn⟩ rfl).trans (congrArg _ ?_)
  blk_ext [idx t]

/-- Its rounded copy. -/
theorem final4 (c : Dev nD) : (dats m 0 c).arrAt 4 cfg0.N = inputs (m ((c : Thread nD τ).loc main_arg0))
    (m ((c : Thread nD τ).loc main_arg1)) (m ((c : Thread nD τ).loc main_arg2)) := by
  refine (dats m 0 c).arrAt_eq_of_covers 4 _ (by decide +kernel) fun t hf y => ?_
  rw [after0_4, out4]
  obtain ⟨a, b, rfl⟩ : ∃ (a : Fin 64) (b : Fin 2048), y = ix2 a b := ⟨y 0, y 1, eq_ix2 y⟩
  have hn : t.val * 64 + a.val < 4160 := by have : t.val < 65 := t.isLt; omega
  refine (round_apply _ _ _ _ _ _ _).trans ((inputs_block m c t a b ⟨t.val * 64 + a.val, hn⟩ rfl).trans (congrArg _ ?_))
  blk_ext [idx t]

/-- The weight's gradient after the call: the 65 points' parts, added up. -/
theorem final5 (c : Dev nD) : (dats m 0 c).arrAt 5 cfg0.N = weights (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp [idx t]
  have hl := (flush0_5 t).mp hf
  obtain ⟨a, b, rfl⟩ : ∃ (a : Fin 1) (b : Fin 2048), y = ix2 a b := ⟨y 0, y 1, eq_ix2 y⟩
  rw [after0_5, Pipeline.eq_sum_fin_of_reset_step_apply_of_flush (fun n h => (outsAt0 m c n h).2.2.1) 65 (fun _ => 0) _
    (fun t h j => by rw [outsAt0_A m c t h h]; frame_out; rw [add_weight, zero_weight, weight_apply])
    (fun t h j => by rw [outsAt0_B m c t h h]; frame_out; rw [add_weight, weight_apply])
    t hl _, zero_add]
  have hz : t.val / 65 = 0 := by have : t.val < 65 := t.isLt; omega
  have he : (win0_5.blk t).view.emb (ix2 a b) = ix2 a b := by blk_ext [idx t]
  refine Eq.trans ?_ (congrArg (weights _ _ _) he.symm)
  refine Fin.sum_mul_add_congr fun s a hk => ?_
  exact congrArg₂ (fun f g => Norm.weight f g b) (funext fun k => x_apply m c _ a _ (by dsimp only; omega) k)
    (funext fun k => grads_block m c _ a _ (by dsimp only; omega) k)

/-- The loss after the call: half the rows' means, added up point by point. -/
theorem final6 (c : Dev nD) : (dats m 0 c).arrAt 6 cfg0.N = loss (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp [idx t]
  have hl := (flush0_6 t).mp hf
  rw [after0_6, Pipeline.eq_sum_fin_of_reset_step_apply_of_flush (fun n h => (outsAt0 m c n h).2.2.2) 65 (fun _ => 0) _
    (fun t h j => by rw [outsAt0_A m c t h h]; frame_out; rw [add_loss, zero_loss, loss_apply, Loss.half_sum])
    (fun t h j => by rw [outsAt0_B m c t h h]; frame_out; rw [add_loss, loss_apply, Loss.half_sum])
    t hl _, zero_add]
  have hz : t.val / 65 = 0 := by have : t.val < 65 := t.isLt; omega
  rw [loss, Loss.half_sum]
  refine Fin.sum_mul_add_congr fun s a hk => ?_
  exact congrArg (fun f => Ideal.ofBits .f32 1056964608#32 * Loss.mean f)
    (funext fun k => errs_block m c _ a _ (by dsimp only; omega) k)

end Cert.Kernel39Ideal.Loss

namespace Cert.Reference39Ideal.Loss

open Cert.Reference39Ideal Cert.Reference39Ideal.Gen Idealize.ShloMosaic Idealize.ShloMosaic.TcCoe Idealize.SL.Sem

variable (m : (ℓ : Loc nD τ sig) → Buf (Elt Ideal) ℓ)

/-- The mean of each row's squares, and the small constant. -/
abbrev vars (x : Vec Ideal S4160x2048 .f32) : Vec Ideal S4160x1 .f32 :=
  addf (F := Ideal) (φ := .f32) (Host.divf (broadcastInDim S4160x1 ![0] bcast_S4160_S4160x1_0 (Host.reduceAdd (mulf x x) (constant S_ .f32 0x00000000#32) reducesTo_S4160x2048_S4160_d1 h_S_)) (broadcastInDim S4160x1 ![] bcast_S_S4160x1 (constant S_ .f32 0x45000000#32))) (broadcastInDim S4160x1 ![] bcast_S_S4160x1 (constant S_ .f32 0x358637BD#32))

/-- The errors of the rows of the sequence. -/
abbrev errs (v : Vec Ideal S4160x1 .f32) (x : Vec Ideal S4160x2048 .f32) (w : Vec Ideal S2048 .f32) (t : Vec Ideal S1x4096x2048 .f32) :
    Vec Ideal S4096x2048 .f32 :=
  subf (F := Ideal) (φ := .f32) (extractStridedSlice S4096x2048 ![64, 0] (mulf (F := Ideal) (φ := .f32) (mulf x (broadcastInDim S4160x2048 ![0, 1] bcast_S4160x1_S4160x2048_0_1 (Host.rsqrt v))) (broadcastInDim S4160x2048 ![0, 1] bcast_S1x2048_S4160x2048_0_1 (broadcastInDim S1x2048 ![1] bcast_S2048_S1x2048_1 w))) slices_S4160x2048_S4096x2048_64_0) (shapeCast _ t shapeCasts_S1x4096x2048_S4096x2048)

/-- The gradient of the loss by these errors. -/
abbrev slopes (e : Vec Ideal S4096x2048 .f32) : Vec Ideal S4096x2048 .f32 :=
  mulf (F := Ideal) (φ := .f32) (broadcastInDim S4096x2048 ![0] bcast_S4096_S4096x2048_0 (Host.divf (F := Ideal) (φ := .f32) (broadcastInDim S4096 ![] bcast_S_S4096 (mulf (F := Ideal) (φ := .f32) (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) e)

/-- The same with zeros for the rows before the sequence. -/
abbrev grads (g : Vec Ideal S4096x2048 .f32) : Vec Ideal S4160x2048 .f32 :=
  pad S4160x2048 ![64, 0] ![0, 0] ![0, 0] g (constant (F := Ideal) S_ .f32 0x00000000#32) pads_S4096x2048_S4160x2048_6400_000 h_S_

/-- This times the weight. -/
abbrev weighted (w : Vec Ideal S2048 .f32) (g : Vec Ideal S4160x2048 .f32) : Vec Ideal S4160x2048 .f32 :=
  mulf (F := Ideal) (φ := .f32) g (broadcastInDim S4160x2048 ![0, 1] bcast_S1x2048_S4160x2048_0_1 (broadcastInDim S1x2048 ![1] bcast_S2048_S1x2048_1 w))

/-- The gradient of each row's sum of squares, from the row's mean and the weighted gradient. -/
abbrev squares (v : Vec Ideal S4160x1 .f32) (x g : Vec Ideal S4160x2048 .f32) : Vec Ideal S4160 .f32 :=
  Host.reduceAdd (F := Ideal) (φ := .f32) (Host.divf (mulf (shapeCast _ (Host.reduceAdd (mulf x g) (constant S_ .f32 0x00000000#32) reducesTo_S4160x2048_S4160_d1 h_S_) shapeCasts_S4160_S4160x1) (mulf (broadcastInDim S4160x1 ![] bcast_S_S4160x1 (constant S_ .f32 0xBF000000#32)) (Host.divf (Host.rsqrt v) v))) (broadcastInDim S4160x1 ![] bcast_S_S4160x1 (constant S_ .f32 0x45000000#32))) (constant S_ .f32 0x00000000#32) reducesTo_S4160x1_S4160_d1 h_S_

/-- The input's gradient, from these. -/
abbrev dh (v : Vec Ideal S4160x1 .f32) (q : Vec Ideal S4160 .f32) (x g : Vec Ideal S4160x2048 .f32) : Vec Ideal S4160x2048 .f32 :=
  addf (F := Ideal) (φ := .f32) (addf (mulf g (broadcastInDim S4160x2048 ![0, 1] bcast_S4160x1_S4160x2048_0_1 (Host.rsqrt v))) (mulf x (broadcastInDim S4160x2048 ![0] bcast_S4160_S4160x2048_0 q))) (mulf (broadcastInDim S4160x2048 ![0] bcast_S4160_S4160x2048_0 q) x)

/-- The weight's gradient. -/
abbrev dw (v : Vec Ideal S4160x1 .f32) (x g : Vec Ideal S4160x2048 .f32) : Vec Ideal S1x2048 .f32 :=
  broadcastInDim S1x2048 ![1] bcast_S2048_S1x2048_1 (Host.reduceAdd (F := Ideal) (shapeCast _ (Host.reduceAdd (F := Ideal) (mulf (φ := .f32) (mulf (φ := .f32) x (broadcastInDim S4160x2048 ![0, 1] bcast_S4160x1_S4160x2048_0_1 (Host.rsqrt v))) g) (constant S_ .f32 0x00000000#32) reducesTo_S4160x2048_S2048_d0 h_S_) shapeCasts_S2048_S1x2048) (constant S_ .f32 0x00000000#32) reducesTo_S1x2048_S2048_d0 h_S_)

/-- The loss. -/
abbrev total (e : Vec Ideal S4096x2048 .f32) : Vec Ideal S1x128 .f32 :=
  broadcastInDim S1x128 ![] bcast_S_S1x128 (mulf (F := Ideal) (φ := .f32) (constant S_ .f32 0x3F000000#32) (Host.reduceAdd (F := Ideal) (φ := .f32) (Host.divf (F := Ideal) (φ := .f32) (Host.reduceAdd (F := Ideal) (φ := .f32) (mulf e e) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_))

/-- These terms, number by number. -/
theorem vars_apply (x : Vec Ideal S4160x2048 .f32) (a : Fin 4160) (b : Fin 1) :
    vars x (ix2 a b) = Norm.var (fun k => x (ix2 a k)) := by
  pointwise [vars, Norm.var]

theorem errs_apply (v : Vec Ideal S4160x1 .f32) (x : Vec Ideal S4160x2048 .f32) (w : Vec Ideal S2048 .f32) (t : Vec Ideal S1x4096x2048 .f32)
    (n : Fin 4096) (p : Fin 4160) (h : p.val = 64 + n.val) (k : Fin 2048) :
    errs v x w t (ix2 n k) = x (ix2 p k) * Ideal.rsqrt (v (ix2 p 0)) * w (ix1 k) - t (ix3 0 n k) := by
  have hp : 64 + n.val < 4160 := h ▸ p.isLt
  obtain rfl : p = ⟨64 + n.val, hp⟩ := Fin.ext h
  pointwise [errs]

theorem slopes_apply (e : Vec Ideal S4096x2048 .f32) (j : S4096x2048.Idx) : slopes e j = Loss.grad (e j) := by
  pointwise [slopes, Loss.grad, Loss.step]

theorem grads_apply (g : Vec Ideal S4096x2048 .f32) (n : Fin 4160) (k : Fin 2048) :
    grads g (ix2 n k) = if h : n.val < 64 then 0 else g (ix2 ⟨n.val - 64, by have := n.isLt; omega⟩ k) := by
  by_cases h : n.val < 64
  · rw [dif_pos h]
    refine (pad_apply_of_not_inside _ _ _ _ _ _ _ _ 0 fun hin => ?_).trans ?_
    · have h0 : 64 ≤ n.val := hin.1
      omega
    · exact Ideal.ofBits_zero_f32
  · rw [dif_neg h]
    refine pad_apply_of_inside _ _ _ _ _ _ _ _ _ fun a => ?_
    fin_cases a
    · show n.val = 64 + (n.val - 64) * (0 + 1)
      omega
    · show k.val = 0 + k.val * (0 + 1)
      omega

theorem weighted_apply (w : Vec Ideal S2048 .f32) (g : Vec Ideal S4160x2048 .f32) (a : Fin 4160) (b : Fin 2048) :
    weighted w g (ix2 a b) = g (ix2 a b) * w (ix1 b) := by
  pointwise [weighted]

theorem squares_apply (v : Vec Ideal S4160x1 .f32) (x g : Vec Ideal S4160x2048 .f32) (i : S4160.Idx) :
    squares v x g i = ∑ b : Fin 1, Ideal.div ((∑ k : Fin 2048, x (ix2 (i 0) k) * g (ix2 (i 0) k))
      * (Ideal.ofBits .f32 3204448256#32 * Ideal.div (Ideal.rsqrt (v (ix2 (i 0) b))) (v (ix2 (i 0) b))))
        (Ideal.ofBits .f32 1157627904#32) := by
  pointwise [squares]

theorem dh_apply (v : Vec Ideal S4160x1 .f32) (q : Vec Ideal S4160 .f32) (x g : Vec Ideal S4160x2048 .f32)
    (a : Fin 4160) (b : Fin 2048) :
    dh v q x g (ix2 a b) = g (ix2 a b) * Ideal.rsqrt (v (ix2 a 0)) + x (ix2 a b) * q (ix1 a) + q (ix1 a) * x (ix2 a b) := by
  pointwise [dh]

theorem dw_apply (v : Vec Ideal S4160x1 .f32) (x g : Vec Ideal S4160x2048 .f32) (a : Fin 1) (b : Fin 2048) :
    dw v x g (ix2 a b) = ∑ n : Fin 4160, x (ix2 n b) * Ideal.rsqrt (v (ix2 n 0)) * g (ix2 n b) := by
  pointwise [dw]
  exact Fin.sum_univ_one _

theorem total_apply (e : Vec Ideal S4096x2048 .f32) (j : S1x128.Idx) :
    total e j = Ideal.ofBits .f32 1056964608#32 * ∑ n : Fin 4096, Loss.mean (fun k => e (ix2 n k)) := by
  pointwise [total, Loss.mean]

/-- The reference's errors are the rows of the specification's. -/
theorem errs_eq (x : Vec Ideal S4160x2048 .f32) (w : Vec Ideal S2048 .f32) (t : Vec Ideal S1x4096x2048 .f32) (n : Fin 4096) (p : Fin 4160)
    (h : p.val = 64 + n.val) (k : Fin 2048) : errs (vars x) x w t (ix2 n k) = Cert.Kernel39Ideal.Loss.errs x w t p k := by
  rw [errs_apply _ _ _ _ n p h, vars_apply]
  unfold Cert.Kernel39Ideal.Loss.errs
  rw [if_neg (by omega)]
  have hn : n = ⟨p.val - 64, by have := p.isLt; omega⟩ := Fin.ext (by dsimp only; omega)
  exact congrArg (fun q => x (ix2 p k) * Norm.fac (fun k => x (ix2 p k)) * w (ix1 k) - t (ix3 0 q k)) hn

/-- So are its gradients. -/
theorem grads_eq (x : Vec Ideal S4160x2048 .f32) (w : Vec Ideal S2048 .f32) (t : Vec Ideal S1x4096x2048 .f32) (n : Fin 4160) (k : Fin 2048) :
    grads (slopes (errs (vars x) x w t)) (ix2 n k) = Loss.grad (Cert.Kernel39Ideal.Loss.errs x w t n k) := by
  rw [grads_apply]
  by_cases h : n.val < 64
  · rw [dif_pos h]
    unfold Cert.Kernel39Ideal.Loss.errs
    rw [if_pos h, Loss.grad_zero]
  · rw [dif_neg h, slopes_apply, errs_eq x w t _ n (by dsimp only; omega)]

/-- The terms together: the input's gradient. -/
theorem inputs_eq (x : Vec Ideal S4160x2048 .f32) (w : Vec Ideal S2048 .f32) (g : Vec Ideal S4160x2048 .f32) (a : Fin 4160) (b : Fin 2048) :
    dh (vars x) (squares (vars x) x (weighted w g)) x (weighted w g) (ix2 a b)
      = Norm.input (fun k => w (ix1 k)) (fun k => x (ix2 a k)) (fun k => g (ix2 a k)) (fun _ => 0) b := by
  rw [dh_apply, squares_apply, vars_apply, weighted_apply]
  have hs : (∑ b' : Fin 1, Ideal.div ((∑ k : Fin 2048, x (ix2 ((ix1 a : S4160.Idx) 0) k) * weighted w g (ix2 ((ix1 a : S4160.Idx) 0) k))
      * (Ideal.ofBits .f32 3204448256#32 * Ideal.div (Ideal.rsqrt (vars x (ix2 ((ix1 a : S4160.Idx) 0) b'))) (vars x (ix2 ((ix1 a : S4160.Idx) 0) b'))))
        (Ideal.ofBits .f32 1157627904#32))
      = Norm.sq (fun k => w (ix1 k)) (fun k => x (ix2 a k)) (fun k => g (ix2 a k)) := by
    refine Finset.sum_congr rfl fun b' _ => ?_
    have hv := vars_apply x a b'
    have hw := fun k => weighted_apply w g a k
    show Ideal.div ((∑ k : Fin 2048, x (ix2 a k) * weighted w g (ix2 a k)) * (_ * Ideal.div (Ideal.rsqrt (vars x (ix2 a b'))) (vars x (ix2 a b')))) _ = _
    rw [hv, Finset.sum_congr rfl fun k _ => congrArg (x (ix2 a k) * ·) (hw k)]
    rfl
  rw [hs]
  unfold Norm.input Norm.fac
  rw [add_zero]

/-- What the reference returns: the input's gradient, the same rounded, the weight's gradient and the loss. -/
theorem v53 (c : Dev nD) : Value.res_main_v53 m c = Cert.Kernel39Ideal.Loss.inputs (m ((c : Thread nD τ).loc main_arg0))
    (m ((c : Thread nD τ).loc main_arg1)) (m ((c : Thread nD τ).loc main_arg2)) := by
  have h : ∀ (x : Vec Ideal S4160x2048 .f32) (w : Vec Ideal S2048 .f32) (t : Vec Ideal S1x4096x2048 .f32),
      dh (vars x) (squares (vars x) x (weighted w (grads (slopes (errs (vars x) x w t))))) x
        (weighted w (grads (slopes (errs (vars x) x w t)))) = Cert.Kernel39Ideal.Loss.inputs x w t := by
    intro x w t
    funext i
    obtain ⟨a, b, rfl⟩ : ∃ (a : Fin 4160) (b : Fin 2048), i = ix2 a b := ⟨i 0, i 1, eq_ix2 i⟩
    refine (inputs_eq x w _ a b).trans ?_
    exact congrArg (fun f => Norm.input (fun k => w (ix1 k)) (fun k => x (ix2 a k)) f (fun _ => 0) b)
      (funext fun k => grads_eq x w t a k)
  rw [← h]
  unfold Value.res_main_v53
  rfl

theorem v54 (c : Dev nD) : Value.res_main_v54 m c = Cert.Kernel39Ideal.Loss.inputs (m ((c : Thread nD τ).loc main_arg0))
    (m ((c : Thread nD τ).loc main_arg1)) (m ((c : Thread nD τ).loc main_arg2)) := by
  rw [← v53]
  unfold Value.res_main_v53 Value.res_main_v54
  rfl

theorem weights_eq (x : Vec Ideal S4160x2048 .f32) (w : Vec Ideal S2048 .f32) (t : Vec Ideal S1x4096x2048 .f32) :
    dw (vars x) x (grads (slopes (errs (vars x) x w t))) = Cert.Kernel39Ideal.Loss.weights x w t := by
  funext i
  obtain ⟨a, b, rfl⟩ : ∃ (a : Fin 1) (b : Fin 2048), i = ix2 a b := ⟨i 0, i 1, eq_ix2 i⟩
  rw [dw_apply]
  refine Finset.sum_congr rfl fun n _ => ?_
  rw [vars_apply, grads_eq]
  rfl

theorem loss_eq (x : Vec Ideal S4160x2048 .f32) (w : Vec Ideal S2048 .f32) (t : Vec Ideal S1x4096x2048 .f32) :
    total (errs (vars x) x w t) = Cert.Kernel39Ideal.Loss.loss x w t := by
  funext j
  rw [total_apply]
  refine congrArg (Ideal.ofBits .f32 1056964608#32 * ·) ?_
  refine Eq.trans ?_ (Fin.sum_univ_add (a := 64) (b := 4096) fun n => Loss.mean (Cert.Kernel39Ideal.Loss.errs x w t n)).symm
  have hz : ∀ a : Fin 64, Loss.mean (Cert.Kernel39Ideal.Loss.errs x w t (Fin.castAdd 4096 a)) = 0 := fun a => by
    refine Eq.trans (congrArg Loss.mean (funext fun k => ?_)) Loss.mean_zero
    unfold Cert.Kernel39Ideal.Loss.errs
    exact if_pos a.isLt
  rw [Finset.sum_congr rfl fun a _ => hz a, Finset.sum_const_zero, zero_add]
  exact Finset.sum_congr rfl fun n _ => congrArg Loss.mean (funext fun k => errs_eq x w t n (Fin.natAdd 64 n) rfl k)

/-- The reference leaves its arguments as they were; it declares no semaphore, so every counter stays at zero. -/
theorem frame : Cert.quiescent_Reference39Ideal := fun m g _ =>
  (θ_run defs _ _).mono (fun r h => ⟨fun c => (h c).2.2.2.2, sem_eq_zero_of_no_sems (by decide) r.2⟩) (Value.run (F := Ideal) m g)

/-- Both programs end with the same arrays. -/
theorem algebraic : Cert.algebraic_Kernel39Ideal_Reference39Ideal := by
  intro m g m' g' _ hagree
  refine ⟨_, _, _, _, Cert.Kernel39Ideal.Value.run_blocks m g, ?_⟩
  refine (θ_run defs _ _).mono (fun r h c => ⟨(h c).1.trans ?_, (h c).2.1.trans ?_, (h c).2.2.1.trans ?_, (h c).2.2.2.1.trans ?_,
    (h c).2.2.2.2⟩) (Value.run (F := Ideal) m' g')
  all_goals obtain ⟨h0, h1, h2⟩ := hagree c
  · rw [Cert.Kernel39Ideal.Loss.final3, ← h0, ← h1, ← h2]
    exact v53 m' c
  · rw [Cert.Kernel39Ideal.Loss.final4, ← h0, ← h1, ← h2]
    exact v54 m' c
  · rw [Cert.Kernel39Ideal.Loss.final5, ← h0, ← h1, ← h2]
    exact weights_eq _ _ _
  · rw [Cert.Kernel39Ideal.Loss.final6, ← h0, ← h1, ← h2]
    exact loss_eq _ _ _

end Cert.Reference39Ideal.Loss

end
-- ==== Proof.lean ====
/- The backward pass of the state-space scan, the products, the norm with its gradient, the loss head and the optimiser of
   the training step: each kernel and its reference run from every memory, leave their arguments as they were and every
   counter at zero, and end with equal arrays when floats are read as extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Meet
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Product15
public import proofs.«01_k».proof.Proof.Product16
public import proofs.«01_k».proof.Proof.Product17
public import proofs.«01_k».proof.Proof.Product18
public import proofs.«01_k».proof.Proof.Product19
public import proofs.«01_k».proof.Proof.Product20
public import proofs.«01_k».proof.Proof.Product21
public import proofs.«01_k».proof.Proof.Product22
public import proofs.«01_k».proof.Proof.Product23
public import proofs.«01_k».proof.Proof.Product24
public import proofs.«01_k».proof.Proof.Product25
public import proofs.«01_k».proof.Proof.Product26
public import proofs.«01_k».proof.Proof.Product27
public import proofs.«01_k».proof.Proof.Product28
public import proofs.«01_k».proof.Proof.Product29
public import proofs.«01_k».proof.Proof.Product30
public import proofs.«01_k».proof.Proof.Norm
public import proofs.«01_k».proof.Proof.Adam32
public import proofs.«01_k».proof.Proof.Adam33
public import proofs.«01_k».proof.Proof.Adam34
public import proofs.«01_k».proof.Proof.Adam35
public import proofs.«01_k».proof.Proof.Adam36
public import proofs.«01_k».proof.Proof.Adam37
public import proofs.«01_k».proof.Proof.NormForward
public import proofs.«01_k».proof.Proof.LossHead
public import Idealize.ShloMosaic.Adequacy
public import Idealize.ShloMosaic.Init

@[expose] public section

noncomputable section

namespace Cert.Proof

open Idealize.ShloMosaic Idealize.SL.Sem

/-- The reference leaves its arguments as they were; it declares no semaphore, so every counter stays at zero. -/
theorem frame_reference : Cert.quiescent_ReferenceIdeal := fun m g _ =>
  (θ_run Cert.ReferenceIdeal.defs _ _).mono
    (fun r h => ⟨fun c => (h c).2.2.2.2.2, sem_eq_zero_of_no_sems (by decide) r.2⟩)
    (Cert.ReferenceIdeal.Value.run (F := Ideal) m g)

/-- Both programs end with the same five gradients. -/
theorem algebraic : Cert.algebraic_KernelIdeal_ReferenceIdeal := by
  intro m g m' g' _ hagree
  refine ⟨_, _, _, _, _, Cert.KernelIdeal.Value.run_blocks m g, ?_⟩
  exact (θ_run Cert.ReferenceIdeal.defs _ _).mono
    (fun r h c => ⟨(h c).1.trans (Cert.Scan.same_X (hagree c)), (h c).2.1.trans (Cert.Scan.same_B (hagree c)),
      (h c).2.2.1.trans (Cert.Scan.same_C (hagree c)), (h c).2.2.2.1.trans (Cert.Scan.same_DT (hagree c)),
      (h c).2.2.2.2.1.trans (Cert.Scan.same_A (hagree c)), (h c).2.2.2.2.2⟩)
    (Cert.ReferenceIdeal.Value.run (F := Ideal) m' g')

/-- Every claim: first the facts that each program states of itself, then each program's frame, then, call by call, that
    the ideal program is the kernel and that kernel and reference compute the same. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, Cert.Reference2Ideal.Product.frame,
    fun m ρ _ => Cert.Kernel3.Gen.frame m ρ, fun m ρ _ => Cert.Kernel3Ideal.Gen.frame m ρ, Cert.Reference3Ideal.Product.frame,
    fun m ρ _ => Cert.Kernel4.Gen.frame m ρ, fun m ρ _ => Cert.Kernel4Ideal.Gen.frame m ρ, Cert.Reference4Ideal.Product.frame,
    fun m ρ _ => Cert.Kernel5.Gen.frame m ρ, fun m ρ _ => Cert.Kernel5Ideal.Gen.frame m ρ, Cert.Reference5Ideal.Product.frame,
    fun m ρ _ => Cert.Kernel6.Gen.frame m ρ, fun m ρ _ => Cert.Kernel6Ideal.Gen.frame m ρ, Cert.Reference6Ideal.Product.frame,
    fun m ρ _ => Cert.Kernel7.Gen.frame m ρ, fun m ρ _ => Cert.Kernel7Ideal.Gen.frame m ρ, Cert.Reference7Ideal.Product.frame,
    fun m ρ _ => Cert.Kernel8.Gen.frame m ρ, fun m ρ _ => Cert.Kernel8Ideal.Gen.frame m ρ, Cert.Reference8Ideal.Product.frame,
    fun m ρ _ => Cert.Kernel9.Gen.frame m ρ, fun m ρ _ => Cert.Kernel9Ideal.Gen.frame m ρ, Cert.Reference9Ideal.Product.frame,
    fun m ρ _ => Cert.Kernel10.Gen.frame m ρ, fun m ρ _ => Cert.Kernel10Ideal.Gen.frame m ρ, Cert.Reference10Ideal.Product.frame,
    fun m ρ _ => Cert.Kernel11.Gen.frame m ρ, fun m ρ _ => Cert.Kernel11Ideal.Gen.frame m ρ, Cert.Reference11Ideal.Product.frame,
    fun m ρ _ => Cert.Kernel12.Gen.frame m ρ, fun m ρ _ => Cert.Kernel12Ideal.Gen.frame m ρ, Cert.Reference12Ideal.Product.frame,
    fun m ρ _ => Cert.Kernel13.Gen.frame m ρ, fun m ρ _ => Cert.Kernel13Ideal.Gen.frame m ρ, Cert.Reference13Ideal.Product.frame,
    fun m ρ _ => Cert.Kernel14.Gen.frame m ρ, fun m ρ _ => Cert.Kernel14Ideal.Gen.frame m ρ, Cert.Reference14Ideal.Product.frame,
    fun m ρ _ => Cert.Kernel15.Gen.frame m ρ, fun m ρ _ => Cert.Kernel15Ideal.Gen.frame m ρ, Cert.Reference15Ideal.Product.frame,
    fun m ρ _ => Cert.Kernel16.Gen.frame m ρ, fun m ρ _ => Cert.Kernel16Ideal.Gen.frame m ρ, Cert.Reference16Ideal.Product.frame,
    fun m ρ _ => Cert.Kernel17.Gen.frame m ρ, fun m ρ _ => Cert.Kernel17Ideal.Gen.frame m ρ, Cert.Reference17Ideal.Product.frame,
    fun m ρ _ => Cert.Kernel18.Gen.frame m ρ, fun m ρ _ => Cert.Kernel18Ideal.Gen.frame m ρ, Cert.Reference18Ideal.Product.frame,
    fun m ρ _ => Cert.Kernel19.Gen.frame m ρ, fun m ρ _ => Cert.Kernel19Ideal.Gen.frame m ρ, Cert.Reference19Ideal.Product.frame,
    fun m ρ _ => Cert.Kernel20.Gen.frame m ρ, fun m ρ _ => Cert.Kernel20Ideal.Gen.frame m ρ, Cert.Reference20Ideal.Product.frame,
    fun m ρ _ => Cert.Kernel21.Gen.frame m ρ, fun m ρ _ => Cert.Kernel21Ideal.Gen.frame m ρ, Cert.Reference21Ideal.Product.frame,
    fun m ρ _ => Cert.Kernel22.Gen.frame m ρ, fun m ρ _ => Cert.Kernel22Ideal.Gen.frame m ρ, Cert.Reference22Ideal.Product.frame,
    fun m ρ _ => Cert.Kernel23.Gen.frame m ρ, fun m ρ _ => Cert.Kernel23Ideal.Gen.frame m ρ, Cert.Reference23Ideal.Product.frame,
    fun m ρ _ => Cert.Kernel24.Gen.frame m ρ, fun m ρ _ => Cert.Kernel24Ideal.Gen.frame m ρ, Cert.Reference24Ideal.Product.frame,
    fun m ρ _ => Cert.Kernel25.Gen.frame m ρ, fun m ρ _ => Cert.Kernel25Ideal.Gen.frame m ρ, Cert.Reference25Ideal.Product.frame,
    fun m ρ _ => Cert.Kernel26.Gen.frame m ρ, fun m ρ _ => Cert.Kernel26Ideal.Gen.frame m ρ, Cert.Reference26Ideal.Product.frame,
    fun m ρ _ => Cert.Kernel27.Gen.frame m ρ, fun m ρ _ => Cert.Kernel27Ideal.Gen.frame m ρ, Cert.Reference27Ideal.Product.frame,
    fun m ρ _ => Cert.Kernel28.Gen.frame m ρ, fun m ρ _ => Cert.Kernel28Ideal.Gen.frame m ρ, Cert.Reference28Ideal.Product.frame,
    fun m ρ _ => Cert.Kernel29.Gen.frame m ρ, fun m ρ _ => Cert.Kernel29Ideal.Gen.frame m ρ, Cert.Reference29Ideal.Product.frame,
    fun m ρ _ => Cert.Kernel30.Gen.frame m ρ, fun m ρ _ => Cert.Kernel30Ideal.Gen.frame m ρ, Cert.Reference30Ideal.Product.frame,
    fun m ρ _ => Cert.Kernel31.Gen.frame m ρ, fun m ρ _ => Cert.Kernel31Ideal.Gen.frame m ρ, Cert.Reference31Ideal.Norm.frame,
    fun m ρ _ => Cert.Kernel32.Gen.frame m ρ, fun m ρ _ => Cert.Kernel32Ideal.Gen.frame m ρ, Cert.Reference32Ideal.Update.frame,
    fun m ρ _ => Cert.Kernel33.Gen.frame m ρ, fun m ρ _ => Cert.Kernel33Ideal.Gen.frame m ρ, Cert.Reference33Ideal.Update.frame,
    fun m ρ _ => Cert.Kernel34.Gen.frame m ρ, fun m ρ _ => Cert.Kernel34Ideal.Gen.frame m ρ, Cert.Reference34Ideal.Update.frame,
    fun m ρ _ => Cert.Kernel35.Gen.frame m ρ, fun m ρ _ => Cert.Kernel35Ideal.Gen.frame m ρ, Cert.Reference35Ideal.Update.frame,
    fun m ρ _ => Cert.Kernel36.Gen.frame m ρ, fun m ρ _ => Cert.Kernel36Ideal.Gen.frame m ρ, Cert.Reference36Ideal.Update.frame,
    fun m ρ _ => Cert.Kernel37.Gen.frame m ρ, fun m ρ _ => Cert.Kernel37Ideal.Gen.frame m ρ, Cert.Reference37Ideal.Update.frame,
    fun m ρ _ => Cert.Kernel38.Gen.frame m ρ, fun m ρ _ => Cert.Kernel38Ideal.Gen.frame m ρ, Cert.Reference38Ideal.NormForward.frame,
    fun m ρ _ => Cert.Kernel39.Gen.frame m ρ, fun m ρ _ => Cert.Kernel39Ideal.Gen.frame m ρ, Cert.Reference39Ideal.Loss.frame,
    trivial, algebraic,
    trivial, Cert.Reference2Ideal.Product.algebraic,
    trivial, Cert.Reference3Ideal.Product.algebraic,
    trivial, Cert.Reference4Ideal.Product.algebraic,
    trivial, Cert.Reference5Ideal.Product.algebraic,
    trivial, Cert.Reference6Ideal.Product.algebraic,
    trivial, Cert.Reference7Ideal.Product.algebraic,
    trivial, Cert.Reference8Ideal.Product.algebraic,
    trivial, Cert.Reference9Ideal.Product.algebraic,
    trivial, Cert.Reference10Ideal.Product.algebraic,
    trivial, Cert.Reference11Ideal.Product.algebraic,
    trivial, Cert.Reference12Ideal.Product.algebraic,
    trivial, Cert.Reference13Ideal.Product.algebraic,
    trivial, Cert.Reference14Ideal.Product.algebraic,
    trivial, Cert.Reference15Ideal.Product.algebraic,
    trivial, Cert.Reference16Ideal.Product.algebraic,
    trivial, Cert.Reference17Ideal.Product.algebraic,
    trivial, Cert.Reference18Ideal.Product.algebraic,
    trivial, Cert.Reference19Ideal.Product.algebraic,
    trivial, Cert.Reference20Ideal.Product.algebraic,
    trivial, Cert.Reference21Ideal.Product.algebraic,
    trivial, Cert.Reference22Ideal.Product.algebraic,
    trivial, Cert.Reference23Ideal.Product.algebraic,
    trivial, Cert.Reference24Ideal.Product.algebraic,
    trivial, Cert.Reference25Ideal.Product.algebraic,
    trivial, Cert.Reference26Ideal.Product.algebraic,
    trivial, Cert.Reference27Ideal.Product.algebraic,
    trivial, Cert.Reference28Ideal.Product.algebraic,
    trivial, Cert.Reference29Ideal.Product.algebraic,
    trivial, Cert.Reference30Ideal.Product.algebraic,
    trivial, Cert.Reference31Ideal.Norm.algebraic,
    trivial, Cert.Reference32Ideal.Update.algebraic,
    trivial, Cert.Reference33Ideal.Update.algebraic,
    trivial, Cert.Reference34Ideal.Update.algebraic,
    trivial, Cert.Reference35Ideal.Update.algebraic,
    trivial, Cert.Reference36Ideal.Update.algebraic,
    trivial, Cert.Reference37Ideal.Update.algebraic,
    trivial, Cert.Reference38Ideal.NormForward.algebraic,
    trivial, Cert.Reference39Ideal.Loss.algebraic⟩

end Cert.Proof

end
